-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3)
      ∧ r.2.mem ((c.tc : Thread Cert.Kernel19.nD Cert.Kernel19.τ).loc Cert.Kernel19.main_arg4) = m ((c.tc : Thread Cert.Kernel19.nD Cert.Kernel19.τ).loc Cert.Kernel19.main_arg4))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
      ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3)
      ∧ r.2.mem ((c.tc : Thread Cert.Reference19Ideal.nD Cert.Reference19Ideal.τ).loc Cert.Reference19Ideal.main_arg4) = m ((c.tc : Thread Cert.Reference19Ideal.nD Cert.Reference19Ideal.τ).loc Cert.Reference19Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v135) = v0 c
          ∧ r.2.mem ((c.tc : Thread Cert.ReferenceIdeal.nD Cert.ReferenceIdeal.τ).loc Cert.ReferenceIdeal.main_v136) = v1 c
          ∧ r.2.mem ((c.tc : Thread Cert.ReferenceIdeal.nD Cert.ReferenceIdeal.τ).loc Cert.ReferenceIdeal.main_v137) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v138) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v7) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v10) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v37) = v0 c
          ∧ r.2.mem ((c.tc : Thread Cert.Reference10Ideal.nD Cert.Reference10Ideal.τ).loc Cert.Reference10Ideal.main_v39) = v1 c
          ∧ r.2.mem ((c.tc : Thread Cert.Reference10Ideal.nD Cert.Reference10Ideal.τ).loc Cert.Reference10Ideal.main_v40) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v48) = v0 c
          ∧ r.2.mem ((c.tc : Thread Cert.Reference11Ideal.nD Cert.Reference11Ideal.τ).loc Cert.Reference11Ideal.main_v49) = v1 c
          ∧ r.2.mem ((c.tc : Thread Cert.Reference11Ideal.nD Cert.Reference11Ideal.τ).loc Cert.Reference11Ideal.main_v50) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v52) = v0 c
          ∧ r.2.mem ((c.tc : Thread Cert.Reference12Ideal.nD Cert.Reference12Ideal.τ).loc Cert.Reference12Ideal.main_v51) = v1 c
          ∧ r.2.mem ((c.tc : Thread Cert.Reference12Ideal.nD Cert.Reference12Ideal.τ).loc Cert.Reference12Ideal.main_v53) = v2 c
          ∧ r.2.mem ((c.tc : Thread Cert.Reference12Ideal.nD Cert.Reference12Ideal.τ).loc Cert.Reference12Ideal.main_v54) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v16) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)) →
    ∃ (v0 : (c : Dev Cert.Kernel14Ideal.nD) → Buf (Elt Ideal) ((c.tc : Thread Cert.Kernel14Ideal.nD Cert.Kernel14Ideal.τ).loc Cert.Kernel14Ideal.main_v1)) (v1 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_v2) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v55) = v0 c
          ∧ r.2.mem ((c.tc : Thread Cert.Reference14Ideal.nD Cert.Reference14Ideal.τ).loc Cert.Reference14Ideal.main_v57) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v22) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v1) = v0 c
          ∧ r.2.mem ((c.tc : Thread Cert.Reference16Ideal.nD Cert.Reference16Ideal.τ).loc Cert.Reference16Ideal.main_v25) = v1 c
          ∧ r.2.mem ((c.tc : Thread Cert.Reference16Ideal.nD Cert.Reference16Ideal.τ).loc Cert.Reference16Ideal.main_v6) = v2 c
          ∧ r.2.mem ((c.tc : Thread Cert.Reference16Ideal.nD Cert.Reference16Ideal.τ).loc Cert.Reference16Ideal.main_v12) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v1_0)) (v1 : (c : Dev Cert.Kernel17Ideal.nD) → Buf (Elt Ideal) ((c.tc : Thread Cert.Kernel17Ideal.nD Cert.Kernel17Ideal.τ).loc Cert.Kernel17Ideal.main_v1_1)) (v2 : (c : Dev Cert.Kernel17Ideal.nD) → Buf (Elt Ideal) ((c.tc : Thread Cert.Kernel17Ideal.nD Cert.Kernel17Ideal.τ).loc Cert.Kernel17Ideal.main_v1_2)) (v3 : (c : Dev Cert.Kernel17Ideal.nD) → Buf (Elt Ideal) ((c.tc : Thread Cert.Kernel17Ideal.nD Cert.Kernel17Ideal.τ).loc Cert.Kernel17Ideal.main_v1_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v1_0) = v0 c
          ∧ r.2.mem ((c.tc : Thread Cert.Kernel17Ideal.nD Cert.Kernel17Ideal.τ).loc Cert.Kernel17Ideal.main_v1_1) = v1 c
          ∧ r.2.mem ((c.tc : Thread Cert.Kernel17Ideal.nD Cert.Kernel17Ideal.τ).loc Cert.Kernel17Ideal.main_v1_2) = v2 c
          ∧ r.2.mem ((c.tc : Thread Cert.Kernel17Ideal.nD Cert.Kernel17Ideal.τ).loc Cert.Kernel17Ideal.main_v1_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_arg0) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v4) = v2 c
          ∧ r.2.mem ((c.tc : Thread Cert.Reference17Ideal.nD Cert.Reference17Ideal.τ).loc Cert.Reference17Ideal.main_v10) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)
      ∧ m' ((c.tc : Thread Cert.Reference19Ideal.nD Cert.Reference19Ideal.τ).loc Cert.Reference19Ideal.main_arg4) = m ((c.tc : Thread Cert.Kernel19Ideal.nD Cert.Kernel19Ideal.τ).loc Cert.Kernel19Ideal.main_arg4)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)) (v3 : (c : Dev Cert.Kernel19Ideal.nD) → Buf (Elt Ideal) ((c.tc : Thread Cert.Kernel19Ideal.nD Cert.Kernel19Ideal.τ).loc Cert.Kernel19Ideal.main_v0_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_v0_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3)
          ∧ r.2.mem ((c.tc : Thread Cert.Kernel19Ideal.nD Cert.Kernel19Ideal.τ).loc Cert.Kernel19Ideal.main_arg4) = m ((c.tc : Thread Cert.Kernel19Ideal.nD Cert.Kernel19Ideal.τ).loc Cert.Kernel19Ideal.main_arg4))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v51) = v0 c
          ∧ r.2.mem ((c.tc : Thread Cert.Reference19Ideal.nD Cert.Reference19Ideal.τ).loc Cert.Reference19Ideal.main_v61) = v1 c
          ∧ r.2.mem ((c.tc : Thread Cert.Reference19Ideal.nD Cert.Reference19Ideal.τ).loc Cert.Reference19Ideal.main_v63) = v2 c
          ∧ r.2.mem ((c.tc : Thread Cert.Reference19Ideal.nD Cert.Reference19Ideal.τ).loc Cert.Reference19Ideal.main_v86) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3)
          ∧ r.2.mem ((c.tc : Thread Cert.Reference19Ideal.nD Cert.Reference19Ideal.τ).loc Cert.Reference19Ideal.main_arg4) = m' ((c.tc : Thread Cert.Reference19Ideal.nD Cert.Reference19Ideal.τ).loc Cert.Reference19Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Kernel.lean ====
abbrev S8192x7168 : Shape := ⟨2, ![8192, 7168]⟩
abbrev S1x1024 : Shape := ⟨2, ![1, 1024]⟩
abbrev S8x128x128 : Shape := ⟨3, ![8, 128, 128]⟩
abbrev S128x8 : Shape := ⟨2, ![128, 8]⟩
abbrev S8192x2048 : Shape := ⟨2, ![8192, 2048]⟩
abbrev S256x1024 : Shape := ⟨2, ![256, 1024]⟩
abbrev S256x3072 : Shape := ⟨2, ![256, 3072]⟩
abbrev S1x128x128 : Shape := ⟨3, ![1, 128, 128]⟩
abbrev S128x128 : Shape := ⟨2, ![128, 128]⟩
abbrev S128x1 : Shape := ⟨2, ![128, 1]⟩
abbrev S128x1024 : Shape := ⟨2, ![128, 1024]⟩
abbrev S128 : Shape := ⟨1, ![128]⟩
abbrev S1024 : Shape := ⟨1, ![1024]⟩

abbrev nBuf : Space → Nat
  | .hbm => 12
  | .vmem => 18
  | .smem => 0
  | _ => 0

abbrev bufTy : (tb : Table) → Fin (tcTables nBuf tb) → BufTy
  | .hbm, ⟨0, _⟩ => ⟨S8192x7168, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S128x8, .f32⟩
  | .hbm, ⟨5, _⟩ => ⟨S8192x2048, .f32⟩
  | .hbm, ⟨6, _⟩ => ⟨S8192x7168, .bf16⟩
  | .hbm, ⟨7, _⟩ => ⟨S8192x7168, .bf16⟩
  | .hbm, ⟨8, _⟩ => ⟨S1x1024, .f32⟩
  | .hbm, ⟨9, _⟩ => ⟨S1x1024, .f32⟩
  | .hbm, ⟨10, _⟩ => ⟨S8x128x128, .f32⟩
  | .hbm, ⟨11, _⟩ => ⟨S128x8, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S256x1024, .f32⟩
  | .local _ .vmem, ⟨11, _⟩ => ⟨S256x1024, .f32⟩
  | .local _ .vmem, ⟨12, _⟩ => ⟨S256x3072, .bf16⟩
  | .local _ .vmem, ⟨13, _⟩ => ⟨S256x3072, .bf16⟩
  | .local _ .vmem, ⟨14, _⟩ => ⟨S1x1024, .f32⟩
  | .local _ .vmem, ⟨15, _⟩ => ⟨S1x1024, .f32⟩
  | .local _ .vmem, ⟨16, _⟩ => ⟨S8x128x128, .f32⟩
  | .local _ .vmem, ⟨17, _⟩ => ⟨S128x8, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x8 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x7168 : Shape := ⟨2, ![8192, 7168]⟩
abbrev S1x1024 : Shape := ⟨2, ![1, 1024]⟩
abbrev S8x128x128 : Shape := ⟨3, ![8, 128, 128]⟩
abbrev S128x8 : Shape := ⟨2, ![128, 8]⟩
abbrev S8192x2048 : Shape := ⟨2, ![8192, 2048]⟩
abbrev S8192x1024 : Shape := ⟨2, ![8192, 1024]⟩
abbrev S1024 : Shape := ⟨1, ![1024]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S8x64x128x128 : Shape := ⟨4, ![8, 64, 128, 128]⟩
abbrev S1x128x8x1 : Shape := ⟨4, ![1, 128, 8, 1]⟩
abbrev S8192x4096 : Shape := ⟨2, ![8192, 4096]⟩

abbrev nBuf : Space → Nat
  | .hbm => 191
  | .vmem => 0
  | .smem => 0
  | _ => 0

abbrev hbmTy0_0 (i : Nat) : BufTy := match i % 128 with
  | 0 => ⟨S8192x7168, .f32⟩
  | 1 => ⟨S1x1024, .f32⟩
  | 2 => ⟨S1x1024, .f32⟩
  | 3 => ⟨S8x128x128, .f32⟩
  | 4 => ⟨S128x8, .f32⟩
  | 5 => ⟨S8192x2048, .f32⟩
  | 6 => ⟨S8192x7168, .bf16⟩
  | 7 => ⟨S8192x1024, .f32⟩
  | 8 => ⟨S8192x1024, .f32⟩
  | 9 => ⟨S8192x1024, .f32⟩
  | 10 => ⟨S1024, .f32⟩
  | 11 => ⟨S1024, .f32⟩
  | 12 => ⟨S8x128, .f32⟩
  | 13 => ⟨S_, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S8192x1024, .f32⟩
  | 21 => ⟨S8192x1024, .f32⟩
  | 22 => ⟨S8192x1024, .f32⟩
  | 23 => ⟨S_, .f32⟩
  | 24 => ⟨S8192x1024, .f32⟩
  | 25 => ⟨S8192x1024, .f32⟩
  | 26 => ⟨S8192x1024, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x1024, .f32⟩
  | 34 => ⟨S8192x1024, .f32⟩
  | 35 => ⟨S8192x1024, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S8192x1, .f32⟩
  | 46 => ⟨S8192x1, .f32⟩
  | 47 => ⟨S_, .f32⟩
  | 48 => ⟨S8192x1, .f32⟩
  | 49 => ⟨S8192x1, .f32⟩
  | 50 => ⟨S8192x1024, .f32⟩
  | 51 => ⟨S8192x1024, .f32⟩
  | 52 => ⟨S1x1024, .f32⟩
  | 53 => ⟨S8192x1024, .f32⟩
  | 54 => ⟨S8192x1024, .f32⟩
  | 55 => ⟨S1x1024, .f32⟩
  | 56 => ⟨S8192x1024, .f32⟩
  | 57 => ⟨S8192x1024, .f32⟩
  | 58 => ⟨S64x128x8x128, .f32⟩
  | 59 => ⟨S8x64x128x128, .f32⟩
  | 60 => ⟨S64x128x8x128, .f32⟩
  | 61 => ⟨S128x8, .f32⟩
  | 62 => ⟨S1x128x8x1, .f32⟩
  | 63 => ⟨S64x128x8x128, .f32⟩
  | 64 => ⟨S64x128x8x128, .f32⟩
  | 65 => ⟨S_, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S8192x1024, .f32⟩
  | 72 => ⟨S8192x1024, .f32⟩
  | 73 => ⟨S8192x1024, .f32⟩
  | 74 => ⟨S8192x1024, .f32⟩
  | 75 => ⟨S_, .f32⟩
  | 76 => ⟨S8192x1024, .f32⟩
  | 77 => ⟨S8192x1024, .f32⟩
  | 78 => ⟨S8192x1024, .f32⟩
  | 79 => ⟨S8192x1024, .f32⟩
  | 80 => ⟨S8192x1024, .f32⟩
  | 81 => ⟨S8192x1024, .f32⟩
  | 82 => ⟨S8192x1024, .f32⟩
  | 83 => ⟨S_, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S8192x1024, .f32⟩
  | 93 => ⟨S8192x1024, .f32⟩
  | 94 => ⟨S8192x1024, .f32⟩
  | 95 => ⟨S8192x1024, .f32⟩
  | 96 => ⟨S8192x1024, .f32⟩
  | 97 => ⟨S8192x1024, .f32⟩
  | 98 => ⟨S8192x1024, .f32⟩
  | 99 => ⟨S8192x1024, .f32⟩
  | 100 => ⟨S8192x1024, .f32⟩
  | 101 => ⟨S8192x1024, .f32⟩
  | 102 => ⟨S8192x1024, .f32⟩
  | 103 => ⟨S8192x1024, .f32⟩
  | 104 => ⟨S64x128x8x128, .f32⟩
  | 105 => ⟨S8192x1024, .f32⟩
  | 106 => ⟨S8192x1024, .f32⟩
  | 107 => ⟨S_, .f32⟩
  | 108 => ⟨S8192x1024, .f32⟩
  | 109 => ⟨S8192x1024, .f32⟩
  | 110 => ⟨S8192x1024, .f32⟩
  | 111 => ⟨S_, .f32⟩
  | 112 => ⟨S8192x1024, .f32⟩
  | 113 => ⟨S8192x1024, .f32⟩
  | 114 => ⟨S_, .f32⟩
  | 115 => ⟨S8192x1024, .f32⟩
  | 116 => ⟨S8192x1024, .f32⟩
  | 117 => ⟨S8192x1024, .f32⟩
  | 118 => ⟨S_, .f32⟩
  | 119 => ⟨S128x8, .f32⟩
  | 120 => ⟨S1x128x8x1, .f32⟩
  | 121 => ⟨S_, .f32⟩
  | 122 => ⟨S128x8, .f32⟩
  | 123 => ⟨S8x128, .f32⟩
  | 124 => ⟨S8x64x128x128, .f32⟩
  | 125 => ⟨S8x128x128, .f32⟩
  | 126 => ⟨S8x64x128x128, .f32⟩
  | 127 => ⟨S64x128x8x128, .f32⟩
  | _ => ⟨S8192x7168, .f32⟩

abbrev hbmTy0_1 (i : Nat) : BufTy := match i % 128 with
  | 0 => ⟨S8192x1024, .f32⟩
  | 1 => ⟨S_, .f32⟩
  | 2 => ⟨S1024, .f32⟩
  | 3 => ⟨S1x1024, .f32⟩
  | 4 => ⟨S_, .f32⟩
  | 5 => ⟨S1024, .f32⟩
  | 6 => ⟨S8192x1024, .f32⟩
  | 7 => ⟨S_, .f32⟩
  | 8 => ⟨S1024, .f32⟩
  | 9 => ⟨S1x1024, .f32⟩
  | 10 => ⟨S8192x1024, .f32⟩
  | 11 => ⟨S8192x1024, .f32⟩
  | 12 => ⟨S_, .f32⟩
  | 13 => ⟨S1024, .f32⟩
  | 14 => ⟨S8192x1024, .f32⟩
  | 15 => ⟨S_, .f32⟩
  | 16 => ⟨S8192, .f32⟩
  | 17 => ⟨S8192x1, .f32⟩
  | 18 => ⟨S8192x1024, .f32⟩
  | 19 => ⟨S8192x1024, .f32⟩
  | 20 => ⟨S8192x1, .f32⟩
  | 21 => ⟨S_, .f32⟩
  | 22 => ⟨S8192x1, .f32⟩
  | 23 => ⟨S8192x1, .f32⟩
  | 24 => ⟨S_, .f32⟩
  | 25 => ⟨S8192, .f32⟩
  | 26 => ⟨S8192x1024, .f32⟩
  | 27 => ⟨S8192x1024, .f32⟩
  | 28 => ⟨S8192x1024, .f32⟩
  | 29 => ⟨S8192x1024, .f32⟩
  | 30 => ⟨S8192x1024, .f32⟩
  | 31 => ⟨S8192x1024, .f32⟩
  | 32 => ⟨S_, .f32⟩
  | 33 => ⟨S8192, .f32⟩
  | 34 => ⟨S8192x1, .f32⟩
  | 35 => ⟨S_, .f32⟩
  | 36 => ⟨S8192x1, .f32⟩
  | 37 => ⟨S8192x1, .f32⟩
  | 38 => ⟨S_, .f32⟩
  | 39 => ⟨S8192, .f32⟩
  | 40 => ⟨S8192x1024, .f32⟩
  | 41 => ⟨S8192x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S_, .f32⟩
  | 49 => ⟨S8192x1024, .f32⟩
  | 50 => ⟨S8192x1024, .f32⟩
  | 51 => ⟨S_, .f32⟩
  | 52 => ⟨S8192x1024, .f32⟩
  | 53 => ⟨S8192x1024, .f32⟩
  | 54 => ⟨S8192x1024, .f32⟩
  | 55 => ⟨S8192x1024, .bf16⟩
  | 56 => ⟨S8192x1024, .bf16⟩
  | 57 => ⟨S8192x1024, .bf16⟩
  | 58 => ⟨S8192x4096, .bf16⟩
  | 59 => ⟨S8192x7168, .bf16⟩
  | 60 => ⟨S1x1024, .f32⟩
  | 61 => ⟨S1x1024, .f32⟩
  | 62 => ⟨S128x8, .f32⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_10 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_call0_v0 : Ref sig .tc := ⟨.hbm, 81, rfl⟩
abbrev main_call0_v1 : Ref sig .tc := ⟨.hbm, 82, rfl⟩
abbrev main_call0_cst : Ref sig .tc := ⟨.hbm, 83, rfl⟩
abbrev main_call0_v2 : Ref sig .tc := ⟨.hbm, 84, rfl⟩
abbrev main_call0_v3 : Ref sig .tc := ⟨.hbm, 85, rfl⟩
abbrev main_call0_cst_0 : Ref sig .tc := ⟨.hbm, 86, rfl⟩
abbrev main_call0_v4 : Ref sig .tc := ⟨.hbm, 87, rfl⟩
abbrev main_v62_2 : Ref sig .tc := ⟨.hbm, 88, rfl⟩
abbrev main_call0_cst_1 : Ref sig .tc := ⟨.hbm, 89, rfl⟩
abbrev main_call0_v6 : Ref sig .tc := ⟨.hbm, 90, rfl⟩
abbrev main_call0_v7 : Ref sig .tc := ⟨.hbm, 91, rfl⟩
abbrev main_v62_1 : Ref sig .tc := ⟨.hbm, 92, rfl⟩
abbrev main_v62_0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_call1_v0 : Ref sig .tc := ⟨.hbm, 98, rfl⟩
abbrev main_call1_v1 : Ref sig .tc := ⟨.hbm, 99, rfl⟩
abbrev main_call1_v2 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_12 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_14 : Ref sig .tc := ⟨.hbm, 118, rfl⟩
abbrev main_v81 : Ref sig .tc := ⟨.hbm, 119, rfl⟩
abbrev main_v82 : Ref sig .tc := ⟨.hbm, 120, rfl⟩
abbrev main_cst_15 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_16 : Ref sig .tc := ⟨.hbm, 129, rfl⟩
abbrev main_v90 : Ref sig .tc := ⟨.hbm, 130, rfl⟩
abbrev main_v91 : Ref sig .tc := ⟨.hbm, 131, rfl⟩
abbrev main_cst_17 : Ref sig .tc := ⟨.hbm, 132, rfl⟩
abbrev main_v92 : Ref sig .tc := ⟨.hbm, 133, rfl⟩
abbrev main_v93 : Ref sig .tc := ⟨.hbm, 134, rfl⟩
abbrev main_cst_18 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_19 : Ref sig .tc := ⟨.hbm, 140, rfl⟩
abbrev main_v98 : Ref sig .tc := ⟨.hbm, 141, rfl⟩
abbrev main_v99 : Ref sig .tc := ⟨.hbm, 142, rfl⟩
abbrev main_cst_20 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_21 : Ref sig .tc := ⟨.hbm, 149, rfl⟩
abbrev main_v105 : Ref sig .tc := ⟨.hbm, 150, rfl⟩
abbrev main_v106 : Ref sig .tc := ⟨.hbm, 151, rfl⟩
abbrev main_cst_22 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_23 : Ref sig .tc := ⟨.hbm, 160, rfl⟩
abbrev main_v114 : Ref sig .tc := ⟨.hbm, 161, rfl⟩
abbrev main_v115 : Ref sig .tc := ⟨.hbm, 162, rfl⟩
abbrev main_cst_24 : Ref sig .tc := ⟨.hbm, 163, rfl⟩
abbrev main_v116 : Ref sig .tc := ⟨.hbm, 164, rfl⟩
abbrev main_v117 : Ref sig .tc := ⟨.hbm, 165, rfl⟩
abbrev main_cst_25 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_cst_26 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_cst_27 : Ref sig .tc := ⟨.hbm, 176, rfl⟩
abbrev main_v126 : Ref sig .tc := ⟨.hbm, 177, rfl⟩
abbrev main_v127 : Ref sig .tc := ⟨.hbm, 178, rfl⟩
abbrev main_cst_28 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩

abbrev nD : Nat := 1
abbrev τ : Topo := Topo.v7x

variable {F : FTy → Type} [FloatOps F]
-- ==== Kernel2.lean ====
abbrev S8192x7168 : Shape := ⟨2, ![8192, 7168]⟩
abbrev S8192x128 : Shape := ⟨2, ![8192, 128]⟩
abbrev S7200x2048 : Shape := ⟨2, ![7200, 2048]⟩
abbrev S32x2048 : Shape := ⟨2, ![32, 2048]⟩
abbrev S_ : Shape := ⟨0, ![]⟩
abbrev S128x2048 : Shape := ⟨2, ![128, 2048]⟩
abbrev S8192x2048 : Shape := ⟨2, ![8192, 2048]⟩
abbrev S512x7168 : Shape := ⟨2, ![512, 7168]⟩
abbrev S7168x512 : Shape := ⟨2, ![7168, 512]⟩
abbrev S512x128 : Shape := ⟨2, ![512, 128]⟩
abbrev S128x512 : Shape := ⟨2, ![128, 512]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S8192x7168, .bf16⟩
  | .hbm, ⟨1, _⟩ => ⟨S8192x128, .bf16⟩
  | .hbm, ⟨2, _⟩ => ⟨S7200x2048, .bf16⟩
  | .hbm, ⟨3, _⟩ => ⟨S32x2048, .bf16⟩
  | .hbm, ⟨4, _⟩ => ⟨S_, .i32⟩
  | .hbm, ⟨5, _⟩ => ⟨S_, .bf16⟩
  | .hbm, ⟨6, _⟩ => ⟨S128x2048, .bf16⟩
  | .hbm, ⟨7, _⟩ => ⟨S8192x2048, .f32⟩
  | .local _ .vmem, ⟨0, _⟩ => ⟨S512x7168, .bf16⟩
  | .local _ .vmem, ⟨1, _⟩ => ⟨S512x7168, .bf16⟩
  | .local _ .vmem, ⟨2, _⟩ => ⟨S7168x512, .bf16⟩
  | .local _ .vmem, ⟨3, _⟩ => ⟨S7168x512, .bf16⟩
  | .local _ .vmem, ⟨4, _⟩ => ⟨S512x128, .bf16⟩
  | .local _ .vmem, ⟨5, _⟩ => ⟨S512x128, .bf16⟩
  | .local _ .vmem, ⟨6, _⟩ => ⟨S128x512, .bf16⟩
  | .local _ .vmem, ⟨7, _⟩ => ⟨S128x512, .bf16⟩
  | .local _ .vmem, ⟨8, _⟩ => ⟨S512x512, .f32⟩
  | .local _ .vmem, ⟨9, _⟩ => ⟨S512x512, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x7168 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S7168x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8192x7168 : Shape := ⟨2, ![8192, 7168]⟩
abbrev S8192x128 : Shape := ⟨2, ![8192, 128]⟩
abbrev S7200x2048 : Shape := ⟨2, ![7200, 2048]⟩
abbrev S8192x32 : Shape := ⟨2, ![8192, 32]⟩
abbrev S8192x7200 : Shape := ⟨2, ![8192, 7200]⟩
abbrev S2048x7200 : Shape := ⟨2, ![2048, 7200]⟩
abbrev S_ : Shape := ⟨0, ![]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8192x128, .bf16⟩
  | .hbm, ⟨2, _⟩ => ⟨S7200x2048, .bf16⟩
  | .hbm, ⟨3, _⟩ => ⟨S8192x32, .bf16⟩
  | .hbm, ⟨4, _⟩ => ⟨S8192x7200, .bf16⟩
  | .hbm, ⟨5, _⟩ => ⟨S8192x7200, .f32⟩
  | .hbm, ⟨6, _⟩ => ⟨S7200x2048, .f32⟩
  | .hbm, ⟨7, _⟩ => ⟨S2048x7200, .f32⟩
  | .hbm, ⟨8, _⟩ => ⟨S_, .f32⟩
  | .hbm, ⟨9, _⟩ => ⟨S8192x2048, .f32⟩
  | .hbm, ⟨10, _⟩ => ⟨S8192x7200, .f32⟩
  | .hbm, ⟨11, _⟩ => ⟨S8192x2048, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel3.lean ====
abbrev S2048x8192 : Shape := ⟨2, ![2048, 8192]⟩
abbrev S8192x7168 : Shape := ⟨2, ![8192, 7168]⟩
abbrev S7296x2048 : Shape := ⟨2, ![7296, 2048]⟩
abbrev S512x8192 : Shape := ⟨2, ![512, 8192]⟩
abbrev S8192x512 : Shape := ⟨2, ![8192, 512]⟩
abbrev S512x512 : Shape := ⟨2, ![512, 512]⟩
abbrev S7168x2048 : Shape := ⟨2, ![7168, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S8192x7168, .bf16⟩
  | .hbm, ⟨2, _⟩ => ⟨S7296x2048, .bf16⟩
  | .hbm, ⟨3, _⟩ => ⟨S7168x2048, .bf16⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S2048x8192 : Shape := ⟨2, ![2048, 8192]⟩
abbrev S8192x7168 : Shape := ⟨2, ![8192, 7168]⟩
abbrev S8192x2048 : Shape := ⟨2, ![8192, 2048]⟩
abbrev S_ : Shape := ⟨0, ![]⟩
abbrev S2048x7168 : Shape := ⟨2, ![2048, 7168]⟩
abbrev S7168x2048 : Shape := ⟨2, ![7168, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x7168, .bf16⟩
  | .hbm, ⟨2, _⟩ => ⟨S2048x8192, .f32⟩
  | .hbm, ⟨3, _⟩ => ⟨S8192x2048, .f32⟩
  | .hbm, ⟨4, _⟩ => ⟨S_, .f32⟩
  | .hbm, ⟨5, _⟩ => ⟨S2048x7168, .f32⟩
  | .hbm, ⟨6, _⟩ => ⟨S8192x7168, .f32⟩
  | .hbm, ⟨7, _⟩ => ⟨S8192x7168, .f32⟩
  | .hbm, ⟨8, _⟩ => ⟨S7168x2048, .f32⟩
  | .hbm, ⟨9, _⟩ => ⟨S2048x7168, .f32⟩
  | .hbm, ⟨10, _⟩ => ⟨S7168x2048, .f32⟩
  | .hbm, ⟨11, _⟩ => ⟨S7168x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S2048x2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S2048x8192 : Shape := ⟨2, ![2048, 8192]⟩
abbrev S8192x2048 : Shape := ⟨2, ![8192, 2048]⟩
abbrev S2048x2048 : Shape := ⟨2, ![2048, 2048]⟩
abbrev S512x8192 : Shape := ⟨2, ![512, 8192]⟩
abbrev S8192x512 : Shape := ⟨2, ![8192, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x2048, .bf16⟩
  | .local _ .vmem, ⟨0, _⟩ => ⟨S512x8192, .bf16⟩
  | .local _ .vmem, ⟨1, _⟩ => ⟨S512x8192, .bf16⟩
  | .local _ .vmem, ⟨2, _⟩ => ⟨S8192x512, .bf16⟩
  | .local _ .vmem, ⟨3, _⟩ => ⟨S8192x512, .bf16⟩
  | .local _ .vmem, ⟨4, _⟩ => ⟨S512x512, .bf16⟩
  | .local _ .vmem, ⟨5, _⟩ => ⟨S512x512, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8192x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S2048x8192 : Shape := ⟨2, ![2048, 8192]⟩
abbrev S8192x2048 : Shape := ⟨2, ![8192, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x2048, .bf16⟩
  | .hbm, ⟨2, _⟩ => ⟨S2048x8192, .f32⟩
  | .hbm, ⟨3, _⟩ => ⟨S8192x2048, .f32⟩
  | .hbm, ⟨4, _⟩ => ⟨S_, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S8192x2048 : Shape := ⟨2, ![8192, 2048]⟩
abbrev S7200x2048 : Shape := ⟨2, ![7200, 2048]⟩
abbrev S8192x7168 : Shape := ⟨2, ![8192, 7168]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S7200x2048, .bf16⟩
  | .hbm, ⟨2, _⟩ => ⟨S8192x7168, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S8192x2048 : Shape := ⟨2, ![8192, 2048]⟩
abbrev S7200x2048 : Shape := ⟨2, ![7200, 2048]⟩
abbrev S2048x7200 : Shape := ⟨2, ![2048, 7200]⟩
abbrev S8192x7200 : Shape := ⟨2, ![8192, 7200]⟩
abbrev S8192x7168 : Shape := ⟨2, ![8192, 7168]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S7200x2048, .bf16⟩
  | .hbm, ⟨2, _⟩ => ⟨S8192x2048, .f32⟩
  | .hbm, ⟨3, _⟩ => ⟨S7200x2048, .f32⟩
  | .hbm, ⟨4, _⟩ => ⟨S2048x7200, .f32⟩
  | .hbm, ⟨5, _⟩ => ⟨S8192x7200, .f32⟩
  | .hbm, ⟨6, _⟩ => ⟨S8192x7168, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel7.lean ====
abbrev S8192x2048 : Shape := ⟨2, ![8192, 2048]⟩
abbrev S7200x2048 : Shape := ⟨2, ![7200, 2048]⟩
abbrev S32x2048 : Shape := ⟨2, ![32, 2048]⟩
abbrev S_ : Shape := ⟨0, ![]⟩
abbrev S128x2048 : Shape := ⟨2, ![128, 2048]⟩
abbrev S8192x128 : Shape := ⟨2, ![8192, 128]⟩
abbrev S512x2048 : Shape := ⟨2, ![512, 2048]⟩
abbrev S512x128 : Shape := ⟨2, ![512, 128]⟩

abbrev nBuf : Space → Nat
  | .hbm => 7
  | .vmem => 5
  | .smem => 0
  | _ => 0

abbrev bufTy : (tb : Table) → Fin (tcTables nBuf tb) → BufTy
  | .hbm, ⟨0, _⟩ => ⟨S8192x2048, .bf16⟩
  | .hbm, ⟨1, _⟩ => ⟨S7200x2048, .bf16⟩
  | .hbm, ⟨2, _⟩ => ⟨S32x2048, .bf16⟩
  | .hbm, ⟨3, _⟩ => ⟨S_, .i32⟩
  | .hbm, ⟨4, _⟩ => ⟨S_, .bf16⟩
  | .hbm, ⟨5, _⟩ => ⟨S128x2048, .bf16⟩
  | .hbm, ⟨6, _⟩ => ⟨S8192x128, .f32⟩
  | .local _ .vmem, ⟨0, _⟩ => ⟨S512x2048, .bf16⟩
  | .local _ .vmem, ⟨1, _⟩ => ⟨S512x2048, .bf16⟩
  | .local _ .vmem, ⟨2, _⟩ => ⟨S128x2048, .bf16⟩
  | .local _ .vmem, ⟨3, _⟩ => ⟨S512x128, .f32⟩
  | .local _ .vmem, ⟨4, _⟩ => ⟨S512x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S128x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8192x2048 : Shape := ⟨2, ![8192, 2048]⟩
abbrev S7200x2048 : Shape := ⟨2, ![7200, 2048]⟩
abbrev S2048x7200 : Shape := ⟨2, ![2048, 7200]⟩
abbrev S8192x7200 : Shape := ⟨2, ![8192, 7200]⟩
abbrev S8192x32 : Shape := ⟨2, ![8192, 32]⟩
abbrev S_ : Shape := ⟨0, ![]⟩
abbrev S8192x128 : Shape := ⟨2, ![8192, 128]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S7200x2048, .bf16⟩
  | .hbm, ⟨2, _⟩ => ⟨S8192x2048, .f32⟩
  | .hbm, ⟨3, _⟩ => ⟨S7200x2048, .f32⟩
  | .hbm, ⟨4, _⟩ => ⟨S2048x7200, .f32⟩
  | .hbm, ⟨5, _⟩ => ⟨S8192x7200, .f32⟩
  | .hbm, ⟨6, _⟩ => ⟨S8192x32, .f32⟩
  | .hbm, ⟨7, _⟩ => ⟨S_, .i32⟩
  | .hbm, ⟨8, _⟩ => ⟨S_, .f32⟩
  | .hbm, ⟨9, _⟩ => ⟨S8192x128, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel8.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S2048x8192 : Shape := ⟨2, ![2048, 8192]⟩
abbrev S8192x128 : Shape := ⟨2, ![8192, 128]⟩
abbrev S7296x2048 : Shape := ⟨2, ![7296, 2048]⟩
abbrev S512x8192 : Shape := ⟨2, ![512, 8192]⟩
abbrev S128x512 : Shape := ⟨2, ![128, 512]⟩
abbrev S512x128 : Shape := ⟨2, ![512, 128]⟩

abbrev nBuf : Space → Nat
  | .hbm => 4
  | .vmem => 5
  | .smem => 0
  | _ => 0

abbrev bufTy : (tb : Table) → Fin (tcTables nBuf tb) → BufTy
  | .hbm, ⟨0, _⟩ => ⟨S2048x8192, .bf16⟩
  | .hbm, ⟨1, _⟩ => ⟨S8192x128, .bf16⟩
  | .hbm, ⟨2, _⟩ => ⟨S7296x2048, .bf16⟩
  | .hbm, ⟨3, _⟩ => ⟨S7296x2048, .bf16⟩
  | .local _ .vmem, ⟨0, _⟩ => ⟨S512x8192, .bf16⟩
  | .local _ .vmem, ⟨1, _⟩ => ⟨S512x8192, .bf16⟩
  | .local _ .vmem, ⟨2, _⟩ => ⟨S8192x128, .bf16⟩
  | .local _ .vmem, ⟨3, _⟩ => ⟨S128x512, .bf16⟩
  | .local _ .vmem, ⟨4, _⟩ => ⟨S128x512, .bf16⟩
  | _, _ => ⟨S2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c56_i32 : BitVec 32 := 56#32
  let v0 : BitVec 32 := Scalar.addi arg1 c56_i32
  let c0_i32 : BitVec 32 := 0#32
  ![v0.toNat, arg0.toNat]

abbrev stage0_0 : Fin 2 → Memref sig .tc .vmem S512x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S2048x8192 : Shape := ⟨2, ![2048, 8192]⟩
abbrev S8192x128 : Shape := ⟨2, ![8192, 128]⟩
abbrev S7296x2048 : Shape := ⟨2, ![7296, 2048]⟩
abbrev S8192x2048 : Shape := ⟨2, ![8192, 2048]⟩
abbrev S_ : Shape := ⟨0, ![]⟩
abbrev S2048x128 : Shape := ⟨2, ![2048, 128]⟩
abbrev S128x2048 : Shape := ⟨2, ![128, 2048]⟩
abbrev S7168x2048 : Shape := ⟨2, ![7168, 2048]⟩

abbrev nBuf : Space → Nat
  | .hbm => 15
  | .vmem => 0
  | .smem => 0
  | _ => 0

abbrev bufTy : (tb : Table) → Fin (tcTables nBuf tb) → BufTy
  | .hbm, ⟨0, _⟩ => ⟨S2048x8192, .bf16⟩
  | .hbm, ⟨1, _⟩ => ⟨S8192x128, .bf16⟩
  | .hbm, ⟨2, _⟩ => ⟨S7296x2048, .bf16⟩
  | .hbm, ⟨3, _⟩ => ⟨S2048x8192, .f32⟩
  | .hbm, ⟨4, _⟩ => ⟨S8192x2048, .f32⟩
  | .hbm, ⟨5, _⟩ => ⟨S_, .f32⟩
  | .hbm, ⟨6, _⟩ => ⟨S2048x128, .f32⟩
  | .hbm, ⟨7, _⟩ => ⟨S8192x128, .f32⟩
  | .hbm, ⟨8, _⟩ => ⟨S8192x128, .f32⟩
  | .hbm, ⟨9, _⟩ => ⟨S128x2048, .f32⟩
  | .hbm, ⟨10, _⟩ => ⟨S2048x128, .f32⟩
  | .hbm, ⟨11, _⟩ => ⟨S7168x2048, .bf16⟩
  | .hbm, ⟨12, _⟩ => ⟨S128x2048, .f32⟩
  | .hbm, ⟨13, _⟩ => ⟨S128x2048, .bf16⟩
  | .hbm, ⟨14, _⟩ => ⟨S7296x2048, .bf16⟩
  | _, _ => ⟨S2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel10.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S8192x2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x2048, .f32⟩
  | .hbm, ⟨21, _⟩ => ⟨S8192x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .bf16⟩
  | .hbm, ⟨53, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel11.lean ====
abbrev S8x8192x128 : Shape := ⟨3, ![8, 8192, 128]⟩
abbrev S8192x7168 : Shape := ⟨2, ![8192, 7168]⟩
abbrev S1x128 : Shape := ⟨2, ![1, 128]⟩
abbrev S8192x2048 : Shape := ⟨2, ![8192, 2048]⟩
abbrev S8x512x128 : Shape := ⟨3, ![8, 512, 128]⟩
abbrev S512x1024 : Shape := ⟨2, ![512, 1024]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128 : Shape := ⟨1, ![128]⟩
abbrev S8192x1024 : Shape := ⟨2, ![8192, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S8192x7168, .f32⟩
  | .hbm, ⟨3, _⟩ => ⟨S1x128, .f32⟩
  | .hbm, ⟨4, _⟩ => ⟨S8192x2048, .f32⟩
  | .hbm, ⟨5, _⟩ => ⟨S8x8192x128, .f32⟩
  | .hbm, ⟨6, _⟩ => ⟨S8192x7168, .bf16⟩
  | .hbm, ⟨7, _⟩ => ⟨S1x128, .f32⟩
  | .hbm, ⟨8, _⟩ => ⟨S8192x1024, .bf16⟩
  | .local _ .vmem, ⟨0, _⟩ => ⟨S8x512x128, .f32⟩
  | .local _ .vmem, ⟨1, _⟩ => ⟨S8x512x128, .f32⟩
  | .local _ .vmem, ⟨2, _⟩ => ⟨S8x512x128, .f32⟩
  | .local _ .vmem, ⟨3, _⟩ => ⟨S8x512x128, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S512x1024, .f32⟩
  | .local _ .vmem, ⟨8, _⟩ => ⟨S512x1024, .f32⟩
  | .local _ .vmem, ⟨9, _⟩ => ⟨S8x512x128, .f32⟩
  | .local _ .vmem, ⟨10, _⟩ => ⟨S8x512x128, .f32⟩
  | .local _ .vmem, ⟨11, _⟩ => ⟨S512x1024, .bf16⟩
  | .local _ .vmem, ⟨12, _⟩ => ⟨S512x1024, .bf16⟩
  | .local _ .vmem, ⟨13, _⟩ => ⟨S1x128, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S8x8192x128 : Shape := ⟨3, ![8, 8192, 128]⟩
abbrev S8192x7168 : Shape := ⟨2, ![8192, 7168]⟩
abbrev S1x128 : Shape := ⟨2, ![1, 128]⟩
abbrev S8192x2048 : Shape := ⟨2, ![8192, 2048]⟩
abbrev S8192x1024 : Shape := ⟨2, ![8192, 1024]⟩
abbrev S128 : Shape := ⟨1, ![128]⟩
abbrev S_ : Shape := ⟨0, ![]⟩
abbrev S8x8192 : Shape := ⟨2, ![8, 8192]⟩
abbrev S8x8192x1 : Shape := ⟨3, ![8, 8192, 1]⟩
abbrev S1x1x128 : Shape := ⟨3, ![1, 1, 128]⟩
abbrev S8192x8x128 : Shape := ⟨3, ![8192, 8, 128]⟩

abbrev nBuf : Space → Nat
  | .hbm => 80
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S8192x7168, .f32⟩
  | .hbm, ⟨3, _⟩ => ⟨S1x128, .f32⟩
  | .hbm, ⟨4, _⟩ => ⟨S8192x2048, .f32⟩
  | .hbm, ⟨5, _⟩ => ⟨S8x8192x128, .f32⟩
  | .hbm, ⟨6, _⟩ => ⟨S8192x1024, .f32⟩
  | .hbm, ⟨7, _⟩ => ⟨S128, .f32⟩
  | .hbm, ⟨8, _⟩ => ⟨S8x8192x128, .f32⟩
  | .hbm, ⟨9, _⟩ => ⟨S_, .f32⟩
  | .hbm, ⟨10, _⟩ => ⟨S8x8192, .f32⟩
  | .hbm, ⟨11, _⟩ => ⟨S8x8192x1, .f32⟩
  | .hbm, ⟨12, _⟩ => ⟨S_, .f32⟩
  | .hbm, ⟨13, _⟩ => ⟨S8x8192x1, .f32⟩
  | .hbm, ⟨14, _⟩ => ⟨S8x8192x1, .f32⟩
  | .hbm, ⟨15, _⟩ => ⟨S_, .f32⟩
  | .hbm, ⟨16, _⟩ => ⟨S8x8192x1, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S_, .f32⟩
  | .hbm, ⟨21, _⟩ => ⟨S8x8192x1, .f32⟩
  | .hbm, ⟨22, _⟩ => ⟨S8x8192x1, .f32⟩
  | .hbm, ⟨23, _⟩ => ⟨S8x8192x128, .f32⟩
  | .hbm, ⟨24, _⟩ => ⟨S8x8192x128, .f32⟩
  | .hbm, ⟨25, _⟩ => ⟨S1x1x128, .f32⟩
  | .hbm, ⟨26, _⟩ => ⟨S8x8192x128, .f32⟩
  | .hbm, ⟨27, _⟩ => ⟨S8x8192x128, .f32⟩
  | .hbm, ⟨28, _⟩ => ⟨S8192x8x128, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x8x128, .f32⟩
  | .hbm, ⟨52, _⟩ => ⟨S8x8192x128, .f32⟩
  | .hbm, ⟨53, _⟩ => ⟨S8x8192x128, .f32⟩
  | .hbm, ⟨54, _⟩ => ⟨S_, .f32⟩
  | .hbm, ⟨55, _⟩ => ⟨S128, .f32⟩
  | .hbm, ⟨56, _⟩ => ⟨S1x1x128, .f32⟩
  | .hbm, ⟨57, _⟩ => ⟨S8x8192x128, .f32⟩
  | .hbm, ⟨58, _⟩ => ⟨S8x8192x128, .f32⟩
  | .hbm, ⟨59, _⟩ => ⟨S_, .f32⟩
  | .hbm, ⟨60, _⟩ => ⟨S128, .f32⟩
  | .hbm, ⟨61, _⟩ => ⟨S8x8192x128, .f32⟩
  | .hbm, ⟨62, _⟩ => ⟨S_, .f32⟩
  | .hbm, ⟨63, _⟩ => ⟨S8x8192, .f32⟩
  | .hbm, ⟨64, _⟩ => ⟨S8x8192x1, .f32⟩
  | .hbm, ⟨65, _⟩ => ⟨S8x8192x128, .f32⟩
  | .hbm, ⟨66, _⟩ => ⟨S8x8192x128, .f32⟩
  | .hbm, ⟨67, _⟩ => ⟨S8x8192x1, .f32⟩
  | .hbm, ⟨68, _⟩ => ⟨S_, .f32⟩
  | .hbm, ⟨69, _⟩ => ⟨S8x8192x1, .f32⟩
  | .hbm, ⟨70, _⟩ => ⟨S8x8192x1, .f32⟩
  | .hbm, ⟨71, _⟩ => ⟨S_, .f32⟩
  | .hbm, ⟨72, _⟩ => ⟨S8x8192, .f32⟩
  | .hbm, ⟨73, _⟩ => ⟨S8x8192x128, .f32⟩
  | .hbm, ⟨74, _⟩ => ⟨S8x8192x128, .f32⟩
  | .hbm, ⟨75, _⟩ => ⟨S8x8192x128, .f32⟩
  | .hbm, ⟨76, _⟩ => ⟨S8x8192x128, .f32⟩
  | .hbm, ⟨77, _⟩ => ⟨S8x8192x128, .f32⟩
  | .hbm, ⟨78, _⟩ => ⟨S8192x1024, .bf16⟩
  | .hbm, ⟨79, _⟩ => ⟨S1x128, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v21_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v21_1 : Ref sig .tc := ⟨.hbm, 41, rfl⟩
abbrev main_v21_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_6 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩

abbrev nD : Nat := 1
abbrev τ : Topo := Topo.v7x

variable {F : FTy → Type} [FloatOps F]
-- ==== Kernel12.lean ====
abbrev S8192x2048 : Shape := ⟨2, ![8192, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S1x128, .f32⟩
  | .hbm, ⟨4, _⟩ => ⟨S8192x2048, .f32⟩
  | .hbm, ⟨5, _⟩ => ⟨S8192x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S1x128, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference12Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192, .f32⟩
  | .hbm, ⟨42, _⟩ => ⟨S_, .f32⟩
  | .hbm, ⟨43, _⟩ => ⟨S8192, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S8192x2048, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x2048, .f32⟩
  | .hbm, ⟨60, _⟩ => ⟨S8192x2048, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S_, .f32⟩
  | .hbm, ⟨66, _⟩ => ⟨S8192, .f32⟩
  | .hbm, ⟨67, _⟩ => ⟨S8192x2048, .f32⟩
  | .hbm, ⟨68, _⟩ => ⟨S8192x2048, .f32⟩
  | .hbm, ⟨69, _⟩ => ⟨S8192x2048, .f32⟩
  | .hbm, ⟨70, _⟩ => ⟨S8192x2048, .f32⟩
  | .hbm, ⟨71, _⟩ => ⟨S8192x2048, .f32⟩
  | .hbm, ⟨72, _⟩ => ⟨S1x128, .f32⟩
  | .hbm, ⟨73, _⟩ => ⟨S8192x2048, .bf16⟩
  | .hbm, ⟨74, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== Kernel13.lean ====
abbrev S8192x2048 : Shape := ⟨2, ![8192, 2048]⟩
abbrev S1x2048 : Shape := ⟨2, ![1, 2048]⟩
abbrev S2048x8192 : Shape := ⟨2, ![2048, 8192]⟩
abbrev S512x2048 : Shape := ⟨2, ![512, 2048]⟩
abbrev S2048x512 : Shape := ⟨2, ![2048, 512]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .hbm, ⟨3, _⟩ => ⟨S2048x8192, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S2048x512, .bf16⟩
  | .local _ .vmem, ⟨6, _⟩ => ⟨S2048x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S2048x8192 : Shape := ⟨2, ![2048, 8192]⟩

abbrev nBuf : Space → Nat
  | .hbm => 22
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S1x2048, .f32⟩
  | .hbm, ⟨17, _⟩ => ⟨S8192x2048, .f32⟩
  | .hbm, ⟨18, _⟩ => ⟨S8192x2048, .f32⟩
  | .hbm, ⟨19, _⟩ => ⟨S8192x2048, .bf16⟩
  | .hbm, ⟨20, _⟩ => ⟨S2048x8192, .f32⟩
  | .hbm, ⟨21, _⟩ => ⟨S2048x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel14.lean ====
abbrev S8192x7168 : Shape := ⟨2, ![8192, 7168]⟩
abbrev S1x1024 : Shape := ⟨2, ![1, 1024]⟩
abbrev S8x128x128 : Shape := ⟨3, ![8, 128, 128]⟩
abbrev S128x8 : Shape := ⟨2, ![128, 8]⟩
abbrev S8192x2048 : Shape := ⟨2, ![8192, 2048]⟩
abbrev S2048x8192 : Shape := ⟨2, ![2048, 8192]⟩
abbrev S512x1024 : Shape := ⟨2, ![512, 1024]⟩
abbrev S1024x512 : Shape := ⟨2, ![1024, 512]⟩
abbrev S1x128x128 : Shape := ⟨3, ![1, 128, 128]⟩
abbrev S128x128 : Shape := ⟨2, ![128, 128]⟩
abbrev S128x1 : Shape := ⟨2, ![128, 1]⟩
abbrev S128x1024 : Shape := ⟨2, ![128, 1024]⟩
abbrev S128 : Shape := ⟨1, ![128]⟩
abbrev S1024x128 : Shape := ⟨2, ![1024, 128]⟩
abbrev S8192x1024 : Shape := ⟨2, ![8192, 1024]⟩
abbrev S1024x8192 : Shape := ⟨2, ![1024, 8192]⟩

abbrev nBuf : Space → Nat
  | .hbm => 9
  | .vmem => 14
  | .smem => 0
  | _ => 0

abbrev bufTy : (tb : Table) → Fin (tcTables nBuf tb) → BufTy
  | .hbm, ⟨0, _⟩ => ⟨S8192x7168, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S128x8, .f32⟩
  | .hbm, ⟨5, _⟩ => ⟨S8192x2048, .bf16⟩
  | .hbm, ⟨6, _⟩ => ⟨S2048x8192, .bf16⟩
  | .hbm, ⟨7, _⟩ => ⟨S8192x1024, .bf16⟩
  | .hbm, ⟨8, _⟩ => ⟨S1024x8192, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S8x128x128, .f32⟩
  | .local _ .vmem, ⟨9, _⟩ => ⟨S128x8, .f32⟩
  | .local _ .vmem, ⟨10, _⟩ => ⟨S512x1024, .bf16⟩
  | .local _ .vmem, ⟨11, _⟩ => ⟨S512x1024, .bf16⟩
  | .local _ .vmem, ⟨12, _⟩ => ⟨S1024x512, .bf16⟩
  | .local _ .vmem, ⟨13, _⟩ => ⟨S1024x512, .bf16⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference14Ideal.lean ====
abbrev S8192x7168 : Shape := ⟨2, ![8192, 7168]⟩
abbrev S1x1024 : Shape := ⟨2, ![1, 1024]⟩
abbrev S8x128x128 : Shape := ⟨3, ![8, 128, 128]⟩
abbrev S128x8 : Shape := ⟨2, ![128, 8]⟩
abbrev S8192x1024 : Shape := ⟨2, ![8192, 1024]⟩
abbrev S1024 : Shape := ⟨1, ![1024]⟩
abbrev S8x128 : Shape := ⟨2, ![8, 128]⟩
abbrev S_ : Shape := ⟨0, ![]⟩
abbrev S8192 : Shape := ⟨1, ![8192]⟩
abbrev S8192x1 : Shape := ⟨2, ![8192, 1]⟩
abbrev S64x128x8x128 : Shape := ⟨4, ![64, 128, 8, 128]⟩
abbrev S8x64x128x128 : Shape := ⟨4, ![8, 64, 128, 128]⟩
abbrev S1x128x8x1 : Shape := ⟨4, ![1, 128, 8, 1]⟩
abbrev S1024x8192 : Shape := ⟨2, ![1024, 8192]⟩

abbrev nBuf : Space → Nat
  | .hbm => 82
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S1x1024, .f32⟩
  | .hbm, ⟨2, _⟩ => ⟨S1x1024, .f32⟩
  | .hbm, ⟨3, _⟩ => ⟨S8x128x128, .f32⟩
  | .hbm, ⟨4, _⟩ => ⟨S128x8, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S1024, .f32⟩
  | .hbm, ⟨9, _⟩ => ⟨S1024, .f32⟩
  | .hbm, ⟨10, _⟩ => ⟨S8x128, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S64x128x8x128, .f32⟩
  | .hbm, ⟨50, _⟩ => ⟨S8x64x128x128, .f32⟩
  | .hbm, ⟨51, _⟩ => ⟨S64x128x8x128, .f32⟩
  | .hbm, ⟨52, _⟩ => ⟨S128x8, .f32⟩
  | .hbm, ⟨53, _⟩ => ⟨S1x128x8x1, .f32⟩
  | .hbm, ⟨54, _⟩ => ⟨S64x128x8x128, .f32⟩
  | .hbm, ⟨55, _⟩ => ⟨S64x128x8x128, .f32⟩
  | .hbm, ⟨56, _⟩ => ⟨S_, .f32⟩
  | .hbm, ⟨57, _⟩ => ⟨S8192x1024, .f32⟩
  | .hbm, ⟨58, _⟩ => ⟨S8192x1024, .f32⟩
  | .hbm, ⟨59, _⟩ => ⟨S_, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .bf16⟩
  | .hbm, ⟨80, _⟩ => ⟨S1024x8192, .f32⟩
  | .hbm, ⟨81, _⟩ => ⟨S1024x8192, .bf16⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_cst_8 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_cst_9 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call0_v0 : Ref sig .tc := ⟨.hbm, 69, rfl⟩
abbrev main_call0_v1 : Ref sig .tc := ⟨.hbm, 70, rfl⟩
abbrev main_call0_cst : Ref sig .tc := ⟨.hbm, 71, rfl⟩
abbrev main_call0_v2 : Ref sig .tc := ⟨.hbm, 72, rfl⟩
abbrev main_call0_v3 : Ref sig .tc := ⟨.hbm, 73, rfl⟩
abbrev main_call0_cst_0 : Ref sig .tc := ⟨.hbm, 74, rfl⟩
abbrev main_call0_v4 : Ref sig .tc := ⟨.hbm, 75, rfl⟩
abbrev main_call0_v5 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== Kernel15.lean ====
abbrev S8x8192x128 : Shape := ⟨3, ![8, 8192, 128]⟩
abbrev S8192x7168 : Shape := ⟨2, ![8192, 7168]⟩
abbrev S1x128 : Shape := ⟨2, ![1, 128]⟩
abbrev S8192x2048 : Shape := ⟨2, ![8192, 2048]⟩
abbrev S2048x8192 : Shape := ⟨2, ![2048, 8192]⟩
abbrev S8x512x128 : Shape := ⟨3, ![8, 512, 128]⟩
abbrev S512x1024 : Shape := ⟨2, ![512, 1024]⟩
abbrev S1024x512 : Shape := ⟨2, ![1024, 512]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S128x512 : Shape := ⟨2, ![128, 512]⟩

abbrev nBuf : Space → Nat
  | .hbm => 8
  | .vmem => 11
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S8192x7168, .f32⟩
  | .hbm, ⟨3, _⟩ => ⟨S1x128, .f32⟩
  | .hbm, ⟨4, _⟩ => ⟨S8192x2048, .bf16⟩
  | .hbm, ⟨5, _⟩ => ⟨S2048x8192, .bf16⟩
  | .hbm, ⟨6, _⟩ => ⟨S8192x2048, .bf16⟩
  | .hbm, ⟨7, _⟩ => ⟨S2048x8192, .bf16⟩
  | .local _ .vmem, ⟨0, _⟩ => ⟨S8x512x128, .f32⟩
  | .local _ .vmem, ⟨1, _⟩ => ⟨S8x512x128, .f32⟩
  | .local _ .vmem, ⟨2, _⟩ => ⟨S8x512x128, .f32⟩
  | .local _ .vmem, ⟨3, _⟩ => ⟨S8x512x128, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S512x1024, .bf16⟩
  | .local _ .vmem, ⟨8, _⟩ => ⟨S512x1024, .bf16⟩
  | .local _ .vmem, ⟨9, _⟩ => ⟨S1024x512, .bf16⟩
  | .local _ .vmem, ⟨10, _⟩ => ⟨S1024x512, .bf16⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c1_i32 : BitVec 32 := 1#32
  let c0_i32 : BitVec 32 := 0#32
  ![c1_i32.toNat, arg0.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S8x8192x128 : Shape := ⟨3, ![8, 8192, 128]⟩
abbrev S8192x7168 : Shape := ⟨2, ![8192, 7168]⟩
abbrev S1x128 : Shape := ⟨2, ![1, 128]⟩
abbrev S8192x2048 : Shape := ⟨2, ![8192, 2048]⟩
abbrev S2048x8192 : Shape := ⟨2, ![2048, 8192]⟩
abbrev S8192x1024 : Shape := ⟨2, ![8192, 1024]⟩
abbrev S128 : Shape := ⟨1, ![128]⟩
abbrev S_ : Shape := ⟨0, ![]⟩
abbrev S8x8192 : Shape := ⟨2, ![8, 8192]⟩
abbrev S8x8192x1 : Shape := ⟨3, ![8, 8192, 1]⟩
abbrev S1x1x128 : Shape := ⟨3, ![1, 1, 128]⟩
abbrev S8192x8x128 : Shape := ⟨3, ![8192, 8, 128]⟩
abbrev S1024x8192 : Shape := ⟨2, ![1024, 8192]⟩

abbrev nBuf : Space → Nat
  | .hbm => 44
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S8192x7168, .f32⟩
  | .hbm, ⟨3, _⟩ => ⟨S1x128, .f32⟩
  | .hbm, ⟨4, _⟩ => ⟨S8192x2048, .bf16⟩
  | .hbm, ⟨5, _⟩ => ⟨S2048x8192, .bf16⟩
  | .hbm, ⟨6, _⟩ => ⟨S8x8192x128, .f32⟩
  | .hbm, ⟨7, _⟩ => ⟨S8192x1024, .f32⟩
  | .hbm, ⟨8, _⟩ => ⟨S128, .f32⟩
  | .hbm, ⟨9, _⟩ => ⟨S8x8192x128, .f32⟩
  | .hbm, ⟨10, _⟩ => ⟨S_, .f32⟩
  | .hbm, ⟨11, _⟩ => ⟨S8x8192, .f32⟩
  | .hbm, ⟨12, _⟩ => ⟨S8x8192x1, .f32⟩
  | .hbm, ⟨13, _⟩ => ⟨S_, .f32⟩
  | .hbm, ⟨14, _⟩ => ⟨S8x8192x1, .f32⟩
  | .hbm, ⟨15, _⟩ => ⟨S8x8192x1, .f32⟩
  | .hbm, ⟨16, _⟩ => ⟨S_, .f32⟩
  | .hbm, ⟨17, _⟩ => ⟨S8x8192x1, .f32⟩
  | .hbm, ⟨18, _⟩ => ⟨S8x8192x1, .f32⟩
  | .hbm, ⟨19, _⟩ => ⟨S8x8192x1, .f32⟩
  | .hbm, ⟨20, _⟩ => ⟨S8x8192x128, .f32⟩
  | .hbm, ⟨21, _⟩ => ⟨S8x8192x128, .f32⟩
  | .hbm, ⟨22, _⟩ => ⟨S1x1x128, .f32⟩
  | .hbm, ⟨23, _⟩ => ⟨S8x8192x128, .f32⟩
  | .hbm, ⟨24, _⟩ => ⟨S8x8192x128, .f32⟩
  | .hbm, ⟨25, _⟩ => ⟨S8192x8x128, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .bf16⟩
  | .hbm, ⟨38, _⟩ => ⟨S8192x1024, .bf16⟩
  | .hbm, ⟨39, _⟩ => ⟨S8192x2048, .bf16⟩
  | .hbm, ⟨40, _⟩ => ⟨S1024x8192, .bf16⟩
  | .hbm, ⟨41, _⟩ => ⟨S1024x8192, .f32⟩
  | .hbm, ⟨42, _⟩ => ⟨S1024x8192, .bf16⟩
  | .hbm, ⟨43, _⟩ => ⟨S2048x8192, .bf16⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_call0_v5 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩

abbrev nD : Nat := 1
abbrev τ : Topo := Topo.v7x

variable {F : FTy → Type} [FloatOps F]
-- ==== Kernel16.lean ====
abbrev S8x4x256x2048 : Shape := ⟨4, ![8, 4, 256, 2048]⟩
abbrev S4x256x2048 : Shape := ⟨3, ![4, 256, 2048]⟩
abbrev S8x1x128x2048 : Shape := ⟨4, ![8, 1, 128, 2048]⟩
abbrev S1x128x2048 : Shape := ⟨3, ![1, 128, 2048]⟩
abbrev S1x1x128x2048 : Shape := ⟨4, ![1, 1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x4x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S4x256x2048, .f32⟩
  | .hbm, ⟨5, _⟩ => ⟨S4x256x2048, .f32⟩
  | .hbm, ⟨6, _⟩ => ⟨S4x256x2048, .f32⟩
  | .hbm, ⟨7, _⟩ => ⟨S4x256x2048, .f32⟩
  | .local _ .vmem, ⟨0, _⟩ => ⟨S8x1x128x2048, .bf16⟩
  | .local _ .vmem, ⟨1, _⟩ => ⟨S8x1x128x2048, .bf16⟩
  | .local _ .vmem, ⟨2, _⟩ => ⟨S1x128x2048, .f32⟩
  | .local _ .vmem, ⟨3, _⟩ => ⟨S1x128x2048, .f32⟩
  | .local _ .vmem, ⟨4, _⟩ => ⟨S1x128x2048, .f32⟩
  | .local _ .vmem, ⟨5, _⟩ => ⟨S1x128x2048, .f32⟩
  | .local _ .vmem, ⟨6, _⟩ => ⟨S1x128x2048, .f32⟩
  | .local _ .vmem, ⟨7, _⟩ => ⟨S1x128x2048, .f32⟩
  | .local _ .vmem, ⟨8, _⟩ => ⟨S1x128x2048, .f32⟩
  | .local _ .vmem, ⟨9, _⟩ => ⟨S1x128x2048, .f32⟩
  | .local _ .vmem, ⟨10, _⟩ => ⟨S1x128x2048, .f32⟩
  | .local _ .vmem, ⟨11, _⟩ => ⟨S1x128x2048, .f32⟩
  | .local _ .vmem, ⟨12, _⟩ => ⟨S1x128x2048, .f32⟩
  | .local _ .vmem, ⟨13, _⟩ => ⟨S1x128x2048, .f32⟩
  | .local _ .vmem, ⟨14, _⟩ => ⟨S1x128x2048, .f32⟩
  | .local _ .vmem, ⟨15, _⟩ => ⟨S1x128x2048, .f32⟩
  | _, _ => ⟨S8x4x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference16Ideal.lean ====
abbrev S8x4x256x2048 : Shape := ⟨4, ![8, 4, 256, 2048]⟩
abbrev S4x256x2048 : Shape := ⟨3, ![4, 256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x4x256x2048, .bf16⟩
  | .hbm, ⟨1, _⟩ => ⟨S4x256x2048, .f32⟩
  | .hbm, ⟨2, _⟩ => ⟨S4x256x2048, .f32⟩
  | .hbm, ⟨3, _⟩ => ⟨S4x256x2048, .f32⟩
  | .hbm, ⟨4, _⟩ => ⟨S8x4x256x2048, .f32⟩
  | .hbm, ⟨5, _⟩ => ⟨S_, .f32⟩
  | .hbm, ⟨6, _⟩ => ⟨S4x256x2048, .f32⟩
  | .hbm, ⟨7, _⟩ => ⟨S_, .f32⟩
  | .hbm, ⟨8, _⟩ => ⟨S4x256x2048, .f32⟩
  | .hbm, ⟨9, _⟩ => ⟨S4x256x2048, .f32⟩
  | .hbm, ⟨10, _⟩ => ⟨S_, .f32⟩
  | .hbm, ⟨11, _⟩ => ⟨S4x256x2048, .f32⟩
  | .hbm, ⟨12, _⟩ => ⟨S4x256x2048, .f32⟩
  | .hbm, ⟨13, _⟩ => ⟨S4x256x2048, .f32⟩
  | .hbm, ⟨14, _⟩ => ⟨S_, .f32⟩
  | .hbm, ⟨15, _⟩ => ⟨S4x256x2048, .f32⟩
  | .hbm, ⟨16, _⟩ => ⟨S4x256x2048, .f32⟩
  | .hbm, ⟨17, _⟩ => ⟨S4x256x2048, .f32⟩
  | .hbm, ⟨18, _⟩ => ⟨S_, .f32⟩
  | .hbm, ⟨19, _⟩ => ⟨S4x256x2048, .f32⟩
  | .hbm, ⟨20, _⟩ => ⟨S4x256x2048, .f32⟩
  | .hbm, ⟨21, _⟩ => ⟨S4x256x2048, .f32⟩
  | .hbm, ⟨22, _⟩ => ⟨S_, .f32⟩
  | .hbm, ⟨23, _⟩ => ⟨S4x256x2048, .f32⟩
  | .hbm, ⟨24, _⟩ => ⟨S4x256x2048, .f32⟩
  | .hbm, ⟨25, _⟩ => ⟨S_, .f32⟩
  | .hbm, ⟨26, _⟩ => ⟨S4x256x2048, .f32⟩
  | .hbm, ⟨27, _⟩ => ⟨S4x256x2048, .f32⟩
  | .hbm, ⟨28, _⟩ => ⟨S4x256x2048, .f32⟩
  | .hbm, ⟨29, _⟩ => ⟨S_, .f32⟩
  | .hbm, ⟨30, _⟩ => ⟨S4x256x2048, .f32⟩
  | .hbm, ⟨31, _⟩ => ⟨S4x256x2048, .f32⟩
  | .hbm, ⟨32, _⟩ => ⟨S4x256x2048, .f32⟩
  | .hbm, ⟨33, _⟩ => ⟨S_, .f32⟩
  | .hbm, ⟨34, _⟩ => ⟨S4x256x2048, .f32⟩
  | .hbm, ⟨35, _⟩ => ⟨S4x256x2048, .f32⟩
  | .hbm, ⟨36, _⟩ => ⟨S4x256x2048, .f32⟩
  | .hbm, ⟨37, _⟩ => ⟨S_, .f32⟩
  | .hbm, ⟨38, _⟩ => ⟨S4x256x2048, .f32⟩
  | .hbm, ⟨39, _⟩ => ⟨S4x256x2048, .f32⟩
  | _, _ => ⟨S8x4x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel17.lean ====
abbrev S4x2048x900 : Shape := ⟨3, ![4, 2048, 900]⟩
abbrev S1x4x2048x900 : Shape := ⟨4, ![1, 4, 2048, 900]⟩
abbrev S1x1x256x900 : Shape := ⟨4, ![1, 1, 256, 900]⟩
abbrev S1x256x900 : Shape := ⟨3, ![1, 256, 900]⟩

abbrev nBuf : Space → Nat
  | .hbm => 9
  | .vmem => 16
  | .smem => 0
  | _ => 0

abbrev bufTy : (tb : Table) → Fin (tcTables nBuf tb) → BufTy
  | .hbm, ⟨0, _⟩ => ⟨S4x2048x900, .f32⟩
  | .hbm, ⟨1, _⟩ => ⟨S4x2048x900, .f32⟩
  | .hbm, ⟨2, _⟩ => ⟨S4x2048x900, .f32⟩
  | .hbm, ⟨3, _⟩ => ⟨S4x2048x900, .f32⟩
  | .hbm, ⟨4, _⟩ => ⟨S1x4x2048x900, .f32⟩
  | .hbm, ⟨5, _⟩ => ⟨S4x2048x900, .f32⟩
  | .hbm, ⟨6, _⟩ => ⟨S4x2048x900, .f32⟩
  | .hbm, ⟨7, _⟩ => ⟨S4x2048x900, .f32⟩
  | .hbm, ⟨8, _⟩ => ⟨S4x2048x900, .f32⟩
  | .local _ .vmem, ⟨0, _⟩ => ⟨S1x1x256x900, .f32⟩
  | .local _ .vmem, ⟨1, _⟩ => ⟨S1x1x256x900, .f32⟩
  | .local _ .vmem, ⟨2, _⟩ => ⟨S1x256x900, .f32⟩
  | .local _ .vmem, ⟨3, _⟩ => ⟨S1x256x900, .f32⟩
  | .local _ .vmem, ⟨4, _⟩ => ⟨S1x256x900, .f32⟩
  | .local _ .vmem, ⟨5, _⟩ => ⟨S1x256x900, .f32⟩
  | .local _ .vmem, ⟨6, _⟩ => ⟨S1x256x900, .f32⟩
  | .local _ .vmem, ⟨7, _⟩ => ⟨S1x256x900, .f32⟩
  | .local _ .vmem, ⟨8, _⟩ => ⟨S1x256x900, .f32⟩
  | .local _ .vmem, ⟨9, _⟩ => ⟨S1x256x900, .f32⟩
  | .local _ .vmem, ⟨10, _⟩ => ⟨S1x256x900, .f32⟩
  | .local _ .vmem, ⟨11, _⟩ => ⟨S1x256x900, .f32⟩
  | .local _ .vmem, ⟨12, _⟩ => ⟨S1x256x900, .f32⟩
  | .local _ .vmem, ⟨13, _⟩ => ⟨S1x256x900, .f32⟩
  | .local _ .vmem, ⟨14, _⟩ => ⟨S1x256x900, .f32⟩
  | .local _ .vmem, ⟨15, _⟩ => ⟨S1x256x900, .f32⟩
  | _, _ => ⟨S4x2048x900, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x900 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x900 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x900 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x900 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x900 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x900 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x900 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x900 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference17Ideal.lean ====
abbrev S4x2048x900 : Shape := ⟨3, ![4, 2048, 900]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4x2048x900, .f32⟩
  | .hbm, ⟨1, _⟩ => ⟨S4x2048x900, .f32⟩
  | .hbm, ⟨2, _⟩ => ⟨S4x2048x900, .f32⟩
  | .hbm, ⟨3, _⟩ => ⟨S4x2048x900, .f32⟩
  | .hbm, ⟨4, _⟩ => ⟨S_, .f32⟩
  | .hbm, ⟨5, _⟩ => ⟨S4x2048x900, .f32⟩
  | .hbm, ⟨6, _⟩ => ⟨S4x2048x900, .f32⟩
  | .hbm, ⟨7, _⟩ => ⟨S_, .f32⟩
  | .hbm, ⟨8, _⟩ => ⟨S4x2048x900, .f32⟩
  | .hbm, ⟨9, _⟩ => ⟨S4x2048x900, .f32⟩
  | .hbm, ⟨10, _⟩ => ⟨S4x2048x900, .f32⟩
  | .hbm, ⟨11, _⟩ => ⟨S_, .f32⟩
  | .hbm, ⟨12, _⟩ => ⟨S4x2048x900, .f32⟩
  | .hbm, ⟨13, _⟩ => ⟨S4x2048x900, .f32⟩
  | .hbm, ⟨14, _⟩ => ⟨S4x2048x900, .f32⟩
  | .hbm, ⟨15, _⟩ => ⟨S_, .f32⟩
  | .hbm, ⟨16, _⟩ => ⟨S4x2048x900, .f32⟩
  | .hbm, ⟨17, _⟩ => ⟨S4x2048x900, .f32⟩
  | .hbm, ⟨18, _⟩ => ⟨S4x2048x900, .f32⟩
  | .hbm, ⟨19, _⟩ => ⟨S_, .f32⟩
  | .hbm, ⟨20, _⟩ => ⟨S4x2048x900, .f32⟩
  | .hbm, ⟨21, _⟩ => ⟨S4x2048x900, .f32⟩
  | .hbm, ⟨22, _⟩ => ⟨S_, .f32⟩
  | .hbm, ⟨23, _⟩ => ⟨S4x2048x900, .f32⟩
  | .hbm, ⟨24, _⟩ => ⟨S4x2048x900, .f32⟩
  | .hbm, ⟨25, _⟩ => ⟨S4x2048x900, .f32⟩
  | .hbm, ⟨26, _⟩ => ⟨S_, .f32⟩
  | .hbm, ⟨27, _⟩ => ⟨S4x2048x900, .f32⟩
  | .hbm, ⟨28, _⟩ => ⟨S4x2048x900, .f32⟩
  | .hbm, ⟨29, _⟩ => ⟨S4x2048x900, .f32⟩
  | .hbm, ⟨30, _⟩ => ⟨S_, .f32⟩
  | .hbm, ⟨31, _⟩ => ⟨S4x2048x900, .f32⟩
  | .hbm, ⟨32, _⟩ => ⟨S4x2048x900, .f32⟩
  | .hbm, ⟨33, _⟩ => ⟨S4x2048x900, .f32⟩
  | .hbm, ⟨34, _⟩ => ⟨S_, .f32⟩
  | .hbm, ⟨35, _⟩ => ⟨S4x2048x900, .f32⟩
  | .hbm, ⟨36, _⟩ => ⟨S4x2048x900, .f32⟩
  | _, _ => ⟨S4x2048x900, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel18.lean ====
abbrev S8x576x1024 : Shape := ⟨3, ![8, 576, 1024]⟩
abbrev S576x1024 : Shape := ⟨2, ![576, 1024]⟩
abbrev S8x144x1024 : Shape := ⟨3, ![8, 144, 1024]⟩
abbrev S144x1024 : Shape := ⟨2, ![144, 1024]⟩
abbrev S1x144x1024 : Shape := ⟨3, ![1, 144, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x576x1024, .f32⟩
  | .hbm, ⟨1, _⟩ => ⟨S576x1024, .f32⟩
  | .hbm, ⟨2, _⟩ => ⟨S576x1024, .f32⟩
  | .hbm, ⟨3, _⟩ => ⟨S576x1024, .f32⟩
  | .hbm, ⟨4, _⟩ => ⟨S576x1024, .f32⟩
  | .hbm, ⟨5, _⟩ => ⟨S576x1024, .f32⟩
  | .hbm, ⟨6, _⟩ => ⟨S576x1024, .f32⟩
  | .hbm, ⟨7, _⟩ => ⟨S576x1024, .f32⟩
  | .local _ .vmem, ⟨0, _⟩ => ⟨S8x144x1024, .f32⟩
  | .local _ .vmem, ⟨1, _⟩ => ⟨S8x144x1024, .f32⟩
  | .local _ .vmem, ⟨2, _⟩ => ⟨S144x1024, .f32⟩
  | .local _ .vmem, ⟨3, _⟩ => ⟨S144x1024, .f32⟩
  | .local _ .vmem, ⟨4, _⟩ => ⟨S144x1024, .f32⟩
  | .local _ .vmem, ⟨5, _⟩ => ⟨S144x1024, .f32⟩
  | .local _ .vmem, ⟨6, _⟩ => ⟨S144x1024, .f32⟩
  | .local _ .vmem, ⟨7, _⟩ => ⟨S144x1024, .f32⟩
  | .local _ .vmem, ⟨8, _⟩ => ⟨S144x1024, .f32⟩
  | .local _ .vmem, ⟨9, _⟩ => ⟨S144x1024, .f32⟩
  | .local _ .vmem, ⟨10, _⟩ => ⟨S144x1024, .f32⟩
  | .local _ .vmem, ⟨11, _⟩ => ⟨S144x1024, .f32⟩
  | .local _ .vmem, ⟨12, _⟩ => ⟨S144x1024, .f32⟩
  | .local _ .vmem, ⟨13, _⟩ => ⟨S144x1024, .f32⟩
  | .local _ .vmem, ⟨14, _⟩ => ⟨S144x1024, .f32⟩
  | .local _ .vmem, ⟨15, _⟩ => ⟨S144x1024, .f32⟩
  | _, _ => ⟨S8x576x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x144x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S144x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8x576x1024 : Shape := ⟨3, ![8, 576, 1024]⟩
abbrev S576x1024 : Shape := ⟨2, ![576, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x576x1024, .f32⟩
  | .hbm, ⟨1, _⟩ => ⟨S576x1024, .f32⟩
  | .hbm, ⟨2, _⟩ => ⟨S576x1024, .f32⟩
  | .hbm, ⟨3, _⟩ => ⟨S576x1024, .f32⟩
  | .hbm, ⟨4, _⟩ => ⟨S_, .f32⟩
  | .hbm, ⟨5, _⟩ => ⟨S576x1024, .f32⟩
  | .hbm, ⟨6, _⟩ => ⟨S_, .f32⟩
  | .hbm, ⟨7, _⟩ => ⟨S576x1024, .f32⟩
  | .hbm, ⟨8, _⟩ => ⟨S576x1024, .f32⟩
  | .hbm, ⟨9, _⟩ => ⟨S_, .f32⟩
  | .hbm, ⟨10, _⟩ => ⟨S576x1024, .f32⟩
  | .hbm, ⟨11, _⟩ => ⟨S576x1024, .f32⟩
  | .hbm, ⟨12, _⟩ => ⟨S576x1024, .f32⟩
  | .hbm, ⟨13, _⟩ => ⟨S_, .f32⟩
  | .hbm, ⟨14, _⟩ => ⟨S576x1024, .f32⟩
  | .hbm, ⟨15, _⟩ => ⟨S576x1024, .f32⟩
  | .hbm, ⟨16, _⟩ => ⟨S576x1024, .f32⟩
  | .hbm, ⟨17, _⟩ => ⟨S_, .f32⟩
  | .hbm, ⟨18, _⟩ => ⟨S576x1024, .f32⟩
  | .hbm, ⟨19, _⟩ => ⟨S576x1024, .f32⟩
  | .hbm, ⟨20, _⟩ => ⟨S576x1024, .f32⟩
  | .hbm, ⟨21, _⟩ => ⟨S_, .f32⟩
  | .hbm, ⟨22, _⟩ => ⟨S576x1024, .f32⟩
  | .hbm, ⟨23, _⟩ => ⟨S576x1024, .f32⟩
  | .hbm, ⟨24, _⟩ => ⟨S_, .f32⟩
  | .hbm, ⟨25, _⟩ => ⟨S576x1024, .f32⟩
  | .hbm, ⟨26, _⟩ => ⟨S576x1024, .f32⟩
  | .hbm, ⟨27, _⟩ => ⟨S576x1024, .f32⟩
  | .hbm, ⟨28, _⟩ => ⟨S_, .f32⟩
  | .hbm, ⟨29, _⟩ => ⟨S576x1024, .f32⟩
  | .hbm, ⟨30, _⟩ => ⟨S576x1024, .f32⟩
  | .hbm, ⟨31, _⟩ => ⟨S576x1024, .f32⟩
  | .hbm, ⟨32, _⟩ => ⟨S_, .f32⟩
  | .hbm, ⟨33, _⟩ => ⟨S576x1024, .f32⟩
  | .hbm, ⟨34, _⟩ => ⟨S576x1024, .f32⟩
  | .hbm, ⟨35, _⟩ => ⟨S576x1024, .f32⟩
  | .hbm, ⟨36, _⟩ => ⟨S_, .f32⟩
  | .hbm, ⟨37, _⟩ => ⟨S576x1024, .f32⟩
  | .hbm, ⟨38, _⟩ => ⟨S576x1024, .f32⟩
  | _, _ => ⟨S8x576x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S8192x7168 : Shape := ⟨2, ![8192, 7168]⟩
abbrev S8x3072 : Shape := ⟨2, ![8, 3072]⟩
abbrev S8192x128 : Shape := ⟨2, ![8192, 128]⟩
abbrev S1x128 : Shape := ⟨2, ![1, 128]⟩
abbrev S8x8192x128 : Shape := ⟨3, ![8, 8192, 128]⟩
abbrev S256x3072 : Shape := ⟨2, ![256, 3072]⟩
abbrev S256x128 : Shape := ⟨2, ![256, 128]⟩
abbrev S8x256x128 : Shape := ⟨3, ![8, 256, 128]⟩
abbrev S272x3072 : Shape := ⟨2, ![272, 3072]⟩
abbrev S1x3072 : Shape := ⟨2, ![1, 3072]⟩
abbrev S256 : Shape := ⟨1, ![256]⟩
abbrev S256x1 : Shape := ⟨2, ![256, 1]⟩
abbrev S1x256x128 : Shape := ⟨3, ![1, 256, 128]⟩

abbrev nBuf : Space → Nat
  | .hbm => 9
  | .vmem => 20
  | .smem => 0
  | _ => 0

abbrev bufTy : (tb : Table) → Fin (tcTables nBuf tb) → BufTy
  | .hbm, ⟨0, _⟩ => ⟨S8192x7168, .f32⟩
  | .hbm, ⟨1, _⟩ => ⟨S8x3072, .f32⟩
  | .hbm, ⟨2, _⟩ => ⟨S8192x128, .f32⟩
  | .hbm, ⟨3, _⟩ => ⟨S1x128, .f32⟩
  | .hbm, ⟨4, _⟩ => ⟨S1x128, .f32⟩
  | .hbm, ⟨5, _⟩ => ⟨S8x8192x128, .f32⟩
  | .hbm, ⟨6, _⟩ => ⟨S8x8192x128, .f32⟩
  | .hbm, ⟨7, _⟩ => ⟨S8x8192x128, .f32⟩
  | .hbm, ⟨8, _⟩ => ⟨S8192x128, .f32⟩
  | .local _ .vmem, ⟨0, _⟩ => ⟨S256x3072, .f32⟩
  | .local _ .vmem, ⟨1, _⟩ => ⟨S256x3072, .f32⟩
  | .local _ .vmem, ⟨2, _⟩ => ⟨S8x3072, .f32⟩
  | .local _ .vmem, ⟨3, _⟩ => ⟨S8x3072, .f32⟩
  | .local _ .vmem, ⟨4, _⟩ => ⟨S8x3072, .f32⟩
  | .local _ .vmem, ⟨5, _⟩ => ⟨S8x3072, .f32⟩
  | .local _ .vmem, ⟨6, _⟩ => ⟨S8x3072, .f32⟩
  | .local _ .vmem, ⟨7, _⟩ => ⟨S256x128, .f32⟩
  | .local _ .vmem, ⟨8, _⟩ => ⟨S256x128, .f32⟩
  | .local _ .vmem, ⟨9, _⟩ => ⟨S1x128, .f32⟩
  | .local _ .vmem, ⟨10, _⟩ => ⟨S1x128, .f32⟩
  | .local _ .vmem, ⟨11, _⟩ => ⟨S8x256x128, .f32⟩
  | .local _ .vmem, ⟨12, _⟩ => ⟨S8x256x128, .f32⟩
  | .local _ .vmem, ⟨13, _⟩ => ⟨S8x256x128, .f32⟩
  | .local _ .vmem, ⟨14, _⟩ => ⟨S8x256x128, .f32⟩
  | .local _ .vmem, ⟨15, _⟩ => ⟨S8x256x128, .f32⟩
  | .local _ .vmem, ⟨16, _⟩ => ⟨S8x256x128, .f32⟩
  | .local _ .vmem, ⟨17, _⟩ => ⟨S256x128, .f32⟩
  | .local _ .vmem, ⟨18, _⟩ => ⟨S256x128, .f32⟩
  | .local _ .vmem, ⟨19, _⟩ => ⟨S272x3072, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![v2.toNat, c1_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c1023_i32 : BitVec 32 := 1023#32
  let v2 : BitVec 32 := Scalar.minsi v1 c1023_i32
  let c1_i32_0 : BitVec 32 := 1#32
  let c0_i32 : BitVec 32 := 0#32
  ![v2.toNat, c1_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference19Ideal.lean ====
abbrev S8192x7168 : Shape := ⟨2, ![8192, 7168]⟩
abbrev S8x3072 : Shape := ⟨2, ![8, 3072]⟩
abbrev S8192x128 : Shape := ⟨2, ![8192, 128]⟩
abbrev S1x128 : Shape := ⟨2, ![1, 128]⟩
abbrev S8192x3072 : Shape := ⟨2, ![8192, 3072]⟩
abbrev S_ : Shape := ⟨0, ![]⟩
abbrev S8196x3072 : Shape := ⟨2, ![8196, 3072]⟩
abbrev S1x3072 : Shape := ⟨2, ![1, 3072]⟩
abbrev S3072 : Shape := ⟨1, ![3072]⟩
abbrev S8192x1024 : Shape := ⟨2, ![8192, 1024]⟩
abbrev S8192x8x128 : Shape := ⟨3, ![8192, 8, 128]⟩
abbrev S8x8192x128 : Shape := ⟨3, ![8, 8192, 128]⟩
abbrev S8x8192 : Shape := ⟨2, ![8, 8192]⟩
abbrev S8x8192x1 : Shape := ⟨3, ![8, 8192, 1]⟩
abbrev S8192x16 : Shape := ⟨2, ![8192, 16]⟩
abbrev S1x16 : Shape := ⟨2, ![1, 16]⟩
abbrev S16 : Shape := ⟨1, ![16]⟩
abbrev S8192x96 : Shape := ⟨2, ![8192, 96]⟩

abbrev nBuf : Space → Nat
  | .hbm => 123
  | .vmem => 0
  | .smem => 0
  | _ => 0

abbrev bufTy : (tb : Table) → Fin (tcTables nBuf tb) → BufTy
  | .hbm, ⟨0, _⟩ => ⟨S8192x7168, .f32⟩
  | .hbm, ⟨1, _⟩ => ⟨S8x3072, .f32⟩
  | .hbm, ⟨2, _⟩ => ⟨S8192x128, .f32⟩
  | .hbm, ⟨3, _⟩ => ⟨S1x128, .f32⟩
  | .hbm, ⟨4, _⟩ => ⟨S1x128, .f32⟩
  | .hbm, ⟨5, _⟩ => ⟨S8192x3072, .f32⟩
  | .hbm, ⟨6, _⟩ => ⟨S_, .i32⟩
  | .hbm, ⟨7, _⟩ => ⟨S_, .f32⟩
  | .hbm, ⟨8, _⟩ => ⟨S8196x3072, .f32⟩
  | .hbm, ⟨9, _⟩ => ⟨S8192x3072, .f32⟩
  | .hbm, ⟨10, _⟩ => ⟨S1x3072, .f32⟩
  | .hbm, ⟨11, _⟩ => ⟨S3072, .f32⟩
  | .hbm, ⟨12, _⟩ => ⟨S1x3072, .f32⟩
  | .hbm, ⟨13, _⟩ => ⟨S8192x3072, .f32⟩
  | .hbm, ⟨14, _⟩ => ⟨S8192x3072, .f32⟩
  | .hbm, ⟨15, _⟩ => ⟨S8192x3072, .f32⟩
  | .hbm, ⟨16, _⟩ => ⟨S1x3072, .f32⟩
  | .hbm, ⟨17, _⟩ => ⟨S3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S1x3072, .f32⟩
  | .hbm, ⟨24, _⟩ => ⟨S3072, .f32⟩
  | .hbm, ⟨25, _⟩ => ⟨S1x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S1x3072, .f32⟩
  | .hbm, ⟨31, _⟩ => ⟨S3072, .f32⟩
  | .hbm, ⟨32, _⟩ => ⟨S1x3072, .f32⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S8192x3072, .f32⟩
  | .hbm, ⟨37, _⟩ => ⟨S1x3072, .f32⟩
  | .hbm, ⟨38, _⟩ => ⟨S3072, .f32⟩
  | .hbm, ⟨39, _⟩ => ⟨S1x3072, .f32⟩
  | .hbm, ⟨40, _⟩ => ⟨S8192x3072, .f32⟩
  | .hbm, ⟨41, _⟩ => ⟨S8192x3072, .f32⟩
  | .hbm, ⟨42, _⟩ => ⟨S8192x3072, .f32⟩
  | .hbm, ⟨43, _⟩ => ⟨S8192x3072, .f32⟩
  | .hbm, ⟨44, _⟩ => ⟨S8192x3072, .f32⟩
  | .hbm, ⟨45, _⟩ => ⟨S_, .f32⟩
  | .hbm, ⟨46, _⟩ => ⟨S8192x3072, .f32⟩
  | .hbm, ⟨47, _⟩ => ⟨S8192x3072, .f32⟩
  | .hbm, ⟨48, _⟩ => ⟨S_, .f32⟩
  | .hbm, ⟨49, _⟩ => ⟨S8192x3072, .f32⟩
  | .hbm, ⟨50, _⟩ => ⟨S8192x3072, .f32⟩
  | .hbm, ⟨51, _⟩ => ⟨S8192x3072, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x8x128, .f32⟩
  | .hbm, ⟨56, _⟩ => ⟨S8x8192x128, .f32⟩
  | .hbm, ⟨57, _⟩ => ⟨S8x8192x128, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S_, .f32⟩
  | .hbm, ⟨62, _⟩ => ⟨S8x8192x1, .f32⟩
  | .hbm, ⟨63, _⟩ => ⟨S8x8192x1, .f32⟩
  | .hbm, ⟨64, _⟩ => ⟨S8x8192x1, .f32⟩
  | .hbm, ⟨65, _⟩ => ⟨S8x8192x128, .f32⟩
  | .hbm, ⟨66, _⟩ => ⟨S8x8192x128, .f32⟩
  | .hbm, ⟨67, _⟩ => ⟨S_, .f32⟩
  | .hbm, ⟨68, _⟩ => ⟨S8x8192x128, .f32⟩
  | .hbm, ⟨69, _⟩ => ⟨S8x8192x128, .f32⟩
  | .hbm, ⟨70, _⟩ => ⟨S8192x8x128, .f32⟩
  | .hbm, ⟨71, _⟩ => ⟨S8x8192x128, .f32⟩
  | .hbm, ⟨72, _⟩ => ⟨S8x8192x128, .f32⟩
  | .hbm, ⟨73, _⟩ => ⟨S_, .f32⟩
  | .hbm, ⟨74, _⟩ => ⟨S8x8192, .f32⟩
  | .hbm, ⟨75, _⟩ => ⟨S8x8192x1, .f32⟩
  | .hbm, ⟨76, _⟩ => ⟨S_, .f32⟩
  | .hbm, ⟨77, _⟩ => ⟨S8x8192x1, .f32⟩
  | .hbm, ⟨78, _⟩ => ⟨S8x8192x1, .f32⟩
  | .hbm, ⟨79, _⟩ => ⟨S8x8192x1, .f32⟩
  | .hbm, ⟨80, _⟩ => ⟨S8x8192x128, .f32⟩
  | .hbm, ⟨81, _⟩ => ⟨S8x8192x128, .f32⟩
  | .hbm, ⟨82, _⟩ => ⟨S8192x8x128, .f32⟩
  | .hbm, ⟨83, _⟩ => ⟨S8x8192x128, .f32⟩
  | .hbm, ⟨84, _⟩ => ⟨S8192x16, .f32⟩
  | .hbm, ⟨85, _⟩ => ⟨S8192x16, .f32⟩
  | .hbm, ⟨86, _⟩ => ⟨S1x16, .f32⟩
  | .hbm, ⟨87, _⟩ => ⟨S16, .f32⟩
  | .hbm, ⟨88, _⟩ => ⟨S1x16, .f32⟩
  | .hbm, ⟨89, _⟩ => ⟨S16, .f32⟩
  | .hbm, ⟨90, _⟩ => ⟨S16, .f32⟩
  | .hbm, ⟨91, _⟩ => ⟨S16, .f32⟩
  | .hbm, ⟨92, _⟩ => ⟨S1x16, .f32⟩
  | .hbm, ⟨93, _⟩ => ⟨S8192x16, .f32⟩
  | .hbm, ⟨94, _⟩ => ⟨S8192x16, .f32⟩
  | .hbm, ⟨95, _⟩ => ⟨S_, .f32⟩
  | .hbm, ⟨96, _⟩ => ⟨S8192x16, .f32⟩
  | .hbm, ⟨97, _⟩ => ⟨S8192x16, .f32⟩
  | .hbm, ⟨98, _⟩ => ⟨S8192x16, .f32⟩
  | .hbm, ⟨99, _⟩ => ⟨S8192x16, .f32⟩
  | .hbm, ⟨100, _⟩ => ⟨S8192x16, .i1⟩
  | .hbm, ⟨101, _⟩ => ⟨S8192x16, .f32⟩
  | .hbm, ⟨102, _⟩ => ⟨S8192x16, .f32⟩
  | .hbm, ⟨103, _⟩ => ⟨S8192x16, .f32⟩
  | .hbm, ⟨104, _⟩ => ⟨S8192x16, .f32⟩
  | .hbm, ⟨105, _⟩ => ⟨S8192x16, .f32⟩
  | .hbm, ⟨106, _⟩ => ⟨S8192x16, .f32⟩
  | .hbm, ⟨107, _⟩ => ⟨S8192x16, .f32⟩
  | .hbm, ⟨108, _⟩ => ⟨S8192x16, .f32⟩
  | .hbm, ⟨109, _⟩ => ⟨S1x16, .f32⟩
  | .hbm, ⟨110, _⟩ => ⟨S8192x16, .f32⟩
  | .hbm, ⟨111, _⟩ => ⟨S8192x16, .f32⟩
  | .hbm, ⟨112, _⟩ => ⟨S8192x16, .f32⟩
  | .hbm, ⟨113, _⟩ => ⟨S8192x16, .f32⟩
  | .hbm, ⟨114, _⟩ => ⟨S_, .f32⟩
  | .hbm, ⟨115, _⟩ => ⟨S8192x16, .f32⟩
  | .hbm, ⟨116, _⟩ => ⟨S8192x16, .f32⟩
  | .hbm, ⟨117, _⟩ => ⟨S_, .f32⟩
  | .hbm, ⟨118, _⟩ => ⟨S8192x16, .f32⟩
  | .hbm, ⟨119, _⟩ => ⟨S8192x16, .f32⟩
  | .hbm, ⟨120, _⟩ => ⟨S_, .f32⟩
  | .hbm, ⟨121, _⟩ => ⟨S8192x96, .f32⟩
  | .hbm, ⟨122, _⟩ => ⟨S8192x128, .f32⟩
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_call1_v0 : Ref sig .tc := ⟨.hbm, 43, rfl⟩
abbrev main_call1_v1 : Ref sig .tc := ⟨.hbm, 44, rfl⟩
abbrev main_call1_cst : Ref sig .tc := ⟨.hbm, 45, rfl⟩
abbrev main_call1_v2 : Ref sig .tc := ⟨.hbm, 46, rfl⟩
abbrev main_call1_v3 : Ref sig .tc := ⟨.hbm, 47, rfl⟩
abbrev main_call1_cst_0 : Ref sig .tc := ⟨.hbm, 48, rfl⟩
abbrev main_call1_v4 : Ref sig .tc := ⟨.hbm, 49, rfl⟩
abbrev main_call1_v5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst : Ref sig .tc := ⟨.hbm, 58, rfl⟩
abbrev main_v43 : Ref sig .tc := ⟨.hbm, 59, rfl⟩
abbrev main_v44 : Ref sig .tc := ⟨.hbm, 60, rfl⟩
abbrev main_cst_0 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_1 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_2 : Ref sig .tc := ⟨.hbm, 73, rfl⟩
abbrev main_v55 : Ref sig .tc := ⟨.hbm, 74, rfl⟩
abbrev main_v56 : Ref sig .tc := ⟨.hbm, 75, rfl⟩
abbrev main_cst_3 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_call2_cst : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_call2_v3 : Ref sig .tc := ⟨.hbm, 99, rfl⟩
abbrev main_call2_v4 : Ref sig .tc := ⟨.hbm, 100, rfl⟩
abbrev main_call2_v5 : Ref sig .tc := ⟨.hbm, 101, rfl⟩
abbrev main_call2_v6 : Ref sig .tc := ⟨.hbm, 102, rfl⟩
abbrev main_call2_v7 : Ref sig .tc := ⟨.hbm, 103, rfl⟩
abbrev main_call2_v8 : Ref sig .tc := ⟨.hbm, 104, rfl⟩
abbrev main_call2_v9 : Ref sig .tc := ⟨.hbm, 105, rfl⟩
abbrev main_call2_v10 : Ref sig .tc := ⟨.hbm, 106, rfl⟩
abbrev main_call2_v11 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_cst_4 : Ref sig .tc := ⟨.hbm, 114, rfl⟩
abbrev main_v81 : Ref sig .tc := ⟨.hbm, 115, rfl⟩
abbrev main_v82 : Ref sig .tc := ⟨.hbm, 116, rfl⟩
abbrev main_cst_5 : Ref sig .tc := ⟨.hbm, 117, rfl⟩
abbrev main_v83 : Ref sig .tc := ⟨.hbm, 118, rfl⟩
abbrev main_v84 : Ref sig .tc := ⟨.hbm, 119, rfl⟩
abbrev main_cst_6 : Ref sig .tc := ⟨.hbm, 120, rfl⟩
abbrev main_v85 : Ref sig .tc := ⟨.hbm, 121, rfl⟩
abbrev main_v86 : Ref sig .tc := ⟨.hbm, 122, rfl⟩

abbrev nD : Nat := 1
abbrev τ : Topo := Topo.v7x

variable {F : FTy → Type} [FloatOps F]
-- ==== Proof.Rows.lean ====
/- One chunk of 128 rows of the spatial gating unit's backward pass, read row by row against the reference's stages. -/
module

public import proofs.«01_k».proof.Proof.Gen.KernelIdeal.Skeleton
public import proofs.«01_k».proof.Proof.Gen.ReferenceIdeal.Read
public import Idealize.ShloMosaic.Lib.Pointwise
public import Idealize.ShloMosaic.Lib.Pipeline.ValueKit

@[expose] public section

set_option maxRecDepth 16384

noncomputable section

namespace Cert.KernelIdeal.Sgu

open Cert.KernelIdeal Cert.KernelIdeal.Gen Idealize.ShloMosaic Idealize.ShloMosaic.TcCoe Idealize.SL.Sem

open Cert.ReferenceIdeal.Read

/-- One chunk's arguments are the rows `R` of the call's arrays: the pre-activations `u`, `v`, `z`, the cotangent `dy`, the norm's `g` and `b`, the eight mixing matrices and the eight bias columns. -/
structure Holds (X0 : FVec Ideal S8192x7168 .f32) (X1 X2 : FVec Ideal S1x1024 .f32) (X3 : FVec Ideal S8x128x128 .f32) (X4 : FVec Ideal S128x8 .f32)
    (X5 : FVec Ideal S8192x2048 .f32) (R : Fin 128 → Fin 8192) (u v z dy : FVec Ideal S128x1024 .f32) (g b : FVec Ideal S1x1024 .f32)
    (w : Fin 8 → FVec Ideal S128x128 .f32) (bc : Fin 8 → FVec Ideal S128x1 .f32) : Prop where
  hu : ∀ r (l : Fin 1024), u (ix2 r l) = X0 (ix2 (R r) ⟨l.val, by omega⟩)
  hv : ∀ r (l : Fin 1024), v (ix2 r l) = X0 (ix2 (R r) ⟨1024 + l.val, by omega⟩)
  hz : ∀ r (l : Fin 1024), z (ix2 r l) = X0 (ix2 (R r) ⟨2048 + l.val, by omega⟩)
  hdy : ∀ r (l : Fin 1024), dy (ix2 r l) = X5 (ix2 (R r) ⟨l.val, by omega⟩)
  hg : ∀ l, g (ix2 0 l) = X1 (ix2 0 l)
  hb : ∀ l, b (ix2 0 l) = X2 (ix2 0 l)
  hw : ∀ i r k, w i (ix2 r k) = X3 (ix3 i r k)
  hbc : ∀ i r, bc i (ix2 r 0) = X4 (ix2 r i)

section
variable {X0 : FVec Ideal S8192x7168 .f32} {X1 X2 : FVec Ideal S1x1024 .f32} {X3 : FVec Ideal S8x128x128 .f32} {X4 : FVec Ideal S128x8 .f32}
    {X5 : FVec Ideal S8192x2048 .f32} {R : Fin 128 → Fin 8192} {u v z dy : FVec Ideal S128x1024 .f32} {g b : FVec Ideal S1x1024 .f32}
    {w : Fin 8 → FVec Ideal S128x128 .f32} {bc : Fin 8 → FVec Ideal S128x1 .f32}

theorem xc_at (h : Holds X0 X1 X2 X3 X4 X5 R u v z dy g b w bc) (r : Fin 128) (l : Fin 1024) :
    k0_pay21 (F := Ideal) v (ix2 r l) = val_main_v22 (F := Ideal) X0 (ix2 (R r) l) := by
  pointwise [k0_pay21, k0_pay20, k0_pay17, k0_pay18, val_main_v14, val_main_v15, val_main_v16, val_main_v17, val_main_v18, val_main_v19, val_main_v20, val_main_v21, val_main_v22, val_main_v6, val_main_v7, val_main_v8, val_main_v9, val_main_v10, val_main_v1, val_main_cst, val_main_cst_1, val_main_cst_0, val_main_cst_2, val_main_cst_3]
  simp only [h.hv]
  all_goals rfl

theorem var_at (h : Holds X0 X1 X2 X3 X4 X5 R u v z dy g b w bc) (r : Fin 128) :
    k0_pay22 (F := Ideal) v (ix2 r 0) = val_main_v29 (F := Ideal) X0 (ix2 (R r) 0) := by
  pointwise [k0_pay22, val_main_v23, val_main_v24, val_main_v25, val_main_v26, val_main_v27, val_main_v28, val_main_v29, val_main_cst_4, val_main_cst_5, val_main_cst_6]
  simp only [xc_at h]
  all_goals rfl

theorem rs_at (h : Holds X0 X1 X2 X3 X4 X5 R u v z dy g b w bc) (r : Fin 128) :
    k0_pay23 (F := Ideal) (k0_pay22 v) (ix2 r 0) = val_main_v30 (F := Ideal) X0 (ix2 (R r) 0) := by
  pointwise [k0_pay23, val_main_v30]
  simp only [var_at h]
  all_goals rfl

theorem rsd_at (h : Holds X0 X1 X2 X3 X4 X5 R u v z dy g b w bc) (r : Fin 128) :
    k0_pay24 (F := Ideal) (k0_pay22 v) (ix2 r 0) = val_main_v33 (F := Ideal) X0 (ix2 (R r) 0) := by
  pointwise [k0_pay24, val_main_v31, val_main_v32, val_main_v33, val_main_cst_7]
  simp only [rs_at h, var_at h]
  all_goals rfl

theorem xn_at (h : Holds X0 X1 X2 X3 X4 X5 R u v z dy g b w bc) (r : Fin 128) (l : Fin 1024) :
    k0_pay25 (F := Ideal) (k0_pay21 v) (k0_pay22 v) (ix2 r l) = val_main_v35 (F := Ideal) X0 (ix2 (R r) l) := by
  pointwise [k0_pay25, val_main_v34, val_main_v35]
  simp only [rs_at h, xc_at h]
  all_goals rfl

theorem vl_at (h : Holds X0 X1 X2 X3 X4 X5 R u v z dy g b w bc) (r : Fin 128) (l : Fin 1024) :
    k0_pay26 (F := Ideal) g b (k0_pay21 v) (k0_pay22 v) (ix2 r l) = val_main_v41 (F := Ideal) X0 X1 X2 (ix2 (R r) l) := by
  pointwise [k0_pay26, val_main_v36, val_main_v37, val_main_v38, val_main_v39, val_main_v40, val_main_v41, val_main_v3, val_main_v4]
  simp only [h.hg, h.hb, xn_at h]
  all_goals rfl

theorem gelu_at (h : Holds X0 X1 X2 X3 X4 X5 R u v z dy g b w bc) (r : Fin 128) (l : Fin 1024) :
    k0_pay47 (F := Ideal) u (ix2 r l) = val_main_v59 (F := Ideal) X0 (ix2 (R r) l) := by
  pointwise [k0_pay47, k0_pay44, k0_pay45, k0_pay46, val_main_v49, val_main_v50, val_main_v51, val_main_v52, val_main_v53, val_main_v57, val_main_v58, val_main_v59, val_main_v0, val_main_cst_8, val_main_cst_9, val_main_cst_10]
  simp only [h.hu]
  all_goals rfl

theorem sig_at (h : Holds X0 X1 X2 X3 X4 X5 R u v z dy g b w bc) (r : Fin 128) (l : Fin 1024) :
    k0_pay48 (F := Ideal) z (ix2 r l) = val_main_v62_2 (F := Ideal) X0 (ix2 (R r) l) := by
  pointwise [k0_pay48, val_main_v62_2, val_main_v2, val_main_call0_v0, val_main_call0_v1, val_main_call0_cst, val_main_call0_v2, val_main_call0_v3, val_main_call0_cst_0, val_main_call0_v4]
  simp only [h.hz]
  all_goals rfl

theorem dys_at (h : Holds X0 X1 X2 X3 X4 X5 R u v z dy g b w bc) (r : Fin 128) (l : Fin 1024) :
    k0_pay49 (F := Ideal) z dy (ix2 r l) = val_main_v66 (F := Ideal) X0 X5 (ix2 (R r) l) := by
  pointwise [k0_pay49, val_main_v66, val_main_v64, val_main_v62_0, val_main_v2]
  simp only [h.hz, h.hdy, sig_at h]
  all_goals rfl

theorem dsp_at (h : Holds X0 X1 X2 X3 X4 X5 R u v z dy g b w bc) (r : Fin 128) (l : Fin 1024) :
    k0_pay51 (F := Ideal) u z dy (ix2 r l) = val_main_v68 (F := Ideal) X0 X5 (ix2 (R r) l) := by
  pointwise [k0_pay51, val_main_v68]
  simp only [gelu_at h, dys_at h]
  all_goals rfl

end
end Cert.KernelIdeal.Sgu
end
-- ==== Proof.Rows2.lean ====
module

public import proofs.«01_k».proof.Proof.Rows

@[expose] public section

set_option maxRecDepth 16384

noncomputable section

namespace Cert.KernelIdeal.Sgu

open Cert.KernelIdeal Cert.KernelIdeal.Gen Idealize.ShloMosaic Idealize.ShloMosaic.TcCoe Idealize.SL.Sem
open Cert.ReferenceIdeal.Read

section
variable {X0 : FVec Ideal S8192x7168 .f32} {X1 X2 : FVec Ideal S1x1024 .f32} {X3 : FVec Ideal S8x128x128 .f32} {X4 : FVec Ideal S128x8 .f32}
    {X5 : FVec Ideal S8192x2048 .f32} {R : Fin 128 → Fin 8192} {u v z dy : FVec Ideal S128x1024 .f32} {g b : FVec Ideal S1x1024 .f32}
    {w : Fin 8 → FVec Ideal S128x128 .f32} {bc : Fin 8 → FVec Ideal S128x1 .f32}

/-- The mixed rows: each group of lanes times its matrix, plus its bias column. -/
def sp (v : FVec Ideal S128x1024 .f32) (g b : FVec Ideal S1x1024 .f32) (w : Fin 8 → FVec Ideal S128x128 .f32) (bc : Fin 8 → FVec Ideal S128x1 .f32) :
    FVec Ideal S128x1024 .f32 :=
  k0_pay43 (F := Ideal) (w 7) (bc 7) (k0_pay34 g b (k0_pay21 v) (k0_pay22 v)) (k0_pay35 (w 0) (bc 0) g b (k0_pay21 v) (k0_pay22 v))
    (k0_pay36 (w 1) (bc 1) g b (k0_pay21 v) (k0_pay22 v)) (k0_pay37 (w 2) (bc 2) g b (k0_pay21 v) (k0_pay22 v))
    (k0_pay38 (w 3) (bc 3) g b (k0_pay21 v) (k0_pay22 v)) (k0_pay39 (w 4) (bc 4) g b (k0_pay21 v) (k0_pay22 v))
    (k0_pay40 (w 5) (bc 5) g b (k0_pay21 v) (k0_pay22 v)) (k0_pay41 (w 6) g b (k0_pay21 v) (k0_pay22 v)) (k0_pay42 (bc 6))

theorem v60_at (C : Fin 64) (hR : ∀ r : Fin 128, (R r).val = 128 * C.val + r.val) (r : Fin 128) (i : Fin 8) (d : Fin 128) :
    val_main_v60 (F := Ideal) X0 X1 X2 X3 X4 (ix2 (R r) ⟨128 * i.val + d.val, by omega⟩)
      = ∑ x, X3 (ix3 i r x) * val_main_v41 (F := Ideal) X0 X1 X2 (ix2 (R x) ⟨128 * i.val + d.val, by omega⟩) + X4 (ix2 r i) := by
  pointwise [val_main_v60, val_main_v48, val_main_v47, val_main_v46, val_main_v45, val_main_v44, val_main_v43, val_main_v42, val_main_v5]
  have hr := hR r
  refine Ideal.add_congr (Finset.sum_congr rfl fun x _ => ?_) (congrArg X4 (by idx_ext))
  have hx := hR x
  rw [mul_comm]
  exact Ideal.mul_congr (congrArg X3 (by idx_ext)) (congrArg _ (by idx_ext))

theorem grp0_at (h : Holds X0 X1 X2 X3 X4 X5 R u v z dy g b w bc) (r e d : Fin 128) (i : Fin 8) (hi : i.val = 0) (hd : e.val = d.val) :
    k0_pay35 (F := Ideal) (w 0) (bc 0) g b (k0_pay21 v) (k0_pay22 v) (ix2 r e)
      = ∑ x, X3 (ix3 i r x) * val_main_v41 (F := Ideal) X0 X1 X2 (ix2 (R x) ⟨128 * i.val + d.val, by omega⟩) + X4 (ix2 r i) := by
  obtain rfl : e = d := Fin.ext hd
  obtain rfl : i = 0 := Fin.ext hi
  pointwise [k0_pay35, k0_pay27, vl_at h, h.hw, h.hbc]
  all_goals rfl

theorem grp1_at (h : Holds X0 X1 X2 X3 X4 X5 R u v z dy g b w bc) (r e d : Fin 128) (i : Fin 8) (hi : i.val = 1) (hd : e.val = d.val) :
    k0_pay36 (F := Ideal) (w 1) (bc 1) g b (k0_pay21 v) (k0_pay22 v) (ix2 r e)
      = ∑ x, X3 (ix3 i r x) * val_main_v41 (F := Ideal) X0 X1 X2 (ix2 (R x) ⟨128 * i.val + d.val, by omega⟩) + X4 (ix2 r i) := by
  obtain rfl : e = d := Fin.ext hd
  obtain rfl : i = 1 := Fin.ext hi
  pointwise [k0_pay36, k0_pay28, vl_at h, h.hw, h.hbc]
  all_goals rfl

theorem grp2_at (h : Holds X0 X1 X2 X3 X4 X5 R u v z dy g b w bc) (r e d : Fin 128) (i : Fin 8) (hi : i.val = 2) (hd : e.val = d.val) :
    k0_pay37 (F := Ideal) (w 2) (bc 2) g b (k0_pay21 v) (k0_pay22 v) (ix2 r e)
      = ∑ x, X3 (ix3 i r x) * val_main_v41 (F := Ideal) X0 X1 X2 (ix2 (R x) ⟨128 * i.val + d.val, by omega⟩) + X4 (ix2 r i) := by
  obtain rfl : e = d := Fin.ext hd
  obtain rfl : i = 2 := Fin.ext hi
  pointwise [k0_pay37, k0_pay29, vl_at h, h.hw, h.hbc]
  all_goals rfl

theorem grp3_at (h : Holds X0 X1 X2 X3 X4 X5 R u v z dy g b w bc) (r e d : Fin 128) (i : Fin 8) (hi : i.val = 3) (hd : e.val = d.val) :
    k0_pay38 (F := Ideal) (w 3) (bc 3) g b (k0_pay21 v) (k0_pay22 v) (ix2 r e)
      = ∑ x, X3 (ix3 i r x) * val_main_v41 (F := Ideal) X0 X1 X2 (ix2 (R x) ⟨128 * i.val + d.val, by omega⟩) + X4 (ix2 r i) := by
  obtain rfl : e = d := Fin.ext hd
  obtain rfl : i = 3 := Fin.ext hi
  pointwise [k0_pay38, k0_pay30, vl_at h, h.hw, h.hbc]
  all_goals rfl

theorem grp4_at (h : Holds X0 X1 X2 X3 X4 X5 R u v z dy g b w bc) (r e d : Fin 128) (i : Fin 8) (hi : i.val = 4) (hd : e.val = d.val) :
    k0_pay39 (F := Ideal) (w 4) (bc 4) g b (k0_pay21 v) (k0_pay22 v) (ix2 r e)
      = ∑ x, X3 (ix3 i r x) * val_main_v41 (F := Ideal) X0 X1 X2 (ix2 (R x) ⟨128 * i.val + d.val, by omega⟩) + X4 (ix2 r i) := by
  obtain rfl : e = d := Fin.ext hd
  obtain rfl : i = 4 := Fin.ext hi
  pointwise [k0_pay39, k0_pay31, vl_at h, h.hw, h.hbc]
  all_goals rfl

theorem grp5_at (h : Holds X0 X1 X2 X3 X4 X5 R u v z dy g b w bc) (r e d : Fin 128) (i : Fin 8) (hi : i.val = 5) (hd : e.val = d.val) :
    k0_pay40 (F := Ideal) (w 5) (bc 5) g b (k0_pay21 v) (k0_pay22 v) (ix2 r e)
      = ∑ x, X3 (ix3 i r x) * val_main_v41 (F := Ideal) X0 X1 X2 (ix2 (R x) ⟨128 * i.val + d.val, by omega⟩) + X4 (ix2 r i) := by
  obtain rfl : e = d := Fin.ext hd
  obtain rfl : i = 5 := Fin.ext hi
  pointwise [k0_pay40, k0_pay32, vl_at h, h.hw, h.hbc]
  all_goals rfl

theorem grp6_at (h : Holds X0 X1 X2 X3 X4 X5 R u v z dy g b w bc) (r e d : Fin 128) (i : Fin 8) (hi : i.val = 6) (hd : e.val = d.val) :
    k0_pay41 (F := Ideal) (w 6) g b (k0_pay21 v) (k0_pay22 v) (ix2 r e) + k0_pay42 (F := Ideal) (bc 6) (ix2 r e)
      = ∑ x, X3 (ix3 i r x) * val_main_v41 (F := Ideal) X0 X1 X2 (ix2 (R x) ⟨128 * i.val + d.val, by omega⟩) + X4 (ix2 r i) := by
  obtain rfl : e = d := Fin.ext hd
  obtain rfl : i = 6 := Fin.ext hi
  pointwise [k0_pay41, k0_pay42, k0_pay33, vl_at h, h.hw, h.hbc]
  all_goals rfl

theorem grp7_at (h : Holds X0 X1 X2 X3 X4 X5 R u v z dy g b w bc) (r e d : Fin 128) (i : Fin 8) (hi : i.val = 7) (hd : e.val = d.val) :
    ∑ x, w 7 (ix2 r x) * k0_pay26 (F := Ideal) g b (k0_pay21 v) (k0_pay22 v) (ix2 x ⟨896 + e.val, by omega⟩) + bc 7 (ix2 r 0)
      = ∑ x, X3 (ix3 i r x) * val_main_v41 (F := Ideal) X0 X1 X2 (ix2 (R x) ⟨128 * i.val + d.val, by omega⟩) + X4 (ix2 r i) := by
  obtain rfl : e = d := Fin.ext hd
  obtain rfl : i = 7 := Fin.ext hi
  pointwise [vl_at h, h.hw, h.hbc]
  all_goals rfl

theorem sp_at (C : Fin 64) (hR : ∀ r : Fin 128, (R r).val = 128 * C.val + r.val)
    (h : Holds X0 X1 X2 X3 X4 X5 R u v z dy g b w bc) (r : Fin 128) (i : Fin 8) (d : Fin 128) :
    sp v g b w bc (ix2 r ⟨128 * i.val + d.val, by omega⟩) = val_main_v60 (F := Ideal) X0 X1 X2 X3 X4 (ix2 (R r) ⟨128 * i.val + d.val, by omega⟩) := by
  rw [v60_at C hR]
  pointwise [sp, k0_pay43, k0_pay34]
  split
  · exact grp0_at h r _ d i (by omega) (by dsimp only; omega)
  split
  · exact grp1_at h r _ d i (by omega) (by dsimp only; omega)
  split
  · exact grp2_at h r _ d i (by omega) (by dsimp only; omega)
  split
  · exact grp3_at h r _ d i (by omega) (by dsimp only; omega)
  split
  · exact grp4_at h r _ d i (by omega) (by dsimp only; omega)
  split
  · exact grp5_at h r _ d i (by omega) (by dsimp only; omega)
  split
  · exact grp6_at h r _ d i (by omega) (by dsimp only; omega)
  exact grp7_at h r ⟨128 * i.val + d.val - 128 - 128 - 128 - 128 - 128 - 128 - 128, by omega⟩ d i (by omega) (by dsimp only; omega)

theorem sp_at' (C : Fin 64) (hR : ∀ r : Fin 128, (R r).val = 128 * C.val + r.val)
    (h : Holds X0 X1 X2 X3 X4 X5 R u v z dy g b w bc) (r : Fin 128) (l : Fin 1024) :
    sp v g b w bc (ix2 r l) = val_main_v60 (F := Ideal) X0 X1 X2 X3 X4 (ix2 (R r) l) := by
  have e : l = ⟨128 * (l.val / 128) + l.val % 128, by omega⟩ := Fin.ext (by dsimp only; omega)
  rw [e]
  exact sp_at C hR h r ⟨l.val / 128, by omega⟩ ⟨l.val % 128, by omega⟩

/-- The gradient of the pre-activation `u`. -/
def du (u v z dy : FVec Ideal S128x1024 .f32) (g b : FVec Ideal S1x1024 .f32) (w : Fin 8 → FVec Ideal S128x128 .f32) (bc : Fin 8 → FVec Ideal S128x1 .f32) :
    FVec Ideal S128x1024 .f32 :=
  k0_pay52 (F := Ideal) (w 7) (bc 7) u z (k0_pay34 g b (k0_pay21 v) (k0_pay22 v)) (k0_pay35 (w 0) (bc 0) g b (k0_pay21 v) (k0_pay22 v))
    (k0_pay36 (w 1) (bc 1) g b (k0_pay21 v) (k0_pay22 v)) (k0_pay37 (w 2) (bc 2) g b (k0_pay21 v) (k0_pay22 v))
    (k0_pay38 (w 3) (bc 3) g b (k0_pay21 v) (k0_pay22 v)) (k0_pay39 (w 4) (bc 4) g b (k0_pay21 v) (k0_pay22 v))
    (k0_pay40 (w 5) (bc 5) g b (k0_pay21 v) (k0_pay22 v)) (k0_pay41 (w 6) g b (k0_pay21 v) (k0_pay22 v)) (k0_pay42 (bc 6)) dy

/-- The gradient of the gate `z`. -/
def dz (u v z dy : FVec Ideal S128x1024 .f32) (g b : FVec Ideal S1x1024 .f32) (w : Fin 8 → FVec Ideal S128x128 .f32) (bc : Fin 8 → FVec Ideal S128x1 .f32) :
    FVec Ideal S128x1024 .f32 :=
  k0_pay50 (F := Ideal) (w 7) (bc 7) u z (k0_pay34 g b (k0_pay21 v) (k0_pay22 v)) (k0_pay35 (w 0) (bc 0) g b (k0_pay21 v) (k0_pay22 v))
    (k0_pay36 (w 1) (bc 1) g b (k0_pay21 v) (k0_pay22 v)) (k0_pay37 (w 2) (bc 2) g b (k0_pay21 v) (k0_pay22 v))
    (k0_pay38 (w 3) (bc 3) g b (k0_pay21 v) (k0_pay22 v)) (k0_pay39 (w 4) (bc 4) g b (k0_pay21 v) (k0_pay22 v))
    (k0_pay40 (w 5) (bc 5) g b (k0_pay21 v) (k0_pay22 v)) (k0_pay41 (w 6) g b (k0_pay21 v) (k0_pay22 v)) (k0_pay42 (bc 6)) dy

theorem du_at (C : Fin 64) (hR : ∀ r : Fin 128, (R r).val = 128 * C.val + r.val)
    (h : Holds X0 X1 X2 X3 X4 X5 R u v z dy g b w bc) (r : Fin 128) (l : Fin 1024) :
    du u v z dy g b w bc (ix2 r l) = val_main_v80 (F := Ideal) X0 X1 X2 X3 X4 X5 (ix2 (R r) l) := by
  have hs := sp_at' C hR h r l
  unfold sp at hs
  pointwise [du, k0_pay52, k0_pay44, k0_pay45, k0_pay46, val_main_v80, val_main_v79, val_main_v78, val_main_v77, val_main_v76, val_main_v75, val_main_v74, val_main_v73, val_main_v72, val_main_v71, val_main_v69, val_main_v58, val_main_v57, val_main_v56, val_main_v55, val_main_v54, val_main_v53, val_main_v52, val_main_v51, val_main_v50, val_main_v49, val_main_v0, val_main_cst_8, val_main_cst_9, val_main_cst_10, val_main_cst_11, val_main_cst_12, val_main_cst_13]
  simp only [hs, h.hu, dys_at h, sub_eq_add_neg, zero_add]
  all_goals rfl

theorem dz_at (C : Fin 64) (hR : ∀ r : Fin 128, (R r).val = 128 * C.val + r.val)
    (h : Holds X0 X1 X2 X3 X4 X5 R u v z dy g b w bc) (r : Fin 128) (l : Fin 1024) :
    dz u v z dy g b w bc (ix2 r l) = val_main_v67 (F := Ideal) X0 X1 X2 X3 X4 X5 (ix2 (R r) l) := by
  have hs := sp_at' C hR h r l
  unfold sp at hs
  pointwise [dz, k0_pay50, val_main_v67, val_main_call1_v0, val_main_call1_v1, val_main_call1_v2, val_main_v65, val_main_v61, val_main_v62_1, val_main_call0_v7, val_main_call0_v6, val_main_call0_cst_1, val_main_v64, val_main_v2]
  simp only [hs, h.hu, h.hz, h.hdy, sig_at h, gelu_at h]
  all_goals rfl

end
end Cert.KernelIdeal.Sgu
end
-- ==== Proof.Rows3.lean ====
module

public import proofs.«01_k».proof.Proof.Rows2

@[expose] public section

set_option maxRecDepth 16384

noncomputable section

namespace Cert.KernelIdeal.Sgu

open Cert.KernelIdeal Cert.KernelIdeal.Gen Idealize.ShloMosaic Idealize.ShloMosaic.TcCoe Idealize.SL.Sem
open Cert.ReferenceIdeal.Read

section
variable {X0 : FVec Ideal S8192x7168 .f32} {X1 X2 : FVec Ideal S1x1024 .f32} {X3 : FVec Ideal S8x128x128 .f32} {X4 : FVec Ideal S128x8 .f32}
    {X5 : FVec Ideal S8192x2048 .f32} {R : Fin 128 → Fin 8192} {u v z dy : FVec Ideal S128x1024 .f32} {g b : FVec Ideal S1x1024 .f32}
    {w : Fin 8 → FVec Ideal S128x128 .f32} {bc : Fin 8 → FVec Ideal S128x1 .f32}

/-- The gradient of the normalised rows: each group of lanes of the mixed rows' gradient times its matrix, transposed. -/
def dvl (u z dy : FVec Ideal S128x1024 .f32) (w : Fin 8 → FVec Ideal S128x128 .f32) : FVec Ideal S128x1024 .f32 :=
  k0_pay83 (F := Ideal) (w 0) (w 1) (w 2) (k0_pay53 u z dy) (k0_pay54 u z dy) (k0_pay55 u z dy) (k0_pay63 (w 7) (k0_pay51 u z dy))
    (k0_pay66 (w 6) (k0_pay51 u z dy)) (k0_pay69 (w 5) (k0_pay51 u z dy)) (k0_pay72 (w 4) (k0_pay57 u z dy)) (k0_pay75 (w 3) (k0_pay56 u z dy))

theorem grq0_at (h : Holds X0 X1 X2 X3 X4 X5 R u v z dy g b w bc) (r e d : Fin 128) (i : Fin 8) (hi : i.val = 0) (hd : e.val = d.val) :
    ∑ x, w 0 (ix2 x r) * k0_pay53 (F := Ideal) u z dy (ix2 x e)
      = ∑ x, X3 (ix3 i x r) * val_main_v68 (F := Ideal) X0 X5 (ix2 (R x) ⟨128 * i.val + d.val, by omega⟩) := by
  obtain rfl : e = d := Fin.ext hd
  obtain rfl : i = 0 := Fin.ext hi
  pointwise [k0_pay53, dsp_at h, h.hw]
  all_goals rfl

theorem grq1_at (h : Holds X0 X1 X2 X3 X4 X5 R u v z dy g b w bc) (r e d : Fin 128) (i : Fin 8) (hi : i.val = 1) (hd : e.val = d.val) :
    ∑ x, w 1 (ix2 x r) * k0_pay54 (F := Ideal) u z dy (ix2 x e)
      = ∑ x, X3 (ix3 i x r) * val_main_v68 (F := Ideal) X0 X5 (ix2 (R x) ⟨128 * i.val + d.val, by omega⟩) := by
  obtain rfl : e = d := Fin.ext hd
  obtain rfl : i = 1 := Fin.ext hi
  pointwise [k0_pay54, dsp_at h, h.hw]
  all_goals rfl

theorem grq2_at (h : Holds X0 X1 X2 X3 X4 X5 R u v z dy g b w bc) (r e d : Fin 128) (i : Fin 8) (hi : i.val = 2) (hd : e.val = d.val) :
    ∑ x, w 2 (ix2 x r) * k0_pay55 (F := Ideal) u z dy (ix2 x e)
      = ∑ x, X3 (ix3 i x r) * val_main_v68 (F := Ideal) X0 X5 (ix2 (R x) ⟨128 * i.val + d.val, by omega⟩) := by
  obtain rfl : e = d := Fin.ext hd
  obtain rfl : i = 2 := Fin.ext hi
  pointwise [k0_pay55, dsp_at h, h.hw]
  all_goals rfl

theorem grq3_at (h : Holds X0 X1 X2 X3 X4 X5 R u v z dy g b w bc) (r e d : Fin 128) (i : Fin 8) (hi : i.val = 3) (hd : e.val = d.val) :
    k0_pay75 (F := Ideal) (w 3) (k0_pay56 u z dy) (ix2 r e)
      = ∑ x, X3 (ix3 i x r) * val_main_v68 (F := Ideal) X0 X5 (ix2 (R x) ⟨128 * i.val + d.val, by omega⟩) := by
  obtain rfl : e = d := Fin.ext hd
  obtain rfl : i = 3 := Fin.ext hi
  pointwise [k0_pay75, k0_pay56, dsp_at h, h.hw]
  all_goals rfl

theorem grq4_at (h : Holds X0 X1 X2 X3 X4 X5 R u v z dy g b w bc) (r e d : Fin 128) (i : Fin 8) (hi : i.val = 4) (hd : e.val = d.val) :
    k0_pay72 (F := Ideal) (w 4) (k0_pay57 u z dy) (ix2 r e)
      = ∑ x, X3 (ix3 i x r) * val_main_v68 (F := Ideal) X0 X5 (ix2 (R x) ⟨128 * i.val + d.val, by omega⟩) := by
  obtain rfl : e = d := Fin.ext hd
  obtain rfl : i = 4 := Fin.ext hi
  pointwise [k0_pay72, k0_pay57, dsp_at h, h.hw]
  all_goals rfl

theorem grq5_at (h : Holds X0 X1 X2 X3 X4 X5 R u v z dy g b w bc) (r e d : Fin 128) (i : Fin 8) (hi : i.val = 5) (hd : e.val = d.val) :
    k0_pay69 (F := Ideal) (w 5) (k0_pay51 u z dy) (ix2 r e)
      = ∑ x, X3 (ix3 i x r) * val_main_v68 (F := Ideal) X0 X5 (ix2 (R x) ⟨128 * i.val + d.val, by omega⟩) := by
  obtain rfl : e = d := Fin.ext hd
  obtain rfl : i = 5 := Fin.ext hi
  pointwise [k0_pay69, k0_pay58, dsp_at h, h.hw]
  all_goals rfl

theorem grq6_at (h : Holds X0 X1 X2 X3 X4 X5 R u v z dy g b w bc) (r e d : Fin 128) (i : Fin 8) (hi : i.val = 6) (hd : e.val = d.val) :
    k0_pay66 (F := Ideal) (w 6) (k0_pay51 u z dy) (ix2 r e)
      = ∑ x, X3 (ix3 i x r) * val_main_v68 (F := Ideal) X0 X5 (ix2 (R x) ⟨128 * i.val + d.val, by omega⟩) := by
  obtain rfl : e = d := Fin.ext hd
  obtain rfl : i = 6 := Fin.ext hi
  pointwise [k0_pay66, k0_pay59, dsp_at h, h.hw]
  all_goals rfl

theorem grq7_at (h : Holds X0 X1 X2 X3 X4 X5 R u v z dy g b w bc) (r e d : Fin 128) (i : Fin 8) (hi : i.val = 7) (hd : e.val = d.val) :
    k0_pay63 (F := Ideal) (w 7) (k0_pay51 u z dy) (ix2 r e)
      = ∑ x, X3 (ix3 i x r) * val_main_v68 (F := Ideal) X0 X5 (ix2 (R x) ⟨128 * i.val + d.val, by omega⟩) := by
  obtain rfl : e = d := Fin.ext hd
  obtain rfl : i = 7 := Fin.ext hi
  pointwise [k0_pay63, k0_pay60, dsp_at h, h.hw]
  all_goals rfl

theorem v89_at (C : Fin 64) (hR : ∀ r : Fin 128, (R r).val = 128 * C.val + r.val) (r : Fin 128) (i : Fin 8) (d : Fin 128) :
    val_main_v89 (F := Ideal) X0 X3 X5 (ix2 (R r) ⟨128 * i.val + d.val, by omega⟩)
      = ∑ x, X3 (ix3 i x r) * val_main_v68 (F := Ideal) X0 X5 (ix2 (R x) ⟨128 * i.val + d.val, by omega⟩) := by
  pointwise [val_main_v89, val_main_v88, val_main_v87, val_main_v85, val_main_v70]
  have hr := hR r
  refine Finset.sum_congr rfl fun x _ => ?_
  have hx := hR x
  rw [mul_comm]
  exact Ideal.mul_congr (congrArg X3 (by idx_ext)) (congrArg _ (by idx_ext))

theorem dvl_at (C : Fin 64) (hR : ∀ r : Fin 128, (R r).val = 128 * C.val + r.val)
    (h : Holds X0 X1 X2 X3 X4 X5 R u v z dy g b w bc) (r : Fin 128) (l : Fin 1024) :
    dvl u z dy w (ix2 r l) = val_main_v89 (F := Ideal) X0 X3 X5 (ix2 (R r) l) := by
  have key : ∀ (i : Fin 8) (d : Fin 128), dvl u z dy w (ix2 r ⟨128 * i.val + d.val, by omega⟩) = val_main_v89 (F := Ideal) X0 X3 X5 (ix2 (R r) ⟨128 * i.val + d.val, by omega⟩) := by
    intro i d
    rw [v89_at C hR]
    pointwise [dvl, k0_pay83]
    split
    · exact grq0_at h r _ d i (by omega) (by dsimp only; omega)
    split
    · exact grq1_at h r _ d i (by omega) (by dsimp only; omega)
    split
    · exact grq2_at h r _ d i (by omega) (by dsimp only; omega)
    split
    · exact grq3_at h r _ d i (by omega) (by dsimp only; omega)
    split
    · exact grq4_at h r _ d i (by omega) (by dsimp only; omega)
    split
    · exact grq5_at h r _ d i (by omega) (by dsimp only; omega)
    split
    · exact grq6_at h r _ d i (by omega) (by dsimp only; omega)
    exact grq7_at h r ⟨128 * i.val + d.val - 128 - 128 - 128 - 128 - 128 - 128 - 128, by omega⟩ d i (by omega) (by dsimp only; omega)
  have e : l = ⟨128 * (l.val / 128) + l.val % 128, by omega⟩ := Fin.ext (by dsimp only; omega)
  rw [e]
  exact key ⟨l.val / 128, by omega⟩ ⟨l.val % 128, by omega⟩

theorem rsd_at' (h : Holds X0 X1 X2 X3 X4 X5 R u v z dy g b w bc) (r : Fin 128) (x : Fin 1) :
    k0_pay24 (F := Ideal) (k0_pay22 v) (ix2 r x) = val_main_v33 (F := Ideal) X0 (ix2 (R r) x) := by
  obtain rfl : x = 0 := Subsingleton.elim _ _
  exact rsd_at h r

/-- The gradient at the norm's input, before the mean is taken off. -/
def dxc (u v z dy : FVec Ideal S128x1024 .f32) (g : FVec Ideal S1x1024 .f32) (w : Fin 8 → FVec Ideal S128x128 .f32) : FVec Ideal S128x1024 .f32 :=
  k0_pay86 (F := Ideal) (w 0) (w 1) (w 2) g (k0_pay21 v) (k0_pay23 (k0_pay22 v)) (k0_pay24 (k0_pay22 v)) (k0_pay53 u z dy) (k0_pay54 u z dy) (k0_pay55 u z dy)
    (k0_pay63 (w 7) (k0_pay51 u z dy)) (k0_pay66 (w 6) (k0_pay51 u z dy)) (k0_pay69 (w 5) (k0_pay51 u z dy)) (k0_pay72 (w 4) (k0_pay57 u z dy))
    (k0_pay75 (w 3) (k0_pay56 u z dy))

theorem dxc_at (C : Fin 64) (hR : ∀ r : Fin 128, (R r).val = 128 * C.val + r.val)
    (h : Holds X0 X1 X2 X3 X4 X5 R u v z dy g b w bc) (r : Fin 128) (l : Fin 1024) :
    dxc u v z dy g w (ix2 r l) = val_main_v112 (F := Ideal) X0 X1 X3 X5 (ix2 (R r) l) := by
  have hd := dvl_at C hR h r
  unfold dvl at hd
  pointwise [dxc, k0_pay86, val_main_v99, val_main_v100, val_main_v101, val_main_v102, val_main_v103, val_main_v104, val_main_v105, val_main_v106, val_main_v107, val_main_v108, val_main_v109, val_main_v110, val_main_v111, val_main_v112, val_main_v97, val_main_v96, val_main_v36, val_main_v3, val_main_cst_20, val_main_cst_21, val_main_cst_22]
  simp only [hd, h.hg, xc_at h, rs_at h, rsd_at' h]
  all_goals rfl

/-- The gradient of the pre-activation `v`, as stored. -/
def dv (u v z dy : FVec Ideal S128x1024 .f32) (g : FVec Ideal S1x1024 .f32) (w : Fin 8 → FVec Ideal S128x128 .f32) : FVec Ideal S128x1024 .bf16 :=
  k0_pay88 (F := Ideal) (k0_pay17 v) (k0_pay19 v) (k0_pay20 v) (dxc u v z dy g w) (FloatOps.ofBits .f32 0x00000000#32)

theorem dv_at (C : Fin 64) (hR : ∀ r : Fin 128, (R r).val = 128 * C.val + r.val)
    (h : Holds X0 X1 X2 X3 X4 X5 R u v z dy g b w bc) (r : Fin 128) (l : Fin 1024) :
    dv u v z dy g w (ix2 r l) = val_main_v130 (F := Ideal) X0 X1 X3 X5 (ix2 (R r) l) := by
  pointwise [dv, k0_pay88, k0_pay17, k0_pay18, k0_pay19, k0_pay20, val_main_v113, val_main_v114, val_main_v115, val_main_v116, val_main_v117, val_main_v118, val_main_v119, val_main_v120, val_main_v121, val_main_v122, val_main_v123, val_main_v124, val_main_v125, val_main_v126, val_main_v127, val_main_v128, val_main_v129, val_main_v130, val_main_v6, val_main_v7, val_main_v8, val_main_v9, val_main_v10, val_main_v11, val_main_v12, val_main_v13, val_main_v14, val_main_v15, val_main_v1, val_main_cst, val_main_cst_0, val_main_cst_1, val_main_cst_23, val_main_cst_24, val_main_cst_25, val_main_cst_26, val_main_cst_27, val_main_cst_28]
  simp only [h.hv, dxc_at C hR h, sub_eq_add_neg, zero_add]
  all_goals rfl

/-- The chunk's part of the gradient of the norm's bias. -/
def dbp (u z dy : FVec Ideal S128x1024 .f32) (w : Fin 8 → FVec Ideal S128x128 .f32) : FVec Ideal S1x1024 .f32 :=
  k0_pay84 (F := Ideal) (w 0) (w 1) (w 2) (k0_pay53 u z dy) (k0_pay54 u z dy) (k0_pay55 u z dy)
    (k0_pay63 (w 7) (k0_pay51 u z dy)) (k0_pay66 (w 6) (k0_pay51 u z dy)) (k0_pay69 (w 5) (k0_pay51 u z dy)) (k0_pay72 (w 4) (k0_pay57 u z dy))
    (k0_pay75 (w 3) (k0_pay56 u z dy))

theorem dbp_at (C : Fin 64) (hR : ∀ r : Fin 128, (R r).val = 128 * C.val + r.val)
    (h : Holds X0 X1 X2 X3 X4 X5 R u v z dy g b w bc) (l : Fin 1024) :
    dbp u z dy w (ix2 0 l) = ∑ r, val_main_v89 (F := Ideal) X0 X3 X5 (ix2 (R r) l) := by
  have hd := dvl_at C hR h
  unfold dvl at hd
  pointwise [dbp, k0_pay84, hd]
  all_goals rfl

/-- The chunk's part of the gradient of the norm's scale. -/
def dgp (u v z dy : FVec Ideal S128x1024 .f32) (w : Fin 8 → FVec Ideal S128x128 .f32) : FVec Ideal S1x1024 .f32 :=
  k0_pay85 (F := Ideal) (w 0) (w 1) (w 2) (k0_pay25 (k0_pay21 v) (k0_pay22 v)) (k0_pay53 u z dy) (k0_pay54 u z dy) (k0_pay55 u z dy)
    (k0_pay63 (w 7) (k0_pay51 u z dy)) (k0_pay66 (w 6) (k0_pay51 u z dy)) (k0_pay69 (w 5) (k0_pay51 u z dy)) (k0_pay72 (w 4) (k0_pay57 u z dy))
    (k0_pay75 (w 3) (k0_pay56 u z dy))

theorem dgp_at (C : Fin 64) (hR : ∀ r : Fin 128, (R r).val = 128 * C.val + r.val)
    (h : Holds X0 X1 X2 X3 X4 X5 R u v z dy g b w bc) (l : Fin 1024) :
    dgp u v z dy w (ix2 0 l) = ∑ r, val_main_v93 (F := Ideal) X0 X3 X5 (ix2 (R r) l) := by
  have hd := dvl_at C hR h
  unfold dvl at hd
  pointwise [dgp, k0_pay85, val_main_v93, hd, xn_at h]
  all_goals rfl

theorem dwp0_at (h : Holds X0 X1 X2 X3 X4 X5 R u v z dy g b w bc) (r k : Fin 128) (i : Fin 8) (hi : i.val = 0) :
    k0_pay82 (F := Ideal) (k0_pay27 g b (k0_pay21 v) (k0_pay22 v)) (k0_pay53 u z dy) (ix2 r k)
      = ∑ d : Fin 128, val_main_v68 (F := Ideal) X0 X5 (ix2 (R r) ⟨128 * i.val + d.val, by omega⟩) * val_main_v41 (F := Ideal) X0 X1 X2 (ix2 (R k) ⟨128 * i.val + d.val, by omega⟩) := by
  obtain rfl : i = 0 := Fin.ext hi
  pointwise [k0_pay82, k0_pay53, k0_pay27, dsp_at h, vl_at h]
  all_goals rfl

theorem dbtp0_at (h : Holds X0 X1 X2 X3 X4 X5 R u v z dy g b w bc) (r : Fin 128) (i : Fin 8) (hi : i.val = 0) :
    k0_pay81 (F := Ideal) (k0_pay53 u z dy) (ix2 r 0) = ∑ d : Fin 128, val_main_v68 (F := Ideal) X0 X5 (ix2 (R r) ⟨128 * i.val + d.val, by omega⟩) := by
  obtain rfl : i = 0 := Fin.ext hi
  pointwise [k0_pay81, k0_pay76, k0_pay53, dsp_at h]
  all_goals rfl

theorem dwp1_at (h : Holds X0 X1 X2 X3 X4 X5 R u v z dy g b w bc) (r k : Fin 128) (i : Fin 8) (hi : i.val = 1) :
    k0_pay80 (F := Ideal) (k0_pay28 g b (k0_pay21 v) (k0_pay22 v)) (k0_pay54 u z dy) (ix2 r k)
      = ∑ d : Fin 128, val_main_v68 (F := Ideal) X0 X5 (ix2 (R r) ⟨128 * i.val + d.val, by omega⟩) * val_main_v41 (F := Ideal) X0 X1 X2 (ix2 (R k) ⟨128 * i.val + d.val, by omega⟩) := by
  obtain rfl : i = 1 := Fin.ext hi
  pointwise [k0_pay80, k0_pay54, k0_pay28, dsp_at h, vl_at h]
  all_goals rfl

theorem dbtp1_at (h : Holds X0 X1 X2 X3 X4 X5 R u v z dy g b w bc) (r : Fin 128) (i : Fin 8) (hi : i.val = 1) :
    k0_pay79 (F := Ideal) (k0_pay54 u z dy) (ix2 r 0) = ∑ d : Fin 128, val_main_v68 (F := Ideal) X0 X5 (ix2 (R r) ⟨128 * i.val + d.val, by omega⟩) := by
  obtain rfl : i = 1 := Fin.ext hi
  pointwise [k0_pay79, k0_pay76, k0_pay54, dsp_at h]
  all_goals rfl

theorem dwp2_at (h : Holds X0 X1 X2 X3 X4 X5 R u v z dy g b w bc) (r k : Fin 128) (i : Fin 8) (hi : i.val = 2) :
    k0_pay78 (F := Ideal) (k0_pay29 g b (k0_pay21 v) (k0_pay22 v)) (k0_pay55 u z dy) (ix2 r k)
      = ∑ d : Fin 128, val_main_v68 (F := Ideal) X0 X5 (ix2 (R r) ⟨128 * i.val + d.val, by omega⟩) * val_main_v41 (F := Ideal) X0 X1 X2 (ix2 (R k) ⟨128 * i.val + d.val, by omega⟩) := by
  obtain rfl : i = 2 := Fin.ext hi
  pointwise [k0_pay78, k0_pay55, k0_pay29, dsp_at h, vl_at h]
  all_goals rfl

theorem dbtp2_at (h : Holds X0 X1 X2 X3 X4 X5 R u v z dy g b w bc) (r : Fin 128) (i : Fin 8) (hi : i.val = 2) :
    k0_pay77 (F := Ideal) (k0_pay76 (k0_pay55 u z dy)) (ix2 r 0) = ∑ d : Fin 128, val_main_v68 (F := Ideal) X0 X5 (ix2 (R r) ⟨128 * i.val + d.val, by omega⟩) := by
  obtain rfl : i = 2 := Fin.ext hi
  pointwise [k0_pay77, k0_pay76, k0_pay55, dsp_at h]
  all_goals rfl

theorem dwp3_at (h : Holds X0 X1 X2 X3 X4 X5 R u v z dy g b w bc) (r k : Fin 128) (i : Fin 8) (hi : i.val = 3) :
    k0_pay74 (F := Ideal) (k0_pay30 g b (k0_pay21 v) (k0_pay22 v)) (k0_pay56 u z dy) (ix2 r k)
      = ∑ d : Fin 128, val_main_v68 (F := Ideal) X0 X5 (ix2 (R r) ⟨128 * i.val + d.val, by omega⟩) * val_main_v41 (F := Ideal) X0 X1 X2 (ix2 (R k) ⟨128 * i.val + d.val, by omega⟩) := by
  obtain rfl : i = 3 := Fin.ext hi
  pointwise [k0_pay74, k0_pay56, k0_pay30, dsp_at h, vl_at h]
  all_goals rfl

theorem dbtp3_at (h : Holds X0 X1 X2 X3 X4 X5 R u v z dy g b w bc) (r : Fin 128) (i : Fin 8) (hi : i.val = 3) :
    k0_pay73 (F := Ideal) (k0_pay56 u z dy) (ix2 r 0) = ∑ d : Fin 128, val_main_v68 (F := Ideal) X0 X5 (ix2 (R r) ⟨128 * i.val + d.val, by omega⟩) := by
  obtain rfl : i = 3 := Fin.ext hi
  pointwise [k0_pay73, k0_pay76, k0_pay56, dsp_at h]
  all_goals rfl

theorem dwp4_at (h : Holds X0 X1 X2 X3 X4 X5 R u v z dy g b w bc) (r k : Fin 128) (i : Fin 8) (hi : i.val = 4) :
    k0_pay71 (F := Ideal) (k0_pay31 g b (k0_pay21 v) (k0_pay22 v)) (k0_pay57 u z dy) (ix2 r k)
      = ∑ d : Fin 128, val_main_v68 (F := Ideal) X0 X5 (ix2 (R r) ⟨128 * i.val + d.val, by omega⟩) * val_main_v41 (F := Ideal) X0 X1 X2 (ix2 (R k) ⟨128 * i.val + d.val, by omega⟩) := by
  obtain rfl : i = 4 := Fin.ext hi
  pointwise [k0_pay71, k0_pay57, k0_pay31, dsp_at h, vl_at h]
  all_goals rfl

theorem dbtp4_at (h : Holds X0 X1 X2 X3 X4 X5 R u v z dy g b w bc) (r : Fin 128) (i : Fin 8) (hi : i.val = 4) :
    k0_pay70 (F := Ideal) (k0_pay57 u z dy) (ix2 r 0) = ∑ d : Fin 128, val_main_v68 (F := Ideal) X0 X5 (ix2 (R r) ⟨128 * i.val + d.val, by omega⟩) := by
  obtain rfl : i = 4 := Fin.ext hi
  pointwise [k0_pay70, k0_pay76, k0_pay57, dsp_at h]
  all_goals rfl

theorem dwp5_at (h : Holds X0 X1 X2 X3 X4 X5 R u v z dy g b w bc) (r k : Fin 128) (i : Fin 8) (hi : i.val = 5) :
    k0_pay68 (F := Ideal) (k0_pay32 g b (k0_pay21 v) (k0_pay22 v)) (k0_pay51 u z dy) (ix2 r k)
      = ∑ d : Fin 128, val_main_v68 (F := Ideal) X0 X5 (ix2 (R r) ⟨128 * i.val + d.val, by omega⟩) * val_main_v41 (F := Ideal) X0 X1 X2 (ix2 (R k) ⟨128 * i.val + d.val, by omega⟩) := by
  obtain rfl : i = 5 := Fin.ext hi
  pointwise [k0_pay68, k0_pay58, k0_pay32, dsp_at h, vl_at h]
  all_goals rfl

theorem dbtp5_at (h : Holds X0 X1 X2 X3 X4 X5 R u v z dy g b w bc) (r : Fin 128) (i : Fin 8) (hi : i.val = 5) :
    k0_pay67 (F := Ideal) (k0_pay51 u z dy) (ix2 r 0) = ∑ d : Fin 128, val_main_v68 (F := Ideal) X0 X5 (ix2 (R r) ⟨128 * i.val + d.val, by omega⟩) := by
  obtain rfl : i = 5 := Fin.ext hi
  pointwise [k0_pay67, k0_pay76, k0_pay58, dsp_at h]
  all_goals rfl

theorem dwp6_at (h : Holds X0 X1 X2 X3 X4 X5 R u v z dy g b w bc) (r k : Fin 128) (i : Fin 8) (hi : i.val = 6) :
    k0_pay65 (F := Ideal) (k0_pay33 g b (k0_pay21 v) (k0_pay22 v)) (k0_pay51 u z dy) (ix2 r k)
      = ∑ d : Fin 128, val_main_v68 (F := Ideal) X0 X5 (ix2 (R r) ⟨128 * i.val + d.val, by omega⟩) * val_main_v41 (F := Ideal) X0 X1 X2 (ix2 (R k) ⟨128 * i.val + d.val, by omega⟩) := by
  obtain rfl : i = 6 := Fin.ext hi
  pointwise [k0_pay65, k0_pay59, k0_pay33, dsp_at h, vl_at h]
  all_goals rfl

theorem dbtp6_at (h : Holds X0 X1 X2 X3 X4 X5 R u v z dy g b w bc) (r : Fin 128) (i : Fin 8) (hi : i.val = 6) :
    k0_pay64 (F := Ideal) (k0_pay51 u z dy) (ix2 r 0) = ∑ d : Fin 128, val_main_v68 (F := Ideal) X0 X5 (ix2 (R r) ⟨128 * i.val + d.val, by omega⟩) := by
  obtain rfl : i = 6 := Fin.ext hi
  pointwise [k0_pay64, k0_pay76, k0_pay59, dsp_at h]
  all_goals rfl

theorem dwp7_at (h : Holds X0 X1 X2 X3 X4 X5 R u v z dy g b w bc) (r k : Fin 128) (i : Fin 8) (hi : i.val = 7) :
    k0_pay62 (F := Ideal) (k0_pay34 g b (k0_pay21 v) (k0_pay22 v)) (k0_pay51 u z dy) (ix2 r k)
      = ∑ d : Fin 128, val_main_v68 (F := Ideal) X0 X5 (ix2 (R r) ⟨128 * i.val + d.val, by omega⟩) * val_main_v41 (F := Ideal) X0 X1 X2 (ix2 (R k) ⟨128 * i.val + d.val, by omega⟩) := by
  obtain rfl : i = 7 := Fin.ext hi
  pointwise [k0_pay62, k0_pay60, k0_pay34, dsp_at h, vl_at h]
  all_goals rfl

theorem dbtp7_at (h : Holds X0 X1 X2 X3 X4 X5 R u v z dy g b w bc) (r : Fin 128) (i : Fin 8) (hi : i.val = 7) :
    k0_pay61 (F := Ideal) (k0_pay51 u z dy) (ix2 r 0) = ∑ d : Fin 128, val_main_v68 (F := Ideal) X0 X5 (ix2 (R r) ⟨128 * i.val + d.val, by omega⟩) := by
  obtain rfl : i = 7 := Fin.ext hi
  pointwise [k0_pay61, k0_pay76, k0_pay60, dsp_at h]
  all_goals rfl

end
end Cert.KernelIdeal.Sgu
end
-- ==== Proof.Sec.lean ====
module

public import proofs.«01_k».proof.Proof.Rows3

@[expose] public section

set_option maxRecDepth 16384

noncomputable section

/-! The second chunk of rows of a grid point is computed by the same operations as the first one. -/

namespace Cert.KernelIdeal.Sgu

open Cert.KernelIdeal Cert.KernelIdeal.Gen Idealize.ShloMosaic Idealize.ShloMosaic.TcCoe Idealize.SL.Sem

variable (u v z dy : FVec Ideal S128x1024 .f32) (g b : FVec Ideal S1x1024 .f32)
    (w : Fin 8 → FVec Ideal S128x128 .f32) (bc : Fin 8 → FVec Ideal S128x1 .f32)

theorem sec_du :
    k0_pay177 (F := Ideal) (k0_pay139 z (k0_pay128 (w 0) (w 1) (w 2) (w 3) (w 4) (w 5) (w 6) (w 7) (bc 0) (bc 1) (bc 2) (bc 3) (bc 4) (bc 5) (bc 6) (bc 7) (k0_pay119 v g b) (k0_pay120 v g b) (k0_pay121 v g b) (k0_pay122 v g b) (k0_pay123 v g b) (k0_pay124 v g b)) (k0_pay129 u) (k0_pay131 u) (k0_pay132 u) dy)
      = k0_pay87 (du u v z dy g b w bc) := rfl

theorem sec_dz :
    k0_pay179 (F := Ideal) (k0_pay137 z (k0_pay128 (w 0) (w 1) (w 2) (w 3) (w 4) (w 5) (w 6) (w 7) (bc 0) (bc 1) (bc 2) (bc 3) (bc 4) (bc 5) (bc 6) (bc 7) (k0_pay119 v g b) (k0_pay120 v g b) (k0_pay121 v g b) (k0_pay122 v g b) (k0_pay123 v g b) (k0_pay124 v g b)) (k0_pay129 u) (k0_pay131 u) dy)
      = k0_pay89 (dz u v z dy g b w bc) := rfl

theorem sec_dv :
    k0_pay178 (F := Ideal) (k0_pay112 v) (k0_pay175 (w 0) (w 1) g (k0_pay110 v) (k0_pay114 v) (k0_pay116 v) (k0_pay117 v) (k0_pay140 z (k0_pay129 u) (k0_pay131 u) dy) (k0_pay141 z (k0_pay129 u) (k0_pay131 u) dy) (k0_pay150 (w 7) z (k0_pay129 u) (k0_pay131 u) dy) (k0_pay154 (w 6) (k0_pay146 z (k0_pay129 u) (k0_pay131 u) dy)) (k0_pay157 (w 5) (k0_pay145 z (k0_pay129 u) (k0_pay131 u) dy)) (k0_pay160 (w 4) (k0_pay144 z (k0_pay129 u) (k0_pay131 u) dy)) (k0_pay163 (w 3) (k0_pay143 z (k0_pay129 u) (k0_pay131 u) dy)) (k0_pay166 (w 2) (k0_pay142 z (k0_pay129 u) (k0_pay131 u) dy))) (k0_pay176 (w 0) (w 1) g (k0_pay113 v) (k0_pay114 v) (k0_pay116 v) (k0_pay117 v) (k0_pay140 z (k0_pay129 u) (k0_pay131 u) dy) (k0_pay141 z (k0_pay129 u) (k0_pay131 u) dy) (k0_pay150 (w 7) z (k0_pay129 u) (k0_pay131 u) dy) (k0_pay154 (w 6) (k0_pay146 z (k0_pay129 u) (k0_pay131 u) dy)) (k0_pay157 (w 5) (k0_pay145 z (k0_pay129 u) (k0_pay131 u) dy)) (k0_pay160 (w 4) (k0_pay144 z (k0_pay129 u) (k0_pay131 u) dy)) (k0_pay163 (w 3) (k0_pay143 z (k0_pay129 u) (k0_pay131 u) dy)) (k0_pay166 (w 2) (k0_pay142 z (k0_pay129 u) (k0_pay131 u) dy))) (FloatOps.ofBits .f32 0x3F906EBB#32)
      = dv u v z dy g w := rfl

theorem sec_dg :
    k0_pay173 (F := Ideal) (w 0) (w 1) (k0_pay118 v) (k0_pay140 z (k0_pay129 u) (k0_pay131 u) dy) (k0_pay141 z (k0_pay129 u) (k0_pay131 u) dy) (k0_pay150 (w 7) z (k0_pay129 u) (k0_pay131 u) dy) (k0_pay154 (w 6) (k0_pay146 z (k0_pay129 u) (k0_pay131 u) dy)) (k0_pay157 (w 5) (k0_pay145 z (k0_pay129 u) (k0_pay131 u) dy)) (k0_pay160 (w 4) (k0_pay144 z (k0_pay129 u) (k0_pay131 u) dy)) (k0_pay163 (w 3) (k0_pay143 z (k0_pay129 u) (k0_pay131 u) dy)) (k0_pay166 (w 2) (k0_pay142 z (k0_pay129 u) (k0_pay131 u) dy))
      = dgp u v z dy w := rfl

theorem sec_db :
    k0_pay172 (F := Ideal) (w 0) (w 1) (k0_pay140 z (k0_pay129 u) (k0_pay131 u) dy) (k0_pay141 z (k0_pay129 u) (k0_pay131 u) dy) (k0_pay150 (w 7) z (k0_pay129 u) (k0_pay131 u) dy) (k0_pay154 (w 6) (k0_pay146 z (k0_pay129 u) (k0_pay131 u) dy)) (k0_pay157 (w 5) (k0_pay145 z (k0_pay129 u) (k0_pay131 u) dy)) (k0_pay160 (w 4) (k0_pay144 z (k0_pay129 u) (k0_pay131 u) dy)) (k0_pay163 (w 3) (k0_pay143 z (k0_pay129 u) (k0_pay131 u) dy)) (k0_pay166 (w 2) (k0_pay142 z (k0_pay129 u) (k0_pay131 u) dy))
      = dbp u z dy w := rfl

theorem sec_dw0 :
    k0_pay170 (F := Ideal) (k0_pay120 v g b) (k0_pay140 z (k0_pay129 u) (k0_pay131 u) dy)
      = k0_pay82 (k0_pay27 g b (k0_pay21 v) (k0_pay22 v)) (k0_pay53 u z dy) := rfl

theorem sec_dw1 :
    k0_pay168 (F := Ideal) (k0_pay121 v g b) (k0_pay141 z (k0_pay129 u) (k0_pay131 u) dy)
      = k0_pay80 (k0_pay28 g b (k0_pay21 v) (k0_pay22 v)) (k0_pay54 u z dy) := rfl

theorem sec_dw2 :
    k0_pay165 (F := Ideal) (k0_pay122 v g b) (k0_pay142 z (k0_pay129 u) (k0_pay131 u) dy)
      = k0_pay78 (k0_pay29 g b (k0_pay21 v) (k0_pay22 v)) (k0_pay55 u z dy) := rfl

theorem sec_dw3 :
    k0_pay162 (F := Ideal) (k0_pay123 v g b) (k0_pay143 z (k0_pay129 u) (k0_pay131 u) dy)
      = k0_pay74 (k0_pay30 g b (k0_pay21 v) (k0_pay22 v)) (k0_pay56 u z dy) := rfl

theorem sec_dw4 :
    k0_pay159 (F := Ideal) (k0_pay124 v g b) (k0_pay144 z (k0_pay129 u) (k0_pay131 u) dy)
      = k0_pay71 (k0_pay31 g b (k0_pay21 v) (k0_pay22 v)) (k0_pay57 u z dy) := rfl

theorem sec_dw5 :
    k0_pay156 (F := Ideal) (k0_pay125 (k0_pay119 v g b)) (k0_pay145 z (k0_pay129 u) (k0_pay131 u) dy)
      = k0_pay68 (k0_pay32 g b (k0_pay21 v) (k0_pay22 v)) (k0_pay51 u z dy) := rfl

theorem sec_dw6 :
    k0_pay153 (F := Ideal) (k0_pay126 (k0_pay119 v g b)) (k0_pay146 z (k0_pay129 u) (k0_pay131 u) dy)
      = k0_pay65 (k0_pay33 g b (k0_pay21 v) (k0_pay22 v)) (k0_pay51 u z dy) := rfl

theorem sec_dw7 :
    k0_pay149 (F := Ideal) z (k0_pay127 (k0_pay119 v g b)) (k0_pay129 u) (k0_pay131 u) dy
      = k0_pay62 (k0_pay34 g b (k0_pay21 v) (k0_pay22 v)) (k0_pay51 u z dy) := rfl

theorem sec_dbt0 :
    k0_pay169 (F := Ideal) (k0_pay140 z (k0_pay129 u) (k0_pay131 u) dy)
      = k0_pay81 (F := Ideal) (k0_pay53 u z dy) := rfl

theorem sec_dbt1 :
    k0_pay167 (F := Ideal) (k0_pay141 z (k0_pay129 u) (k0_pay131 u) dy)
      = k0_pay79 (F := Ideal) (k0_pay54 u z dy) := rfl

theorem sec_dbt2 :
    k0_pay164 (F := Ideal) (k0_pay142 z (k0_pay129 u) (k0_pay131 u) dy)
      = k0_pay77 (F := Ideal) (k0_pay76 (k0_pay55 u z dy)) := rfl

theorem sec_dbt3 :
    k0_pay161 (F := Ideal) (k0_pay143 z (k0_pay129 u) (k0_pay131 u) dy)
      = k0_pay73 (F := Ideal) (k0_pay56 u z dy) := rfl

theorem sec_dbt4 :
    k0_pay158 (F := Ideal) (k0_pay144 z (k0_pay129 u) (k0_pay131 u) dy)
      = k0_pay70 (F := Ideal) (k0_pay57 u z dy) := rfl

theorem sec_dbt5 :
    k0_pay155 (F := Ideal) (k0_pay145 z (k0_pay129 u) (k0_pay131 u) dy)
      = k0_pay67 (F := Ideal) (k0_pay51 u z dy) := rfl

theorem sec_dbt6 :
    k0_pay152 (F := Ideal) (k0_pay151 z (k0_pay129 u) (k0_pay131 u) dy)
      = k0_pay64 (F := Ideal) (k0_pay51 u z dy) := rfl

theorem sec_dbt7 :
    k0_pay148 (F := Ideal) z (k0_pay129 u) (k0_pay131 u) dy
      = k0_pay61 (F := Ideal) (k0_pay51 u z dy) := rfl

end Cert.KernelIdeal.Sgu
end
end
-- ==== Proof.Points.lean ====
module

public import proofs.«01_k».proof.Proof.Sec
public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

/-! What one grid point holds: its two chunks of rows. -/

namespace Cert.KernelIdeal.Sgu

open Cert.KernelIdeal Cert.KernelIdeal.Gen Idealize.ShloMosaic Idealize.ShloMosaic.TcCoe Idealize.SL.Sem
open Cert.ReferenceIdeal.Read

theorem idx : ∀ t : Fin cfg0.N, win0_0.index t 0 = t.val ∧ win0_0.index t 1 = 0 ∧ win0_1.index t 0 = t.val ∧ win0_1.index t 1 = 1
    ∧ win0_2.index t 0 = t.val ∧ win0_2.index t 1 = 2 ∧ win0_3.index t 0 = 0 ∧ win0_3.index t 1 = 0
    ∧ win0_4.index t 0 = 0 ∧ win0_4.index t 1 = 0 ∧ win0_5.index t 0 = 0 ∧ win0_5.index t 1 = 0 ∧ win0_5.index t 2 = 0
    ∧ win0_6.index t 0 = 0 ∧ win0_6.index t 1 = 0 ∧ win0_7.index t 0 = t.val ∧ win0_7.index t 1 = 0
    ∧ win0_8.index t 0 = t.val ∧ win0_8.index t 1 = 0 :=
  (by decide +kernel : ∀ t : Fin grid0.N, _)

/-- Chunk `q` of point `t`, counted over all the rows. -/
def CC (t : Fin cfg0.N) (q : Fin 2) : Fin 64 := ⟨2 * t.val + q.val, by have := lt_of_lt_of_eq t.isLt N_0; omega⟩

/-- Row `r` of chunk `C`. -/
def RR (C : Fin 64) (r : Fin 128) : Fin 8192 := ⟨128 * C.val + r.val, by omega⟩

variable (m : (ℓ : Loc nD τ sig) → Buf (Elt Ideal) ℓ)

/-- The eight matrices of a block. -/
def wv (B : FVec Ideal S8x128x128 .f32) : Fin 8 → FVec Ideal S128x128 .f32 := fun
  | 0 => k0_pay9 (View.ld (Val := Elt Ideal) (e' := .f32) B (Rect.unit (s := S8x128x128) ![0, 0, 0] S1x128x128.size inb_S8x128x128_S1x128x128_0_0_0))
  | 1 => k0_pay10 (View.ld (Val := Elt Ideal) (e' := .f32) B (Rect.unit (s := S8x128x128) ![1, 0, 0] S1x128x128.size inb_S8x128x128_S1x128x128_1_0_0))
  | 2 => k0_pay11 (View.ld (Val := Elt Ideal) (e' := .f32) B (Rect.unit (s := S8x128x128) ![2, 0, 0] S1x128x128.size inb_S8x128x128_S1x128x128_2_0_0))
  | 3 => k0_pay12 (View.ld (Val := Elt Ideal) (e' := .f32) B (Rect.unit (s := S8x128x128) ![3, 0, 0] S1x128x128.size inb_S8x128x128_S1x128x128_3_0_0))
  | 4 => k0_pay13 (View.ld (Val := Elt Ideal) (e' := .f32) B (Rect.unit (s := S8x128x128) ![4, 0, 0] S1x128x128.size inb_S8x128x128_S1x128x128_4_0_0))
  | 5 => k0_pay14 (View.ld (Val := Elt Ideal) (e' := .f32) B (Rect.unit (s := S8x128x128) ![5, 0, 0] S1x128x128.size inb_S8x128x128_S1x128x128_5_0_0))
  | 6 => k0_pay15 (View.ld (Val := Elt Ideal) (e' := .f32) B (Rect.unit (s := S8x128x128) ![6, 0, 0] S1x128x128.size inb_S8x128x128_S1x128x128_6_0_0))
  | 7 => k0_pay16 (View.ld (Val := Elt Ideal) (e' := .f32) B (Rect.unit (s := S8x128x128) ![7, 0, 0] S1x128x128.size inb_S8x128x128_S1x128x128_7_0_0))

/-- The eight bias columns of a block. -/
def bcv (B : FVec Ideal S128x8 .f32) : Fin 8 → FVec Ideal S128x1 .f32 := fun
  | 0 => View.ld (Val := Elt Ideal) (e' := .f32) B (Rect.unit (s := S128x8) ![0, 0] S128x1.size inb_S128x8_S128x1_0_0)
  | 1 => View.ld (Val := Elt Ideal) (e' := .f32) B (Rect.unit (s := S128x8) ![0, 1] S128x1.size inb_S128x8_S128x1_0_1)
  | 2 => View.ld (Val := Elt Ideal) (e' := .f32) B (Rect.unit (s := S128x8) ![0, 2] S128x1.size inb_S128x8_S128x1_0_2)
  | 3 => View.ld (Val := Elt Ideal) (e' := .f32) B (Rect.unit (s := S128x8) ![0, 3] S128x1.size inb_S128x8_S128x1_0_3)
  | 4 => View.ld (Val := Elt Ideal) (e' := .f32) B (Rect.unit (s := S128x8) ![0, 4] S128x1.size inb_S128x8_S128x1_0_4)
  | 5 => View.ld (Val := Elt Ideal) (e' := .f32) B (Rect.unit (s := S128x8) ![0, 5] S128x1.size inb_S128x8_S128x1_0_5)
  | 6 => View.ld (Val := Elt Ideal) (e' := .f32) B (Rect.unit (s := S128x8) ![0, 6] S128x1.size inb_S128x8_S128x1_0_6)
  | 7 => View.ld (Val := Elt Ideal) (e' := .f32) B (Rect.unit (s := S128x8) ![0, 7] S128x1.size inb_S128x8_S128x1_0_7)

theorem wv_at (B : FVec Ideal S8x128x128 .f32) (i : Fin 8) (r k : Fin 128) : wv B i (ix2 r k) = B (ix3 i r k) := by
  match i with
  | 0 => pointwise [wv, k0_pay9]; blk_ext
  | 1 => pointwise [wv, k0_pay10]; blk_ext
  | 2 => pointwise [wv, k0_pay11]; blk_ext
  | 3 => pointwise [wv, k0_pay12]; blk_ext
  | 4 => pointwise [wv, k0_pay13]; blk_ext
  | 5 => pointwise [wv, k0_pay14]; blk_ext
  | 6 => pointwise [wv, k0_pay15]; blk_ext
  | 7 => pointwise [wv, k0_pay16]; blk_ext

theorem bcv_at (B : FVec Ideal S128x8 .f32) (i : Fin 8) (r : Fin 128) : bcv B i (ix2 r 0) = B (ix2 r i) := by
  match i with
  | 0 => pointwise [bcv]; blk_ext
  | 1 => pointwise [bcv]; blk_ext
  | 2 => pointwise [bcv]; blk_ext
  | 3 => pointwise [bcv]; blk_ext
  | 4 => pointwise [bcv]; blk_ext
  | 5 => pointwise [bcv]; blk_ext
  | 6 => pointwise [bcv]; blk_ext
  | 7 => pointwise [bcv]; blk_ext

/-- A block's first 128 rows, -/
def top (B : FVec Ideal S256x1024 .f32) : FVec Ideal S128x1024 .f32 :=
  View.ld (Val := Elt Ideal) (e' := .f32) B (Rect.unit (s := S256x1024) ![0, 0] S128x1024.size inb_S256x1024_S128x1024_0_0)

/-- and its last 128 rows. -/
def bot (B : FVec Ideal S256x1024 .f32) : FVec Ideal S128x1024 .f32 :=
  View.ld (Val := Elt Ideal) (e' := .f32) B (Rect.unit (s := S256x1024) ![128, 0] S128x1024.size inb_S256x1024_S128x1024_128_0)

abbrev Hd (c : Dev nD) := Holds (m ((c : Thread nD τ).loc main_arg0)) (m ((c : Thread nD τ).loc main_arg1)) (m ((c : Thread nD τ).loc main_arg2)) (m ((c : Thread nD τ).loc main_arg3))
  (m ((c : Thread nD τ).loc main_arg4)) (m ((c : Thread nD τ).loc main_arg5))

theorem holds_top (c : Dev nD) (t : Fin cfg0.N) :
    Hd m c (RR (CC t 0)) (top (iblk m c 0 t)) (top (iblk m c 1 t)) (top (iblk m c 2 t)) (top (iblk m c 7 t))
      (iblk m c 3 t) (iblk m c 4 t) (wv (iblk m c 5 t)) (bcv (iblk m c 6 t)) := by
  refine ⟨fun r l => ?_, fun r l => ?_, fun r l => ?_, fun r l => ?_, fun l => ?_, fun l => ?_, fun i r k => ?_, fun i r => ?_⟩
  · pointwise [top]; blk_ext [iblk, V, idx t, RR, CC]
  · pointwise [top]; blk_ext [iblk, V, idx t, RR, CC]
  · pointwise [top]; blk_ext [iblk, V, idx t, RR, CC]
  · pointwise [top]; blk_ext [iblk, V, idx t, RR, CC]
  · pointwise; blk_ext [iblk, V, idx t]
  · pointwise; blk_ext [iblk, V, idx t]
  · rw [wv_at]; blk_ext [iblk, V, idx t]
  · rw [bcv_at]; blk_ext [iblk, V, idx t]

theorem holds_bot (c : Dev nD) (t : Fin cfg0.N) :
    Hd m c (RR (CC t 1)) (bot (iblk m c 0 t)) (bot (iblk m c 1 t)) (bot (iblk m c 2 t)) (bot (iblk m c 7 t))
      (iblk m c 3 t) (iblk m c 4 t) (wv (iblk m c 5 t)) (bcv (iblk m c 6 t)) := by
  refine ⟨fun r l => ?_, fun r l => ?_, fun r l => ?_, fun r l => ?_, (holds_top m c t).hg, (holds_top m c t).hb, (holds_top m c t).hw, (holds_top m c t).hbc⟩
  · pointwise [bot]; blk_ext [iblk, V, idx t, RR, CC]
  · pointwise [bot]; blk_ext [iblk, V, idx t, RR, CC]
  · pointwise [bot]; blk_ext [iblk, V, idx t, RR, CC]
  · pointwise [bot]; blk_ext [iblk, V, idx t, RR, CC]

end Cert.KernelIdeal.Sgu
end
end
-- ==== Proof.Sums.lean ====
module

public import proofs.«01_k».proof.Proof.Points

@[expose] public section

set_option maxRecDepth 16384

noncomputable section

/-! The two parameter gradients of the normalisation: sums over all the rows. -/

namespace Cert.KernelIdeal.Sgu

open Cert.KernelIdeal Cert.KernelIdeal.Gen Idealize.ShloMosaic Idealize.ShloMosaic.TcCoe Idealize.SL.Sem
open Cert.ReferenceIdeal.Read

theorem sum_chunks {M : Type} [AddCommMonoid M] (G : Fin 64 → M) :
    ∑ t : Fin cfg0.N, (G (CC t 0) + G (CC t 1)) = ∑ C : Fin 64, G C := by
  have e : ∀ t : Fin cfg0.N, G (CC t 0) + G (CC t 1) = ∑ q : Fin 2, G (CC t q) := fun t => (Fin.sum_univ_two fun q => G (CC t q)).symm
  rw [Finset.sum_congr rfl fun t _ => e t]
  exact Fin.sum_mul_add_congr (fun t q hl => congrArg G (Fin.ext (by simp only [CC]; omega)))

theorem sum_rows {M : Type} [AddCommMonoid M] (f : Fin 8192 → M) :
    ∑ C : Fin 64, ∑ r : Fin 128, f (RR C r) = ∑ k : Fin 8192, f k :=
  Fin.sum_mul_add_congr (fun C r hl => congrArg f (Fin.ext (by simp only [RR]; omega)))

theorem whole_9 : ∀ t : Fin cfg0.N, t.val + 1 = cfg0.N → (cfg0.win 9).WholeAt t :=
  (by decide +kernel : ∀ t : Fin grid0.N, t.val + 1 = grid0.N → (cfg0.win 9).WholeAt t)

theorem whole_10 : ∀ t : Fin cfg0.N, t.val + 1 = cfg0.N → (cfg0.win 10).WholeAt t :=
  (by decide +kernel : ∀ t : Fin grid0.N, t.val + 1 = grid0.N → (cfg0.win 10).WholeAt t)

theorem exists_last : ∃ t : Fin cfg0.N, t.val + 1 = cfg0.N := ⟨⟨31, by decide⟩, rfl⟩

theorem acc90 (a p : FVec Ideal S1x1024 .f32) (l : Fin 1024) : k0_pay90 (F := Ideal) a p (ix2 0 l) = p (ix2 0 l) + a (ix2 0 l) := by
  pointwise [k0_pay90]

theorem acc91 (a p : FVec Ideal S1x1024 .f32) (l : Fin 1024) : k0_pay91 (F := Ideal) a p (ix2 0 l) = p (ix2 0 l) + a (ix2 0 l) := by
  pointwise [k0_pay91]

theorem acc180 (a p : FVec Ideal S1x1024 .f32) (l : Fin 1024) : k0_pay180 (F := Ideal) a p (ix2 0 l) = p (ix2 0 l) + a (ix2 0 l) := by
  pointwise [k0_pay180]

theorem acc181 (a p : FVec Ideal S1x1024 .f32) (l : Fin 1024) : k0_pay181 (F := Ideal) a p (ix2 0 l) = p (ix2 0 l) + a (ix2 0 l) := by
  pointwise [k0_pay181]

theorem fill5 (l : Fin 1024) : k0_pay5 (F := Ideal) (ix2 0 l) = 0 := by pointwise [k0_pay5]
theorem fill6 (l : Fin 1024) : k0_pay6 (F := Ideal) (ix2 0 l) = 0 := by pointwise [k0_pay6]

variable (m : (ℓ : Loc nD τ sig) → Buf (Elt Ideal) ℓ)

abbrev X0 (c : Dev nD) : FVec Ideal S8192x7168 .f32 := m ((c : Thread nD τ).loc main_arg0)
abbrev X3 (c : Dev nD) : FVec Ideal S8x128x128 .f32 := m ((c : Thread nD τ).loc main_arg3)
abbrev X5 (c : Dev nD) : FVec Ideal S8192x2048 .f32 := m ((c : Thread nD τ).loc main_arg5)

/-- A chunk's part of the scale's gradient. -/
def tg (c : Dev nD) (l : Fin 1024) (C : Fin 64) : EReal := ∑ r : Fin 128, val_main_v93 (F := Ideal) (X0 m c) (X3 m c) (X5 m c) (ix2 (RR C r) l)
/-- A chunk's part of the shift's gradient. -/
def tb (c : Dev nD) (l : Fin 1024) (C : Fin 64) : EReal := ∑ r : Fin 128, val_main_v89 (F := Ideal) (X0 m c) (X3 m c) (X5 m c) (ix2 (RR C r) l)

theorem hR (C : Fin 64) (r : Fin 128) : (RR C r).val = 128 * C.val + r.val := rfl

theorem g_top (c : Dev nD) (t : Fin cfg0.N) (l : Fin 1024) :
    dgp (top (iblk m c 0 t)) (top (iblk m c 1 t)) (top (iblk m c 2 t)) (top (iblk m c 7 t)) (wv (iblk m c 5 t)) (ix2 0 l) = tg m c l (CC t 0) :=
  dgp_at (CC t 0) (hR _) (holds_top m c t) l
theorem g_bot (c : Dev nD) (t : Fin cfg0.N) (l : Fin 1024) :
    dgp (bot (iblk m c 0 t)) (bot (iblk m c 1 t)) (bot (iblk m c 2 t)) (bot (iblk m c 7 t)) (wv (iblk m c 5 t)) (ix2 0 l) = tg m c l (CC t 1) :=
  dgp_at (CC t 1) (hR _) (holds_bot m c t) l
theorem b_top (c : Dev nD) (t : Fin cfg0.N) (l : Fin 1024) :
    dbp (top (iblk m c 0 t)) (top (iblk m c 2 t)) (top (iblk m c 7 t)) (wv (iblk m c 5 t)) (ix2 0 l) = tb m c l (CC t 0) :=
  dbp_at (CC t 0) (hR _) (holds_top m c t) l
theorem b_bot (c : Dev nD) (t : Fin cfg0.N) (l : Fin 1024) :
    dbp (bot (iblk m c 0 t)) (bot (iblk m c 2 t)) (bot (iblk m c 7 t)) (wv (iblk m c 5 t)) (ix2 0 l) = tb m c l (CC t 1) :=
  dbp_at (CC t 1) (hR _) (holds_bot m c t) l

theorem g_A (c : Dev nD) (t : Fin cfg0.N) (h : t.val % 32 = 0) (l : Fin 1024) :
    (outsAt0 m c t.val t.isLt).2.1 (ix2 0 l) = 0 + (tg m c l (CC t 0) + tg m c l (CC t 1)) := by
  rw [outsAt0_A m c t h]
  frame_out
  refine (acc180 _ _ l).trans ?_
  rw [acc90, fill5, add_assoc]
  exact congrArg (0 + ·) (Ideal.add_congr (g_top m c t l) ((congrFun (sec_dg _ _ _ _ (wv (iblk m c 5 t))) _).trans (g_bot m c t l)))

theorem g_B (c : Dev nD) (t : Fin cfg0.N) (h : ¬ t.val % 32 = 0) (l : Fin 1024) :
    (outsAt0 m c t.val t.isLt).2.1 (ix2 0 l)
      = (outsAt0 m c (t.val - 1) (Nat.lt_of_le_of_lt (Nat.sub_le _ _) t.isLt)).2.1 (ix2 0 l) + (tg m c l (CC t 0) + tg m c l (CC t 1)) := by
  rw [outsAt0_B m c t h]
  frame_out
  refine (acc180 _ _ l).trans ?_
  rw [acc90, add_assoc]
  exact congrArg (_ + ·) (Ideal.add_congr (g_top m c t l) ((congrFun (sec_dg _ _ _ _ (wv (iblk m c 5 t))) _).trans (g_bot m c t l)))

theorem b_A (c : Dev nD) (t : Fin cfg0.N) (h : t.val % 32 = 0) (l : Fin 1024) :
    (outsAt0 m c t.val t.isLt).2.2.1 (ix2 0 l) = 0 + (tb m c l (CC t 0) + tb m c l (CC t 1)) := by
  rw [outsAt0_A m c t h]
  frame_out
  refine (acc181 _ _ l).trans ?_
  rw [acc91, fill6, add_assoc]
  exact congrArg (0 + ·) (Ideal.add_congr (b_top m c t l) ((congrFun (sec_db _ _ _ (wv (iblk m c 5 t))) _).trans (b_bot m c t l)))

theorem b_B (c : Dev nD) (t : Fin cfg0.N) (h : ¬ t.val % 32 = 0) (l : Fin 1024) :
    (outsAt0 m c t.val t.isLt).2.2.1 (ix2 0 l)
      = (outsAt0 m c (t.val - 1) (Nat.lt_of_le_of_lt (Nat.sub_le _ _) t.isLt)).2.2.1 (ix2 0 l) + (tb m c l (CC t 0) + tb m c l (CC t 1)) := by
  rw [outsAt0_B m c t h]
  frame_out
  refine (acc181 _ _ l).trans ?_
  rw [acc91, add_assoc]
  exact congrArg (_ + ·) (Ideal.add_congr (b_top m c t l) ((congrFun (sec_db _ _ _ (wv (iblk m c 5 t))) _).trans (b_bot m c t l)))

theorem ref_g (A0 : FVec Ideal S8192x7168 .f32) (A3 : FVec Ideal S8x128x128 .f32) (A5 : FVec Ideal S8192x2048 .f32) (l : Fin 1024) :
    val_main_v136 (F := Ideal) A0 A3 A5 (ix2 0 l) = ∑ k : Fin 8192, val_main_v93 (F := Ideal) A0 A3 A5 (ix2 k l) := by
  pointwise [val_main_v136, val_main_v98, val_main_v95, val_main_v94, val_main_cst_18, val_main_cst_19]
  exact Fin.sum_univ_one _

theorem ref_b (A0 : FVec Ideal S8192x7168 .f32) (A3 : FVec Ideal S8x128x128 .f32) (A5 : FVec Ideal S8192x2048 .f32) (l : Fin 1024) :
    val_main_v137 (F := Ideal) A0 A3 A5 (ix2 0 l) = ∑ k : Fin 8192, val_main_v89 (F := Ideal) A0 A3 A5 (ix2 k l) := by
  pointwise [val_main_v137, val_main_v92, val_main_v91, val_main_v90, val_main_cst_16, val_main_cst_17]
  exact Fin.sum_univ_one _

theorem last_g (c : Dev nD) (t : Fin cfg0.N) (ht : t.val + 1 = cfg0.N) (l : Fin 1024) :
    (outsAt0 m c t.val t.isLt).2.1 (ix2 0 l) = val_main_v136 (F := Ideal) (X0 m c) (X3 m c) (X5 m c) (ix2 0 l) := by
  rw [Pipeline.eq_sum_fin_of_reset_step_apply_last (M := EReal) (fun n h (l : Fin 1024) => ((outsAt0 m c n h).2.1 (ix2 0 l) : EReal)) 32 (fun _ => 0)
    (fun p l => tg m c l (CC p 0) + tg m c l (CC p 1)) (fun t h l => g_A m c t h l) (fun t h l => g_B m c t h l) (le_of_eq N_0) t ht l,
    zero_add, ref_g]
  exact (sum_chunks (M := EReal) (tg m c l)).trans (sum_rows (M := EReal) fun k => val_main_v93 (F := Ideal) (X0 m c) (X3 m c) (X5 m c) (ix2 k l))

theorem last_b (c : Dev nD) (t : Fin cfg0.N) (ht : t.val + 1 = cfg0.N) (l : Fin 1024) :
    (outsAt0 m c t.val t.isLt).2.2.1 (ix2 0 l) = val_main_v137 (F := Ideal) (X0 m c) (X3 m c) (X5 m c) (ix2 0 l) := by
  rw [Pipeline.eq_sum_fin_of_reset_step_apply_last (M := EReal) (fun n h (l : Fin 1024) => ((outsAt0 m c n h).2.2.1 (ix2 0 l) : EReal)) 32 (fun _ => 0)
    (fun p l => tb m c l (CC p 0) + tb m c l (CC p 1)) (fun t h l => b_A m c t h l) (fun t h l => b_B m c t h l) (le_of_eq N_0) t ht l,
    zero_add, ref_b]
  exact (sum_chunks (M := EReal) (tb m c l)).trans (sum_rows (M := EReal) fun k => val_main_v89 (F := Ideal) (X0 m c) (X3 m c) (X5 m c) (ix2 k l))

theorem final_9 (c : Dev nD) : (dats m 0 c).arrAt 9 (cfgs 0).N = val_main_v136 (F := Ideal) (X0 m c) (X3 m c) (X5 m c) := by
  obtain ⟨t, ht⟩ := exists_last
  refine (dats m 0 c).arrAt_eq_of_after_last 9 t (whole_9 t ht) _ fun j => ?_
  blk_simp
  rw [after0_9]
  idx_vars j
  obtain rfl : j0 = 0 := Subsingleton.elim _ _
  exact last_g m c t ht j1

theorem final_10 (c : Dev nD) : (dats m 0 c).arrAt 10 (cfgs 0).N = val_main_v137 (F := Ideal) (X0 m c) (X3 m c) (X5 m c) := by
  obtain ⟨t, ht⟩ := exists_last
  refine (dats m 0 c).arrAt_eq_of_after_last 10 t (whole_10 t ht) _ fun j => ?_
  blk_simp
  rw [after0_10]
  idx_vars j
  obtain rfl : j0 = 0 := Subsingleton.elim _ _
  exact last_b m c t ht j1

end Cert.KernelIdeal.Sgu
end
end
-- ==== Proof.Mats.lean ====
module

public import proofs.«01_k».proof.Proof.Sums

@[expose] public section

set_option maxRecDepth 16384

noncomputable section

/-! The gradient of the eight matrices and of their bias columns: per point, and summed over the points. -/

namespace Cert.KernelIdeal.Sgu

open Cert.KernelIdeal Cert.KernelIdeal.Gen Idealize.ShloMosaic Idealize.ShloMosaic.TcCoe Idealize.SL.Sem
open Cert.ReferenceIdeal.Read

section
variable {κ : Kind} {s : Shape} {e : EltTy} {Val : EltTy → Type} [∀ e, Nonempty (Val e)]

/-- Where one of the last writes covers, the earlier writes do not matter. -/
theorem canon_append_of_mem (L L' : List (View.Piece Val s e)) (y : s.Idx) (h : ∃ p ∈ L, y ∈ p.1.set) :
    View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      rw [show p.1.idx x = p.1.emb x from rfl, List.cons_append]
      exact (View.canon_cons_emb p.1 p.2 _ x).trans (View.canon_cons_emb p.1 p.2 _ x).symm
    · rw [List.cons_append, View.canon_cons_of_not_mem p _ hm, View.canon_cons_of_not_mem p _ hm]
      obtain ⟨q, hq, hy⟩ := h
      rcases List.mem_cons.mp hq with rfl | hq
      · exact absurd hy hm
      · exact ih ⟨q, hq, hy⟩

theorem canon_drop8 (p1 p2 p3 p4 p5 p6 p7 p8 : View.Piece Val s e) (L' : List (View.Piece Val s e)) (y : s.Idx)
    (h : ∃ p ∈ [p1, p2, p3, p4, p5, p6, p7, p8], y ∈ p.1.set) :
    View.canon (p1 :: p2 :: p3 :: p4 :: p5 :: p6 :: p7 :: p8 :: L') y = View.canon [p1, p2, p3, p4, p5, p6, p7, p8] y :=
  canon_append_of_mem [p1, p2, p3, p4, p5, p6, p7, p8] L' y h
end

theorem accF0 (a : FVec Ideal S128x128 .f32) (p : FVec Ideal S1x128x128 .f32) (r s : Fin 128) :
    k0_pay92 (F := Ideal) a p (ix3 0 r s) = p (ix3 0 r s) + a (ix2 r s) := by pointwise [k0_pay92]

theorem accS0 (a : FVec Ideal S128x128 .f32) (p : FVec Ideal S1x128x128 .f32) (r s : Fin 128) :
    k0_pay182 (F := Ideal) a p (ix3 0 r s) = p (ix3 0 r s) + a (ix2 r s) := by pointwise [k0_pay182]

theorem bccF0 (a p : FVec Ideal S128x1 .f32) (r : Fin 128) :
    k0_pay93 (F := Ideal) a p (ix2 r 0) = p (ix2 r 0) + a (ix2 r 0) := by pointwise [k0_pay93]

theorem bccS0 (a p : FVec Ideal S128x1 .f32) (r : Fin 128) :
    k0_pay184 (F := Ideal) a (k0_pay183 p) (ix2 r 0) = p (ix2 r 0) + a (ix2 r 0) := by pointwise [k0_pay184, k0_pay183]

theorem accF1 (a : FVec Ideal S128x128 .f32) (p : FVec Ideal S1x128x128 .f32) (r s : Fin 128) :
    k0_pay94 (F := Ideal) a p (ix3 0 r s) = p (ix3 0 r s) + a (ix2 r s) := by pointwise [k0_pay94]

theorem accS1 (a : FVec Ideal S128x128 .f32) (p : FVec Ideal S1x128x128 .f32) (r s : Fin 128) :
    k0_pay185 (F := Ideal) a p (ix3 0 r s) = p (ix3 0 r s) + a (ix2 r s) := by pointwise [k0_pay185]

theorem bccF1 (a p : FVec Ideal S128x1 .f32) (r : Fin 128) :
    k0_pay95 (F := Ideal) a p (ix2 r 0) = p (ix2 r 0) + a (ix2 r 0) := by pointwise [k0_pay95]

theorem bccS1 (a p : FVec Ideal S128x1 .f32) (r : Fin 128) :
    k0_pay186 (F := Ideal) a p (ix2 r 0) = p (ix2 r 0) + a (ix2 r 0) := by pointwise [k0_pay186]

theorem accF2 (a : FVec Ideal S128x128 .f32) (p : FVec Ideal S1x128x128 .f32) (r s : Fin 128) :
    k0_pay96 (F := Ideal) a p (ix3 0 r s) = p (ix3 0 r s) + a (ix2 r s) := by pointwise [k0_pay96]

theorem accS2 (a : FVec Ideal S128x128 .f32) (p : FVec Ideal S1x128x128 .f32) (r s : Fin 128) :
    k0_pay187 (F := Ideal) a p (ix3 0 r s) = p (ix3 0 r s) + a (ix2 r s) := by pointwise [k0_pay187]

theorem bccF2 (a p : FVec Ideal S128x1 .f32) (r : Fin 128) :
    k0_pay98 (F := Ideal) a (k0_pay97 p) (ix2 r 0) = p (ix2 r 0) + a (ix2 r 0) := by pointwise [k0_pay98, k0_pay97]

theorem bccS2 (a p : FVec Ideal S128x1 .f32) (r : Fin 128) :
    k0_pay188 (F := Ideal) a p (ix2 r 0) = p (ix2 r 0) + a (ix2 r 0) := by pointwise [k0_pay188]

theorem accF3 (a : FVec Ideal S128x128 .f32) (p : FVec Ideal S1x128x128 .f32) (r s : Fin 128) :
    k0_pay99 (F := Ideal) a p (ix3 0 r s) = p (ix3 0 r s) + a (ix2 r s) := by pointwise [k0_pay99]

theorem accS3 (a : FVec Ideal S128x128 .f32) (p : FVec Ideal S1x128x128 .f32) (r s : Fin 128) :
    k0_pay190 (F := Ideal) (k0_pay189 a p) (ix3 0 r s) = p (ix3 0 r s) + a (ix2 r s) := by pointwise [k0_pay190, k0_pay189]

theorem bccF3 (a p : FVec Ideal S128x1 .f32) (r : Fin 128) :
    k0_pay100 (F := Ideal) a p (ix2 r 0) = p (ix2 r 0) + a (ix2 r 0) := by pointwise [k0_pay100]

theorem bccS3 (a p : FVec Ideal S128x1 .f32) (r : Fin 128) :
    k0_pay191 (F := Ideal) a p (ix2 r 0) = p (ix2 r 0) + a (ix2 r 0) := by pointwise [k0_pay191]

theorem accF4 (a : FVec Ideal S128x128 .f32) (p : FVec Ideal S1x128x128 .f32) (r s : Fin 128) :
    k0_pay101 (F := Ideal) a p (ix3 0 r s) = p (ix3 0 r s) + a (ix2 r s) := by pointwise [k0_pay101]

theorem accS4 (a : FVec Ideal S128x128 .f32) (p : FVec Ideal S1x128x128 .f32) (r s : Fin 128) :
    k0_pay192 (F := Ideal) a p (ix3 0 r s) = p (ix3 0 r s) + a (ix2 r s) := by pointwise [k0_pay192]

theorem bccF4 (a p : FVec Ideal S128x1 .f32) (r : Fin 128) :
    k0_pay102 (F := Ideal) a p (ix2 r 0) = p (ix2 r 0) + a (ix2 r 0) := by pointwise [k0_pay102]

theorem bccS4 (a p : FVec Ideal S128x1 .f32) (r : Fin 128) :
    k0_pay193 (F := Ideal) a p (ix2 r 0) = p (ix2 r 0) + a (ix2 r 0) := by pointwise [k0_pay193]

theorem accF5 (a : FVec Ideal S128x128 .f32) (p : FVec Ideal S1x128x128 .f32) (r s : Fin 128) :
    k0_pay104 (F := Ideal) (k0_pay103 a p) (ix3 0 r s) = p (ix3 0 r s) + a (ix2 r s) := by pointwise [k0_pay104, k0_pay103]

theorem accS5 (a : FVec Ideal S128x128 .f32) (p : FVec Ideal S1x128x128 .f32) (r s : Fin 128) :
    k0_pay194 (F := Ideal) a p (ix3 0 r s) = p (ix3 0 r s) + a (ix2 r s) := by pointwise [k0_pay194]

theorem bccF5 (a p : FVec Ideal S128x1 .f32) (r : Fin 128) :
    k0_pay105 (F := Ideal) a p (ix2 r 0) = p (ix2 r 0) + a (ix2 r 0) := by pointwise [k0_pay105]

theorem bccS5 (a p : FVec Ideal S128x1 .f32) (r : Fin 128) :
    k0_pay195 (F := Ideal) a p (ix2 r 0) = p (ix2 r 0) + a (ix2 r 0) := by pointwise [k0_pay195]

theorem accF6 (a : FVec Ideal S128x128 .f32) (p : FVec Ideal S1x128x128 .f32) (r s : Fin 128) :
    k0_pay106 (F := Ideal) a p (ix3 0 r s) = p (ix3 0 r s) + a (ix2 r s) := by pointwise [k0_pay106]

theorem accS6 (a : FVec Ideal S128x128 .f32) (p : FVec Ideal S1x128x128 .f32) (r s : Fin 128) :
    k0_pay1 (F := Ideal) a (k0_pay196 p) (ix3 0 r s) = p (ix3 0 r s) + a (ix2 r s) := by pointwise [k0_pay1, k0_pay196]

theorem bccF6 (a p : FVec Ideal S128x1 .f32) (r : Fin 128) :
    k0_pay107 (F := Ideal) a p (ix2 r 0) = p (ix2 r 0) + a (ix2 r 0) := by pointwise [k0_pay107]

theorem bccS6 (a p : FVec Ideal S128x1 .f32) (r : Fin 128) :
    k0_pay2 (F := Ideal) a p (ix2 r 0) = p (ix2 r 0) + a (ix2 r 0) := by pointwise [k0_pay2]

theorem accF7 (a : FVec Ideal S128x128 .f32) (p : FVec Ideal S1x128x128 .f32) (r s : Fin 128) :
    k0_pay108 (F := Ideal) a p (ix3 0 r s) = p (ix3 0 r s) + a (ix2 r s) := by pointwise [k0_pay108]

theorem accS7 (a : FVec Ideal S128x128 .f32) (p : FVec Ideal S1x128x128 .f32) (r s : Fin 128) :
    k0_pay3 (F := Ideal) a p (ix3 0 r s) = p (ix3 0 r s) + a (ix2 r s) := by pointwise [k0_pay3]

theorem bccF7 (a p : FVec Ideal S128x1 .f32) (r : Fin 128) :
    k0_pay109 (F := Ideal) a p (ix2 r 0) = p (ix2 r 0) + a (ix2 r 0) := by pointwise [k0_pay109]

theorem bccS7 (a p : FVec Ideal S128x1 .f32) (r : Fin 128) :
    k0_pay4 (F := Ideal) a p (ix2 r 0) = p (ix2 r 0) + a (ix2 r 0) := by pointwise [k0_pay4]

variable (m : (ℓ : Loc nD τ sig) → Buf (Elt Ideal) ℓ)

abbrev X1 (c : Dev nD) : FVec Ideal S1x1024 .f32 := m ((c : Thread nD τ).loc main_arg1)
abbrev X2 (c : Dev nD) : FVec Ideal S1x1024 .f32 := m ((c : Thread nD τ).loc main_arg2)

/-- A chunk's part of an entry of the matrices' gradient, -/
def tw (c : Dev nD) (i : Fin 8) (r s : Fin 128) (C : Fin 64) : EReal :=
  ∑ d : Fin 128, val_main_v68 (F := Ideal) (X0 m c) (X5 m c) (ix2 (RR C r) ⟨128 * i.val + d.val, by omega⟩)
    * val_main_v41 (F := Ideal) (X0 m c) (X1 m c) (X2 m c) (ix2 (RR C s) ⟨128 * i.val + d.val, by omega⟩)

/-- and of an entry of the bias columns' gradient. -/
def tt (c : Dev nD) (i : Fin 8) (r : Fin 128) (C : Fin 64) : EReal :=
  ∑ d : Fin 128, val_main_v68 (F := Ideal) (X0 m c) (X5 m c) (ix2 (RR C r) ⟨128 * i.val + d.val, by omega⟩)

theorem fill7 (i : Fin 8) (r s : Fin 128) : k0_pay7 (F := Ideal) (ix3 i r s) = 0 := by pointwise [k0_pay7]
theorem fill8 (r : Fin 128) (i : Fin 8) : k0_pay8 (F := Ideal) (ix2 r i) = 0 := by pointwise [k0_pay8]

theorem w_A (c : Dev nD) (t : Fin cfg0.N) (ht : t.val % 32 = 0) (i : Fin 8) (r s : Fin 128) :
    (outsAt0 m c t.val t.isLt).2.2.2.1 (ix3 i r s)
      = 0 + (tw m c i r s (CC t 0) + tw m c i r s (CC t 1)) := by
  rw [outsAt0_A m c t ht]
  frame_out
  simp (disch := decide) only [↓View.readCov_skip, ↓View.readCov_cons_toLoadRect, ↓View.readCov_fill]
  refine (canon_drop8 _ _ _ _ _ _ _ _ _ _ (View.cover_of_tiled_head _ _ _ (by rfl) _)).trans ?_
  canon_tiles x h
  case piece0 =>
    idx_vars x
    obtain rfl : r = x1 := Fin.ext h1
    obtain rfl : s = x2 := Fin.ext h2
    obtain rfl : x0 = 0 := Subsingleton.elim _ _
    have hk : i.val = 7 := by first | exact h0 | (have := h0; omega)
    refine (accS7 _ _ r s).trans ?_
    rw [accF7, add_assoc]
    refine Ideal.add_congr ?_ (Ideal.add_congr (dwp7_at (holds_top m c t) r s i hk)
      ((congrFun (sec_dw7 _ _ _ _ _ _) _).trans (dwp7_at (holds_bot m c t) r s i hk)))
    obtain rfl : i = 7 := Fin.ext hk
    pointwise [fill7]
  case piece1 =>
    idx_vars x
    obtain rfl : r = x1 := Fin.ext h1
    obtain rfl : s = x2 := Fin.ext h2
    obtain rfl : x0 = 0 := Subsingleton.elim _ _
    have hk : i.val = 6 := by first | exact h0 | (have := h0; omega)
    refine (accS6 _ _ r s).trans ?_
    rw [accF6, add_assoc]
    refine Ideal.add_congr ?_ (Ideal.add_congr (dwp6_at (holds_top m c t) r s i hk)
      ((congrFun (sec_dw6 _ _ _ _ _ _) _).trans (dwp6_at (holds_bot m c t) r s i hk)))
    obtain rfl : i = 6 := Fin.ext hk
    pointwise [fill7]
  case piece2 =>
    idx_vars x
    obtain rfl : r = x1 := Fin.ext h1
    obtain rfl : s = x2 := Fin.ext h2
    obtain rfl : x0 = 0 := Subsingleton.elim _ _
    have hk : i.val = 5 := by first | exact h0 | (have := h0; omega)
    refine (accS5 _ _ r s).trans ?_
    rw [accF5, add_assoc]
    refine Ideal.add_congr ?_ (Ideal.add_congr (dwp5_at (holds_top m c t) r s i hk)
      ((congrFun (sec_dw5 _ _ _ _ _ _) _).trans (dwp5_at (holds_bot m c t) r s i hk)))
    obtain rfl : i = 5 := Fin.ext hk
    pointwise [fill7]
  case piece3 =>
    idx_vars x
    obtain rfl : r = x1 := Fin.ext h1
    obtain rfl : s = x2 := Fin.ext h2
    obtain rfl : x0 = 0 := Subsingleton.elim _ _
    have hk : i.val = 4 := by first | exact h0 | (have := h0; omega)
    refine (accS4 _ _ r s).trans ?_
    rw [accF4, add_assoc]
    refine Ideal.add_congr ?_ (Ideal.add_congr (dwp4_at (holds_top m c t) r s i hk)
      ((congrFun (sec_dw4 _ _ _ _ _ _) _).trans (dwp4_at (holds_bot m c t) r s i hk)))
    obtain rfl : i = 4 := Fin.ext hk
    pointwise [fill7]
  case piece4 =>
    idx_vars x
    obtain rfl : r = x1 := Fin.ext h1
    obtain rfl : s = x2 := Fin.ext h2
    obtain rfl : x0 = 0 := Subsingleton.elim _ _
    have hk : i.val = 3 := by first | exact h0 | (have := h0; omega)
    refine (accS3 _ _ r s).trans ?_
    rw [accF3, add_assoc]
    refine Ideal.add_congr ?_ (Ideal.add_congr (dwp3_at (holds_top m c t) r s i hk)
      ((congrFun (sec_dw3 _ _ _ _ _ _) _).trans (dwp3_at (holds_bot m c t) r s i hk)))
    obtain rfl : i = 3 := Fin.ext hk
    pointwise [fill7]
  case piece5 =>
    idx_vars x
    obtain rfl : r = x1 := Fin.ext h1
    obtain rfl : s = x2 := Fin.ext h2
    obtain rfl : x0 = 0 := Subsingleton.elim _ _
    have hk : i.val = 2 := by first | exact h0 | (have := h0; omega)
    refine (accS2 _ _ r s).trans ?_
    rw [accF2, add_assoc]
    refine Ideal.add_congr ?_ (Ideal.add_congr (dwp2_at (holds_top m c t) r s i hk)
      ((congrFun (sec_dw2 _ _ _ _ _ _) _).trans (dwp2_at (holds_bot m c t) r s i hk)))
    obtain rfl : i = 2 := Fin.ext hk
    pointwise [fill7]
  case piece6 =>
    idx_vars x
    obtain rfl : r = x1 := Fin.ext h1
    obtain rfl : s = x2 := Fin.ext h2
    obtain rfl : x0 = 0 := Subsingleton.elim _ _
    have hk : i.val = 1 := by first | exact h0 | (have := h0; omega)
    refine (accS1 _ _ r s).trans ?_
    rw [accF1, add_assoc]
    refine Ideal.add_congr ?_ (Ideal.add_congr (dwp1_at (holds_top m c t) r s i hk)
      ((congrFun (sec_dw1 _ _ _ _ _ _) _).trans (dwp1_at (holds_bot m c t) r s i hk)))
    obtain rfl : i = 1 := Fin.ext hk
    pointwise [fill7]
  case piece7 =>
    idx_vars x
    obtain rfl : r = x1 := Fin.ext h1
    obtain rfl : s = x2 := Fin.ext h2
    obtain rfl : x0 = 0 := Subsingleton.elim _ _
    have hk : i.val = 0 := by first | exact h0 | (have := h0; omega)
    refine (accS0 _ _ r s).trans ?_
    rw [accF0, add_assoc]
    refine Ideal.add_congr ?_ (Ideal.add_congr (dwp0_at (holds_top m c t) r s i hk)
      ((congrFun (sec_dw0 _ _ _ _ _ _) _).trans (dwp0_at (holds_bot m c t) r s i hk)))
    obtain rfl : i = 0 := Fin.ext hk
    pointwise [fill7]

theorem t_A (c : Dev nD) (t : Fin cfg0.N) (ht : t.val % 32 = 0) (i : Fin 8) (r : Fin 128) :
    (outsAt0 m c t.val t.isLt).2.2.2.2 (ix2 r i)
      = 0 + (tt m c i r (CC t 0) + tt m c i r (CC t 1)) := by
  rw [outsAt0_A m c t ht]
  frame_out
  simp (disch := decide) only [↓View.readCov_skip, ↓View.readCov_cons_toLoadRect, ↓View.readCov_fill]
  refine (canon_drop8 _ _ _ _ _ _ _ _ _ _ (View.cover_of_tiled_head _ _ _ (by rfl) _)).trans ?_
  canon_tiles x h
  case piece0 =>
    idx_vars x
    obtain rfl : r = x0 := Fin.ext h0
    obtain rfl : x1 = 0 := Subsingleton.elim _ _
    have hk : i.val = 7 := by first | exact h1 | (have := h1; omega)
    refine (bccS7 _ _ r).trans ?_
    rw [bccF7, add_assoc]
    refine Ideal.add_congr ?_ (Ideal.add_congr (dbtp7_at (holds_top m c t) r i hk)
      ((congrFun (sec_dbt7 _ _ _) _).trans (dbtp7_at (holds_bot m c t) r i hk)))
    obtain rfl : i = 7 := Fin.ext hk
    pointwise [fill8]
  case piece1 =>
    idx_vars x
    obtain rfl : r = x0 := Fin.ext h0
    obtain rfl : x1 = 0 := Subsingleton.elim _ _
    have hk : i.val = 6 := by first | exact h1 | (have := h1; omega)
    refine (bccS6 _ _ r).trans ?_
    rw [bccF6, add_assoc]
    refine Ideal.add_congr ?_ (Ideal.add_congr (dbtp6_at (holds_top m c t) r i hk)
      ((congrFun (sec_dbt6 _ _ _) _).trans (dbtp6_at (holds_bot m c t) r i hk)))
    obtain rfl : i = 6 := Fin.ext hk
    pointwise [fill8]
  case piece2 =>
    idx_vars x
    obtain rfl : r = x0 := Fin.ext h0
    obtain rfl : x1 = 0 := Subsingleton.elim _ _
    have hk : i.val = 5 := by first | exact h1 | (have := h1; omega)
    refine (bccS5 _ _ r).trans ?_
    rw [bccF5, add_assoc]
    refine Ideal.add_congr ?_ (Ideal.add_congr (dbtp5_at (holds_top m c t) r i hk)
      ((congrFun (sec_dbt5 _ _ _) _).trans (dbtp5_at (holds_bot m c t) r i hk)))
    obtain rfl : i = 5 := Fin.ext hk
    pointwise [fill8]
  case piece3 =>
    idx_vars x
    obtain rfl : r = x0 := Fin.ext h0
    obtain rfl : x1 = 0 := Subsingleton.elim _ _
    have hk : i.val = 4 := by first | exact h1 | (have := h1; omega)
    refine (bccS4 _ _ r).trans ?_
    rw [bccF4, add_assoc]
    refine Ideal.add_congr ?_ (Ideal.add_congr (dbtp4_at (holds_top m c t) r i hk)
      ((congrFun (sec_dbt4 _ _ _) _).trans (dbtp4_at (holds_bot m c t) r i hk)))
    obtain rfl : i = 4 := Fin.ext hk
    pointwise [fill8]
  case piece4 =>
    idx_vars x
    obtain rfl : r = x0 := Fin.ext h0
    obtain rfl : x1 = 0 := Subsingleton.elim _ _
    have hk : i.val = 3 := by first | exact h1 | (have := h1; omega)
    refine (bccS3 _ _ r).trans ?_
    rw [bccF3, add_assoc]
    refine Ideal.add_congr ?_ (Ideal.add_congr (dbtp3_at (holds_top m c t) r i hk)
      ((congrFun (sec_dbt3 _ _ _) _).trans (dbtp3_at (holds_bot m c t) r i hk)))
    obtain rfl : i = 3 := Fin.ext hk
    pointwise [fill8]
  case piece5 =>
    idx_vars x
    obtain rfl : r = x0 := Fin.ext h0
    obtain rfl : x1 = 0 := Subsingleton.elim _ _
    have hk : i.val = 2 := by first | exact h1 | (have := h1; omega)
    refine (bccS2 _ _ r).trans ?_
    rw [bccF2, add_assoc]
    refine Ideal.add_congr ?_ (Ideal.add_congr (dbtp2_at (holds_top m c t) r i hk)
      ((congrFun (sec_dbt2 _ _ _) _).trans (dbtp2_at (holds_bot m c t) r i hk)))
    obtain rfl : i = 2 := Fin.ext hk
    pointwise [fill8]
  case piece6 =>
    idx_vars x
    obtain rfl : r = x0 := Fin.ext h0
    obtain rfl : x1 = 0 := Subsingleton.elim _ _
    have hk : i.val = 1 := by first | exact h1 | (have := h1; omega)
    refine (bccS1 _ _ r).trans ?_
    rw [bccF1, add_assoc]
    refine Ideal.add_congr ?_ (Ideal.add_congr (dbtp1_at (holds_top m c t) r i hk)
      ((congrFun (sec_dbt1 _ _ _) _).trans (dbtp1_at (holds_bot m c t) r i hk)))
    obtain rfl : i = 1 := Fin.ext hk
    pointwise [fill8]
  case piece7 =>
    idx_vars x
    obtain rfl : r = x0 := Fin.ext h0
    obtain rfl : x1 = 0 := Subsingleton.elim _ _
    have hk : i.val = 0 := by first | exact h1 | (have := h1; omega)
    refine (bccS0 _ _ r).trans ?_
    rw [bccF0, add_assoc]
    refine Ideal.add_congr ?_ (Ideal.add_congr (dbtp0_at (holds_top m c t) r i hk)
      ((congrFun (sec_dbt0 _ _ _) _).trans (dbtp0_at (holds_bot m c t) r i hk)))
    obtain rfl : i = 0 := Fin.ext hk
    pointwise [fill8]

theorem w_B (c : Dev nD) (t : Fin cfg0.N) (ht : ¬ t.val % 32 = 0) (i : Fin 8) (r s : Fin 128) :
    (outsAt0 m c t.val t.isLt).2.2.2.1 (ix3 i r s)
      = (outsAt0 m c (t.val - 1) (Nat.lt_of_le_of_lt (Nat.sub_le _ _) t.isLt)).2.2.2.1 (ix3 i r s) + (tw m c i r s (CC t 0) + tw m c i r s (CC t 1)) := by
  rw [outsAt0_B m c t ht]
  frame_out
  simp (disch := decide) only [↓View.readCov_skip, ↓View.readCov_cons_toLoadRect]
  refine (canon_drop8 _ _ _ _ _ _ _ _ _ _ (View.cover_of_tiled_head _ _ _ (by rfl) _)).trans ?_
  canon_tiles x h
  case piece0 =>
    idx_vars x
    obtain rfl : r = x1 := Fin.ext h1
    obtain rfl : s = x2 := Fin.ext h2
    obtain rfl : x0 = 0 := Subsingleton.elim _ _
    have hk : i.val = 7 := by first | exact h0 | (have := h0; omega)
    refine (accS7 _ _ r s).trans ?_
    rw [accF7, add_assoc]
    refine Ideal.add_congr ?_ (Ideal.add_congr (dwp7_at (holds_top m c t) r s i hk)
      ((congrFun (sec_dw7 _ _ _ _ _ _) _).trans (dwp7_at (holds_bot m c t) r s i hk)))
    obtain rfl : i = 7 := Fin.ext hk
    pointwise; blk_ext
  case piece1 =>
    idx_vars x
    obtain rfl : r = x1 := Fin.ext h1
    obtain rfl : s = x2 := Fin.ext h2
    obtain rfl : x0 = 0 := Subsingleton.elim _ _
    have hk : i.val = 6 := by first | exact h0 | (have := h0; omega)
    refine (accS6 _ _ r s).trans ?_
    rw [accF6, add_assoc]
    refine Ideal.add_congr ?_ (Ideal.add_congr (dwp6_at (holds_top m c t) r s i hk)
      ((congrFun (sec_dw6 _ _ _ _ _ _) _).trans (dwp6_at (holds_bot m c t) r s i hk)))
    obtain rfl : i = 6 := Fin.ext hk
    pointwise; blk_ext
  case piece2 =>
    idx_vars x
    obtain rfl : r = x1 := Fin.ext h1
    obtain rfl : s = x2 := Fin.ext h2
    obtain rfl : x0 = 0 := Subsingleton.elim _ _
    have hk : i.val = 5 := by first | exact h0 | (have := h0; omega)
    refine (accS5 _ _ r s).trans ?_
    rw [accF5, add_assoc]
    refine Ideal.add_congr ?_ (Ideal.add_congr (dwp5_at (holds_top m c t) r s i hk)
      ((congrFun (sec_dw5 _ _ _ _ _ _) _).trans (dwp5_at (holds_bot m c t) r s i hk)))
    obtain rfl : i = 5 := Fin.ext hk
    pointwise; blk_ext
  case piece3 =>
    idx_vars x
    obtain rfl : r = x1 := Fin.ext h1
    obtain rfl : s = x2 := Fin.ext h2
    obtain rfl : x0 = 0 := Subsingleton.elim _ _
    have hk : i.val = 4 := by first | exact h0 | (have := h0; omega)
    refine (accS4 _ _ r s).trans ?_
    rw [accF4, add_assoc]
    refine Ideal.add_congr ?_ (Ideal.add_congr (dwp4_at (holds_top m c t) r s i hk)
      ((congrFun (sec_dw4 _ _ _ _ _ _) _).trans (dwp4_at (holds_bot m c t) r s i hk)))
    obtain rfl : i = 4 := Fin.ext hk
    pointwise; blk_ext
  case piece4 =>
    idx_vars x
    obtain rfl : r = x1 := Fin.ext h1
    obtain rfl : s = x2 := Fin.ext h2
    obtain rfl : x0 = 0 := Subsingleton.elim _ _
    have hk : i.val = 3 := by first | exact h0 | (have := h0; omega)
    refine (accS3 _ _ r s).trans ?_
    rw [accF3, add_assoc]
    refine Ideal.add_congr ?_ (Ideal.add_congr (dwp3_at (holds_top m c t) r s i hk)
      ((congrFun (sec_dw3 _ _ _ _ _ _) _).trans (dwp3_at (holds_bot m c t) r s i hk)))
    obtain rfl : i = 3 := Fin.ext hk
    pointwise; blk_ext
  case piece5 =>
    idx_vars x
    obtain rfl : r = x1 := Fin.ext h1
    obtain rfl : s = x2 := Fin.ext h2
    obtain rfl : x0 = 0 := Subsingleton.elim _ _
    have hk : i.val = 2 := by first | exact h0 | (have := h0; omega)
    refine (accS2 _ _ r s).trans ?_
    rw [accF2, add_assoc]
    refine Ideal.add_congr ?_ (Ideal.add_congr (dwp2_at (holds_top m c t) r s i hk)
      ((congrFun (sec_dw2 _ _ _ _ _ _) _).trans (dwp2_at (holds_bot m c t) r s i hk)))
    obtain rfl : i = 2 := Fin.ext hk
    pointwise; blk_ext
  case piece6 =>
    idx_vars x
    obtain rfl : r = x1 := Fin.ext h1
    obtain rfl : s = x2 := Fin.ext h2
    obtain rfl : x0 = 0 := Subsingleton.elim _ _
    have hk : i.val = 1 := by first | exact h0 | (have := h0; omega)
    refine (accS1 _ _ r s).trans ?_
    rw [accF1, add_assoc]
    refine Ideal.add_congr ?_ (Ideal.add_congr (dwp1_at (holds_top m c t) r s i hk)
      ((congrFun (sec_dw1 _ _ _ _ _ _) _).trans (dwp1_at (holds_bot m c t) r s i hk)))
    obtain rfl : i = 1 := Fin.ext hk
    pointwise; blk_ext
  case piece7 =>
    idx_vars x
    obtain rfl : r = x1 := Fin.ext h1
    obtain rfl : s = x2 := Fin.ext h2
    obtain rfl : x0 = 0 := Subsingleton.elim _ _
    have hk : i.val = 0 := by first | exact h0 | (have := h0; omega)
    refine (accS0 _ _ r s).trans ?_
    rw [accF0, add_assoc]
    refine Ideal.add_congr ?_ (Ideal.add_congr (dwp0_at (holds_top m c t) r s i hk)
      ((congrFun (sec_dw0 _ _ _ _ _ _) _).trans (dwp0_at (holds_bot m c t) r s i hk)))
    obtain rfl : i = 0 := Fin.ext hk
    pointwise; blk_ext

theorem t_B (c : Dev nD) (t : Fin cfg0.N) (ht : ¬ t.val % 32 = 0) (i : Fin 8) (r : Fin 128) :
    (outsAt0 m c t.val t.isLt).2.2.2.2 (ix2 r i)
      = (outsAt0 m c (t.val - 1) (Nat.lt_of_le_of_lt (Nat.sub_le _ _) t.isLt)).2.2.2.2 (ix2 r i) + (tt m c i r (CC t 0) + tt m c i r (CC t 1)) := by
  rw [outsAt0_B m c t ht]
  frame_out
  simp (disch := decide) only [↓View.readCov_skip, ↓View.readCov_cons_toLoadRect]
  refine (canon_drop8 _ _ _ _ _ _ _ _ _ _ (View.cover_of_tiled_head _ _ _ (by rfl) _)).trans ?_
  canon_tiles x h
  case piece0 =>
    idx_vars x
    obtain rfl : r = x0 := Fin.ext h0
    obtain rfl : x1 = 0 := Subsingleton.elim _ _
    have hk : i.val = 7 := by first | exact h1 | (have := h1; omega)
    refine (bccS7 _ _ r).trans ?_
    rw [bccF7, add_assoc]
    refine Ideal.add_congr ?_ (Ideal.add_congr (dbtp7_at (holds_top m c t) r i hk)
      ((congrFun (sec_dbt7 _ _ _) _).trans (dbtp7_at (holds_bot m c t) r i hk)))
    obtain rfl : i = 7 := Fin.ext hk
    pointwise; blk_ext
  case piece1 =>
    idx_vars x
    obtain rfl : r = x0 := Fin.ext h0
    obtain rfl : x1 = 0 := Subsingleton.elim _ _
    have hk : i.val = 6 := by first | exact h1 | (have := h1; omega)
    refine (bccS6 _ _ r).trans ?_
    rw [bccF6, add_assoc]
    refine Ideal.add_congr ?_ (Ideal.add_congr (dbtp6_at (holds_top m c t) r i hk)
      ((congrFun (sec_dbt6 _ _ _) _).trans (dbtp6_at (holds_bot m c t) r i hk)))
    obtain rfl : i = 6 := Fin.ext hk
    pointwise; blk_ext
  case piece2 =>
    idx_vars x
    obtain rfl : r = x0 := Fin.ext h0
    obtain rfl : x1 = 0 := Subsingleton.elim _ _
    have hk : i.val = 5 := by first | exact h1 | (have := h1; omega)
    refine (bccS5 _ _ r).trans ?_
    rw [bccF5, add_assoc]
    refine Ideal.add_congr ?_ (Ideal.add_congr (dbtp5_at (holds_top m c t) r i hk)
      ((congrFun (sec_dbt5 _ _ _) _).trans (dbtp5_at (holds_bot m c t) r i hk)))
    obtain rfl : i = 5 := Fin.ext hk
    pointwise; blk_ext
  case piece3 =>
    idx_vars x
    obtain rfl : r = x0 := Fin.ext h0
    obtain rfl : x1 = 0 := Subsingleton.elim _ _
    have hk : i.val = 4 := by first | exact h1 | (have := h1; omega)
    refine (bccS4 _ _ r).trans ?_
    rw [bccF4, add_assoc]
    refine Ideal.add_congr ?_ (Ideal.add_congr (dbtp4_at (holds_top m c t) r i hk)
      ((congrFun (sec_dbt4 _ _ _) _).trans (dbtp4_at (holds_bot m c t) r i hk)))
    obtain rfl : i = 4 := Fin.ext hk
    pointwise; blk_ext
  case piece4 =>
    idx_vars x
    obtain rfl : r = x0 := Fin.ext h0
    obtain rfl : x1 = 0 := Subsingleton.elim _ _
    have hk : i.val = 3 := by first | exact h1 | (have := h1; omega)
    refine (bccS3 _ _ r).trans ?_
    rw [bccF3, add_assoc]
    refine Ideal.add_congr ?_ (Ideal.add_congr (dbtp3_at (holds_top m c t) r i hk)
      ((congrFun (sec_dbt3 _ _ _) _).trans (dbtp3_at (holds_bot m c t) r i hk)))
    obtain rfl : i = 3 := Fin.ext hk
    pointwise; blk_ext
  case piece5 =>
    idx_vars x
    obtain rfl : r = x0 := Fin.ext h0
    obtain rfl : x1 = 0 := Subsingleton.elim _ _
    have hk : i.val = 2 := by first | exact h1 | (have := h1; omega)
    refine (bccS2 _ _ r).trans ?_
    rw [bccF2, add_assoc]
    refine Ideal.add_congr ?_ (Ideal.add_congr (dbtp2_at (holds_top m c t) r i hk)
      ((congrFun (sec_dbt2 _ _ _) _).trans (dbtp2_at (holds_bot m c t) r i hk)))
    obtain rfl : i = 2 := Fin.ext hk
    pointwise; blk_ext
  case piece6 =>
    idx_vars x
    obtain rfl : r = x0 := Fin.ext h0
    obtain rfl : x1 = 0 := Subsingleton.elim _ _
    have hk : i.val = 1 := by first | exact h1 | (have := h1; omega)
    refine (bccS1 _ _ r).trans ?_
    rw [bccF1, add_assoc]
    refine Ideal.add_congr ?_ (Ideal.add_congr (dbtp1_at (holds_top m c t) r i hk)
      ((congrFun (sec_dbt1 _ _ _) _).trans (dbtp1_at (holds_bot m c t) r i hk)))
    obtain rfl : i = 1 := Fin.ext hk
    pointwise; blk_ext
  case piece7 =>
    idx_vars x
    obtain rfl : r = x0 := Fin.ext h0
    obtain rfl : x1 = 0 := Subsingleton.elim _ _
    have hk : i.val = 0 := by first | exact h1 | (have := h1; omega)
    refine (bccS0 _ _ r).trans ?_
    rw [bccF0, add_assoc]
    refine Ideal.add_congr ?_ (Ideal.add_congr (dbtp0_at (holds_top m c t) r i hk)
      ((congrFun (sec_dbt0 _ _ _) _).trans (dbtp0_at (holds_bot m c t) r i hk)))
    obtain rfl : i = 0 := Fin.ext hk
    pointwise; blk_ext

end Cert.KernelIdeal.Sgu
end
end
-- ==== Proof.Finals.lean ====
module

public import proofs.«01_k».proof.Proof.Mats

@[expose] public section

set_option maxRecDepth 16384

noncomputable section

/-! The arrays after the run. -/

namespace Cert.KernelIdeal.Sgu

open Cert.KernelIdeal Cert.KernelIdeal.Gen Idealize.ShloMosaic Idealize.ShloMosaic.TcCoe Idealize.SL.Sem
open Cert.ReferenceIdeal.Read

/-- The host's sum over the first and the last axis of four. -/
theorem sum_outer {a b c d : Nat} {u : Shape} (h : (⟨4, ![a, b, c, d]⟩ : Shape).ReducesTo [0, 3] u) (v : (⟨4, ![a, b, c, d]⟩ : Shape).Idx → EReal)
    (z : EReal) (j : u.Idx) (p : Fin b) (q : Fin c) (hr : 0 < u.rank) (hr' : 1 < u.rank) (hp : (j ⟨0, hr⟩).val = p.val) (hq : (j ⟨1, hr'⟩).val = q.val) :
    Ideal.hostReduceAdd h v z j = z + ∑ x : Fin a, ∑ y : Fin d, v (ix4 x p q y) := by
  have e : ∀ i : (⟨4, ![a, b, c, d]⟩ : Shape).Idx, h.drop i = j ↔ ∃ k : Fin a × Fin d, ix4 k.1 p q k.2 = i := by
    intro i
    have r2 : u.rank = 2 := h.1
    refine ⟨fun e => ⟨(i 0, i 3), funext fun n => Fin.ext ?_⟩, ?_⟩
    · match n with
      | ⟨0, _⟩ => rfl
      | ⟨1, _⟩ => exact hp.symm.trans (congrArg Fin.val (congrFun e ⟨0, hr⟩)).symm
      | ⟨2, _⟩ => exact hq.symm.trans (congrArg Fin.val (congrFun e ⟨1, hr'⟩)).symm
      | ⟨3, _⟩ => rfl
    · rintro ⟨k, rfl⟩
      refine funext fun n => Fin.ext ?_
      match n with
      | ⟨0, _⟩ => exact hp.symm
      | ⟨1, _⟩ => exact hq.symm
      | ⟨n + 2, hn⟩ => omega
  unfold Ideal.hostReduceAdd
  rw [Finset.sum_filter_eq_sum_of_fiber _ (fun k : Fin a × Fin d => ix4 k.1 p q k.2) (fun _ _ e => Prod.ext (congrFun e 0) (congrFun e 3)) e v,
    Fintype.sum_prod_type]

theorem ref_w (A0 : FVec Ideal S8192x7168 .f32) (A1 A2 : FVec Ideal S1x1024 .f32) (A5 : FVec Ideal S8192x2048 .f32) (i : Fin 8) (r s : Fin 128) :
    val_main_v86 (F := Ideal) A0 A1 A2 A5 (ix3 i r s)
      = ∑ C : Fin 64, ∑ d : Fin 128, val_main_v68 (F := Ideal) A0 A5 (ix2 (RR C r) ⟨128 * i.val + d.val, by omega⟩)
          * val_main_v41 (F := Ideal) A0 A1 A2 (ix2 (RR C s) ⟨128 * i.val + d.val, by omega⟩) := by
  pointwise [val_main_v86, val_main_v85, val_main_v70, val_main_v42]
  simp only [RR, Nat.mul_comm]

theorem ref_t (A0 : FVec Ideal S8192x7168 .f32) (A5 : FVec Ideal S8192x2048 .f32) (i : Fin 8) (r : Fin 128) :
    val_main_v138 (F := Ideal) A0 A5 (ix2 r i)
      = ∑ C : Fin 64, ∑ d : Fin 128, val_main_v68 (F := Ideal) A0 A5 (ix2 (RR C r) ⟨128 * i.val + d.val, by omega⟩) := by
  have e81 : val_main_v81 (F := Ideal) A0 A5 (ix2 r i)
      = ∑ C : Fin 64, ∑ d : Fin 128, val_main_v68 (F := Ideal) A0 A5 (ix2 (RR C r) ⟨128 * i.val + d.val, by omega⟩) := by
    unfold val_main_v81
    refine (sum_outer _ _ _ (ix2 r i) r i (by decide) (by decide) rfl rfl).trans ?_
    pointwise [val_main_v70, val_main_cst_14]
    simp only [RR, Nat.mul_comm]
  have e83 : val_main_v83 (F := Ideal) A0 A5 (ix2 r i) = val_main_v81 (F := Ideal) A0 A5 (ix2 r i) := by
    unfold val_main_v83
    refine (sum_outer _ _ _ (ix2 r i) r i (by decide) (by decide) rfl rfl).trans ?_
    pointwise [val_main_v82, val_main_cst_15]
    exact (Fin.sum_univ_one _).trans (Fin.sum_univ_one _)
  refine Eq.trans ?_ (e83.trans e81)
  pointwise [val_main_v138, val_main_v84]

theorem at87 (a : FVec Ideal S128x1024 .f32) (r : Fin 128) (l : Fin 1024) : k0_pay87 (F := Ideal) a (ix2 r l) = a (ix2 r l) := by
  pointwise [k0_pay87]
theorem at89 (a : FVec Ideal S128x1024 .f32) (r : Fin 128) (l : Fin 1024) : k0_pay89 (F := Ideal) a (ix2 r l) = a (ix2 r l) := by
  pointwise [k0_pay89]

section
variable (A0 : FVec Ideal S8192x7168 .f32) (A1 A2 : FVec Ideal S1x1024 .f32) (A3 : FVec Ideal S8x128x128 .f32) (A4 : FVec Ideal S128x8 .f32)
    (A5 : FVec Ideal S8192x2048 .f32) (A6 : FVec Ideal S8192x7168 .bf16)

theorem ref_u (k : Fin 8192) (l : Fin 1024) (j : Fin 7168) (hj : j.val = l.val) :
    val_main_v135 (F := Ideal) A0 A1 A2 A3 A4 A5 A6 (ix2 k j) = val_main_v80 (F := Ideal) A0 A1 A2 A3 A4 A5 (ix2 k l) := by
  obtain rfl : j = ⟨l.val, by clear hj; omega⟩ := Fin.ext hj
  pointwise [val_main_v135, val_main_v131]
theorem ref_v (k : Fin 8192) (l : Fin 1024) (j : Fin 7168) (hj : j.val = 1024 + l.val) :
    val_main_v135 (F := Ideal) A0 A1 A2 A3 A4 A5 A6 (ix2 k j) = val_main_v130 (F := Ideal) A0 A1 A3 A5 (ix2 k l) := by
  obtain rfl : j = ⟨1024 + l.val, by clear hj; omega⟩ := Fin.ext hj
  pointwise [val_main_v135, val_main_v132]
theorem ref_z (k : Fin 8192) (l : Fin 1024) (j : Fin 7168) (hj : j.val = 2048 + l.val) :
    val_main_v135 (F := Ideal) A0 A1 A2 A3 A4 A5 A6 (ix2 k j) = val_main_v67 (F := Ideal) A0 A1 A2 A3 A4 A5 (ix2 k l) := by
  obtain rfl : j = ⟨2048 + l.val, by clear hj; omega⟩ := Fin.ext hj
  pointwise [val_main_v135, val_main_v133]
  rw [dif_neg (by omega), dif_neg (by omega), dif_pos (by omega)]
  congr 2; apply Fin.ext; dsimp only; omega
theorem ref_rest (k : Fin 8192) (j : Fin 7168) (hj : 3072 ≤ j.val) :
    val_main_v135 (F := Ideal) A0 A1 A2 A3 A4 A5 A6 (ix2 k j) = A6 (ix2 k j) := by
  obtain ⟨l, rfl⟩ : ∃ l : Fin 4096, j = ⟨3072 + l.val, by clear hj; omega⟩ := ⟨⟨j.val - 3072, by omega⟩, Fin.ext (by dsimp only; omega)⟩
  pointwise [val_main_v135, val_main_v134]
  rw [dif_neg (by omega), dif_neg (by omega), dif_neg (by omega)]
  congr 2; apply Fin.ext; dsimp only; omega
end

variable (m : (ℓ : Loc nD τ sig) → Buf (Elt Ideal) ℓ)

abbrev X4 (c : Dev nD) : FVec Ideal S128x8 .f32 := m ((c : Thread nD τ).loc main_arg4)
abbrev X6 (c : Dev nD) : FVec Ideal S8192x7168 .bf16 := m ((c : Thread nD τ).loc main_arg6)
/-- The rows' gradient, whole. -/
abbrev XP (c : Dev nD) : FVec Ideal S8192x7168 .bf16 := val_main_v135 (F := Ideal) (X0 m c) (X1 m c) (X2 m c) (X3 m c) (X4 m c) (X5 m c) (X6 m c)

theorem p_A (c : Dev nD) (t : Fin cfg0.N) (ht : t.val % 32 = 0) (r : Fin 256) (l : Fin 3072) (k : Fin 8192) (j : Fin 7168)
    (hk : k.val = 256 * t.val + r.val) (hj : j.val = l.val) :
    (outsAt0 m c t.val t.isLt).1 (ix2 r l) = XP m c (ix2 k j) := by
  rw [outsAt0_A m c t ht]
  frame_out
  canon_tiles x h
  case piece0 =>
    idx_vars x
    have h0' := h0; have h1' := h1
    have hk' : k = RR (CC t 1) x0 := Fin.ext (by simp only [RR, CC]; first | omega | (dsimp only [ix2] at h0'; omega))
    refine Eq.trans ?_ (ref_z _ _ _ _ _ _ _ k x1 j (by first | omega | (dsimp only [ix2] at h1'; omega))).symm
    rw [hk']
    exact (congrFun (sec_dz _ _ _ _ _ _ (wv (iblk m c 5 t)) (bcv (iblk m c 6 t))) _).trans ((at89 _ _ _).trans (dz_at (CC t 1) (hR _) (holds_bot m c t) x0 x1))
  case piece1 =>
    idx_vars x
    have h0' := h0; have h1' := h1
    have hk' : k = RR (CC t 1) x0 := Fin.ext (by simp only [RR, CC]; first | omega | (dsimp only [ix2] at h0'; omega))
    refine Eq.trans ?_ (ref_v _ _ _ _ _ _ _ k x1 j (by first | omega | (dsimp only [ix2] at h1'; omega))).symm
    rw [hk']
    exact (congrFun (sec_dv _ _ _ _ _ (wv (iblk m c 5 t))) _).trans (dv_at (CC t 1) (hR _) (holds_bot m c t) x0 x1)
  case piece2 =>
    idx_vars x
    have h0' := h0; have h1' := h1
    have hk' : k = RR (CC t 1) x0 := Fin.ext (by simp only [RR, CC]; first | omega | (dsimp only [ix2] at h0'; omega))
    refine Eq.trans ?_ (ref_u _ _ _ _ _ _ _ k x1 j (by first | omega | (dsimp only [ix2] at h1'; omega))).symm
    rw [hk']
    exact (congrFun (sec_du _ _ _ _ _ _ (wv (iblk m c 5 t)) (bcv (iblk m c 6 t))) _).trans ((at87 _ _ _).trans (du_at (CC t 1) (hR _) (holds_bot m c t) x0 x1))
  case piece3 =>
    idx_vars x
    have h0' := h0; have h1' := h1
    have hk' : k = RR (CC t 0) x0 := Fin.ext (by simp only [RR, CC]; first | omega | (dsimp only [ix2] at h0'; omega))
    refine Eq.trans ?_ (ref_z _ _ _ _ _ _ _ k x1 j (by first | omega | (dsimp only [ix2] at h1'; omega))).symm
    rw [hk']
    exact (at89 _ _ _).trans (dz_at (CC t 0) (hR _) (holds_top m c t) x0 x1)
  case piece4 =>
    idx_vars x
    have h0' := h0; have h1' := h1
    have hk' : k = RR (CC t 0) x0 := Fin.ext (by simp only [RR, CC]; first | omega | (dsimp only [ix2] at h0'; omega))
    refine Eq.trans ?_ (ref_v _ _ _ _ _ _ _ k x1 j (by first | omega | (dsimp only [ix2] at h1'; omega))).symm
    rw [hk']
    exact dv_at (CC t 0) (hR _) (holds_top m c t) x0 x1
  case piece5 =>
    idx_vars x
    have h0' := h0; have h1' := h1
    have hk' : k = RR (CC t 0) x0 := Fin.ext (by simp only [RR, CC]; first | omega | (dsimp only [ix2] at h0'; omega))
    refine Eq.trans ?_ (ref_u _ _ _ _ _ _ _ k x1 j (by first | omega | (dsimp only [ix2] at h1'; omega))).symm
    rw [hk']
    exact (at87 _ _ _).trans (du_at (CC t 0) (hR _) (holds_top m c t) x0 x1)

theorem p_B (c : Dev nD) (t : Fin cfg0.N) (ht : ¬ t.val % 32 = 0) (r : Fin 256) (l : Fin 3072) (k : Fin 8192) (j : Fin 7168)
    (hk : k.val = 256 * t.val + r.val) (hj : j.val = l.val) :
    (outsAt0 m c t.val t.isLt).1 (ix2 r l) = XP m c (ix2 k j) := by
  rw [outsAt0_B m c t ht]
  frame_out
  canon_tiles x h
  case piece0 =>
    idx_vars x
    have h0' := h0; have h1' := h1
    have hk' : k = RR (CC t 1) x0 := Fin.ext (by simp only [RR, CC]; first | omega | (dsimp only [ix2] at h0'; omega))
    refine Eq.trans ?_ (ref_z _ _ _ _ _ _ _ k x1 j (by first | omega | (dsimp only [ix2] at h1'; omega))).symm
    rw [hk']
    exact (congrFun (sec_dz _ _ _ _ _ _ (wv (iblk m c 5 t)) (bcv (iblk m c 6 t))) _).trans ((at89 _ _ _).trans (dz_at (CC t 1) (hR _) (holds_bot m c t) x0 x1))
  case piece1 =>
    idx_vars x
    have h0' := h0; have h1' := h1
    have hk' : k = RR (CC t 1) x0 := Fin.ext (by simp only [RR, CC]; first | omega | (dsimp only [ix2] at h0'; omega))
    refine Eq.trans ?_ (ref_v _ _ _ _ _ _ _ k x1 j (by first | omega | (dsimp only [ix2] at h1'; omega))).symm
    rw [hk']
    exact (congrFun (sec_dv _ _ _ _ _ (wv (iblk m c 5 t))) _).trans (dv_at (CC t 1) (hR _) (holds_bot m c t) x0 x1)
  case piece2 =>
    idx_vars x
    have h0' := h0; have h1' := h1
    have hk' : k = RR (CC t 1) x0 := Fin.ext (by simp only [RR, CC]; first | omega | (dsimp only [ix2] at h0'; omega))
    refine Eq.trans ?_ (ref_u _ _ _ _ _ _ _ k x1 j (by first | omega | (dsimp only [ix2] at h1'; omega))).symm
    rw [hk']
    exact (congrFun (sec_du _ _ _ _ _ _ (wv (iblk m c 5 t)) (bcv (iblk m c 6 t))) _).trans ((at87 _ _ _).trans (du_at (CC t 1) (hR _) (holds_bot m c t) x0 x1))
  case piece3 =>
    idx_vars x
    have h0' := h0; have h1' := h1
    have hk' : k = RR (CC t 0) x0 := Fin.ext (by simp only [RR, CC]; first | omega | (dsimp only [ix2] at h0'; omega))
    refine Eq.trans ?_ (ref_z _ _ _ _ _ _ _ k x1 j (by first | omega | (dsimp only [ix2] at h1'; omega))).symm
    rw [hk']
    exact (at89 _ _ _).trans (dz_at (CC t 0) (hR _) (holds_top m c t) x0 x1)
  case piece4 =>
    idx_vars x
    have h0' := h0; have h1' := h1
    have hk' : k = RR (CC t 0) x0 := Fin.ext (by simp only [RR, CC]; first | omega | (dsimp only [ix2] at h0'; omega))
    refine Eq.trans ?_ (ref_v _ _ _ _ _ _ _ k x1 j (by first | omega | (dsimp only [ix2] at h1'; omega))).symm
    rw [hk']
    exact dv_at (CC t 0) (hR _) (holds_top m c t) x0 x1
  case piece5 =>
    idx_vars x
    have h0' := h0; have h1' := h1
    have hk' : k = RR (CC t 0) x0 := Fin.ext (by simp only [RR, CC]; first | omega | (dsimp only [ix2] at h0'; omega))
    refine Eq.trans ?_ (ref_u _ _ _ _ _ _ _ k x1 j (by first | omega | (dsimp only [ix2] at h1'; omega))).symm
    rw [hk']
    exact (at87 _ _ _).trans (du_at (CC t 0) (hR _) (holds_top m c t) x0 x1)

theorem p_all (c : Dev nD) (t : Fin cfg0.N) (x : Shape.Idx S256x3072) (z : Shape.Idx S8192x7168)
    (hk : (z 0).val = 256 * t.val + (x 0).val) (hj : (z 1).val = (x 1).val) :
    (outsAt0 m c t.val t.isLt).1 x = XP m c z := by
  idx_vars x
  idx_vars z
  by_cases ht : t.val % 32 = 0
  · exact p_A m c t ht x0 x1 z0 z1 hk hj
  · exact p_B m c t ht x0 x1 z0 z1 hk hj

theorem V_out (c : Dev nD) : V m c main_v0_0 = X6 m c := by
  unfold V; after_results; try rfl

theorem final_8 (c : Dev nD) : (dats m 0 c).arrAt 8 (cfgs 0).N = XP m c := by
  have e : (dats m 0 c).arrAt 8 (cfgs 0).N = fun i => if (i 1 : ℕ) < 3072 then XP m c i else V m c main_v0_0 i := by
    refine (dats m 0 c).arrAt_eq_of_coversWhere 8 _ (fun β => β 1 = 0) (by decide +kernel) (fun t hf y => ?_)
      (fun j => by blk_simp [Pipeline.Window.cell_apply]; omega)
    blk_simp
    rw [after0_8]
    refine p_all m c t _ _ ?_ ?_
    · blk_simp [idx t]
      exact congrArg (· + (y 0).val) (Nat.mul_comm _ _)
    · blk_simp [idx t]
  rw [e, V_out]
  funext i
  idx_vars i
  by_cases hn : i1.val < 3072
  · exact if_pos hn
  · exact (if_neg hn).trans (ref_rest _ _ _ _ _ _ _ _ _ (by omega)).symm

theorem last_w (c : Dev nD) (t : Fin cfg0.N) (ht : t.val + 1 = cfg0.N) (i : Fin 8) (r s : Fin 128) :
    (outsAt0 m c t.val t.isLt).2.2.2.1 (ix3 i r s) = val_main_v86 (F := Ideal) (X0 m c) (X1 m c) (X2 m c) (X5 m c) (ix3 i r s) := by
  rw [Pipeline.eq_sum_fin_of_reset_step_apply_last (M := EReal) (fun n h (_ : Unit) => ((outsAt0 m c n h).2.2.2.1 (ix3 i r s) : EReal)) 32 (fun _ => 0)
    (fun p _ => tw m c i r s (CC p 0) + tw m c i r s (CC p 1)) (fun t h _ => w_A m c t h i r s) (fun t h _ => w_B m c t h i r s) (le_of_eq N_0) t ht (),
    zero_add, ref_w]
  exact sum_chunks (M := EReal) (tw m c i r s)

theorem last_t (c : Dev nD) (t : Fin cfg0.N) (ht : t.val + 1 = cfg0.N) (i : Fin 8) (r : Fin 128) :
    (outsAt0 m c t.val t.isLt).2.2.2.2 (ix2 r i) = val_main_v138 (F := Ideal) (X0 m c) (X5 m c) (ix2 r i) := by
  rw [Pipeline.eq_sum_fin_of_reset_step_apply_last (M := EReal) (fun n h (_ : Unit) => ((outsAt0 m c n h).2.2.2.2 (ix2 r i) : EReal)) 32 (fun _ => 0)
    (fun p _ => tt m c i r (CC p 0) + tt m c i r (CC p 1)) (fun t h _ => t_A m c t h i r) (fun t h _ => t_B m c t h i r) (le_of_eq N_0) t ht (),
    zero_add, ref_t]
  exact sum_chunks (M := EReal) (tt m c i r)

theorem whole_11 : ∀ t : Fin cfg0.N, t.val + 1 = cfg0.N → (cfg0.win 11).WholeAt t :=
  (by decide +kernel : ∀ t : Fin grid0.N, t.val + 1 = grid0.N → (cfg0.win 11).WholeAt t)

theorem whole_12 : ∀ t : Fin cfg0.N, t.val + 1 = cfg0.N → (cfg0.win 12).WholeAt t :=
  (by decide +kernel : ∀ t : Fin grid0.N, t.val + 1 = grid0.N → (cfg0.win 12).WholeAt t)

theorem final_11 (c : Dev nD) : (dats m 0 c).arrAt 11 (cfgs 0).N = val_main_v86 (F := Ideal) (X0 m c) (X1 m c) (X2 m c) (X5 m c) := by
  obtain ⟨t, ht⟩ := exists_last
  refine (dats m 0 c).arrAt_eq_of_after_last 11 t (whole_11 t ht) _ fun j => ?_
  blk_simp
  rw [after0_11]
  idx_vars j
  exact last_w m c t ht _ _ _

theorem final_12 (c : Dev nD) : (dats m 0 c).arrAt 12 (cfgs 0).N = val_main_v138 (F := Ideal) (X0 m c) (X5 m c) := by
  obtain ⟨t, ht⟩ := exists_last
  refine (dats m 0 c).arrAt_eq_of_after_last 12 t (whole_12 t ht) _ fun j => ?_
  blk_simp
  rw [after0_12]
  idx_vars j
  exact last_t m c t ht _ _

end Cert.KernelIdeal.Sgu
end
end
-- ==== Proof.SguClaims.lean ====
module

public import proofs.«01_k».proof.Defs
public import proofs.«01_k».proof.Proof.Finals
public import proofs.«01_k».proof.Proof.Gen.Kernel.Frame
public import proofs.«01_k».proof.Proof.Gen.ReferenceIdeal.Run

@[expose] public section

set_option maxRecDepth 16384

noncomputable section

/-! The claims about the gate's backward call. -/

namespace Cert.Proof.Sgu

open Idealize.ShloMosaic Idealize.SL.Sem
open Cert.KernelIdeal.Sgu

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)
theorem preserves : Cert.preserves_Kernel_KernelIdeal := trivial

/-- All five result arrays of the call are those of the gradient of the gate. -/
theorem algebraic : Cert.algebraic_KernelIdeal_ReferenceIdeal := by
  intro m ρ m' ρ' _ hagree
  refine ⟨fun c => XP m c, fun c => Cert.ReferenceIdeal.Read.val_main_v136 (F := Ideal) (X0 m c) (X3 m c) (X5 m c),
    fun c => Cert.ReferenceIdeal.Read.val_main_v137 (F := Ideal) (X0 m c) (X3 m c) (X5 m c),
    fun c => Cert.ReferenceIdeal.Read.val_main_v86 (F := Ideal) (X0 m c) (X1 m c) (X2 m c) (X5 m c),
    fun c => Cert.ReferenceIdeal.Read.val_main_v138 (F := Ideal) (X0 m c) (X5 m c), ?_, ?_⟩
  · refine (θ_run Cert.KernelIdeal.defs _ _).mono (fun _ h c => ?_) (Cert.KernelIdeal.Value.run_blocks (F := Ideal) m ρ)
    obtain ⟨h8, h9, h10, h11, h12, hrest⟩ := h c
    exact ⟨h8.trans (final_8 m c), h9.trans (final_9 m c), h10.trans (final_10 m c), h11.trans (final_11 m c), h12.trans (final_12 m c), hrest⟩
  · refine (θ_run Cert.ReferenceIdeal.defs _ _).mono (fun _ h c => ?_) (Cert.ReferenceIdeal.Value.run (F := Ideal) m' ρ')
    obtain ⟨a0, a1, a2, a3, a4, a5, a6⟩ := hagree c
    obtain ⟨h8, h9, h10, h11, h12, hrest⟩ := h c
    refine ⟨h8.trans ((Cert.ReferenceIdeal.Read.val_main_v135_eq _).trans ?_), h9.trans ((Cert.ReferenceIdeal.Read.val_main_v136_eq _).trans ?_),
      h10.trans ((Cert.ReferenceIdeal.Read.val_main_v137_eq _).trans ?_), h11.trans ((Cert.ReferenceIdeal.Read.val_main_v86_eq _).trans ?_),
      h12.trans ((Cert.ReferenceIdeal.Read.val_main_v138_eq _).trans ?_), hrest⟩
    · exact congr (congr (congr (congr (congr (congr (congrArg _ a0) a1) a2) a3) a4) a5) a6
    · exact congr (congr (congrArg _ a0) a3) a5
    · exact congr (congr (congrArg _ a0) a3) a5
    · exact congr (congr (congr (congrArg _ a0) a1) a2) a5
    · exact congr (congrArg _ a0) a5

end Cert.Proof.Sgu
end
-- ==== Proof.InDh.lean ====
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the input product by its rows. -/

namespace Cert.Kernel2Ideal.Prod

open Cert.Kernel2Ideal Cert.Kernel2Ideal.Gen Idealize.ShloMosaic Idealize.ShloMosaic.TcCoe Idealize.SL.Sem
open Cert.Reference2Ideal.Read

theorem idx : ∀ t : Fin cfg0.N, win0_0.index t 0 = win0_4.index t 0 ∧ win0_0.index t 1 = 0
    ∧ win0_1.index t 0 = 0 ∧ win0_1.index t 1 = win0_4.index t 1 ∧ win0_2.index t 0 = win0_4.index t 0 ∧ win0_2.index t 1 = 0
    ∧ win0_3.index t 0 = 0 ∧ win0_3.index t 1 = win0_4.index t 1 :=
  (by decide +kernel : ∀ t : Fin grid0.N, _)

variable (m : (ℓ : Loc nD τ sig) → Buf (Elt Ideal) ℓ)

/-- The gate's rows, filled to 128 with rows of zeros. -/
theorem V_rows (c : Dev nD) : V m c main_v1 = pad S128x2048 ![0, 0] ![96, 0] ![0, 0]
    (extractStridedSlice S32x2048 ![7168, 0] (m ((c : Thread nD τ).loc main_arg2)) slices_S7200x2048_S32x2048_7168_0)
    (sitofp (F := Ideal) .bf16 (constantI S_ 32 0#32)) pads_S32x2048_S128x2048_0960_000 h_S_ := by
  simp only [V, hostOps0, hostOps0_1, List.flatten_cons, List.flatten_nil, List.append_nil, List.cons_append, List.nil_append]
  after_results
  try rfl

theorem row_in (c : Dev nD) (r : Fin 128) (k : Fin 2048) (h : r.val < 32) :
    V m c main_v1 (ix2 r k) = m ((c : Thread nD τ).loc main_arg2) (ix2 ⟨7168 + r.val, by omega⟩ k) := by
  rw [V_rows]
  pointwise
  rw [dif_pos h]
theorem row_out (c : Dev nD) (r : Fin 128) (k : Fin 2048) (h : ¬ r.val < 32) :
    V m c main_v1 (ix2 r k) = (0 : EReal) := by
  rw [V_rows]
  pointwise
  rw [dif_neg h]
  show (((0#32 : BitVec 32).toInt : ℝ) : EReal) = 0
  simp

/-- A point's columns of the weights, no block of the grid being cut. -/
theorem cols_at (c : Dev nD) (t : Fin cfg0.N) (k : Fin 7168) (s : Fin 512) (h : win0_1.index t 1 * 512 + s.val < 2048) :
    X0_1 m c t (ix2 k s) = m ((c : Thread nD τ).loc main_arg2) (ix2 ⟨k.val, by omega⟩ ⟨win0_1.index t 1 * 512 + s.val, h⟩) := by
  unfold X0_1 Pipeline.Window.fill
  rw [dif_pos (moved0_1 t _)]
  blk_ext [iblk, V_main_arg2, idx t]

theorem ref_main (A0 : FVec Ideal S8192x7168 .bf16) (A1 : FVec Ideal S8192x128 .bf16) (z : Fin 8192) (k : Fin 7168) :
    val_main_v2 (F := Ideal) A0 A1 (ix2 z ⟨k.val, by omega⟩) = A0 (ix2 z k) := by
  pointwise [val_main_v2, val_main_v1]

theorem ref_gate (A0 : FVec Ideal S8192x7168 .bf16) (A1 : FVec Ideal S8192x128 .bf16) (z : Fin 8192) (k : Fin 32) :
    val_main_v2 (F := Ideal) A0 A1 (ix2 z ⟨7168 + k.val, by omega⟩) = A1 (ix2 z ⟨k.val, by omega⟩) := by
  pointwise [val_main_v2, val_main_v1, val_main_v0]

/-- A sum over 7200 as one over the first 7168 and one over the rest, filled to 128 with zeros. -/
theorem sum_split (f : Fin 7200 → EReal) (g : Fin 7168 → EReal) (e : Fin 128 → EReal) (hg : ∀ k : Fin 7168, g k = f ⟨k.val, by omega⟩)
    (he : ∀ k : Fin 32, e ⟨k.val, by omega⟩ = f ⟨7168 + k.val, by omega⟩) (hz : ∀ k : Fin 128, ¬ k.val < 32 → e k = 0) :
    ∑ k, g k + ∑ k, e k = ∑ k, f k := by
  have h1 : ∑ k, f k = ∑ k : Fin 7168, f ⟨k.val, by omega⟩ + ∑ k : Fin 32, f ⟨7168 + k.val, by omega⟩ :=
    Fin.sum_univ_add (M := EReal) (a := 7168) (b := 32) f
  have h2 : ∑ k, e k = ∑ k : Fin 32, e ⟨k.val, by omega⟩ + ∑ k : Fin 96, e ⟨32 + k.val, by omega⟩ :=
    Fin.sum_univ_add (M := EReal) (a := 32) (b := 96) e
  rw [h1, h2, Finset.sum_congr rfl fun k _ => hg k, Finset.sum_congr rfl fun k _ => he k,
    Finset.sum_eq_zero (M := EReal) fun (k : Fin 96) _ => hz ⟨32 + k.val, by omega⟩ (by dsimp only; omega), add_zero]

/-- The tile of a point is the tile of the whole result at its place. -/
theorem tile_at (c : Dev nD) (t : Fin cfg0.N) (y : S512x512.Idx) (z : S8192x2048.Idx)
    (h0 : (z 0).val = win0_4.index t 0 * 512 + (y 0).val) (h1 : (z 1).val = win0_4.index t 1 * 512 + (y 1).val) :
    outsAt0 m c t y
      = val_main_v7 (F := Ideal) (m ((c : Thread nD τ).loc main_arg0)) (m ((c : Thread nD τ).loc main_arg1)) (m ((c : Thread nD τ).loc main_arg2)) z := by
  unfold outsAt0
  frame_out
  skip
  focus
    idx_vars y
    idx_vars z
    pointwise [k0_pay1, val_main_v7, val_main_v4]
    refine sum_split _ _ _ (fun k => ?_) (fun k => ?_) (fun k hk => ?_)
    · rw [cols_at m c t k y1 (by have := idx t; have : z1.val < 2048 := z1.isLt; omega), ref_main]
      congr 1
      · blk_ext [iblk, V_main_arg0, idx t]
      · blk_ext [idx t]
    · rw [ref_gate]
      congr 1
      · blk_ext [iblk, V_main_arg1, idx t]
      · refine Eq.trans ?_ ((row_in m c ⟨k.val, by omega⟩ z1 k.isLt).trans ?_)
        · blk_ext [iblk, idx t]
        · blk_ext [idx t]
    · have e : iblk m c 3 t (ix2 k y1) = (0 : EReal) := by
        refine Eq.trans ?_ (row_out m c k z1 hk)
        blk_ext [iblk, idx t]
      rw [e]
      exact mul_zero _

theorem final (c : Dev nD) : (dats m 0 c).arrAt 4 (cfgs 0).N
    = val_main_v7 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp [after0_4]
  exact tile_at m c t y _ (by blk_simp) (by blk_simp)

end Cert.Kernel2Ideal.Prod
end
-- ==== Proof.InDw.lean ====
module

public import proofs.«01_k».proof.Proof.Gen.Kernel3Ideal.Frame
public import proofs.«01_k».proof.Proof.Gen.Reference3Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the input product by its weights. -/

namespace Cert.Kernel3Ideal.Prod

open Cert.Kernel3Ideal Cert.Kernel3Ideal.Gen Idealize.ShloMosaic Idealize.ShloMosaic.TcCoe Idealize.SL.Sem
open Cert.Reference3Ideal.Read

theorem idx : ∀ t : Fin cfg0.N, win0_0.index t 0 = win0_2.index t 1 ∧ win0_0.index t 1 = 0
    ∧ win0_1.index t 0 = 0 ∧ win0_1.index t 1 = win0_2.index t 0 :=
  (by decide +kernel : ∀ t : Fin grid0.N, _)

variable (m : (ℓ : Loc nD τ sig) → Buf (Elt Ideal) ℓ)

/-- The tile of a point is the tile of the whole result at its place. -/
theorem tile_at (c : Dev nD) (t : Fin cfg0.N) (y : S512x512.Idx) (z : S7168x2048.Idx)
    (h0 : (z 0).val = win0_2.index t 0 * 512 + (y 0).val) (h1 : (z 1).val = win0_2.index t 1 * 512 + (y 1).val) :
    out0_2 (iblk m c 0 t) (iblk m c 1 t) y
      = val_main_v8 (F := Ideal) (m ((c : Thread nD τ).loc main_arg0)) (m ((c : Thread nD τ).loc main_arg1)) z := by
  unfold out0_2
  canon_tiles y h
  case piece0 =>
    idx_vars y
    idx_vars z
    pointwise [k0_pay1, val_main_v8, val_main_v7, val_main_v6, val_main_v5, val_main_v1]
    refine Finset.sum_congr rfl fun k _ => ?_
    refine (mul_comm (_ : EReal) _).trans ?_
    congr 1 <;> blk_ext [iblk, V, idx t]

/-- The rows the call writes, of the result it allocates. -/
theorem written (c : Dev nD) (i : S7296x2048.Idx) (h : (i 0).val < 7168) : (dats m 0 c).arrAt 2 (cfgs 0).N i
    = val_main_v8 (F := Ideal) (m ((c : Thread nD τ).loc main_arg0)) (m ((c : Thread nD τ).loc main_arg1)) (ix2 ⟨(i 0).val, h⟩ ⟨(i 1).val, (i 1).isLt⟩) := by
  refine (dats m 0 c).arrAt_forall_of_coversWhere 2
    (fun (i : S7296x2048.Idx) (v : EReal) => ∀ h : (i 0).val < 7168, v = val_main_v8 (F := Ideal) (m ((c : Thread nD τ).loc main_arg0)) (m ((c : Thread nD τ).loc main_arg1)) (ix2 ⟨(i 0).val, h⟩ ⟨(i 1).val, (i 1).isLt⟩))
    (fun β => β (0 : Fin 2) < 14) (by decide +kernel) (fun t hf y h => ?_) (fun j hj h => ?_) i (Memref.isWhole_whole _) h
  · blk_simp [after0_2]
    exact tile_at m c t ((cfg0.win 2).xinj (cfg0.grid.coords t) y) _ (by blk_simp) (by blk_simp)
  · exfalso
    blk_simp [Pipeline.Window.cell_apply] at hj h
    omega

theorem final (c : Dev nD) : Pipeline.afterTail₀ cfgs (dats m) 0 (V0 m) [hostOps1] c main_v1
    = val_main_v8 (F := Ideal) (m ((c : Thread nD τ).loc main_arg0)) (m ((c : Thread nD τ).loc main_arg1)) := by
  unfold Pipeline.afterTail₀
  simp only [hostOps1, List.flatten_cons, List.flatten_nil, List.append_nil]
  after_results
  rw [Pipeline.withArrays_arr (cfgs 0).spec launch0.win.arr_inj c _ _ 2]
  funext i
  idx_vars i
  pointwise
  exact written m c _ _

end Cert.Kernel3Ideal.Prod
end
-- ==== Proof.OutDy.lean ====
module

public import proofs.«01_k».proof.Proof.Gen.Kernel4Ideal.Value
public import proofs.«01_k».proof.Proof.Gen.Reference4Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the output product by its rows. -/

namespace Cert.Kernel4Ideal.Prod

open Cert.Kernel4Ideal Cert.Kernel4Ideal.Gen Idealize.ShloMosaic Idealize.ShloMosaic.TcCoe Idealize.SL.Sem
open Cert.Reference4Ideal.Read

theorem idx : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, _)

variable (m : (ℓ : Loc nD τ sig) → Buf (Elt Ideal) ℓ)

/-- The tile of a point is the tile of the whole result at its place. -/
theorem tile_at (c : Dev nD) (t : Fin cfg0.N) (y : S1024x1024.Idx) (z : S8192x2048.Idx)
    (h0 : (z 0).val = win0_2.index t 0 * 1024 + (y 0).val) (h1 : (z 1).val = win0_2.index t 1 * 1024 + (y 1).val) :
    out0_2 (iblk m c 0 t) (iblk m c 1 t) y
      = val_main_v4 (F := Ideal) (m ((c : Thread nD τ).loc main_arg0)) (m ((c : Thread nD τ).loc main_arg1)) z := by
  unfold out0_2
  canon_tiles y h
  case piece0 =>
    idx_vars y
    idx_vars z
    pointwise [k0_pay1, val_main_v4]
    refine Finset.sum_congr rfl fun k _ => ?_
    congr 1 <;> blk_ext [iblk, V, idx t]

theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp [after0_2]
  exact tile_at m c t y _ (by blk_simp) (by blk_simp)

end Cert.Kernel4Ideal.Prod
end
-- ==== Proof.OutDw.lean ====
module

public import proofs.«01_k».proof.Proof.Gen.Kernel5Ideal.Value
public import proofs.«01_k».proof.Proof.Gen.Reference5Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the output product by its weights. -/

namespace Cert.Kernel5Ideal.Prod

open Cert.Kernel5Ideal Cert.Kernel5Ideal.Gen Idealize.ShloMosaic Idealize.ShloMosaic.TcCoe Idealize.SL.Sem
open Cert.Reference5Ideal.Read

theorem idx : ∀ t : Fin cfg0.N, win0_0.index t 0 = win0_2.index t 0 ∧ win0_0.index t 1 = 0
    ∧ win0_1.index t 0 = 0 ∧ win0_1.index t 1 = win0_2.index t 1 :=
  (by decide +kernel : ∀ t : Fin grid0.N, _)

variable (m : (ℓ : Loc nD τ sig) → Buf (Elt Ideal) ℓ)

/-- The tile of a point is the tile of the whole result at its place. -/
theorem tile_at (c : Dev nD) (t : Fin cfg0.N) (y : S512x512.Idx) (z : S2048x2048.Idx)
    (h0 : (z 0).val = win0_2.index t 0 * 512 + (y 0).val) (h1 : (z 1).val = win0_2.index t 1 * 512 + (y 1).val) :
    out0_2 (iblk m c 0 t) (iblk m c 1 t) y
      = val_main_v7 (F := Ideal) (m ((c : Thread nD τ).loc main_arg0)) (m ((c : Thread nD τ).loc main_arg1)) z := by
  unfold out0_2
  canon_tiles y h
  case piece0 =>
    idx_vars y
    idx_vars z
    pointwise [k0_pay1, val_main_v7, val_main_v6, val_main_v5, val_main_v1]
    refine Finset.sum_congr rfl fun k _ => ?_
    refine (mul_comm (_ : EReal) _).trans ?_
    congr 1 <;> blk_ext [iblk, V, idx t]

theorem final (c : Dev nD) : (dats m 0 c).arrAt 2 (cfgs 0).N
    = val_main_v7 (F := Ideal) (m ((c : Thread nD τ).loc main_arg0)) (m ((c : Thread nD τ).loc main_arg1)) := by
  refine (dats m 0 c).arrAt_eq_of_covers 2 _ (by decide +kernel) fun t hf y => ?_
  blk_simp [after0_2]
  exact tile_at m c t y _ (by blk_simp) (by blk_simp)

end Cert.Kernel5Ideal.Prod
end
-- ==== Proof.InFwd.lean ====
module

public import proofs.«01_k».proof.Proof.Gen.Kernel6Ideal.Value
public import proofs.«01_k».proof.Proof.Gen.Reference6Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The input product. -/

namespace Cert.Kernel6Ideal.Prod

open Cert.Kernel6Ideal Cert.Kernel6Ideal.Gen Idealize.ShloMosaic Idealize.ShloMosaic.TcCoe Idealize.SL.Sem
open Cert.Reference6Ideal.Read

theorem idx : ∀ t : Fin cfg0.N, win0_0.index t 0 = win0_2.index t 0 ∧ win0_0.index t 1 = 0
    ∧ win0_1.index t 0 = win0_2.index t 1 ∧ win0_1.index t 1 = 0 :=
  (by decide +kernel : ∀ t : Fin grid0.N, _)

variable (m : (ℓ : Loc nD τ sig) → Buf (Elt Ideal) ℓ)

/-- A point's rows of the weights, no block of the grid being cut. -/
theorem rows_at (c : Dev nD) (t : Fin cfg0.N) (r : Fin 1024) (k : Fin 2048) (h : win0_1.index t 0 * 1024 + r.val < 7200) :
    X0_1 m c t (ix2 r k) = m ((c : Thread nD τ).loc main_arg1) (ix2 ⟨win0_1.index t 0 * 1024 + r.val, h⟩ k) := by
  unfold X0_1 Pipeline.Window.fill
  rw [dif_pos (moved0_1 t _)]
  blk_ext [iblk, V, idx t]

/-- The tile of a point is the tile of the whole result at its place. -/
theorem tile_at (c : Dev nD) (t : Fin cfg0.N) (y : S1024x1024.Idx) (z : S8192x7168.Idx)
    (h0 : (z 0).val = win0_2.index t 0 * 1024 + (y 0).val) (h1 : (z 1).val = win0_2.index t 1 * 1024 + (y 1).val) :
    outsAt0 m c t y
      = val_main_v4 (F := Ideal) (m ((c : Thread nD τ).loc main_arg0)) (m ((c : Thread nD τ).loc main_arg1)) z := by
  unfold outsAt0
  frame_out
  skip
  focus
    idx_vars y
    idx_vars z
    pointwise [k0_pay1, val_main_v4, val_main_v3, val_main_v2, val_main_v1]
    refine Finset.sum_congr rfl fun k _ => ?_
    congr 1
    · blk_ext [iblk, V, idx t]
    · rw [rows_at m c t y1 k (by have := idx t; have := z1.isLt; omega)]; blk_ext [iblk, V, idx t]

theorem final (c : Dev nD) : (dats m 0 c).arrAt 2 (cfgs 0).N
    = val_main_v4 (F := Ideal) (m ((c : Thread nD τ).loc main_arg0)) (m ((c : Thread nD τ).loc main_arg1)) := by
  refine (dats m 0 c).arrAt_eq_of_covers 2 _ (by decide +kernel) fun t hf y => ?_
  blk_simp [after0_2]
  exact tile_at m c t y _ (by blk_simp) (by blk_simp)

end Cert.Kernel6Ideal.Prod
end
-- ==== Proof.InGate.lean ====
module

public import proofs.«01_k».proof.Proof.Gen.Kernel7Ideal.Value
public import proofs.«01_k».proof.Proof.Gen.Reference7Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The input product of the gate columns. -/

namespace Cert.Kernel7Ideal.Prod

open Cert.Kernel7Ideal Cert.Kernel7Ideal.Gen Idealize.ShloMosaic Idealize.ShloMosaic.TcCoe Idealize.SL.Sem
open Cert.Reference7Ideal.Read

theorem idx : ∀ t : Fin cfg0.N, win0_0.index t 0 = win0_2.index t 0 ∧ win0_0.index t 1 = 0
    ∧ win0_1.index t 0 = 0 ∧ win0_1.index t 1 = 0 ∧ win0_2.index t 1 = 0 :=
  (by decide +kernel : ∀ t : Fin grid0.N, _)

variable (m : (ℓ : Loc nD τ sig) → Buf (Elt Ideal) ℓ)

/-- The gate's rows, filled to 128 with rows of zeros. -/
theorem V_rows (c : Dev nD) : V m c main_v1 = pad S128x2048 ![0, 0] ![96, 0] ![0, 0]
    (extractStridedSlice S32x2048 ![7168, 0] (m ((c : Thread nD τ).loc main_arg1)) slices_S7200x2048_S32x2048_7168_0)
    (sitofp (F := Ideal) .bf16 (constantI S_ 32 0#32)) pads_S32x2048_S128x2048_0960_000 h_S_ := by
  simp only [V, hostOps0, hostOps0_1, List.flatten_cons, List.flatten_nil, List.append_nil, List.cons_append, List.nil_append]
  after_results
  try rfl

theorem row_in (c : Dev nD) (r : Fin 128) (k : Fin 2048) (h : r.val < 32) :
    V m c main_v1 (ix2 r k) = m ((c : Thread nD τ).loc main_arg1) (ix2 ⟨7168 + r.val, by omega⟩ k) := by
  rw [V_rows]
  pointwise
  rw [dif_pos h]
theorem row_out (c : Dev nD) (r : Fin 128) (k : Fin 2048) (h : ¬ r.val < 32) :
    V m c main_v1 (ix2 r k) = (0 : EReal) := by
  rw [V_rows]
  pointwise
  rw [dif_neg h]
  show (((0#32 : BitVec 32).toInt : ℝ) : EReal) = 0
  simp

/-- The tile of a point is the tile of the whole result at its place. -/
theorem tile_at (c : Dev nD) (t : Fin cfg0.N) (y : S512x128.Idx) (z : S8192x128.Idx)
    (h0 : (z 0).val = win0_2.index t 0 * 512 + (y 0).val) (h1 : (z 1).val = win0_2.index t 1 * 128 + (y 1).val) :
    out0_2 (iblk m c 0 t) (iblk m c 1 t) y
      = val_main_v5 (F := Ideal) (m ((c : Thread nD τ).loc main_arg0)) (m ((c : Thread nD τ).loc main_arg1)) z := by
  unfold out0_2
  canon_tiles y h
  case piece0 =>
    idx_vars y
    idx_vars z
    pointwise [k0_pay1, val_main_v5, val_main_v4, val_main_v3, val_main_v2, val_main_v1]
    have hz1 : z1.val = y1.val := by have := idx t; omega
    by_cases hz : z1.val < 32
    · rw [dif_pos hz]
      refine Finset.sum_congr rfl fun k _ => ?_
      congr 1
      · blk_ext [iblk, V, idx t]
      · refine Eq.trans ?_ ((row_in m c y1 k (by omega)).trans ?_)
        · blk_ext [iblk, idx t]
        · congr 2; apply Fin.ext; dsimp only; omega
    · rw [dif_neg hz]
      refine (Finset.sum_eq_zero (M := EReal) fun k _ => ?_).trans ?_
      · have e : iblk m c 1 t (ix2 y1 k) = (0 : EReal) := by
          refine Eq.trans ?_ (row_out m c y1 k (by omega))
          blk_ext [iblk, idx t]
        rw [e]
        exact mul_zero _
      · pointwise [val_main_call0_v0, val_main_c]
        show (0 : EReal) = (((0#32 : BitVec 32).toInt : ℝ) : EReal)
        simp

theorem final (c : Dev nD) : (dats m 0 c).arrAt 2 (cfgs 0).N
    = val_main_v5 (F := Ideal) (m ((c : Thread nD τ).loc main_arg0)) (m ((c : Thread nD τ).loc main_arg1)) := by
  refine (dats m 0 c).arrAt_eq_of_covers 2 _ (by decide +kernel) fun t hf y => ?_
  blk_simp [after0_2]
  exact tile_at m c t y _ (by blk_simp) (by blk_simp)

end Cert.Kernel7Ideal.Prod
end
-- ==== Proof.OutFwd.lean ====
module

public import proofs.«01_k».proof.Proof.Gen.Kernel8Ideal.Value
public import proofs.«01_k».proof.Proof.Gen.Reference8Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The output product and the rows it is added to. -/

namespace Cert.Kernel8Ideal.Prod

open Cert.Kernel8Ideal Cert.Kernel8Ideal.Gen Idealize.ShloMosaic Idealize.ShloMosaic.TcCoe Idealize.SL.Sem
open Cert.Reference8Ideal.Read

theorem idx : ∀ t : Fin cfg0.N, win0_0.index t 0 = win0_3.index t 0 ∧ win0_0.index t 1 = 0
    ∧ win0_1.index t 0 = 0 ∧ win0_1.index t 1 = win0_3.index t 1 ∧ win0_2.index t 0 = win0_3.index t 0 ∧ win0_2.index t 1 = win0_3.index t 1 :=
  (by decide +kernel : ∀ t : Fin grid0.N, _)

variable (m : (ℓ : Loc nD τ sig) → Buf (Elt Ideal) ℓ)

/-- The tile of a point is the tile of the whole result at its place. -/
theorem tile_at (c : Dev nD) (t : Fin cfg0.N) (y : S1024x1024.Idx) (z : S8192x2048.Idx)
    (h0 : (z 0).val = win0_3.index t 0 * 1024 + (y 0).val) (h1 : (z 1).val = win0_3.index t 1 * 1024 + (y 1).val) :
    out0_3 (iblk m c 0 t) (iblk m c 1 t) (iblk m c 2 t) y
      = val_main_v3 (F := Ideal) (m ((c : Thread nD τ).loc main_arg0)) (m ((c : Thread nD τ).loc main_arg1)) (m ((c : Thread nD τ).loc main_arg2)) z := by
  unfold out0_3
  canon_tiles y h
  case piece0 =>
    idx_vars y
    idx_vars z
    pointwise [k0_pay1, val_main_v3, val_main_v2]
    rw [add_comm]
    congr 1
    · blk_ext [iblk, V, idx t]
    · refine Finset.sum_congr rfl fun k _ => ?_
      congr 1 <;> blk_ext [iblk, V, idx t]

theorem final (c : Dev nD) : (dats m 0 c).arrAt 3 (cfgs 0).N
    = val_main_v3 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp [after0_3]
  exact tile_at m c t y _ (by blk_simp) (by blk_simp)

end Cert.Kernel8Ideal.Prod
end
-- ==== Proof.InDwGate.lean ====
module

public import proofs.«01_k».proof.Proof.Gen.Kernel9Ideal.Value
public import proofs.«01_k».proof.Proof.Gen.Reference9Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the input product by the weights of its gate columns. -/

namespace Cert.Kernel9Ideal.Prod

open Cert.Kernel9Ideal Cert.Kernel9Ideal.Gen Idealize.ShloMosaic Idealize.ShloMosaic.TcCoe Idealize.SL.Sem
open Cert.Reference9Ideal.Read

theorem idx : ∀ t : Fin cfg0.N, win0_0.index t 0 = win0_2.index t 1 ∧ win0_0.index t 1 = 0
    ∧ win0_1.index t 0 = 0 ∧ win0_1.index t 1 = 0 ∧ win0_2.index t 0 = 56 :=
  (by decide +kernel : ∀ t : Fin grid0.N, _)

variable (m : (ℓ : Loc nD τ sig) → Buf (Elt Ideal) ℓ)

/-- The result's array starts as the weights' gradient it is handed. -/
theorem V_start (c : Dev nD) : V m c main_v0 = m ((c : Thread nD τ).loc main_arg2) := by
  simp only [V, hostOps0]
  after_results
  try rfl

/-- The rows the gradient keeps. -/
theorem kept (c : Dev nD) (z : S7296x2048.Idx) (h : (z 0).val < 7168) : m ((c : Thread nD τ).loc main_arg2) z
    = val_main_v10 (F := Ideal) (m ((c : Thread nD τ).loc main_arg0)) (m ((c : Thread nD τ).loc main_arg1)) (m ((c : Thread nD τ).loc main_arg2)) z := by
  idx_vars z
  pointwise [val_main_v10, val_main_v7]
  rw [dif_pos h]
  blk_ext

/-- The tile of a point is the tile of the whole result at its place. -/
theorem tile_at (c : Dev nD) (t : Fin cfg0.N) (y : S128x512.Idx) (z : S7296x2048.Idx)
    (h0 : (z 0).val = win0_2.index t 0 * 128 + (y 0).val) (h1 : (z 1).val = win0_2.index t 1 * 512 + (y 1).val) :
    outsAt0 m c t y
      = val_main_v10 (F := Ideal) (m ((c : Thread nD τ).loc main_arg0)) (m ((c : Thread nD τ).loc main_arg1)) (m ((c : Thread nD τ).loc main_arg2)) z := by
  unfold outsAt0
  frame_out
  skip
  focus
    idx_vars y
    idx_vars z
    pointwise [k0_pay1, val_main_v10, val_main_v9, val_main_v8, val_main_v6, val_main_v5, val_main_v4, val_main_v1, val_main_v0]
    have hz : ¬ z0.val < 7168 := by have := idx t; omega
    rw [dif_neg hz]
    refine Finset.sum_congr rfl fun k _ => ?_
    refine Eq.trans ?_ (mul_comm (_ : EReal) _)
    congr 1 <;> blk_ext [iblk, V_main_arg0, V_main_arg1, idx t]

theorem final (c : Dev nD) : (dats m 0 c).arrAt 2 (cfgs 0).N
    = val_main_v10 (F := Ideal) (m ((c : Thread nD τ).loc main_arg0)) (m ((c : Thread nD τ).loc main_arg1)) (m ((c : Thread nD τ).loc main_arg2)) := by
  refine (dats m 0 c).arrAt_eq_of_coversWhere_of_agree 2 _ (fun β => 56 ≤ β (0 : Fin 2)) (by decide +kernel) (fun t hf y => ?_) (fun j hj => ?_)
  · blk_simp [after0_2]
    exact tile_at m c t y _ (by blk_simp) (by blk_simp)
  · have hj' : (j 0).val < 7168 := by
      blk_simp [Pipeline.Window.cell_apply] at hj
      omega
    exact (congrFun (A_eq m c 2) _).trans ((congrFun (V_start m c) _).trans (kept m c _ hj'))

end Cert.Kernel9Ideal.Prod
end
-- ==== Proof.ProdClaims.lean ====
/- The claims about the products: each call runs and keeps its arguments, and over the extended reals it computes the
   product, or the product's gradient, of its reference. -/
module

public import proofs.«01_k».proof.Defs
public import proofs.«01_k».proof.Proof.InDh
public import proofs.«01_k».proof.Proof.Gen.Kernel2.Frame
public import proofs.«01_k».proof.Proof.Gen.Reference2Ideal.Run
public import proofs.«01_k».proof.Proof.InDw
public import proofs.«01_k».proof.Proof.Gen.Kernel3.Frame
public import proofs.«01_k».proof.Proof.Gen.Reference3Ideal.Run
public import proofs.«01_k».proof.Proof.OutDy
public import proofs.«01_k».proof.Proof.Gen.Kernel4.Frame
public import proofs.«01_k».proof.Proof.Gen.Reference4Ideal.Run
public import proofs.«01_k».proof.Proof.OutDw
public import proofs.«01_k».proof.Proof.Gen.Kernel5.Frame
public import proofs.«01_k».proof.Proof.Gen.Reference5Ideal.Run
public import proofs.«01_k».proof.Proof.InFwd
public import proofs.«01_k».proof.Proof.Gen.Kernel6.Frame
public import proofs.«01_k».proof.Proof.Gen.Reference6Ideal.Run
public import proofs.«01_k».proof.Proof.InGate
public import proofs.«01_k».proof.Proof.Gen.Kernel7.Frame
public import proofs.«01_k».proof.Proof.Gen.Reference7Ideal.Run
public import proofs.«01_k».proof.Proof.OutFwd
public import proofs.«01_k».proof.Proof.Gen.Kernel8.Frame
public import proofs.«01_k».proof.Proof.Gen.Reference8Ideal.Run
public import proofs.«01_k».proof.Proof.InDwGate
public import proofs.«01_k».proof.Proof.Gen.Kernel9.Frame
public import proofs.«01_k».proof.Proof.Gen.Reference9Ideal.Run

@[expose] public section

noncomputable section

open Idealize.ShloMosaic Idealize.SL.Sem

/-! ## The gradient of the input product by the activations -/

namespace Cert.Proof.InDh

theorem frame_p : Cert.quiescent_Kernel2 := fun m ρ _ => Cert.Kernel2.Gen.frame m ρ

theorem frame_pi : Cert.quiescent_Kernel2Ideal := fun m ρ _ => Cert.Kernel2Ideal.Gen.frame m ρ

theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem preserves : Cert.preserves_Kernel2_Kernel2Ideal := trivial

/-- Kernel and reference both end with the gradient of the input product by the activations. -/
theorem algebraic : Cert.algebraic_Kernel2Ideal_Reference2Ideal := by
  intro m ρ m' ρ' _ hagree
  refine ⟨fun c => Cert.Reference2Ideal.Read.val_main_v7 (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)), ?_, ?_⟩
  · refine (θ_run Cert.Kernel2Ideal.defs _ _).mono (fun _ h c => ?_) (Cert.Kernel2Ideal.Value.run_blocks (F := Ideal) m ρ)
    exact ⟨(h c).1.trans (Cert.Kernel2Ideal.Prod.final m c), (h c).2⟩
  · refine (θ_run Cert.Reference2Ideal.defs _ _).mono (fun _ h c => ?_) (Cert.Reference2Ideal.Value.run (F := Ideal) m' ρ')
    obtain ⟨a0, a1, a2⟩ := hagree c
    refine ⟨(h c).1.trans ((Cert.Reference2Ideal.Read.val_main_v7_eq _ _ _).trans ?_), (h c).2⟩
    exact congr (congr (congrArg _ a0) a1) a2

end Cert.Proof.InDh

/-! ## The gradient of the input product by its weights -/

namespace Cert.Proof.InDw

theorem frame_p : Cert.quiescent_Kernel3 := fun m ρ _ => Cert.Kernel3.Gen.frame m ρ

theorem frame_pi : Cert.quiescent_Kernel3Ideal := fun m ρ _ => Cert.Kernel3Ideal.Gen.frame m ρ

theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem preserves : Cert.preserves_Kernel3_Kernel3Ideal := trivial

/-- Kernel and reference both end with the gradient of the input product by its weights. -/
theorem algebraic : Cert.algebraic_Kernel3Ideal_Reference3Ideal := by
  intro m ρ m' ρ' _ hagree
  refine ⟨fun c => Cert.Reference3Ideal.Read.val_main_v8 (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)), ?_, ?_⟩
  · refine (θ_run Cert.Kernel3Ideal.defs _ _).mono (fun _ h c => ⟨?_, h.1 c⟩)
      (θ_run_and (Cert.Kernel3Ideal.Gen.unchanged (F := Ideal) m ρ) (Cert.Kernel3Ideal.Gen.run_main (F := Ideal) m ρ))
    exact ((h.2 c).2 Cert.Kernel3Ideal.main_v1 (Pipeline.mem_restRefs_of Cert.Kernel3Ideal.main_v1 (by decide) (by decide))).trans
      (Cert.Kernel3Ideal.Prod.final m c)
  · refine (θ_run Cert.Reference3Ideal.defs _ _).mono (fun _ h c => ?_) (Cert.Reference3Ideal.Value.run (F := Ideal) m' ρ')
    obtain ⟨a0, a1⟩ := hagree c
    refine ⟨(h c).1.trans ((Cert.Reference3Ideal.Read.val_main_v8_eq _ _).trans ?_), (h c).2⟩
    exact congr (congrArg _ a0) a1

end Cert.Proof.InDw

/-! ## The gradient of the output product by the branch outputs -/

namespace Cert.Proof.OutDy

theorem frame_p : Cert.quiescent_Kernel4 := fun m ρ _ => Cert.Kernel4.Gen.frame m ρ

theorem frame_pi : Cert.quiescent_Kernel4Ideal := fun m ρ _ => Cert.Kernel4Ideal.Gen.frame m ρ

theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem preserves : Cert.preserves_Kernel4_Kernel4Ideal := trivial

/-- Kernel and reference both end with the gradient of the output product by the branch outputs. -/
theorem algebraic : Cert.algebraic_Kernel4Ideal_Reference4Ideal := by
  intro m ρ m' ρ' _ hagree
  refine ⟨fun c => Cert.Reference4Ideal.Read.val_main_v4 (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)), ?_, ?_⟩
  · refine (θ_run Cert.Kernel4Ideal.defs _ _).mono (fun _ h c => ?_) (Cert.Kernel4Ideal.Value.run_blocks (F := Ideal) m ρ)
    exact ⟨(h c).1.trans (Cert.Kernel4Ideal.Prod.final m c), (h c).2⟩
  · refine (θ_run Cert.Reference4Ideal.defs _ _).mono (fun _ h c => ?_) (Cert.Reference4Ideal.Value.run (F := Ideal) m' ρ')
    obtain ⟨a0, a1⟩ := hagree c
    refine ⟨(h c).1.trans ((Cert.Reference4Ideal.Read.val_main_v4_eq _ _).trans ?_), (h c).2⟩
    exact congr (congrArg _ a0) a1

end Cert.Proof.OutDy

/-! ## The gradient of the output product by its weights -/

namespace Cert.Proof.OutDw

theorem frame_p : Cert.quiescent_Kernel5 := fun m ρ _ => Cert.Kernel5.Gen.frame m ρ

theorem frame_pi : Cert.quiescent_Kernel5Ideal := fun m ρ _ => Cert.Kernel5Ideal.Gen.frame m ρ

theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem preserves : Cert.preserves_Kernel5_Kernel5Ideal := trivial

/-- Kernel and reference both end with the gradient of the output product by its weights. -/
theorem algebraic : Cert.algebraic_Kernel5Ideal_Reference5Ideal := by
  intro m ρ m' ρ' _ hagree
  refine ⟨fun c => Cert.Reference5Ideal.Read.val_main_v7 (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)), ?_, ?_⟩
  · refine (θ_run Cert.Kernel5Ideal.defs _ _).mono (fun _ h c => ?_) (Cert.Kernel5Ideal.Value.run_blocks (F := Ideal) m ρ)
    exact ⟨(h c).1.trans (Cert.Kernel5Ideal.Prod.final m c), (h c).2⟩
  · refine (θ_run Cert.Reference5Ideal.defs _ _).mono (fun _ h c => ?_) (Cert.Reference5Ideal.Value.run (F := Ideal) m' ρ')
    obtain ⟨a0, a1⟩ := hagree c
    refine ⟨(h c).1.trans ((Cert.Reference5Ideal.Read.val_main_v7_eq _ _).trans ?_), (h c).2⟩
    exact congr (congrArg _ a0) a1

end Cert.Proof.OutDw

/-! ## The input product -/

namespace Cert.Proof.InFwd

theorem frame_p : Cert.quiescent_Kernel6 := fun m ρ _ => Cert.Kernel6.Gen.frame m ρ

theorem frame_pi : Cert.quiescent_Kernel6Ideal := fun m ρ _ => Cert.Kernel6Ideal.Gen.frame m ρ

theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

theorem preserves : Cert.preserves_Kernel6_Kernel6Ideal := trivial

/-- Kernel and reference both end with the input product. -/
theorem algebraic : Cert.algebraic_Kernel6Ideal_Reference6Ideal := by
  intro m ρ m' ρ' _ hagree
  refine ⟨fun c => Cert.Reference6Ideal.Read.val_main_v4 (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)), ?_, ?_⟩
  · refine (θ_run Cert.Kernel6Ideal.defs _ _).mono (fun _ h c => ?_) (Cert.Kernel6Ideal.Value.run_blocks (F := Ideal) m ρ)
    exact ⟨(h c).1.trans (Cert.Kernel6Ideal.Prod.final m c), (h c).2⟩
  · refine (θ_run Cert.Reference6Ideal.defs _ _).mono (fun _ h c => ?_) (Cert.Reference6Ideal.Value.run (F := Ideal) m' ρ')
    obtain ⟨a0, a1⟩ := hagree c
    refine ⟨(h c).1.trans ((Cert.Reference6Ideal.Read.val_main_v4_eq _ _).trans ?_), (h c).2⟩
    exact congr (congrArg _ a0) a1

end Cert.Proof.InFwd

/-! ## The input product's gate columns -/

namespace Cert.Proof.InGate

theorem frame_p : Cert.quiescent_Kernel7 := fun m ρ _ => Cert.Kernel7.Gen.frame m ρ

theorem frame_pi : Cert.quiescent_Kernel7Ideal := fun m ρ _ => Cert.Kernel7Ideal.Gen.frame m ρ

theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem preserves : Cert.preserves_Kernel7_Kernel7Ideal := trivial

/-- Kernel and reference both end with the input product's gate columns. -/
theorem algebraic : Cert.algebraic_Kernel7Ideal_Reference7Ideal := by
  intro m ρ m' ρ' _ hagree
  refine ⟨fun c => Cert.Reference7Ideal.Read.val_main_v5 (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)), ?_, ?_⟩
  · refine (θ_run Cert.Kernel7Ideal.defs _ _).mono (fun _ h c => ?_) (Cert.Kernel7Ideal.Value.run_blocks (F := Ideal) m ρ)
    exact ⟨(h c).1.trans (Cert.Kernel7Ideal.Prod.final m c), (h c).2⟩
  · refine (θ_run Cert.Reference7Ideal.defs _ _).mono (fun _ h c => ?_) (Cert.Reference7Ideal.Value.run (F := Ideal) m' ρ')
    obtain ⟨a0, a1⟩ := hagree c
    refine ⟨(h c).1.trans ((Cert.Reference7Ideal.Read.val_main_v5_eq _ _).trans ?_), (h c).2⟩
    exact congr (congrArg _ a0) a1

end Cert.Proof.InGate

/-! ## The output product and its residual -/

namespace Cert.Proof.OutFwd

theorem frame_p : Cert.quiescent_Kernel8 := fun m ρ _ => Cert.Kernel8.Gen.frame m ρ

theorem frame_pi : Cert.quiescent_Kernel8Ideal := fun m ρ _ => Cert.Kernel8Ideal.Gen.frame m ρ

theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem preserves : Cert.preserves_Kernel8_Kernel8Ideal := trivial

/-- Kernel and reference both end with the output product and its residual. -/
theorem algebraic : Cert.algebraic_Kernel8Ideal_Reference8Ideal := by
  intro m ρ m' ρ' _ hagree
  refine ⟨fun c => Cert.Reference8Ideal.Read.val_main_v3 (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)), ?_, ?_⟩
  · refine (θ_run Cert.Kernel8Ideal.defs _ _).mono (fun _ h c => ?_) (Cert.Kernel8Ideal.Value.run_blocks (F := Ideal) m ρ)
    exact ⟨(h c).1.trans (Cert.Kernel8Ideal.Prod.final m c), (h c).2⟩
  · refine (θ_run Cert.Reference8Ideal.defs _ _).mono (fun _ h c => ?_) (Cert.Reference8Ideal.Value.run (F := Ideal) m' ρ')
    obtain ⟨a0, a1, a2⟩ := hagree c
    refine ⟨(h c).1.trans ((Cert.Reference8Ideal.Read.val_main_v3_eq _ _ _).trans ?_), (h c).2⟩
    exact congr (congr (congrArg _ a0) a1) a2

end Cert.Proof.OutFwd

/-! ## The gradient of the input product by the weights of its gate columns -/

namespace Cert.Proof.InDwGate

theorem frame_p : Cert.quiescent_Kernel9 := fun m ρ _ => Cert.Kernel9.Gen.frame m ρ

theorem frame_pi : Cert.quiescent_Kernel9Ideal := fun m ρ _ => Cert.Kernel9Ideal.Gen.frame m ρ

theorem frame_ri : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem preserves : Cert.preserves_Kernel9_Kernel9Ideal := trivial

/-- Kernel and reference both end with the gradient of the input product by the weights of its gate columns. -/
theorem algebraic : Cert.algebraic_Kernel9Ideal_Reference9Ideal := by
  intro m ρ m' ρ' _ hagree
  refine ⟨fun c => Cert.Reference9Ideal.Read.val_main_v10 (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)), ?_, ?_⟩
  · refine (θ_run Cert.Kernel9Ideal.defs _ _).mono (fun _ h c => ?_) (Cert.Kernel9Ideal.Value.run_blocks (F := Ideal) m ρ)
    exact ⟨(h c).1.trans (Cert.Kernel9Ideal.Prod.final m c), (h c).2⟩
  · refine (θ_run Cert.Reference9Ideal.defs _ _).mono (fun _ h c => ?_) (Cert.Reference9Ideal.Value.run (F := Ideal) m' ρ')
    obtain ⟨a0, a1, a2⟩ := hagree c
    refine ⟨(h c).1.trans ((Cert.Reference9Ideal.Read.val_main_v10_eq _ _ _).trans ?_), (h c).2⟩
    exact congr (congr (congrArg _ a0) a1) a2

end Cert.Proof.InDwGate

end
-- ==== Proof.RmsBwd.lean ====
module

public import proofs.«01_k».proof.Proof.Gen.Kernel10Ideal.Value
public import proofs.«01_k».proof.Proof.Gen.Reference10Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the norm: of its rows, added to a cotangent, and of its weight, summed over all the rows. -/

namespace Cert.Kernel10Ideal.Prod

open Cert.Kernel10Ideal Cert.Kernel10Ideal.Gen Idealize.ShloMosaic Idealize.ShloMosaic.TcCoe Idealize.SL.Sem
open Cert.Reference10Ideal.Read

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = t.val ∧ win0_3.index t 1 = 0
    ∧ win0_4.index t 0 = t.val ∧ win0_4.index t 1 = 0 ∧ win0_5.index t 0 = t.val ∧ win0_5.index t 1 = 0 :=
  (by decide +kernel : ∀ t : Fin grid0.N, _)

section
variable {A D E : FVec Ideal S8192x2048 .f32} {W : FVec Ideal S1x2048 .f32} {x d e : FVec Ideal S512x2048 .f32} {w : FVec Ideal S1x2048 .f32}
    {r : Fin 512} {k : Fin 8192}

theorem ms_at (hx : ∀ l, x (ix2 r l) = A (ix2 k l)) (j : Fin 1) : k0_pay3 (F := Ideal) x (ix2 r j) = val_main_v7 (F := Ideal) A (ix2 k j) := by
  obtain rfl : j = 0 := Subsingleton.elim _ _
  pointwise [k0_pay3, val_main_v7, val_main_v5, val_main_v3, val_main_v2, val_main_v1, val_main_cst, val_main_v4, val_main_cst_0, val_main_v6, val_main_cst_1]
  simp only [hx]
  all_goals rfl

theorem rs_at (hx : ∀ l, x (ix2 r l) = A (ix2 k l)) (j : Fin 1) : k0_pay4 (F := Ideal) x (ix2 r j) = val_main_v8 (F := Ideal) A (ix2 k j) := by
  pointwise [k0_pay4, val_main_v8]
  rw [ms_at hx]
  all_goals rfl

/-- A row's gradient, added to its cotangent. -/
theorem row_at (hx : ∀ l, x (ix2 r l) = A (ix2 k l)) (hw : ∀ l, w (ix2 0 l) = W (ix2 0 l)) (hd : ∀ l, d (ix2 r l) = D (ix2 k l))
    (he : ∀ l, e (ix2 r l) = E (ix2 k l)) (l : Fin 2048) :
    k0_pay6 (F := Ideal) x w d e (ix2 r l) = val_main_v37 (F := Ideal) A W D E (ix2 k l) := by
  pointwise [k0_pay6, val_main_v37, val_main_v36, val_main_v35, val_main_v34, val_main_v33, val_main_v32, val_main_v31, val_main_v30, val_main_v29,
    val_main_v28, val_main_v27, val_main_v26, val_main_v25, val_main_v24, val_main_v23, val_main_v21, val_main_v20, val_main_v14, val_main_v11,
    val_main_v10, val_main_v9, val_main_v0, val_main_cst_2, val_main_cst_5, val_main_cst_6, val_main_cst_7]
  simp only [hx, hw, hd, he, ms_at hx, rs_at hx]
  all_goals rfl

end

variable (m : (ℓ : Loc nD τ sig) → Buf (Elt Ideal) ℓ)

abbrev X0 (c : Dev nD) : FVec Ideal S8192x2048 .f32 := m ((c : Thread nD τ).loc main_arg0)
abbrev X1 (c : Dev nD) : FVec Ideal S1x2048 .f32 := m ((c : Thread nD τ).loc main_arg1)
abbrev X2 (c : Dev nD) : FVec Ideal S8192x2048 .f32 := m ((c : Thread nD τ).loc main_arg2)
abbrev X3 (c : Dev nD) : FVec Ideal S8192x2048 .f32 := m ((c : Thread nD τ).loc main_arg3)
abbrev DX (c : Dev nD) : FVec Ideal S8192x2048 .f32 := val_main_v37 (F := Ideal) (X0 m c) (X1 m c) (X2 m c) (X3 m c)
abbrev DH (c : Dev nD) : FVec Ideal S8192x2048 .bf16 := val_main_v39 (F := Ideal) (X0 m c) (X1 m c) (X2 m c) (X3 m c)

/-- Row `r` of point `t`, counted over all the rows. -/
def RR (t : Fin cfg0.N) (r : Fin 512) : Fin 8192 := ⟨t.val * 512 + r.val, by have := lt_of_lt_of_eq t.isLt N_0; omega⟩

theorem in_x (c : Dev nD) (t : Fin cfg0.N) (r : Fin 512) (k : Fin 8192) (h : k.val = t.val * 512 + r.val) (l : Fin 2048) :
    iblk m c 0 t (ix2 r l) = X0 m c (ix2 k l) := by
  blk_ext [iblk, V, idx t]
theorem in_w (c : Dev nD) (t : Fin cfg0.N) (l : Fin 2048) : iblk m c 1 t (ix2 0 l) = X1 m c (ix2 0 l) := by
  blk_ext [iblk, V, idx t]
theorem in_d (c : Dev nD) (t : Fin cfg0.N) (r : Fin 512) (k : Fin 8192) (h : k.val = t.val * 512 + r.val) (l : Fin 2048) :
    iblk m c 2 t (ix2 r l) = X2 m c (ix2 k l) := by
  blk_ext [iblk, V, idx t]
theorem in_e (c : Dev nD) (t : Fin cfg0.N) (r : Fin 512) (k : Fin 8192) (h : k.val = t.val * 512 + r.val) (l : Fin 2048) :
    iblk m c 3 t (ix2 r l) = X3 m c (ix2 k l) := by
  blk_ext [iblk, V, idx t]

theorem dx_at (c : Dev nD) (t : Fin cfg0.N) (r : Fin 512) (l : Fin 2048) (k : Fin 8192) (h : k.val = t.val * 512 + r.val) :
    k0_pay6 (F := Ideal) (iblk m c 0 t) (iblk m c 1 t) (iblk m c 2 t) (iblk m c 3 t) (ix2 r l) = DX m c (ix2 k l) :=
  row_at (in_x m c t r k h) (in_w m c t) (in_d m c t r k h) (in_e m c t r k h) l

theorem x_A (c : Dev nD) (t : Fin cfg0.N) (ht : t.val % 16 = 0) (r : Fin 512) (l : Fin 2048) (k : Fin 8192)
    (hk : k.val = t.val * 512 + r.val) : (outsAt0 m c t.val t.isLt).1 (ix2 r l) = DX m c (ix2 k l) := by
  rw [outsAt0_A m c t ht]
  frame_out
  exact dx_at m c t r l k hk

theorem x_B (c : Dev nD) (t : Fin cfg0.N) (ht : ¬ t.val % 16 = 0) (r : Fin 512) (l : Fin 2048) (k : Fin 8192)
    (hk : k.val = t.val * 512 + r.val) : (outsAt0 m c t.val t.isLt).1 (ix2 r l) = DX m c (ix2 k l) := by
  rw [outsAt0_B m c t ht]
  frame_out
  exact dx_at m c t r l k hk

theorem h_A (c : Dev nD) (t : Fin cfg0.N) (ht : t.val % 16 = 0) (r : Fin 512) (l : Fin 2048) (k : Fin 8192)
    (hk : k.val = t.val * 512 + r.val) : (outsAt0 m c t.val t.isLt).2.1 (ix2 r l) = DH m c (ix2 k l) := by
  rw [outsAt0_A m c t ht]
  frame_out
  exact dx_at m c t r l k hk

theorem h_B (c : Dev nD) (t : Fin cfg0.N) (ht : ¬ t.val % 16 = 0) (r : Fin 512) (l : Fin 2048) (k : Fin 8192)
    (hk : k.val = t.val * 512 + r.val) : (outsAt0 m c t.val t.isLt).2.1 (ix2 r l) = DH m c (ix2 k l) := by
  rw [outsAt0_B m c t ht]
  frame_out
  exact dx_at m c t r l k hk

theorem x_all (c : Dev nD) (t : Fin cfg0.N) (y : S512x2048.Idx) (z : S8192x2048.Idx) (h0 : (z 0).val = t.val * 512 + (y 0).val) (h1 : (z 1).val = (y 1).val) :
    (outsAt0 m c t.val t.isLt).1 y = DX m c z := by
  idx_vars y
  idx_vars z
  obtain rfl : z1 = y1 := Fin.ext h1
  by_cases ht : t.val % 16 = 0
  · exact x_A m c t ht y0 z1 z0 h0
  · exact x_B m c t ht y0 z1 z0 h0

theorem h_all (c : Dev nD) (t : Fin cfg0.N) (y : S512x2048.Idx) (z : S8192x2048.Idx) (h0 : (z 0).val = t.val * 512 + (y 0).val) (h1 : (z 1).val = (y 1).val) :
    (outsAt0 m c t.val t.isLt).2.1 y = DH m c z := by
  idx_vars y
  idx_vars z
  obtain rfl : z1 = y1 := Fin.ext h1
  by_cases ht : t.val % 16 = 0
  · exact h_A m c t ht y0 z1 z0 h0
  · exact h_B m c t ht y0 z1 z0 h0

theorem final_4 (c : Dev nD) : (dats m 0 c).arrAt 4 (cfgs 0).N = DX m c := by
  refine (dats m 0 c).arrAt_eq_of_covers 4 _ (by decide +kernel) fun t hf y => ?_
  blk_simp [after0_4]
  exact x_all m c t y _ (by blk_simp [idx t]) (by blk_simp [idx t])

theorem final_5 (c : Dev nD) : (dats m 0 c).arrAt 5 (cfgs 0).N = DH m c := by
  refine (dats m 0 c).arrAt_eq_of_covers 5 _ (by decide +kernel) fun t hf y => ?_
  blk_simp [after0_5]
  exact h_all m c t y _ (by blk_simp [idx t]) (by blk_simp [idx t])

/-! The weight's gradient. -/

/-- A point's part of the weight's gradient. -/
def tw (c : Dev nD) (l : Fin 2048) (t : Fin cfg0.N) : EReal := ∑ r : Fin 512, val_main_v17 (F := Ideal) (X0 m c) (X2 m c) (ix2 (RR t r) l)

theorem part_at (c : Dev nD) (t : Fin cfg0.N) (l : Fin 2048) :
    k0_pay5 (F := Ideal) (iblk m c 0 t) (iblk m c 2 t) (ix2 0 l) = tw m c l t := by
  pointwise [k0_pay5, tw, val_main_v17, val_main_v13, val_main_v12]
  refine Finset.sum_congr rfl fun r _ => ?_
  rw [in_x m c t r (RR t r) rfl, in_d m c t r (RR t r) rfl, rs_at (in_x m c t r (RR t r) rfl)]

theorem acc (a p : FVec Ideal S1x2048 .f32) (l : Fin 2048) : k0_pay2 (F := Ideal) a p (ix2 0 l) = p (ix2 0 l) + a (ix2 0 l) := by
  pointwise [k0_pay2]
theorem fill (l : Fin 2048) : k0_pay1 (F := Ideal) (ix2 0 l) = 0 := by pointwise [k0_pay1]

theorem w_A (c : Dev nD) (t : Fin cfg0.N) (h : t.val % 16 = 0) (l : Fin 2048) :
    (outsAt0 m c t.val t.isLt).2.2 (ix2 0 l) = 0 + tw m c l t := by
  rw [outsAt0_A m c t h]
  frame_out
  refine (acc _ _ l).trans ?_
  rw [fill]
  exact congrArg (0 + ·) (part_at m c t l)

theorem w_B (c : Dev nD) (t : Fin cfg0.N) (h : ¬ t.val % 16 = 0) (l : Fin 2048) :
    (outsAt0 m c t.val t.isLt).2.2 (ix2 0 l)
      = (outsAt0 m c (t.val - 1) (Nat.lt_of_le_of_lt (Nat.sub_le _ _) t.isLt)).2.2 (ix2 0 l) + tw m c l t := by
  rw [outsAt0_B m c t h]
  frame_out
  refine (acc _ _ l).trans ?_
  exact congrArg (_ + ·) (part_at m c t l)

theorem ref_w (A D : FVec Ideal S8192x2048 .f32) (l : Fin 2048) :
    val_main_v40 (F := Ideal) A D (ix2 0 l) = ∑ k : Fin 8192, val_main_v17 (F := Ideal) A D (ix2 k l) := by
  pointwise [val_main_v40, val_main_v22, val_main_v19, val_main_v18, val_main_cst_3, val_main_cst_4]
  exact Fin.sum_univ_one _

theorem sum_rows {M : Type} [AddCommMonoid M] (f : Fin 8192 → M) :
    ∑ t : Fin cfg0.N, ∑ r : Fin 512, f (RR t r) = ∑ k : Fin 8192, f k :=
  Fin.sum_mul_add_congr (fun C r hl => congrArg f (Fin.ext (by simp only [RR])))

theorem last_w (c : Dev nD) (t : Fin cfg0.N) (ht : t.val + 1 = cfg0.N) (l : Fin 2048) :
    (outsAt0 m c t.val t.isLt).2.2 (ix2 0 l) = val_main_v40 (F := Ideal) (X0 m c) (X2 m c) (ix2 0 l) := by
  rw [Pipeline.eq_sum_fin_of_reset_step_apply_last (M := EReal) (fun n h (l : Fin 2048) => ((outsAt0 m c n h).2.2 (ix2 0 l) : EReal)) 16 (fun _ => 0)
    (fun p l => tw m c l p) (fun t h l => w_A m c t h l) (fun t h l => w_B m c t h l) (le_of_eq N_0) t ht l,
    zero_add, ref_w]
  exact sum_rows (M := EReal) fun k => val_main_v17 (F := Ideal) (X0 m c) (X2 m c) (ix2 k l)

theorem whole_6 : ∀ t : Fin cfg0.N, t.val + 1 = cfg0.N → (cfg0.win 6).WholeAt t :=
  (by decide +kernel : ∀ t : Fin grid0.N, t.val + 1 = grid0.N → (cfg0.win 6).WholeAt t)

theorem final_6 (c : Dev nD) : (dats m 0 c).arrAt 6 (cfgs 0).N = val_main_v40 (F := Ideal) (X0 m c) (X2 m c) := by
  obtain ⟨t, ht⟩ : ∃ t : Fin cfg0.N, t.val + 1 = cfg0.N := ⟨⟨15, by decide⟩, rfl⟩
  refine (dats m 0 c).arrAt_eq_of_after_last 6 t (whole_6 t ht) _ fun j => ?_
  blk_simp
  rw [after0_6]
  idx_vars j
  obtain rfl : j0 = 0 := Subsingleton.elim _ _
  exact last_w m c t ht j1

end Cert.Kernel10Ideal.Prod
end
-- ==== Proof.PostBwd.lean ====
module

public import proofs.«01_k».proof.Proof.Gen.Kernel11Ideal.Frame
public import proofs.«01_k».proof.Proof.Gen.Reference11Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gradient of the normed and gated heads: of the heads, of the gate, and of the norm's weight, summed over all the rows of all the heads. -/

namespace Cert.Kernel11Ideal.Prod

open Cert.Kernel11Ideal Cert.Kernel11Ideal.Gen Idealize.ShloMosaic Idealize.ShloMosaic.TcCoe Idealize.SL.Sem
open Cert.Reference11Ideal.Read

theorem idx : ∀ t : Fin cfg0.N, win0_0.index t 0 = 0 ∧ win0_0.index t 1 = t.val ∧ win0_0.index t 2 = 0
    ∧ win0_1.index t 0 = 0 ∧ win0_1.index t 1 = t.val ∧ win0_1.index t 2 = 0 ∧ win0_2.index t 0 = t.val ∧ win0_2.index t 1 = 6
    ∧ win0_3.index t 0 = 0 ∧ win0_3.index t 1 = 0 ∧ win0_4.index t 0 = t.val ∧ win0_4.index t 1 = 1
    ∧ win0_5.index t 0 = 0 ∧ win0_5.index t 1 = t.val ∧ win0_5.index t 2 = 0 ∧ win0_6.index t 0 = t.val ∧ win0_6.index t 1 = 6 :=
  (by decide +kernel : ∀ t : Fin grid0.N, _)

section
variable {A B : FVec Ideal S8x8192x128 .f32} {Z : FVec Ideal S8192x7168 .f32} {W : FVec Ideal S1x128 .f32} {Y : FVec Ideal S8192x2048 .f32}
    {a b : FVec Ideal S1x512x128 .f32} {z y : FVec Ideal S512x128 .f32} {w : FVec Ideal S1x128 .f32} {h : Fin 8} {r : Fin 512} {k : Fin 8192}

theorem o_at (ha : ∀ l, a (ix3 0 r l) = A (ix3 h k l)) (hb : ∀ l, b (ix3 0 r l) = B (ix3 h k l)) (l : Fin 128) :
    k0_pay3 (F := Ideal) a b (ix2 r l) = val_main_v0 (F := Ideal) A B (ix3 h k l) := by
  pointwise [k0_pay3, val_main_v0]
  simp only [ha, hb]
  all_goals rfl

theorem ms_at (ha : ∀ l, a (ix3 0 r l) = A (ix3 h k l)) (hb : ∀ l, b (ix3 0 r l) = B (ix3 h k l)) (j : Fin 1) :
    k0_pay4 (F := Ideal) a b (ix2 r j) = val_main_v9 (F := Ideal) A B (ix3 h k j) := by
  obtain rfl : j = 0 := Subsingleton.elim _ _
  pointwise [k0_pay4, val_main_v9, val_main_v7, val_main_v5, val_main_v4, val_main_v3, val_main_cst, val_main_v6, val_main_cst_0, val_main_v8, val_main_cst_1]
  simp only [o_at ha hb]
  all_goals rfl

theorem rs_at (ha : ∀ l, a (ix3 0 r l) = A (ix3 h k l)) (hb : ∀ l, b (ix3 0 r l) = B (ix3 h k l)) (j : Fin 1) :
    k0_pay5 (F := Ideal) a b (ix2 r j) = val_main_v10 (F := Ideal) A B (ix3 h k j) := by
  pointwise [k0_pay5, val_main_v10]
  rw [ms_at ha hb]
  all_goals rfl

theorem rd_at (ha : ∀ l, a (ix3 0 r l) = A (ix3 h k l)) (hb : ∀ l, b (ix3 0 r l) = B (ix3 h k l)) (j : Fin 1) :
    k0_pay6 (F := Ideal) a b (ix2 r j) = val_main_v13 (F := Ideal) A B (ix3 h k j) := by
  pointwise [k0_pay6, val_main_v13, val_main_v12, val_main_v11, val_main_cst_2]
  rw [ms_at ha hb, rs_at ha hb]
  all_goals rfl

theorem n_at (ha : ∀ l, a (ix3 0 r l) = A (ix3 h k l)) (hb : ∀ l, b (ix3 0 r l) = B (ix3 h k l)) (l : Fin 128) :
    k0_pay7 (F := Ideal) a b (ix2 r l) = val_main_v15 (F := Ideal) A B (ix3 h k l) := by
  pointwise [k0_pay7, val_main_v15, val_main_v14]
  rw [o_at ha hb, rs_at ha hb]
  all_goals rfl

/-- The cotangent of the normed rows. -/
theorem g_at (hz : ∀ l : Fin 128, z (ix2 r l) = Z (ix2 k ⟨6144 + (128 * h.val + l.val), by omega⟩))
    (hy : ∀ l : Fin 128, y (ix2 r l) = Y (ix2 k ⟨1024 + (128 * h.val + l.val), by omega⟩)) (l : Fin 128) :
    k0_pay9 (F := Ideal) z y (ix2 r l) = val_main_v28 (F := Ideal) Z Y (ix3 h k l) := by
  pointwise [k0_pay9, k0_pay8, val_main_v28, val_main_v27, val_main_v25, val_main_v23, val_main_v1, val_main_v21_2, val_main_v21_1, val_main_v21_0, val_main_call0_v0, val_main_call0_v1, val_main_call0_v2, val_main_call0_v3, val_main_call0_v4, val_main_call0_v6, val_main_call0_v7, val_main_call0_cst, val_main_call0_cst_0, val_main_call0_cst_1]
  simp only [hz, hy, Nat.mul_comm h.val 128]
  all_goals rfl

theorem dz_at (ha : ∀ l, a (ix3 0 r l) = A (ix3 h k l)) (hb : ∀ l, b (ix3 0 r l) = B (ix3 h k l))
    (hz : ∀ l : Fin 128, z (ix2 r l) = Z (ix2 k ⟨6144 + (128 * h.val + l.val), by omega⟩))
    (hy : ∀ l : Fin 128, y (ix2 r l) = Y (ix2 k ⟨1024 + (128 * h.val + l.val), by omega⟩)) (hw : ∀ l, w (ix2 0 l) = W (ix2 0 l)) (l : Fin 128) :
    k0_pay10 (F := Ideal) a b z w y (ix2 r l) = val_main_v26 (F := Ideal) A B Z W Y (ix2 k ⟨128 * h.val + l.val, by omega⟩) := by
  pointwise [k0_pay10, k0_pay8, val_main_v26, val_main_call1_v0, val_main_call1_v1, val_main_call1_v2, val_main_v24, val_main_v23, val_main_v20, val_main_v19, val_main_v18, val_main_v17, val_main_v16, val_main_v2, val_main_v1, val_main_v21_2, val_main_v21_1, val_main_v21_0, val_main_call0_v0, val_main_call0_v1, val_main_call0_v2, val_main_call0_v3, val_main_call0_v4, val_main_call0_v6, val_main_call0_v7, val_main_call0_cst, val_main_call0_cst_0, val_main_call0_cst_1]
  simp only [hz, hy, hw, n_at ha hb]
  all_goals rfl

theorem wi_at (ha : ∀ l, a (ix3 0 r l) = A (ix3 h k l)) (hb : ∀ l, b (ix3 0 r l) = B (ix3 h k l))
    (hz : ∀ l : Fin 128, z (ix2 r l) = Z (ix2 k ⟨6144 + (128 * h.val + l.val), by omega⟩))
    (hy : ∀ l : Fin 128, y (ix2 r l) = Y (ix2 k ⟨1024 + (128 * h.val + l.val), by omega⟩)) (l : Fin 128) :
    k0_pay11 (F := Ideal) a b z y (ix2 r l) = val_main_v29 (F := Ideal) A B Z Y (ix3 h k l) := by
  pointwise [k0_pay11, val_main_v29]
  rw [n_at ha hb, g_at hz hy]
  all_goals rfl

theorem do_at (ha : ∀ l, a (ix3 0 r l) = A (ix3 h k l)) (hb : ∀ l, b (ix3 0 r l) = B (ix3 h k l))
    (hz : ∀ l : Fin 128, z (ix2 r l) = Z (ix2 k ⟨6144 + (128 * h.val + l.val), by omega⟩))
    (hy : ∀ l : Fin 128, y (ix2 r l) = Y (ix2 k ⟨1024 + (128 * h.val + l.val), by omega⟩)) (hw : ∀ l, w (ix2 0 l) = W (ix2 0 l)) (l : Fin 128) :
    k0_pay12 (F := Ideal) w (k0_pay3 a b) (k0_pay5 a b) (k0_pay6 a b) (k0_pay9 z y) (ix3 0 r l) = val_main_v48 (F := Ideal) A B Z W Y (ix3 h k l) := by
  pointwise [k0_pay12, val_main_v48, val_main_v47, val_main_v46, val_main_v45, val_main_v44, val_main_v43, val_main_v42, val_main_v41, val_main_v40, val_main_v39, val_main_v38, val_main_v37, val_main_v36, val_main_v35, val_main_v33, val_main_v32, val_main_v16, val_main_v2, val_main_cst_5, val_main_cst_6, val_main_cst_7]
  simp only [hw, o_at ha hb, rs_at ha hb, rd_at ha hb, g_at hz hy]
  all_goals rfl

end

/-! The eight heads are worked alike. -/

section
variable (a b : FVec Ideal S1x512x128 .f32) (z y : FVec Ideal S512x128 .f32) (w p : FVec Ideal S1x128 .f32) (r : Fin 512) (l : Fin 128)

theorem dz0 : (k0_pay13 (k0_pay10 a b z w y) : FVec Ideal S512x128 .bf16) (ix2 r l) = k0_pay10 (F := Ideal) a b z w y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dw0 : (k0_pay14 (k0_pay11 a b z y) p : FVec Ideal S1x128 .f32) (ix2 0 l) = p (ix2 0 l) + ∑ r : Fin 512, k0_pay11 (F := Ideal) a b z y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem do1 : (k0_pay24 (k0_pay23 z w (k0_pay15 a b) y) : FVec Ideal S1x512x128 .f32) (ix3 0 r l) = k0_pay12 w (k0_pay3 a b) (k0_pay5 a b) (k0_pay6 a b) (k0_pay9 z y) (ix3 0 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dz1 : (k0_pay25 (k0_pay21 z w (k0_pay15 a b) y) : FVec Ideal S512x128 .bf16) (ix2 r l) = k0_pay10 (F := Ideal) a b z w y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dw1 : (k0_pay26 (k0_pay22 z (k0_pay15 a b) y) p : FVec Ideal S1x128 .f32) (ix2 0 l) = p (ix2 0 l) + ∑ r : Fin 512, k0_pay11 (F := Ideal) a b z y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem do2 : (k0_pay36 z w (k0_pay27 a b) (k0_pay29 a b) (k0_pay30 a b) (k0_pay33 z) y : FVec Ideal S1x512x128 .f32) (ix3 0 r l) = k0_pay12 w (k0_pay3 a b) (k0_pay5 a b) (k0_pay6 a b) (k0_pay9 z y) (ix3 0 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dz2 : (k0_pay37 z (k0_pay32 a b w) (k0_pay33 z) (k0_pay34 z) y : FVec Ideal S512x128 .bf16) (ix2 r l) = k0_pay10 (F := Ideal) a b z w y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dw2 : (k0_pay38 z (k0_pay31 a b) (k0_pay33 z) y p : FVec Ideal S1x128 .f32) (ix2 0 l) = p (ix2 0 l) + ∑ r : Fin 512, k0_pay11 (F := Ideal) a b z y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem do3 : (k0_pay51 (k0_pay40 (k0_pay39 a) b) (k0_pay49 (k0_pay39 a) b z w y) (k0_pay50 (k0_pay39 a) b z w y) (FloatOps.ofBits FTy.f32 1124073472#32) : FVec Ideal S1x512x128 .f32) (ix3 0 r l) = k0_pay12 w (k0_pay3 a b) (k0_pay5 a b) (k0_pay6 a b) (k0_pay9 z y) (ix3 0 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dz3 : (k0_pay52 (k0_pay46 (k0_pay39 a) b z w y) : FVec Ideal S512x128 .bf16) (ix2 r l) = k0_pay10 (F := Ideal) a b z w y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dw3 : (k0_pay53 (k0_pay47 (k0_pay39 a) b z y) p : FVec Ideal S1x128 .f32) (ix2 0 l) = p (ix2 0 l) + ∑ r : Fin 512, k0_pay11 (F := Ideal) a b z y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem do4 : (k0_pay62 z w (k0_pay54 a b) (k0_pay56 a b) (k0_pay57 a b) y : FVec Ideal S1x512x128 .f32) (ix3 0 r l) = k0_pay12 w (k0_pay3 a b) (k0_pay5 a b) (k0_pay6 a b) (k0_pay9 z y) (ix3 0 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dz4 : (k0_pay63 z w (k0_pay54 a b) (k0_pay56 a b) y : FVec Ideal S512x128 .bf16) (ix2 r l) = k0_pay10 (F := Ideal) a b z w y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dw4 : (k0_pay64 (k0_pay61 z (k0_pay54 a b) (k0_pay56 a b) y) p : FVec Ideal S1x128 .f32) (ix2 0 l) = p (ix2 0 l) + ∑ r : Fin 512, k0_pay11 (F := Ideal) a b z y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem do5 : (k0_pay74 w (k0_pay65 a b) (k0_pay67 a b) (k0_pay68 a b) (k0_pay71 z y) : FVec Ideal S1x512x128 .f32) (ix3 0 r l) = k0_pay12 w (k0_pay3 a b) (k0_pay5 a b) (k0_pay6 a b) (k0_pay9 z y) (ix3 0 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dz5 : (k0_pay75 (k0_pay72 a b z w y) : FVec Ideal S512x128 .bf16) (ix2 r l) = k0_pay10 (F := Ideal) a b z w y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dw5 : (k0_pay76 (k0_pay73 a b z y) p : FVec Ideal S1x128 .f32) (ix2 0 l) = p (ix2 0 l) + ∑ r : Fin 512, k0_pay11 (F := Ideal) a b z y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem do6 : (k0_pay86 (k0_pay85 z w (k0_pay77 a b) y) : FVec Ideal S1x512x128 .f32) (ix3 0 r l) = k0_pay12 w (k0_pay3 a b) (k0_pay5 a b) (k0_pay6 a b) (k0_pay9 z y) (ix3 0 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dz6 : (k0_pay87 (k0_pay83 z w (k0_pay77 a b) y) : FVec Ideal S512x128 .bf16) (ix2 r l) = k0_pay10 (F := Ideal) a b z w y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dw6 : (k0_pay88 (k0_pay84 z (k0_pay77 a b) y) p : FVec Ideal S1x128 .f32) (ix2 0 l) = p (ix2 0 l) + ∑ r : Fin 512, k0_pay11 (F := Ideal) a b z y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem do7 : (k0_pay99 z w (k0_pay89 a b) (k0_pay91 a b) (k0_pay92 a b) (k0_pay95 z) y : FVec Ideal S1x512x128 .f32) (ix3 0 r l) = k0_pay12 w (k0_pay3 a b) (k0_pay5 a b) (k0_pay6 a b) (k0_pay9 z y) (ix3 0 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dz7 : (k0_pay100 z (k0_pay94 a b w) (k0_pay95 z) (k0_pay96 z) y : FVec Ideal S512x128 .bf16) (ix2 r l) = k0_pay10 (F := Ideal) a b z w y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
theorem dw7 : (k0_pay1 (k0_pay98 z (k0_pay93 a b) (k0_pay95 z) y) p : FVec Ideal S1x128 .f32) (ix2 0 l) = p (ix2 0 l) + ∑ r : Fin 512, k0_pay11 (F := Ideal) a b z y (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
end

variable (m : (ℓ : Loc nD τ sig) → Buf (Elt Ideal) ℓ)

abbrev X0 (c : Dev nD) : FVec Ideal S8x8192x128 .f32 := m ((c : Thread nD τ).loc main_arg0)
abbrev X1 (c : Dev nD) : FVec Ideal S8x8192x128 .f32 := m ((c : Thread nD τ).loc main_arg1)
abbrev X2 (c : Dev nD) : FVec Ideal S8192x7168 .f32 := m ((c : Thread nD τ).loc main_arg2)
abbrev X3 (c : Dev nD) : FVec Ideal S1x128 .f32 := m ((c : Thread nD τ).loc main_arg3)
abbrev X4 (c : Dev nD) : FVec Ideal S8192x2048 .f32 := m ((c : Thread nD τ).loc main_arg4)
abbrev DO (c : Dev nD) : FVec Ideal S8x8192x128 .f32 := val_main_v48 (F := Ideal) (X0 m c) (X1 m c) (X2 m c) (X3 m c) (X4 m c)
abbrev DZ (c : Dev nD) : FVec Ideal S8192x1024 .bf16 := val_main_v49 (F := Ideal) (X0 m c) (X1 m c) (X2 m c) (X3 m c) (X4 m c)
abbrev WI (c : Dev nD) : FVec Ideal S8x8192x128 .f32 := val_main_v29 (F := Ideal) (X0 m c) (X1 m c) (X2 m c) (X4 m c)

theorem blk0 (c : Dev nD) (t : Fin cfg0.N) (h : Fin 8) (r : Fin 512) (l : Fin 128) (k : Fin 8192) (hk : k.val = t.val * 512 + r.val) :
    iblk m c 0 t (ix3 h r l) = X0 m c (ix3 h k l) := by
  blk_ext [iblk, V, idx t]
theorem blk1 (c : Dev nD) (t : Fin cfg0.N) (h : Fin 8) (r : Fin 512) (l : Fin 128) (k : Fin 8192) (hk : k.val = t.val * 512 + r.val) :
    iblk m c 1 t (ix3 h r l) = X1 m c (ix3 h k l) := by
  blk_ext [iblk, V, idx t]
theorem blk2 (c : Dev nD) (t : Fin cfg0.N) (r : Fin 512) (j : Fin 1024) (k : Fin 8192) (i : Fin 7168) (hk : k.val = t.val * 512 + r.val)
    (hi : i.val = 6144 + j.val) : iblk m c 2 t (ix2 r j) = X2 m c (ix2 k i) := by
  blk_ext [iblk, V, idx t]
theorem blk3 (c : Dev nD) (t : Fin cfg0.N) (l : Fin 128) : iblk m c 3 t (ix2 0 l) = X3 m c (ix2 0 l) := by
  blk_ext [iblk, V, idx t]
theorem blk4 (c : Dev nD) (t : Fin cfg0.N) (r : Fin 512) (j : Fin 1024) (k : Fin 8192) (i : Fin 2048) (hk : k.val = t.val * 512 + r.val)
    (hi : i.val = 1024 + j.val) : iblk m c 4 t (ix2 r j) = X4 m c (ix2 k i) := by
  blk_ext [iblk, V, idx t]

/-- What one head's blocks hold at a point. -/
structure Holds (c : Dev nD) (t : Fin cfg0.N) (h : Fin 8) (a b : FVec Ideal S1x512x128 .f32) (z y : FVec Ideal S512x128 .f32) : Prop where
  a_at : ∀ r l k, k.val = t.val * 512 + r.val → a (ix3 0 r l) = X0 m c (ix3 h k l)
  b_at : ∀ r l k, k.val = t.val * 512 + r.val → b (ix3 0 r l) = X1 m c (ix3 h k l)
  z_at : ∀ (r : Fin 512) (l : Fin 128) (k : Fin 8192), k.val = t.val * 512 + r.val → z (ix2 r l) = X2 m c (ix2 k ⟨6144 + (128 * h.val + l.val), by omega⟩)
  y_at : ∀ (r : Fin 512) (l : Fin 128) (k : Fin 8192), k.val = t.val * 512 + r.val → y (ix2 r l) = X4 m c (ix2 k ⟨1024 + (128 * h.val + l.val), by omega⟩)

section
variable {m} {c : Dev nD} {t : Fin cfg0.N} {h : Fin 8} {a b : FVec Ideal S1x512x128 .f32} {z y : FVec Ideal S512x128 .f32} (H : Holds m c t h a b z y)
    (r : Fin 512) (l : Fin 128) (k : Fin 8192) (hk : k.val = t.val * 512 + r.val)
include H hk

theorem Holds.do : k0_pay12 (F := Ideal) (iblk m c 3 t) (k0_pay3 a b) (k0_pay5 a b) (k0_pay6 a b) (k0_pay9 z y) (ix3 0 r l) = DO m c (ix3 h k l) :=
  do_at (fun l => H.a_at r l k hk) (fun l => H.b_at r l k hk) (fun l => H.z_at r l k hk) (fun l => H.y_at r l k hk) (blk3 m c t) l

theorem Holds.dz (j : Fin 1024) (hj : j.val = 128 * h.val + l.val) : k0_pay10 (F := Ideal) a b z (iblk m c 3 t) y (ix2 r l) = DZ m c (ix2 k j) := by
  obtain rfl : j = ⟨128 * h.val + l.val, by clear hj; omega⟩ := Fin.ext hj
  exact dz_at (fun l => H.a_at r l k hk) (fun l => H.b_at r l k hk) (fun l => H.z_at r l k hk) (fun l => H.y_at r l k hk) (blk3 m c t) l

theorem Holds.wi : k0_pay11 (F := Ideal) a b z y (ix2 r l) = WI m c (ix3 h k l) :=
  wi_at (fun l => H.a_at r l k hk) (fun l => H.b_at r l k hk) (fun l => H.z_at r l k hk) (fun l => H.y_at r l k hk) l
end

theorem holds0 (c : Dev nD) (t : Fin cfg0.N) : Holds m c t 0
    (View.ld (Val := Elt Ideal) (e' := .f32) (iblk m c 0 t) (Rect.unit ![0, 0, 0] ![1, 512, 128] inb_S8x512x128_S1x512x128_0_0_0))
    (View.ld (Val := Elt Ideal) (e' := .f32) (iblk m c 1 t) (Rect.unit ![0, 0, 0] ![1, 512, 128] inb_S8x512x128_S1x512x128_0_0_0))
    (View.ld (Val := Elt Ideal) (e' := .f32) (iblk m c 2 t) (Rect.unit ![0, 0] ![512, 128] inb_S512x1024_S512x128_0_0))
    (View.ld (Val := Elt Ideal) (e' := .f32) (iblk m c 4 t) (Rect.unit ![0, 0] ![512, 128] inb_S512x1024_S512x128_0_0)) where
  a_at r l k hk := Eq.trans (by pointwise; blk_ext []) (blk0 m c t 0 r l k hk)
  b_at r l k hk := Eq.trans (by pointwise; blk_ext []) (blk1 m c t 0 r l k hk)
  z_at r l k hk := Eq.trans (b := iblk m c 2 t (ix2 r ⟨0 + l.val, by omega⟩)) (by pointwise; blk_ext []) (blk2 m c t r _ k _ hk rfl)
  y_at r l k hk := Eq.trans (b := iblk m c 4 t (ix2 r ⟨0 + l.val, by omega⟩)) (by pointwise; blk_ext []) (blk4 m c t r _ k _ hk rfl)

theorem holds1 (c : Dev nD) (t : Fin cfg0.N) : Holds m c t 1
    (View.ld (Val := Elt Ideal) (e' := .f32) (iblk m c 0 t) (Rect.unit ![1, 0, 0] ![1, 512, 128] inb_S8x512x128_S1x512x128_1_0_0))
    (View.ld (Val := Elt Ideal) (e' := .f32) (iblk m c 1 t) (Rect.unit ![1, 0, 0] ![1, 512, 128] inb_S8x512x128_S1x512x128_1_0_0))
    (View.ld (Val := Elt Ideal) (e' := .f32) (iblk m c 2 t) (Rect.unit ![0, 128] ![512, 128] inb_S512x1024_S512x128_0_128))
    (View.ld (Val := Elt Ideal) (e' := .f32) (iblk m c 4 t) (Rect.unit ![0, 128] ![512, 128] inb_S512x1024_S512x128_0_128)) where
  a_at r l k hk := Eq.trans (by pointwise; blk_ext []) (blk0 m c t 1 r l k hk)
  b_at r l k hk := Eq.trans (by pointwise; blk_ext []) (blk1 m c t 1 r l k hk)
  z_at r l k hk := Eq.trans (b := iblk m c 2 t (ix2 r ⟨128 + l.val, by omega⟩)) (by pointwise; blk_ext []) (blk2 m c t r _ k _ hk rfl)
  y_at r l k hk := Eq.trans (b := iblk m c 4 t (ix2 r ⟨128 + l.val, by omega⟩)) (by pointwise; blk_ext []) (blk4 m c t r _ k _ hk rfl)

theorem holds2 (c : Dev nD) (t : Fin cfg0.N) : Holds m c t 2
    (View.ld (Val := Elt Ideal) (e' := .f32) (iblk m c 0 t) (Rect.unit ![2, 0, 0] ![1, 512, 128] inb_S8x512x128_S1x512x128_2_0_0))
    (View.ld (Val := Elt Ideal) (e' := .f32) (iblk m c 1 t) (Rect.unit ![2, 0, 0] ![1, 512, 128] inb_S8x512x128_S1x512x128_2_0_0))
    (View.ld (Val := Elt Ideal) (e' := .f32) (iblk m c 2 t) (Rect.unit ![0, 256] ![512, 128] inb_S512x1024_S512x128_0_256))
    (View.ld (Val := Elt Ideal) (e' := .f32) (iblk m c 4 t) (Rect.unit ![0, 256] ![512, 128] inb_S512x1024_S512x128_0_256)) where
  a_at r l k hk := Eq.trans (by pointwise; blk_ext []) (blk0 m c t 2 r l k hk)
  b_at r l k hk := Eq.trans (by pointwise; blk_ext []) (blk1 m c t 2 r l k hk)
  z_at r l k hk := Eq.trans (b := iblk m c 2 t (ix2 r ⟨256 + l.val, by omega⟩)) (by pointwise; blk_ext []) (blk2 m c t r _ k _ hk rfl)
  y_at r l k hk := Eq.trans (b := iblk m c 4 t (ix2 r ⟨256 + l.val, by omega⟩)) (by pointwise; blk_ext []) (blk4 m c t r _ k _ hk rfl)

theorem holds3 (c : Dev nD) (t : Fin cfg0.N) : Holds m c t 3
    (View.ld (Val := Elt Ideal) (e' := .f32) (iblk m c 0 t) (Rect.unit ![3, 0, 0] ![1, 512, 128] inb_S8x512x128_S1x512x128_3_0_0))
    (View.ld (Val := Elt Ideal) (e' := .f32) (iblk m c 1 t) (Rect.unit ![3, 0, 0] ![1, 512, 128] inb_S8x512x128_S1x512x128_3_0_0))
    (View.ld (Val := Elt Ideal) (e' := .f32) (iblk m c 2 t) (Rect.unit ![0, 384] ![512, 128] inb_S512x1024_S512x128_0_384))
    (View.ld (Val := Elt Ideal) (e' := .f32) (iblk m c 4 t) (Rect.unit ![0, 384] ![512, 128] inb_S512x1024_S512x128_0_384)) where
  a_at r l k hk := Eq.trans (by pointwise; blk_ext []) (blk0 m c t 3 r l k hk)
  b_at r l k hk := Eq.trans (by pointwise; blk_ext []) (blk1 m c t 3 r l k hk)
  z_at r l k hk := Eq.trans (b := iblk m c 2 t (ix2 r ⟨384 + l.val, by omega⟩)) (by pointwise; blk_ext []) (blk2 m c t r _ k _ hk rfl)
  y_at r l k hk := Eq.trans (b := iblk m c 4 t (ix2 r ⟨384 + l.val, by omega⟩)) (by pointwise; blk_ext []) (blk4 m c t r _ k _ hk rfl)

theorem holds4 (c : Dev nD) (t : Fin cfg0.N) : Holds m c t 4
    (View.ld (Val := Elt Ideal) (e' := .f32) (iblk m c 0 t) (Rect.unit ![4, 0, 0] ![1, 512, 128] inb_S8x512x128_S1x512x128_4_0_0))
    (View.ld (Val := Elt Ideal) (e' := .f32) (iblk m c 1 t) (Rect.unit ![4, 0, 0] ![1, 512, 128] inb_S8x512x128_S1x512x128_4_0_0))
    (View.ld (Val := Elt Ideal) (e' := .f32) (iblk m c 2 t) (Rect.unit ![0, 512] ![512, 128] inb_S512x1024_S512x128_0_512))
    (View.ld (Val := Elt Ideal) (e' := .f32) (iblk m c 4 t) (Rect.unit ![0, 512] ![512, 128] inb_S512x1024_S512x128_0_512)) where
  a_at r l k hk := Eq.trans (by pointwise; blk_ext []) (blk0 m c t 4 r l k hk)
  b_at r l k hk := Eq.trans (by pointwise; blk_ext []) (blk1 m c t 4 r l k hk)
  z_at r l k hk := Eq.trans (b := iblk m c 2 t (ix2 r ⟨512 + l.val, by omega⟩)) (by pointwise; blk_ext []) (blk2 m c t r _ k _ hk rfl)
  y_at r l k hk := Eq.trans (b := iblk m c 4 t (ix2 r ⟨512 + l.val, by omega⟩)) (by pointwise; blk_ext []) (blk4 m c t r _ k _ hk rfl)

theorem holds5 (c : Dev nD) (t : Fin cfg0.N) : Holds m c t 5
    (View.ld (Val := Elt Ideal) (e' := .f32) (iblk m c 0 t) (Rect.unit ![5, 0, 0] ![1, 512, 128] inb_S8x512x128_S1x512x128_5_0_0))
    (View.ld (Val := Elt Ideal) (e' := .f32) (iblk m c 1 t) (Rect.unit ![5, 0, 0] ![1, 512, 128] inb_S8x512x128_S1x512x128_5_0_0))
    (View.ld (Val := Elt Ideal) (e' := .f32) (iblk m c 2 t) (Rect.unit ![0, 640] ![512, 128] inb_S512x1024_S512x128_0_640))
    (View.ld (Val := Elt Ideal) (e' := .f32) (iblk m c 4 t) (Rect.unit ![0, 640] ![512, 128] inb_S512x1024_S512x128_0_640)) where
  a_at r l k hk := Eq.trans (by pointwise; blk_ext []) (blk0 m c t 5 r l k hk)
  b_at r l k hk := Eq.trans (by pointwise; blk_ext []) (blk1 m c t 5 r l k hk)
  z_at r l k hk := Eq.trans (b := iblk m c 2 t (ix2 r ⟨640 + l.val, by omega⟩)) (by pointwise; blk_ext []) (blk2 m c t r _ k _ hk rfl)
  y_at r l k hk := Eq.trans (b := iblk m c 4 t (ix2 r ⟨640 + l.val, by omega⟩)) (by pointwise; blk_ext []) (blk4 m c t r _ k _ hk rfl)

theorem holds6 (c : Dev nD) (t : Fin cfg0.N) : Holds m c t 6
    (View.ld (Val := Elt Ideal) (e' := .f32) (iblk m c 0 t) (Rect.unit ![6, 0, 0] ![1, 512, 128] inb_S8x512x128_S1x512x128_6_0_0))
    (View.ld (Val := Elt Ideal) (e' := .f32) (iblk m c 1 t) (Rect.unit ![6, 0, 0] ![1, 512, 128] inb_S8x512x128_S1x512x128_6_0_0))
    (View.ld (Val := Elt Ideal) (e' := .f32) (iblk m c 2 t) (Rect.unit ![0, 768] ![512, 128] inb_S512x1024_S512x128_0_768))
    (View.ld (Val := Elt Ideal) (e' := .f32) (iblk m c 4 t) (Rect.unit ![0, 768] ![512, 128] inb_S512x1024_S512x128_0_768)) where
  a_at r l k hk := Eq.trans (by pointwise; blk_ext []) (blk0 m c t 6 r l k hk)
  b_at r l k hk := Eq.trans (by pointwise; blk_ext []) (blk1 m c t 6 r l k hk)
  z_at r l k hk := Eq.trans (b := iblk m c 2 t (ix2 r ⟨768 + l.val, by omega⟩)) (by pointwise; blk_ext []) (blk2 m c t r _ k _ hk rfl)
  y_at r l k hk := Eq.trans (b := iblk m c 4 t (ix2 r ⟨768 + l.val, by omega⟩)) (by pointwise; blk_ext []) (blk4 m c t r _ k _ hk rfl)

theorem holds7 (c : Dev nD) (t : Fin cfg0.N) : Holds m c t 7
    (View.ld (Val := Elt Ideal) (e' := .f32) (iblk m c 0 t) (Rect.unit ![7, 0, 0] ![1, 512, 128] inb_S8x512x128_S1x512x128_7_0_0))
    (View.ld (Val := Elt Ideal) (e' := .f32) (iblk m c 1 t) (Rect.unit ![7, 0, 0] ![1, 512, 128] inb_S8x512x128_S1x512x128_7_0_0))
    (View.ld (Val := Elt Ideal) (e' := .f32) (iblk m c 2 t) (Rect.unit ![0, 896] ![512, 128] inb_S512x1024_S512x128_0_896))
    (View.ld (Val := Elt Ideal) (e' := .f32) (iblk m c 4 t) (Rect.unit ![0, 896] ![512, 128] inb_S512x1024_S512x128_0_896)) where
  a_at r l k hk := Eq.trans (by pointwise; blk_ext []) (blk0 m c t 7 r l k hk)
  b_at r l k hk := Eq.trans (by pointwise; blk_ext []) (blk1 m c t 7 r l k hk)
  z_at r l k hk := Eq.trans (b := iblk m c 2 t (ix2 r ⟨896 + l.val, by omega⟩)) (by pointwise; blk_ext []) (blk2 m c t r _ k _ hk rfl)
  y_at r l k hk := Eq.trans (b := iblk m c 4 t (ix2 r ⟨896 + l.val, by omega⟩)) (by pointwise; blk_ext []) (blk4 m c t r _ k _ hk rfl)

theorem do_A (c : Dev nD) (t : Fin cfg0.N) (ht : t.val % 16 = 0) (y : S8x512x128.Idx) (g : Fin 8) (k : Fin 8192) (j : Fin 128)
    (hg : g.val = (y 0).val) (hk : k.val = t.val * 512 + (y 1).val) (hj : j.val = (y 2).val) :
    (outsAt0 m c t.val t.isLt).1 y = DO m c (ix3 g k j) := by
  rw [outsAt0_A m c t ht]
  frame_out
  canon_tiles y h
  case piece0 =>
    have hk' : k.val = t.val * 512 + (y 1).val := by omega
    obtain rfl : j = y 2 := Fin.ext (by omega)
    obtain rfl : g = 7 := Fin.ext (by have : (y 0).val < 1 := (y 0).isLt; show g.val = 7; omega)
    have e := (holds7 m c t).do (y 1) (y 2) k hk'
    clear hk hj hg hk'
    clear h0 h1 h2
    idx_vars y
    obtain rfl : y0 = 0 := Subsingleton.elim _ _
    exact (do7 _ _ _ _ _ _ _).trans e
  case piece1 =>
    have hk' : k.val = t.val * 512 + (y 1).val := by omega
    obtain rfl : j = y 2 := Fin.ext (by omega)
    obtain rfl : g = 6 := Fin.ext (by have : (y 0).val < 1 := (y 0).isLt; show g.val = 6; omega)
    have e := (holds6 m c t).do (y 1) (y 2) k hk'
    clear hk hj hg hk'
    clear h0 h1 h2
    idx_vars y
    obtain rfl : y0 = 0 := Subsingleton.elim _ _
    exact (do6 _ _ _ _ _ _ _).trans e
  case piece2 =>
    have hk' : k.val = t.val * 512 + (y 1).val := by omega
    obtain rfl : j = y 2 := Fin.ext (by omega)
    obtain rfl : g = 5 := Fin.ext (by have : (y 0).val < 1 := (y 0).isLt; show g.val = 5; omega)
    have e := (holds5 m c t).do (y 1) (y 2) k hk'
    clear hk hj hg hk'
    clear h0 h1 h2
    idx_vars y
    obtain rfl : y0 = 0 := Subsingleton.elim _ _
    exact (do5 _ _ _ _ _ _ _).trans e
  case piece3 =>
    have hk' : k.val = t.val * 512 + (y 1).val := by omega
    obtain rfl : j = y 2 := Fin.ext (by omega)
    obtain rfl : g = 4 := Fin.ext (by have : (y 0).val < 1 := (y 0).isLt; show g.val = 4; omega)
    have e := (holds4 m c t).do (y 1) (y 2) k hk'
    clear hk hj hg hk'
    clear h0 h1 h2
    idx_vars y
    obtain rfl : y0 = 0 := Subsingleton.elim _ _
    exact (do4 _ _ _ _ _ _ _).trans e
  case piece4 =>
    have hk' : k.val = t.val * 512 + (y 1).val := by omega
    obtain rfl : j = y 2 := Fin.ext (by omega)
    obtain rfl : g = 3 := Fin.ext (by have : (y 0).val < 1 := (y 0).isLt; show g.val = 3; omega)
    have e := (holds3 m c t).do (y 1) (y 2) k hk'
    clear hk hj hg hk'
    clear h0 h1 h2
    idx_vars y
    obtain rfl : y0 = 0 := Subsingleton.elim _ _
    exact (do3 _ _ _ _ _ _ _).trans e
  case piece5 =>
    have hk' : k.val = t.val * 512 + (y 1).val := by omega
    obtain rfl : j = y 2 := Fin.ext (by omega)
    obtain rfl : g = 2 := Fin.ext (by have : (y 0).val < 1 := (y 0).isLt; show g.val = 2; omega)
    have e := (holds2 m c t).do (y 1) (y 2) k hk'
    clear hk hj hg hk'
    clear h0 h1 h2
    idx_vars y
    obtain rfl : y0 = 0 := Subsingleton.elim _ _
    exact (do2 _ _ _ _ _ _ _).trans e
  case piece6 =>
    have hk' : k.val = t.val * 512 + (y 1).val := by omega
    obtain rfl : j = y 2 := Fin.ext (by omega)
    obtain rfl : g = 1 := Fin.ext (by have : (y 0).val < 1 := (y 0).isLt; show g.val = 1; omega)
    have e := (holds1 m c t).do (y 1) (y 2) k hk'
    clear hk hj hg hk'
    clear h0 h1 h2
    idx_vars y
    obtain rfl : y0 = 0 := Subsingleton.elim _ _
    exact (do1 _ _ _ _ _ _ _).trans e
  case piece7 =>
    have hk' : k.val = t.val * 512 + (y 1).val := by omega
    obtain rfl : j = y 2 := Fin.ext (by omega)
    obtain rfl : g = 0 := Fin.ext (by have : (y 0).val < 1 := (y 0).isLt; show g.val = 0; omega)
    have e := (holds0 m c t).do (y 1) (y 2) k hk'
    clear hk hj hg hk'
    clear h0 h1 h2
    idx_vars y
    obtain rfl : y0 = 0 := Subsingleton.elim _ _
    exact e

theorem dz_A (c : Dev nD) (t : Fin cfg0.N) (ht : t.val % 16 = 0) (y : S512x1024.Idx) (k : Fin 8192) (j : Fin 1024)
    (hk : k.val = t.val * 512 + (y 0).val) (hj : j.val = (y 1).val) :
    (outsAt0 m c t.val t.isLt).2.1 y = DZ m c (ix2 k j) := by
  rw [outsAt0_A m c t ht]
  frame_out
  canon_tiles y h
  case piece0 =>
    have hk' : k.val = t.val * 512 + (y 0).val := by omega
    have hj' : j.val = 896 + (y 1).val := by omega
    have e := (holds7 m c t).dz (y 0) (y 1) k hk' j hj'
    clear hk hj h0 h1 hk' hj'
    idx_vars y
    exact (dz7 _ _ _ _ _ _ _).trans e
  case piece1 =>
    have hk' : k.val = t.val * 512 + (y 0).val := by omega
    have hj' : j.val = 768 + (y 1).val := by omega
    have e := (holds6 m c t).dz (y 0) (y 1) k hk' j hj'
    clear hk hj h0 h1 hk' hj'
    idx_vars y
    exact (dz6 _ _ _ _ _ _ _).trans e
  case piece2 =>
    have hk' : k.val = t.val * 512 + (y 0).val := by omega
    have hj' : j.val = 640 + (y 1).val := by omega
    have e := (holds5 m c t).dz (y 0) (y 1) k hk' j hj'
    clear hk hj h0 h1 hk' hj'
    idx_vars y
    exact (dz5 _ _ _ _ _ _ _).trans e
  case piece3 =>
    have hk' : k.val = t.val * 512 + (y 0).val := by omega
    have hj' : j.val = 512 + (y 1).val := by omega
    have e := (holds4 m c t).dz (y 0) (y 1) k hk' j hj'
    clear hk hj h0 h1 hk' hj'
    idx_vars y
    exact (dz4 _ _ _ _ _ _ _).trans e
  case piece4 =>
    have hk' : k.val = t.val * 512 + (y 0).val := by omega
    have hj' : j.val = 384 + (y 1).val := by omega
    have e := (holds3 m c t).dz (y 0) (y 1) k hk' j hj'
    clear hk hj h0 h1 hk' hj'
    idx_vars y
    exact (dz3 _ _ _ _ _ _ _).trans e
  case piece5 =>
    have hk' : k.val = t.val * 512 + (y 0).val := by omega
    have hj' : j.val = 256 + (y 1).val := by omega
    have e := (holds2 m c t).dz (y 0) (y 1) k hk' j hj'
    clear hk hj h0 h1 hk' hj'
    idx_vars y
    exact (dz2 _ _ _ _ _ _ _).trans e
  case piece6 =>
    have hk' : k.val = t.val * 512 + (y 0).val := by omega
    have hj' : j.val = 128 + (y 1).val := by omega
    have e := (holds1 m c t).dz (y 0) (y 1) k hk' j hj'
    clear hk hj h0 h1 hk' hj'
    idx_vars y
    exact (dz1 _ _ _ _ _ _ _).trans e
  case piece7 =>
    have hk' : k.val = t.val * 512 + (y 0).val := by omega
    have hj' : j.val = 0 + (y 1).val := by omega
    have e := (holds0 m c t).dz (y 0) (y 1) k hk' j hj'
    clear hk hj h0 h1 hk' hj'
    idx_vars y
    exact (dz0 _ _ _ _ _ _ _).trans e

theorem do_B (c : Dev nD) (t : Fin cfg0.N) (ht : ¬ t.val % 16 = 0) (y : S8x512x128.Idx) (g : Fin 8) (k : Fin 8192) (j : Fin 128)
    (hg : g.val = (y 0).val) (hk : k.val = t.val * 512 + (y 1).val) (hj : j.val = (y 2).val) :
    (outsAt0 m c t.val t.isLt).1 y = DO m c (ix3 g k j) := by
  rw [outsAt0_B m c t ht]
  frame_out
  canon_tiles y h
  case piece0 =>
    have hk' : k.val = t.val * 512 + (y 1).val := by omega
    obtain rfl : j = y 2 := Fin.ext (by omega)
    obtain rfl : g = 7 := Fin.ext (by have : (y 0).val < 1 := (y 0).isLt; show g.val = 7; omega)
    have e := (holds7 m c t).do (y 1) (y 2) k hk'
    clear hk hj hg hk'
    clear h0 h1 h2
    idx_vars y
    obtain rfl : y0 = 0 := Subsingleton.elim _ _
    exact (do7 _ _ _ _ _ _ _).trans e
  case piece1 =>
    have hk' : k.val = t.val * 512 + (y 1).val := by omega
    obtain rfl : j = y 2 := Fin.ext (by omega)
    obtain rfl : g = 6 := Fin.ext (by have : (y 0).val < 1 := (y 0).isLt; show g.val = 6; omega)
    have e := (holds6 m c t).do (y 1) (y 2) k hk'
    clear hk hj hg hk'
    clear h0 h1 h2
    idx_vars y
    obtain rfl : y0 = 0 := Subsingleton.elim _ _
    exact (do6 _ _ _ _ _ _ _).trans e
  case piece2 =>
    have hk' : k.val = t.val * 512 + (y 1).val := by omega
    obtain rfl : j = y 2 := Fin.ext (by omega)
    obtain rfl : g = 5 := Fin.ext (by have : (y 0).val < 1 := (y 0).isLt; show g.val = 5; omega)
    have e := (holds5 m c t).do (y 1) (y 2) k hk'
    clear hk hj hg hk'
    clear h0 h1 h2
    idx_vars y
    obtain rfl : y0 = 0 := Subsingleton.elim _ _
    exact (do5 _ _ _ _ _ _ _).trans e
  case piece3 =>
    have hk' : k.val = t.val * 512 + (y 1).val := by omega
    obtain rfl : j = y 2 := Fin.ext (by omega)
    obtain rfl : g = 4 := Fin.ext (by have : (y 0).val < 1 := (y 0).isLt; show g.val = 4; omega)
    have e := (holds4 m c t).do (y 1) (y 2) k hk'
    clear hk hj hg hk'
    clear h0 h1 h2
    idx_vars y
    obtain rfl : y0 = 0 := Subsingleton.elim _ _
    exact (do4 _ _ _ _ _ _ _).trans e
  case piece4 =>
    have hk' : k.val = t.val * 512 + (y 1).val := by omega
    obtain rfl : j = y 2 := Fin.ext (by omega)
    obtain rfl : g = 3 := Fin.ext (by have : (y 0).val < 1 := (y 0).isLt; show g.val = 3; omega)
    have e := (holds3 m c t).do (y 1) (y 2) k hk'
    clear hk hj hg hk'
    clear h0 h1 h2
    idx_vars y
    obtain rfl : y0 = 0 := Subsingleton.elim _ _
    exact (do3 _ _ _ _ _ _ _).trans e
  case piece5 =>
    have hk' : k.val = t.val * 512 + (y 1).val := by omega
    obtain rfl : j = y 2 := Fin.ext (by omega)
    obtain rfl : g = 2 := Fin.ext (by have : (y 0).val < 1 := (y 0).isLt; show g.val = 2; omega)
    have e := (holds2 m c t).do (y 1) (y 2) k hk'
    clear hk hj hg hk'
    clear h0 h1 h2
    idx_vars y
    obtain rfl : y0 = 0 := Subsingleton.elim _ _
    exact (do2 _ _ _ _ _ _ _).trans e
  case piece6 =>
    have hk' : k.val = t.val * 512 + (y 1).val := by omega
    obtain rfl : j = y 2 := Fin.ext (by omega)
    obtain rfl : g = 1 := Fin.ext (by have : (y 0).val < 1 := (y 0).isLt; show g.val = 1; omega)
    have e := (holds1 m c t).do (y 1) (y 2) k hk'
    clear hk hj hg hk'
    clear h0 h1 h2
    idx_vars y
    obtain rfl : y0 = 0 := Subsingleton.elim _ _
    exact (do1 _ _ _ _ _ _ _).trans e
  case piece7 =>
    have hk' : k.val = t.val * 512 + (y 1).val := by omega
    obtain rfl : j = y 2 := Fin.ext (by omega)
    obtain rfl : g = 0 := Fin.ext (by have : (y 0).val < 1 := (y 0).isLt; show g.val = 0; omega)
    have e := (holds0 m c t).do (y 1) (y 2) k hk'
    clear hk hj hg hk'
    clear h0 h1 h2
    idx_vars y
    obtain rfl : y0 = 0 := Subsingleton.elim _ _
    exact e

theorem dz_B (c : Dev nD) (t : Fin cfg0.N) (ht : ¬ t.val % 16 = 0) (y : S512x1024.Idx) (k : Fin 8192) (j : Fin 1024)
    (hk : k.val = t.val * 512 + (y 0).val) (hj : j.val = (y 1).val) :
    (outsAt0 m c t.val t.isLt).2.1 y = DZ m c (ix2 k j) := by
  rw [outsAt0_B m c t ht]
  frame_out
  canon_tiles y h
  case piece0 =>
    have hk' : k.val = t.val * 512 + (y 0).val := by omega
    have hj' : j.val = 896 + (y 1).val := by omega
    have e := (holds7 m c t).dz (y 0) (y 1) k hk' j hj'
    clear hk hj h0 h1 hk' hj'
    idx_vars y
    exact (dz7 _ _ _ _ _ _ _).trans e
  case piece1 =>
    have hk' : k.val = t.val * 512 + (y 0).val := by omega
    have hj' : j.val = 768 + (y 1).val := by omega
    have e := (holds6 m c t).dz (y 0) (y 1) k hk' j hj'
    clear hk hj h0 h1 hk' hj'
    idx_vars y
    exact (dz6 _ _ _ _ _ _ _).trans e
  case piece2 =>
    have hk' : k.val = t.val * 512 + (y 0).val := by omega
    have hj' : j.val = 640 + (y 1).val := by omega
    have e := (holds5 m c t).dz (y 0) (y 1) k hk' j hj'
    clear hk hj h0 h1 hk' hj'
    idx_vars y
    exact (dz5 _ _ _ _ _ _ _).trans e
  case piece3 =>
    have hk' : k.val = t.val * 512 + (y 0).val := by omega
    have hj' : j.val = 512 + (y 1).val := by omega
    have e := (holds4 m c t).dz (y 0) (y 1) k hk' j hj'
    clear hk hj h0 h1 hk' hj'
    idx_vars y
    exact (dz4 _ _ _ _ _ _ _).trans e
  case piece4 =>
    have hk' : k.val = t.val * 512 + (y 0).val := by omega
    have hj' : j.val = 384 + (y 1).val := by omega
    have e := (holds3 m c t).dz (y 0) (y 1) k hk' j hj'
    clear hk hj h0 h1 hk' hj'
    idx_vars y
    exact (dz3 _ _ _ _ _ _ _).trans e
  case piece5 =>
    have hk' : k.val = t.val * 512 + (y 0).val := by omega
    have hj' : j.val = 256 + (y 1).val := by omega
    have e := (holds2 m c t).dz (y 0) (y 1) k hk' j hj'
    clear hk hj h0 h1 hk' hj'
    idx_vars y
    exact (dz2 _ _ _ _ _ _ _).trans e
  case piece6 =>
    have hk' : k.val = t.val * 512 + (y 0).val := by omega
    have hj' : j.val = 128 + (y 1).val := by omega
    have e := (holds1 m c t).dz (y 0) (y 1) k hk' j hj'
    clear hk hj h0 h1 hk' hj'
    idx_vars y
    exact (dz1 _ _ _ _ _ _ _).trans e
  case piece7 =>
    have hk' : k.val = t.val * 512 + (y 0).val := by omega
    have hj' : j.val = 0 + (y 1).val := by omega
    have e := (holds0 m c t).dz (y 0) (y 1) k hk' j hj'
    clear hk hj h0 h1 hk' hj'
    idx_vars y
    exact (dz0 _ _ _ _ _ _ _).trans e

/-- Row `r` of point `t`, counted over all the rows. -/
def RR (t : Fin cfg0.N) (r : Fin 512) : Fin 8192 := ⟨t.val * 512 + r.val, by have := lt_of_lt_of_eq t.isLt N_0; omega⟩

/-- One head's part of the weight's gradient at a point, and all the heads'. -/
def th (c : Dev nD) (l : Fin 128) (t : Fin cfg0.N) (h : Fin 8) : EReal := ∑ r : Fin 512, WI m c (ix3 h (RR t r) l)
def tw (c : Dev nD) (l : Fin 128) (t : Fin cfg0.N) : EReal := ∑ h : Fin 8, th m c l t h

theorem fill (l : Fin 128) : k0_pay2 (F := Ideal) (ix2 0 l) = 0 := by pointwise [k0_pay2]

theorem Holds.dw {c : Dev nD} {t : Fin cfg0.N} {h : Fin 8} {a b : FVec Ideal S1x512x128 .f32} {z y : FVec Ideal S512x128 .f32} (H : Holds m c t h a b z y)
    {u v v' : EReal} (l : Fin 128) (e : u = v + ∑ r : Fin 512, k0_pay11 (F := Ideal) a b z y (ix2 r l)) (e' : v = v') : u = v' + th m c l t h := by
  rw [e, e']
  exact congrArg (v' + ·) (Finset.sum_congr rfl fun r _ => H.wi r l (RR t r) rfl)

theorem heads (v : EReal) (f : Fin 8 → EReal) : v + f 0 + f 1 + f 2 + f 3 + f 4 + f 5 + f 6 + f 7 = v + ∑ h, f h := by
  rw [Fin.sum_univ_eight]; simp only [add_assoc]

theorem w_A (c : Dev nD) (t : Fin cfg0.N) (ht : t.val % 16 = 0) (l : Fin 128) :
    (outsAt0 m c t.val t.isLt).2.2 (ix2 0 l) = 0 + tw m c l t := by
  rw [outsAt0_A m c t ht]
  frame_out
  refine Eq.trans ?_ (heads _ (th m c l t))
  refine (holds7 m c t).dw m l (dw7 _ _ _ _ _ l) ?_
  refine (holds6 m c t).dw m l (dw6 _ _ _ _ _ l) ?_
  refine (holds5 m c t).dw m l (dw5 _ _ _ _ _ l) ?_
  refine (holds4 m c t).dw m l (dw4 _ _ _ _ _ l) ?_
  refine (holds3 m c t).dw m l (dw3 _ _ _ _ _ l) ?_
  refine (holds2 m c t).dw m l (dw2 _ _ _ _ _ l) ?_
  refine (holds1 m c t).dw m l (dw1 _ _ _ _ _ l) ?_
  refine (holds0 m c t).dw m l (dw0 _ _ _ _ _ l) ?_
  exact fill l

theorem w_B (c : Dev nD) (t : Fin cfg0.N) (ht : ¬ t.val % 16 = 0) (l : Fin 128) :
    (outsAt0 m c t.val t.isLt).2.2 (ix2 0 l) = (outsAt0 m c (t.val - 1) (Nat.lt_of_le_of_lt (Nat.sub_le _ _) t.isLt)).2.2 (ix2 0 l) + tw m c l t := by
  rw [outsAt0_B m c t ht]
  frame_out
  refine Eq.trans ?_ (heads _ (th m c l t))
  refine (holds7 m c t).dw m l (dw7 _ _ _ _ _ l) ?_
  refine (holds6 m c t).dw m l (dw6 _ _ _ _ _ l) ?_
  refine (holds5 m c t).dw m l (dw5 _ _ _ _ _ l) ?_
  refine (holds4 m c t).dw m l (dw4 _ _ _ _ _ l) ?_
  refine (holds3 m c t).dw m l (dw3 _ _ _ _ _ l) ?_
  refine (holds2 m c t).dw m l (dw2 _ _ _ _ _ l) ?_
  refine (holds1 m c t).dw m l (dw1 _ _ _ _ _ l) ?_
  refine (holds0 m c t).dw m l (dw0 _ _ _ _ _ l) ?_
  rfl

theorem sum01 {n0 n1 n2 : Nat} (h : (⟨3, ![n0, n1, n2]⟩ : Shape).ReducesTo [0, 1] ⟨1, ![n2]⟩) (v : (⟨3, ![n0, n1, n2]⟩ : Shape).Idx → EReal) (init : EReal) (l : Fin n2) :
    Ideal.hostReduceAdd h v init (ix1 l) = init + ∑ k0 : Fin n0, ∑ k1 : Fin n1, v (ix3 k0 k1 l) := by
  refine congrArg (init + ·) ?_
  refine (Finset.sum_filter_eq_sum_of_fiber _ (fun k : Fin n0 × Fin n1 => (ix3 k.1 k.2 l : (⟨3, ![n0, n1, n2]⟩ : Shape).Idx))
    (fun _ _ e => Prod.ext (congrFun e 0) (congrFun e 1)) (fun i => ⟨fun e => ⟨(i 0, i 1), ?_⟩, ?_⟩) v).trans ?_
  · funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl
  · simp only [Fintype.sum_prod_type]

theorem ref_w (A B : FVec Ideal S8x8192x128 .f32) (Z : FVec Ideal S8192x7168 .f32) (Y : FVec Ideal S8192x2048 .f32) (l : Fin 128) :
    val_main_v50 (F := Ideal) A B Z Y (ix2 0 l) = ∑ h : Fin 8, ∑ k : Fin 8192, val_main_v29 (F := Ideal) A B Z Y (ix3 h k l) := by
  pointwise [val_main_v50, val_main_v34, val_main_v31, val_main_v30, val_main_cst_3, val_main_cst_4]
  refine (sum01 _ _ _ l).trans ?_
  refine (zero_add _).trans ((Fin.sum_univ_one _).trans ((Fin.sum_univ_one _).trans ?_))
  pointwise
  exact (sum01 _ _ _ l).trans (zero_add _)

theorem sum_rows {M : Type} [AddCommMonoid M] (f : Fin 8192 → M) :
    ∑ t : Fin cfg0.N, ∑ r : Fin 512, f (RR t r) = ∑ k : Fin 8192, f k :=
  Fin.sum_mul_add_congr (fun C r hl => congrArg f (Fin.ext (by simp only [RR])))

theorem last_w (c : Dev nD) (t : Fin cfg0.N) (ht : t.val + 1 = cfg0.N) (l : Fin 128) :
    (outsAt0 m c t.val t.isLt).2.2 (ix2 0 l) = val_main_v50 (F := Ideal) (X0 m c) (X1 m c) (X2 m c) (X4 m c) (ix2 0 l) := by
  rw [Pipeline.eq_sum_fin_of_reset_step_apply_last (M := EReal) (fun n h (l : Fin 128) => ((outsAt0 m c n h).2.2 (ix2 0 l) : EReal)) 16 (fun _ => 0)
    (fun p l => tw m c l p) (fun t h l => w_A m c t h l) (fun t h l => w_B m c t h l) (le_of_eq N_0) t ht l,
    zero_add, ref_w]
  refine Finset.sum_comm.trans (Finset.sum_congr rfl fun h _ => ?_)
  exact sum_rows (M := EReal) fun k => WI m c (ix3 h k l)

theorem do_all (c : Dev nD) (t : Fin cfg0.N) (y : S8x512x128.Idx) (z : S8x8192x128.Idx) (h0 : (z 0).val = (y 0).val)
    (h1 : (z 1).val = t.val * 512 + (y 1).val) (h2 : (z 2).val = (y 2).val) : (outsAt0 m c t.val t.isLt).1 y = DO m c z := by
  idx_vars z
  by_cases ht : t.val % 16 = 0
  · exact do_A m c t ht y z0 z1 z2 h0 h1 h2
  · exact do_B m c t ht y z0 z1 z2 h0 h1 h2

theorem dz_all (c : Dev nD) (t : Fin cfg0.N) (y : S512x1024.Idx) (k : Fin 8192) (j : Fin 1024)
    (h0 : k.val = t.val * 512 + (y 0).val) (h1 : j.val = (y 1).val) : (outsAt0 m c t.val t.isLt).2.1 y = DZ m c (ix2 k j) := by
  by_cases ht : t.val % 16 = 0
  · exact dz_A m c t ht y k j h0 h1
  · exact dz_B m c t ht y k j h0 h1

theorem final_5 (c : Dev nD) : (dats m 0 c).arrAt 5 (cfgs 0).N = DO m c := by
  refine (dats m 0 c).arrAt_eq_of_covers 5 _ (by decide +kernel) fun t hf y => ?_
  blk_simp [after0_5]
  exact do_all m c t y _ (by blk_simp [idx t]) (by blk_simp [idx t]) (by blk_simp [idx t])

theorem written (c : Dev nD) (i : S8192x7168.Idx) (h : 6144 ≤ (i 1).val) : (dats m 0 c).arrAt 6 (cfgs 0).N i
    = DZ m c (ix2 ⟨(i 0).val, (i 0).isLt⟩ ⟨(i 1).val - 6144, by have : (i 1).val < 7168 := (i 1).isLt; omega⟩) := by
  refine (dats m 0 c).arrAt_forall_of_coversWhere 6
    (fun (i : S8192x7168.Idx) (v : EReal) => 6144 ≤ (i 1).val → v
      = DZ m c (ix2 ⟨(i 0).val, (i 0).isLt⟩ ⟨(i 1).val - 6144, by have : (i 1).val < 7168 := (i 1).isLt; omega⟩))
    (fun β => β (1 : Fin 2) = 6) (by decide +kernel) (fun t hf y h => ?_) (fun j hj h => ?_) i (Memref.isWhole_whole _) h
  · blk_simp [after0_6]
    exact dz_all m c t ((cfg0.win 6).xinj (cfg0.grid.coords t) y) _ _ (by blk_simp [idx t])
      (by blk_simp [idx t]; show 6 * 1024 + (y 1).val - 6144 = (y 1).val; omega)
  · exfalso
    have := (j 1).isLt
    blk_simp [Pipeline.Window.cell_apply] at hj h this
    omega

theorem final_1 (c : Dev nD) : Pipeline.afterTail₀ cfgs (dats m) 0 (V0 m) [hostOps1] c main_v1 = DZ m c := by
  unfold Pipeline.afterTail₀
  simp only [hostOps1, List.flatten_cons, List.flatten_nil, List.append_nil]
  after_results
  rw [Pipeline.withArrays_arr (cfgs 0).spec launch0.win.arr_inj c _ _ 6]
  funext i
  idx_vars i
  pointwise
  refine (written m c _ (by dsimp only [ix2]; omega)).trans (congrArg (fun q => DZ m c (ix2 i0 q)) (Fin.ext ?_))
  show 6144 + i1.val - 6144 = i1.val
  omega

theorem whole_7 : ∀ t : Fin cfg0.N, t.val + 1 = cfg0.N → (cfg0.win 7).WholeAt t :=
  (by decide +kernel : ∀ t : Fin grid0.N, t.val + 1 = grid0.N → (cfg0.win 7).WholeAt t)

theorem final_7 (c : Dev nD) : (dats m 0 c).arrAt 7 (cfgs 0).N = val_main_v50 (F := Ideal) (X0 m c) (X1 m c) (X2 m c) (X4 m c) := by
  obtain ⟨t, ht⟩ : ∃ t : Fin cfg0.N, t.val + 1 = cfg0.N := ⟨⟨15, by decide⟩, rfl⟩
  refine (dats m 0 c).arrAt_eq_of_after_last 7 t (whole_7 t ht) _ fun j => ?_
  blk_simp
  rw [after0_7]
  idx_vars j
  obtain rfl : j0 = 0 := Subsingleton.elim _ _
  exact last_w m c t ht j1

end Cert.Kernel11Ideal.Prod
end
-- ==== Proof.FinalLoss.lean ====
module

public import proofs.«01_k».proof.Proof.Gen.Kernel12Ideal.Value
public import proofs.«01_k».proof.Proof.Gen.Reference12Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The loss of the normed rows and its gradient: of the rows, and of the norm's weight. -/

namespace Cert.Kernel12Ideal.Prod

open Cert.Kernel12Ideal Cert.Kernel12Ideal.Gen Idealize.ShloMosaic Idealize.ShloMosaic.TcCoe Idealize.SL.Sem
open Cert.Reference12Ideal.Read

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_4.index t 0 = t.val ∧ win0_4.index t 1 = 0
    ∧ win0_5.index t 0 = t.val ∧ win0_5.index t 1 = 0 :=
  (by decide +kernel : ∀ t : Fin grid0.N, _)

/-! The literals: a half, the row's length and its inverse. -/

theorem lit_half : Ideal.ofBits .f32 0x3F000000#32 = ((1 / 2 : ℝ) : EReal) := by
  simp [Ideal.ofBits, Ideal.ieee, -EReal.coe_mul]; norm_num
theorem lit_len : Ideal.ofBits .f32 0x45000000#32 = ((2048 : ℝ) : EReal) := by
  simp [Ideal.ofBits, Ideal.ieee, -EReal.coe_mul]; norm_num
theorem lit_inv : Ideal.ofBits .f32 0x3A000000#32 = ((1 / 2048 : ℝ) : EReal) := by
  simp [Ideal.ofBits, Ideal.ieee, -EReal.coe_mul]; norm_num

/-- Dividing by the row's length is multiplying by its inverse. -/
theorem div_len (x : EReal) : Ideal.div x (Ideal.ofBits .f32 0x45000000#32) = x * Ideal.ofBits .f32 0x3A000000#32 := by
  rw [lit_len, lit_inv, Ideal.div_coe (by norm_num)]

section
variable {A T : FVec Ideal S8192x2048 .f32} {W : FVec Ideal S1x2048 .f32} {x d : FVec Ideal S512x2048 .f32} {w : FVec Ideal S1x2048 .f32}
    {r : Fin 512} {k : Fin 8192}

theorem ms_at (hx : ∀ l, x (ix2 r l) = A (ix2 k l)) (j : Fin 1) : k0_pay2 (F := Ideal) x (ix2 r j) = val_main_v7 (F := Ideal) A (ix2 k j) := by
  obtain rfl : j = 0 := Subsingleton.elim _ _
  pointwise [k0_pay2, val_main_v7, val_main_v5, val_main_v3, val_main_v2, val_main_v1, val_main_cst, val_main_v4, val_main_cst_0, val_main_v6, val_main_cst_1]
  simp only [hx]
  all_goals rfl

theorem rs_at (hx : ∀ l, x (ix2 r l) = A (ix2 k l)) (j : Fin 1) : k0_pay3 (F := Ideal) x (ix2 r j) = val_main_v8 (F := Ideal) A (ix2 k j) := by
  pointwise [k0_pay3, val_main_v8]
  rw [ms_at hx]
  all_goals rfl

theorem rd_at (hx : ∀ l, x (ix2 r l) = A (ix2 k l)) (j : Fin 1) : k0_pay4 (F := Ideal) x (ix2 r j) = val_main_v11 (F := Ideal) A (ix2 k j) := by
  pointwise [k0_pay4, val_main_v11, val_main_v10, val_main_v9, val_main_cst_2]
  rw [ms_at hx, rs_at hx]
  all_goals rfl

theorem xn_at (hx : ∀ l, x (ix2 r l) = A (ix2 k l)) (l : Fin 2048) : k0_pay5 (F := Ideal) x (ix2 r l) = val_main_v13 (F := Ideal) A (ix2 k l) := by
  pointwise [k0_pay5, val_main_v13, val_main_v12]
  rw [hx, rs_at hx]
  all_goals rfl

theorem err_at (hx : ∀ l, x (ix2 r l) = A (ix2 k l)) (hw : ∀ l, w (ix2 0 l) = W (ix2 0 l)) (hd : ∀ l, d (ix2 r l) = T (ix2 k l)) (l : Fin 2048) :
    k0_pay6 (F := Ideal) x w d (ix2 r l) = val_main_v17 (F := Ideal) A W T (ix2 k l) := by
  pointwise [k0_pay6, val_main_v17, val_main_v16, val_main_v15, val_main_v14, val_main_v0]
  rw [xn_at hx, hw, hd]
  all_goals rfl

theorem one_at (j : Fin 1) : k0_pay9 (F := Ideal) (ix2 r j) = Ideal.ofBits .f32 0x3F000000#32 := by
  pointwise [k0_pay9]
  exact (Fin.sum_univ_one _).trans (Fin.sum_univ_one _)

/-- The error's gradient. -/
theorem de_at (hx : ∀ l, x (ix2 r l) = A (ix2 k l)) (hw : ∀ l, w (ix2 0 l) = W (ix2 0 l)) (hd : ∀ l, d (ix2 r l) = T (ix2 k l)) (l : Fin 2048) :
    k0_pay10 (F := Ideal) (k0_pay7 x w d) k0_pay9 (Ideal.ofBits .f32 0x3A000000#32) (ix2 r l) = val_main_v31 (F := Ideal) A W T (ix2 k l) := by
  pointwise [k0_pay10, k0_pay7, val_main_v31, val_main_v30, val_main_v29, val_main_v28, val_main_v27, val_main_v26, val_main_v20, val_main_v19,
    val_main_cst_3, val_main_cst_8, val_main_cst_9, val_main_cst_10]
  simp only [one_at, err_at hx hw hd, div_len, Fin.sum_univ_one]
  all_goals rfl

/-- A row's gradient. -/
theorem row_at (hx : ∀ l, x (ix2 r l) = A (ix2 k l)) (hw : ∀ l, w (ix2 0 l) = W (ix2 0 l)) (hd : ∀ l, d (ix2 r l) = T (ix2 k l)) (l : Fin 2048) :
    k0_pay11 (F := Ideal) x w (k0_pay3 x) (k0_pay4 x) (k0_pay7 x w d) k0_pay9 (FloatOps.ofBits .f32 0x3A000000#32) (ix2 r l)
      = val_main_v51 (F := Ideal) A W T (ix2 k l) := by
  pointwise [k0_pay11, val_main_v51, val_main_v50, val_main_v49, val_main_v48, val_main_v47, val_main_v46, val_main_v45, val_main_v44,
    val_main_v43, val_main_v42, val_main_v41, val_main_v40, val_main_v39, val_main_v38, val_main_v36, val_main_v35, val_main_v14, val_main_v0,
    val_main_cst_13, val_main_cst_14, val_main_cst_15]
  simp only [hx, hw, hd, rs_at hx, rd_at hx, de_at hx hw hd]
  all_goals rfl

end

variable (m : (ℓ : Loc nD τ sig) → Buf (Elt Ideal) ℓ)

abbrev X0 (c : Dev nD) : FVec Ideal S8192x2048 .f32 := m ((c : Thread nD τ).loc main_arg0)
abbrev X1 (c : Dev nD) : FVec Ideal S1x2048 .f32 := m ((c : Thread nD τ).loc main_arg1)
abbrev X2 (c : Dev nD) : FVec Ideal S8192x2048 .f32 := m ((c : Thread nD τ).loc main_arg2)
abbrev DX (c : Dev nD) : FVec Ideal S8192x2048 .f32 := val_main_v51 (F := Ideal) (X0 m c) (X1 m c) (X2 m c)
abbrev DB (c : Dev nD) : FVec Ideal S8192x2048 .bf16 := val_main_v53 (F := Ideal) (X0 m c) (X1 m c) (X2 m c)

/-- Row `r` of point `t`, counted over all the rows. -/
def RR (t : Fin cfg0.N) (r : Fin 512) : Fin 8192 := ⟨t.val * 512 + r.val, by have := lt_of_lt_of_eq t.isLt N_0; omega⟩

theorem in_x (c : Dev nD) (t : Fin cfg0.N) (r : Fin 512) (k : Fin 8192) (h : k.val = t.val * 512 + r.val) (l : Fin 2048) :
    iblk m c 0 t (ix2 r l) = X0 m c (ix2 k l) := by
  blk_ext [iblk, V, idx t]
theorem in_w (c : Dev nD) (t : Fin cfg0.N) (l : Fin 2048) : iblk m c 1 t (ix2 0 l) = X1 m c (ix2 0 l) := by
  blk_ext [iblk, V, idx t]
theorem in_d (c : Dev nD) (t : Fin cfg0.N) (r : Fin 512) (k : Fin 8192) (h : k.val = t.val * 512 + r.val) (l : Fin 2048) :
    iblk m c 2 t (ix2 r l) = X2 m c (ix2 k l) := by
  blk_ext [iblk, V, idx t]

theorem dx_at (c : Dev nD) (t : Fin cfg0.N) (r : Fin 512) (l : Fin 2048) (k : Fin 8192) (h : k.val = t.val * 512 + r.val) :
    k0_pay11 (F := Ideal) (iblk m c 0 t) (iblk m c 1 t) (k0_pay3 (iblk m c 0 t)) (k0_pay4 (iblk m c 0 t)) (k0_pay7 (iblk m c 0 t) (iblk m c 1 t) (iblk m c 2 t))
      k0_pay9 (FloatOps.ofBits .f32 0x3A000000#32) (ix2 r l) = DX m c (ix2 k l) :=
  row_at (in_x m c t r k h) (in_w m c t) (in_d m c t r k h) l

theorem x_A (c : Dev nD) (t : Fin cfg0.N) (ht : t.val % 16 = 0) (r : Fin 512) (l : Fin 2048) (k : Fin 8192)
    (hk : k.val = t.val * 512 + r.val) : (outsAt0 m c t.val t.isLt).2.1 (ix2 r l) = DX m c (ix2 k l) := by
  rw [outsAt0_A m c t ht]
  frame_out
  exact dx_at m c t r l k hk

theorem x_B (c : Dev nD) (t : Fin cfg0.N) (ht : ¬ t.val % 16 = 0) (r : Fin 512) (l : Fin 2048) (k : Fin 8192)
    (hk : k.val = t.val * 512 + r.val) : (outsAt0 m c t.val t.isLt).2.1 (ix2 r l) = DX m c (ix2 k l) := by
  rw [outsAt0_B m c t ht]
  frame_out
  exact dx_at m c t r l k hk

theorem h_A (c : Dev nD) (t : Fin cfg0.N) (ht : t.val % 16 = 0) (r : Fin 512) (l : Fin 2048) (k : Fin 8192)
    (hk : k.val = t.val * 512 + r.val) : (outsAt0 m c t.val t.isLt).2.2.1 (ix2 r l) = DB m c (ix2 k l) := by
  rw [outsAt0_A m c t ht]
  frame_out
  exact dx_at m c t r l k hk

theorem h_B (c : Dev nD) (t : Fin cfg0.N) (ht : ¬ t.val % 16 = 0) (r : Fin 512) (l : Fin 2048) (k : Fin 8192)
    (hk : k.val = t.val * 512 + r.val) : (outsAt0 m c t.val t.isLt).2.2.1 (ix2 r l) = DB m c (ix2 k l) := by
  rw [outsAt0_B m c t ht]
  frame_out
  exact dx_at m c t r l k hk

theorem x_all (c : Dev nD) (t : Fin cfg0.N) (y : S512x2048.Idx) (z : S8192x2048.Idx) (h0 : (z 0).val = t.val * 512 + (y 0).val) (h1 : (z 1).val = (y 1).val) :
    (outsAt0 m c t.val t.isLt).2.1 y = DX m c z := by
  idx_vars y
  idx_vars z
  obtain rfl : z1 = y1 := Fin.ext h1
  by_cases ht : t.val % 16 = 0
  · exact x_A m c t ht y0 z1 z0 h0
  · exact x_B m c t ht y0 z1 z0 h0

theorem h_all (c : Dev nD) (t : Fin cfg0.N) (y : S512x2048.Idx) (z : S8192x2048.Idx) (h0 : (z 0).val = t.val * 512 + (y 0).val) (h1 : (z 1).val = (y 1).val) :
    (outsAt0 m c t.val t.isLt).2.2.1 y = DB m c z := by
  idx_vars y
  idx_vars z
  obtain rfl : z1 = y1 := Fin.ext h1
  by_cases ht : t.val % 16 = 0
  · exact h_A m c t ht y0 z1 z0 h0
  · exact h_B m c t ht y0 z1 z0 h0

theorem final_4 (c : Dev nD) : (dats m 0 c).arrAt 4 (cfgs 0).N = DX m c := by
  refine (dats m 0 c).arrAt_eq_of_covers 4 _ (by decide +kernel) fun t hf y => ?_
  blk_simp [after0_4]
  exact x_all m c t y _ (by blk_simp [idx t]) (by blk_simp [idx t])

theorem final_5 (c : Dev nD) : (dats m 0 c).arrAt 5 (cfgs 0).N = DB m c := by
  refine (dats m 0 c).arrAt_eq_of_covers 5 _ (by decide +kernel) fun t hf y => ?_
  blk_simp [after0_5]
  exact h_all m c t y _ (by blk_simp [idx t]) (by blk_simp [idx t])

/-! The weight's gradient. -/

/-- A point's part of the weight's gradient. -/
def tw (c : Dev nD) (l : Fin 2048) (t : Fin cfg0.N) : EReal := ∑ r : Fin 512, val_main_v32 (F := Ideal) (X0 m c) (X1 m c) (X2 m c) (ix2 (RR t r) l)

theorem part_at (c : Dev nD) (t : Fin cfg0.N) (p : FVec Ideal S1x2048 .f32) (l : Fin 2048) :
    k0_pay15 (F := Ideal) (k0_pay5 (iblk m c 0 t)) (k0_pay7 (iblk m c 0 t) (iblk m c 1 t) (iblk m c 2 t)) k0_pay9 (FloatOps.ofBits .f32 0x3A000000#32) p (ix2 0 l)
      = p (ix2 0 l) + tw m c l t := by
  pointwise [k0_pay15, tw, val_main_v32]
  refine congrArg (_ + ·) (Finset.sum_congr rfl fun r _ => ?_)
  rw [xn_at (in_x m c t r (RR t r) rfl)]
  exact congrArg (_ * ·) (de_at (in_x m c t r (RR t r) rfl) (in_w m c t) (in_d m c t r (RR t r) rfl) l)

theorem fill_w (l : Fin 2048) : k0_pay13 (F := Ideal) (ix2 0 l) = 0 := by pointwise [k0_pay13]

theorem w_A (c : Dev nD) (t : Fin cfg0.N) (h : t.val % 16 = 0) (l : Fin 2048) :
    (outsAt0 m c t.val t.isLt).2.2.2 (ix2 0 l) = 0 + tw m c l t := by
  rw [outsAt0_A m c t h]
  frame_out
  refine (part_at m c t _ l).trans ?_
  rw [fill_w]

theorem w_B (c : Dev nD) (t : Fin cfg0.N) (h : ¬ t.val % 16 = 0) (l : Fin 2048) :
    (outsAt0 m c t.val t.isLt).2.2.2 (ix2 0 l)
      = (outsAt0 m c (t.val - 1) (Nat.lt_of_le_of_lt (Nat.sub_le _ _) t.isLt)).2.2.2 (ix2 0 l) + tw m c l t := by
  rw [outsAt0_B m c t h]
  frame_out
  exact part_at m c t _ l

theorem ref_w (A T : FVec Ideal S8192x2048 .f32) (W : FVec Ideal S1x2048 .f32) (l : Fin 2048) :
    val_main_v54 (F := Ideal) A W T (ix2 0 l) = ∑ k : Fin 8192, val_main_v32 (F := Ideal) A W T (ix2 k l) := by
  pointwise [val_main_v54, val_main_v37, val_main_v34, val_main_v33, val_main_cst_11, val_main_cst_12]
  exact Fin.sum_univ_one _

theorem sum_rows {M : Type} [AddCommMonoid M] (f : Fin 8192 → M) :
    ∑ t : Fin cfg0.N, ∑ r : Fin 512, f (RR t r) = ∑ k : Fin 8192, f k :=
  Fin.sum_mul_add_congr (fun C r hl => congrArg f (Fin.ext (by simp only [RR])))

theorem last_w (c : Dev nD) (t : Fin cfg0.N) (ht : t.val + 1 = cfg0.N) (l : Fin 2048) :
    (outsAt0 m c t.val t.isLt).2.2.2 (ix2 0 l) = val_main_v54 (F := Ideal) (X0 m c) (X1 m c) (X2 m c) (ix2 0 l) := by
  rw [Pipeline.eq_sum_fin_of_reset_step_apply_last (M := EReal) (fun n h (l : Fin 2048) => ((outsAt0 m c n h).2.2.2 (ix2 0 l) : EReal)) 16 (fun _ => 0)
    (fun p l => tw m c l p) (fun t h l => w_A m c t h l) (fun t h l => w_B m c t h l) (le_of_eq N_0) t ht l,
    zero_add, ref_w]
  exact sum_rows (M := EReal) fun k => val_main_v32 (F := Ideal) (X0 m c) (X1 m c) (X2 m c) (ix2 k l)

theorem whole_6 : ∀ t : Fin cfg0.N, t.val + 1 = cfg0.N → (cfg0.win 6).WholeAt t :=
  (by decide +kernel : ∀ t : Fin grid0.N, t.val + 1 = grid0.N → (cfg0.win 6).WholeAt t)
theorem whole_3 : ∀ t : Fin cfg0.N, t.val + 1 = cfg0.N → (cfg0.win 3).WholeAt t :=
  (by decide +kernel : ∀ t : Fin grid0.N, t.val + 1 = grid0.N → (cfg0.win 3).WholeAt t)
theorem exists_last : ∃ t : Fin cfg0.N, t.val + 1 = cfg0.N := ⟨⟨15, by decide⟩, rfl⟩

theorem final_6 (c : Dev nD) : (dats m 0 c).arrAt 6 (cfgs 0).N = val_main_v54 (F := Ideal) (X0 m c) (X1 m c) (X2 m c) := by
  obtain ⟨t, ht⟩ := exists_last
  refine (dats m 0 c).arrAt_eq_of_after_last 6 t (whole_6 t ht) _ fun j => ?_
  blk_simp
  rw [after0_6]
  idx_vars j
  obtain rfl : j0 = 0 := Subsingleton.elim _ _
  exact last_w m c t ht j1

/-! The loss. -/

/-- A row's loss, before it is halved. -/
def rl (A T : FVec Ideal S8192x2048 .f32) (W : FVec Ideal S1x2048 .f32) (k : Fin 8192) : EReal :=
  (∑ l : Fin 2048, val_main_v18 (F := Ideal) A W T (ix2 k l)) * Ideal.ofBits .f32 0x3A000000#32

/-- A half of a sum is the sum of the halves. -/
theorem half_sum {n : Nat} (f : Fin n → EReal) :
    Ideal.ofBits .f32 0x3F000000#32 * ∑ k, f k = ∑ k, Ideal.ofBits .f32 0x3F000000#32 * f k := by
  rw [lit_half]
  induction n with
  | zero => simp
  | succ n ih =>
    rw [Fin.sum_univ_succ, Fin.sum_univ_succ, EReal.left_distrib_of_nonneg_of_ne_top (by norm_num) (EReal.coe_ne_top _), ih]

/-- A point's part of the loss. -/
def tl (c : Dev nD) (t : Fin cfg0.N) : EReal := ∑ r : Fin 512, Ideal.ofBits .f32 0x3F000000#32 * rl (X0 m c) (X2 m c) (X1 m c) (RR t r)

theorem loss_at (c : Dev nD) (t : Fin cfg0.N) (j : Fin 1) :
    k0_pay8 (F := Ideal) (iblk m c 0 t) (iblk m c 1 t) (iblk m c 2 t) (ix2 0 j) = tl m c t := by
  pointwise [k0_pay8]
  refine (half_sum _).trans (Finset.sum_congr rfl fun r _ => ?_)
  simp only [rl, val_main_v18_apply]
  refine congrArg (_ * ·) (congrArg (· * _) (Finset.sum_congr rfl fun l _ => ?_))
  rw [err_at (in_x m c t r (RR t r) rfl) (in_w m c t) (in_d m c t r (RR t r) rfl)]
  rfl

theorem acc_l (p : FVec Ideal S1x128 .f32) (a : FVec Ideal S1x1 .f32) (l : Fin 128) :
    k0_pay1 (F := Ideal) (k0_pay16 p) (k0_pay17 a) (ix2 0 l) = p (ix2 0 l) + a (ix2 0 0) := by
  pointwise [k0_pay1, k0_pay16, k0_pay17]
theorem fill_l (l : Fin 128) : k0_pay14 (F := Ideal) (ix2 0 l) = 0 := by pointwise [k0_pay14]

theorem l_A (c : Dev nD) (t : Fin cfg0.N) (h : t.val % 16 = 0) (l : Fin 128) :
    (outsAt0 m c t.val t.isLt).1 (ix2 0 l) = 0 + tl m c t := by
  rw [outsAt0_A m c t h]
  frame_out
  refine (acc_l _ _ l).trans ?_
  rw [fill_l]
  exact congrArg (0 + ·) (loss_at m c t 0)

theorem l_B (c : Dev nD) (t : Fin cfg0.N) (h : ¬ t.val % 16 = 0) (l : Fin 128) :
    (outsAt0 m c t.val t.isLt).1 (ix2 0 l)
      = (outsAt0 m c (t.val - 1) (Nat.lt_of_le_of_lt (Nat.sub_le _ _) t.isLt)).1 (ix2 0 l) + tl m c t := by
  rw [outsAt0_B m c t h]
  frame_out
  refine (acc_l _ _ l).trans ?_
  exact congrArg (_ + ·) (loss_at m c t 0)

theorem ref_l (A T : FVec Ideal S8192x2048 .f32) (W : FVec Ideal S1x2048 .f32) (l : Fin 128) :
    val_main_v52 (F := Ideal) A W T (ix2 0 l) = ∑ k : Fin 8192, Ideal.ofBits .f32 0x3F000000#32 * rl A T W k := by
  rw [← half_sum]
  pointwise [val_main_v52, val_main_v25, val_main_v24, val_main_v23, val_main_v22, val_main_v21, val_main_cst_4, val_main_cst_5, val_main_cst_6, val_main_cst_7]
  simp only [div_len]
  rfl

theorem last_l (c : Dev nD) (t : Fin cfg0.N) (ht : t.val + 1 = cfg0.N) (l : Fin 128) :
    (outsAt0 m c t.val t.isLt).1 (ix2 0 l) = val_main_v52 (F := Ideal) (X0 m c) (X1 m c) (X2 m c) (ix2 0 l) := by
  rw [Pipeline.eq_sum_fin_of_reset_step_apply_last (M := EReal) (fun n h (l : Fin 128) => ((outsAt0 m c n h).1 (ix2 0 l) : EReal)) 16 (fun _ => 0)
    (fun p l => tl m c p) (fun t h l => l_A m c t h l) (fun t h l => l_B m c t h l) (le_of_eq N_0) t ht l,
    zero_add, ref_l]
  exact sum_rows (M := EReal) fun k => Ideal.ofBits .f32 0x3F000000#32 * rl (X0 m c) (X2 m c) (X1 m c) k

theorem final_3 (c : Dev nD) : (dats m 0 c).arrAt 3 (cfgs 0).N = val_main_v52 (F := Ideal) (X0 m c) (X1 m c) (X2 m c) := by
  obtain ⟨t, ht⟩ := exists_last
  refine (dats m 0 c).arrAt_eq_of_after_last 3 t (whole_3 t ht) _ fun j => ?_
  blk_simp
  rw [after0_3]
  idx_vars j
  obtain rfl : j0 = 0 := Subsingleton.elim _ _
  exact last_l m c t ht j1

end Cert.Kernel12Ideal.Prod
end
-- ==== Proof.RmsFwd.lean ====
module

public import proofs.«01_k».proof.Proof.Gen.Kernel13Ideal.Value
public import proofs.«01_k».proof.Proof.Gen.Reference13Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The norm of a row times its weight, and the same transposed. -/

namespace Cert.Kernel13Ideal.Prod

open Cert.Kernel13Ideal Cert.Kernel13Ideal.Gen Idealize.ShloMosaic Idealize.ShloMosaic.TcCoe Idealize.SL.Sem
open Cert.Reference13Ideal.Read

theorem idx : ∀ t : Fin cfg0.N, win0_0.index t 0 = t.val ∧ win0_0.index t 1 = 0 ∧ win0_1.index t 0 = 0 ∧ win0_1.index t 1 = 0
    ∧ win0_2.index t 0 = t.val ∧ win0_2.index t 1 = 0 ∧ win0_3.index t 0 = 0 ∧ win0_3.index t 1 = t.val :=
  (by decide +kernel : ∀ t : Fin grid0.N, _)

/-- A block's row is the row of the whole, if it holds that row of the array. -/
theorem row_at (A : FVec Ideal S8192x2048 .f32) (W : FVec Ideal S1x2048 .f32) (x : FVec Ideal S512x2048 .f32) (w : FVec Ideal S1x2048 .f32)
    (r : Fin 512) (k : Fin 8192) (hx : ∀ l, x (ix2 r l) = A (ix2 k l)) (hw : ∀ l, w (ix2 0 l) = W (ix2 0 l)) (l : Fin 2048) :
    k0_pay1 (F := Ideal) x w (ix2 r l) = val_main_v13 (F := Ideal) A W (ix2 k l) := by
  pointwise [k0_pay1, val_main_v13, val_main_v10, val_main_v9, val_main_v8, val_main_v7, val_main_v5, val_main_v3, val_main_v2, val_main_v1,
    val_main_cst, val_main_v4, val_main_cst_0, val_main_v6, val_main_cst_1, val_main_v12, val_main_v11, val_main_v0]
  simp only [hx, hw]
  all_goals rfl

variable (m : (ℓ : Loc nD τ sig) → Buf (Elt Ideal) ℓ)

theorem in_x (c : Dev nD) (t : Fin cfg0.N) (r : Fin 512) (k : Fin 8192) (h : k.val = t.val * 512 + r.val) (l : Fin 2048) :
    View.ld (Val := Elt Ideal) (e' := .f32) (iblk m c 0 t) r0_0 (ix2 r l) = m ((c : Thread nD τ).loc main_arg0) (ix2 k l) := by
  pointwise; blk_ext [iblk, V, idx t, r0_0, r0_1]
theorem in_w (c : Dev nD) (t : Fin cfg0.N) (l : Fin 2048) :
    View.ld (Val := Elt Ideal) (e' := .f32) (iblk m c 1 t) r0_1 (ix2 0 l) = m ((c : Thread nD τ).loc main_arg1) (ix2 0 l) := by
  pointwise; blk_ext [iblk, V, idx t, r0_0, r0_1]

theorem rows_at (c : Dev nD) (t : Fin cfg0.N) (y : S512x2048.Idx) (z : S8192x2048.Idx)
    (h0 : (z 0).val = t.val * 512 + (y 0).val) (h1 : (z 1).val = (y 1).val) :
    out0_2 (iblk m c 0 t) (iblk m c 1 t) y
      = val_main_v14 (F := Ideal) (m ((c : Thread nD τ).loc main_arg0)) (m ((c : Thread nD τ).loc main_arg1)) z := by
  unfold out0_2
  canon_tiles y h
  case piece0 =>
    idx_vars y
    idx_vars z
    have h0 : z0.val = t.val * 512 + y0.val := by omega
    have h1 : z1.val = y1.val := by omega
    obtain rfl : z1 = y1 := Fin.ext h1
    pointwise [k0_pay2, val_main_v14]
    exact row_at _ _ _ _ y0 z0 (in_x m c t y0 z0 h0) (in_w m c t) z1

theorem cols_at (c : Dev nD) (t : Fin cfg0.N) (y : S2048x512.Idx) (z : S2048x8192.Idx)
    (h0 : (z 0).val = (y 0).val) (h1 : (z 1).val = t.val * 512 + (y 1).val) :
    out0_3 (iblk m c 0 t) (iblk m c 1 t) y
      = val_main_v16 (F := Ideal) (m ((c : Thread nD τ).loc main_arg0)) (m ((c : Thread nD τ).loc main_arg1)) z := by
  unfold out0_3
  canon_tiles y h
  case piece0 =>
    idx_vars y
    idx_vars z
    have h1 : z1.val = t.val * 512 + y1.val := by omega
    have h0 : z0.val = y0.val := by omega
    obtain rfl : z0 = y0 := Fin.ext h0
    pointwise [k0_pay3, val_main_v16, val_main_v15]
    exact row_at _ _ _ _ y1 z1 (in_x m c t y1 z1 h1) (in_w m c t) z0

theorem final_2 (c : Dev nD) : (dats m 0 c).arrAt 2 (cfgs 0).N
    = val_main_v14 (F := Ideal) (m ((c : Thread nD τ).loc main_arg0)) (m ((c : Thread nD τ).loc main_arg1)) := by
  refine (dats m 0 c).arrAt_eq_of_covers 2 _ (by decide +kernel) fun t hf y => ?_
  blk_simp [after0_2]
  exact rows_at m c t y _ (by blk_simp [idx t]) (by blk_simp [idx t])

theorem final_3 (c : Dev nD) : (dats m 0 c).arrAt 3 (cfgs 0).N
    = val_main_v16 (F := Ideal) (m ((c : Thread nD τ).loc main_arg0)) (m ((c : Thread nD τ).loc main_arg1)) := by
  refine (dats m 0 c).arrAt_eq_of_covers 3 _ (by decide +kernel) fun t hf y => ?_
  blk_simp [after0_3]
  exact cols_at m c t y _ (by blk_simp [idx t]) (by blk_simp [idx t])

end Cert.Kernel13Ideal.Prod
end
-- ==== Proof.SguFwd.lean ====
module

public import proofs.«01_k».proof.Proof.Gen.Kernel14Ideal.Frame
public import proofs.«01_k».proof.Proof.Gen.Reference14Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The gated rows: the norm of the gate's activations, mixed over each chunk of rows, times the two activations; and the same transposed. -/

namespace Cert.Kernel14Ideal.Prod

open Cert.Kernel14Ideal Cert.Kernel14Ideal.Gen Idealize.ShloMosaic Idealize.ShloMosaic.TcCoe Idealize.SL.Sem
open Cert.Reference14Ideal.Read

theorem idx : ∀ t : Fin cfg0.N, win0_0.index t 0 = t.val ∧ win0_0.index t 1 = 0 ∧ win0_1.index t 0 = t.val ∧ win0_1.index t 1 = 1
    ∧ win0_2.index t 0 = t.val ∧ win0_2.index t 1 = 2 ∧ win0_3.index t 0 = 0 ∧ win0_3.index t 1 = 0 ∧ win0_4.index t 0 = 0 ∧ win0_4.index t 1 = 0
    ∧ win0_5.index t 0 = 0 ∧ win0_5.index t 1 = 0 ∧ win0_5.index t 2 = 0 ∧ win0_6.index t 0 = 0 ∧ win0_6.index t 1 = 0
    ∧ win0_7.index t 0 = t.val ∧ win0_7.index t 1 = 0 ∧ win0_8.index t 0 = 0 ∧ win0_8.index t 1 = t.val :=
  (by decide +kernel : ∀ t : Fin grid0.N, _)

/-- One chunk's blocks are the rows `R` of the call's arrays: the three pre-activations, the norm's two rows, the eight mixing matrices and the eight bias columns. -/
structure Holds (X0 : FVec Ideal S8192x7168 .f32) (X1 X2 : FVec Ideal S1x1024 .f32) (X3 : FVec Ideal S8x128x128 .f32) (X4 : FVec Ideal S128x8 .f32)
    (C : Fin 64) (R : Fin 128 → Fin 8192) (u v z : FVec Ideal S128x1024 .f32) (g e : FVec Ideal S1x1024 .f32)
    (w : Fin 8 → FVec Ideal S128x128 .f32) (b : Fin 8 → FVec Ideal S128x1 .f32) : Prop where
  hR : ∀ r : Fin 128, (R r).val = 128 * C.val + r.val
  hu : ∀ r (l : Fin 1024), u (ix2 r l) = X0 (ix2 (R r) ⟨l.val, by omega⟩)
  hv : ∀ r (l : Fin 1024), v (ix2 r l) = X0 (ix2 (R r) ⟨1024 + l.val, by omega⟩)
  hz : ∀ r (l : Fin 1024), z (ix2 r l) = X0 (ix2 (R r) ⟨2048 + l.val, by omega⟩)
  hg : ∀ l, g (ix2 0 l) = X1 (ix2 0 l)
  he : ∀ l, e (ix2 0 l) = X2 (ix2 0 l)
  hw : ∀ i r k, w i (ix2 r k) = X3 (ix3 i r k)
  hb : ∀ i r, b i (ix2 r 0) = X4 (ix2 r i)

section
variable {X0 : FVec Ideal S8192x7168 .f32} {X1 X2 : FVec Ideal S1x1024 .f32} {X3 : FVec Ideal S8x128x128 .f32} {X4 : FVec Ideal S128x8 .f32}
    {C : Fin 64} {R : Fin 128 → Fin 8192} {u v z : FVec Ideal S128x1024 .f32} {g e : FVec Ideal S1x1024 .f32}
    {w : Fin 8 → FVec Ideal S128x128 .f32} {b : Fin 8 → FVec Ideal S128x1 .f32}
    (h : Holds X0 X1 X2 X3 X4 C R u v z g e w b)
include h

theorem xc_at (r : Fin 128) (l : Fin 1024) : k0_pay20 (F := Ideal) v (ix2 r l) = val_main_v19 (F := Ideal) X0 (ix2 (R r) l) := by
  pointwise [k0_pay20, val_main_v19, val_main_v18, val_main_v17, val_main_v15, val_main_v14, val_main_v13, val_main_v12, val_main_v11, val_main_v10, val_main_v9, val_main_v8, val_main_v7, val_main_v6, val_main_v1, val_main_v16, val_main_cst, val_main_cst_0, val_main_cst_1, val_main_cst_2, val_main_cst_3]
  simp only [h.hv]
  all_goals rfl

theorem var_at (r : Fin 128) (j : Fin 1) : k0_pay21 (F := Ideal) v (ix2 r j) = val_main_v24 (F := Ideal) X0 (ix2 (R r) j) := by
  obtain rfl : j = 0 := Subsingleton.elim _ _
  pointwise [k0_pay21, val_main_v24, val_main_v22, val_main_v21, val_main_v20, val_main_v23, val_main_cst_4, val_main_cst_5]
  simp only [xc_at h]
  all_goals rfl

theorem vl_at (r : Fin 128) (l : Fin 1024) : k0_pay22 (F := Ideal) g e (k0_pay20 v) (k0_pay21 v) (ix2 r l) = val_main_v35 (F := Ideal) X0 X1 X2 (ix2 (R r) l) := by
  pointwise [k0_pay22, val_main_v35, val_main_v34, val_main_v33, val_main_v32, val_main_v31, val_main_v30, val_main_v29, val_main_v28, val_main_v27, val_main_v26, val_main_v25, val_main_v4, val_main_v3, val_main_cst_6]
  simp only [h.hg, h.he, xc_at h, var_at h]
  all_goals rfl

theorem ln_eq : k0_pay9 (F := Ideal) v g e = k0_pay22 g e (k0_pay20 v) (k0_pay21 v) := rfl

/-- One group's mixed rows plus its bias. -/
theorem v51_at (r : Fin 128) (i : Fin 8) (d : Fin 128) :
    val_main_v51 (F := Ideal) X0 X1 X2 X3 X4 (ix2 (R r) ⟨128 * i.val + d.val, by omega⟩)
      = ∑ x, X3 (ix3 i r x) * val_main_v35 (F := Ideal) X0 X1 X2 (ix2 (R x) ⟨128 * i.val + d.val, by omega⟩) + X4 (ix2 r i) := by
  pointwise [val_main_v51, val_main_v42, val_main_v41, val_main_v40, val_main_v39, val_main_v38, val_main_v37, val_main_v36, val_main_v5]
  have hr := h.hR r
  refine Ideal.add_congr (Finset.sum_congr rfl fun x _ => ?_) (congrArg X4 (by idx_ext))
  have hx := h.hR x
  rw [mul_comm]
  exact Ideal.mul_congr (congrArg X3 (by idx_ext)) (congrArg _ (by idx_ext))

theorem grp_at (r d : Fin 128) (i q : Fin 8) (hi : i.val = q.val) (o : Fin 1024) (ho : o.val = 128 * i.val + d.val) :
    ∑ x, w q (ix2 r x) * k0_pay22 (F := Ideal) g e (k0_pay20 v) (k0_pay21 v) (ix2 x o) + b q (ix2 r 0)
      = ∑ x, X3 (ix3 i r x) * val_main_v35 (F := Ideal) X0 X1 X2 (ix2 (R x) ⟨128 * i.val + d.val, by omega⟩) + X4 (ix2 r i) := by
  obtain rfl : i = q := Fin.ext hi
  obtain rfl : o = ⟨128 * i.val + d.val, by clear ho; omega⟩ := Fin.ext ho
  simp only [vl_at h, h.hw, h.hb]

theorem sp_at (r : Fin 128) (i : Fin 8) (d : Fin 128) :
    k0_pay14 (F := Ideal) (w 0) (w 1) (w 2) (w 3) (w 4) (w 5) (w 6) (w 7) (b 0) (b 1) (b 2) (b 3) (b 4) (b 5) (b 6) (b 7) (k0_pay9 v g e) (k0_pay10 v g e) (k0_pay11 v g e) (k0_pay12 v g e) (k0_pay13 v g e) (ix2 r ⟨128 * i.val + d.val, by omega⟩)
      = val_main_v51 (F := Ideal) X0 X1 X2 X3 X4 (ix2 (R r) ⟨128 * i.val + d.val, by omega⟩) := by
  rw [v51_at h]
  pointwise [k0_pay14, k0_pay10, k0_pay11, k0_pay12, k0_pay13, ln_eq h]
  split
  · have q : i.val = (0 : Fin 8).val := by show i.val = 0; omega
    have p := grp_at h r d i 0 q ⟨128 * i.val + d.val, by omega⟩ (rfl)
    exact p
  split
  · have q : i.val = (1 : Fin 8).val := by show i.val = 1; omega
    have p := grp_at h r d i 1 q ⟨128 + (128 * i.val + d.val - 128), by omega⟩ (by dsimp only; omega)
    exact p
  split
  · have q : i.val = (2 : Fin 8).val := by show i.val = 2; omega
    have p := grp_at h r d i 2 q ⟨256 + (128 * i.val + d.val - 128 - 128), by omega⟩ (by dsimp only; omega)
    exact p
  split
  · have q : i.val = (3 : Fin 8).val := by show i.val = 3; omega
    have p := grp_at h r d i 3 q ⟨384 + (128 * i.val + d.val - 128 - 128 - 128), by omega⟩ (by dsimp only; omega)
    exact p
  split
  · have q : i.val = (4 : Fin 8).val := by show i.val = 4; omega
    have p := grp_at h r d i 4 q ⟨512 + (128 * i.val + d.val - 128 - 128 - 128 - 128), by omega⟩ (by dsimp only; omega)
    exact p
  split
  · have q : i.val = (5 : Fin 8).val := by show i.val = 5; omega
    have p := grp_at h r d i 5 q ⟨640 + (128 * i.val + d.val - 128 - 128 - 128 - 128 - 128), by omega⟩ (by dsimp only; omega)
    exact p
  split
  · have q : i.val = (6 : Fin 8).val := by show i.val = 6; omega
    have p := grp_at h r d i 6 q ⟨768 + (128 * i.val + d.val - 128 - 128 - 128 - 128 - 128 - 128), by omega⟩ (by dsimp only; omega)
    exact p
  have q : i.val = (7 : Fin 8).val := by show i.val = 7; omega
  have p := grp_at h r d i 7 q ⟨896 + (128 * i.val + d.val - 128 - 128 - 128 - 128 - 128 - 128 - 128), by omega⟩ (by dsimp only; omega)
  exact p

theorem sp_at' (r : Fin 128) (l : Fin 1024) :
    k0_pay14 (F := Ideal) (w 0) (w 1) (w 2) (w 3) (w 4) (w 5) (w 6) (w 7) (b 0) (b 1) (b 2) (b 3) (b 4) (b 5) (b 6) (b 7) (k0_pay9 v g e) (k0_pay10 v g e) (k0_pay11 v g e) (k0_pay12 v g e) (k0_pay13 v g e) (ix2 r l)
      = val_main_v51 (F := Ideal) X0 X1 X2 X3 X4 (ix2 (R r) l) := by
  have q : l = ⟨128 * (l.val / 128) + l.val % 128, by omega⟩ := Fin.ext (by dsimp only; omega)
  rw [q]
  exact sp_at h r ⟨l.val / 128, by omega⟩ ⟨l.val % 128, by omega⟩

theorem y_at (r : Fin 128) (l : Fin 1024) :
    k0_pay17 (F := Ideal) z (k0_pay14 (w 0) (w 1) (w 2) (w 3) (w 4) (w 5) (w 6) (w 7) (b 0) (b 1) (b 2) (b 3) (b 4) (b 5) (b 6) (b 7) (k0_pay9 v g e) (k0_pay10 v g e) (k0_pay11 v g e) (k0_pay12 v g e) (k0_pay13 v g e)) (k0_pay15 u) (k0_pay16 u) (ix2 r l) = val_main_v54 (F := Ideal) X0 X1 X2 X3 X4 (ix2 (R r) l) := by
  pointwise [k0_pay17, k0_pay15, k0_pay16, val_main_v54, val_main_v53, val_main_v52, val_main_v50, val_main_v49, val_main_v48, val_main_v47, val_main_v46, val_main_v45, val_main_v44, val_main_v43, val_main_v2, val_main_v0, val_main_call0_v0, val_main_call0_v1, val_main_call0_v2, val_main_call0_v3, val_main_call0_v4, val_main_call0_v5, val_main_call0_cst, val_main_call0_cst_0, val_main_cst_7, val_main_cst_8, val_main_cst_9]
  simp only [h.hu, h.hz, sp_at' h]
  all_goals rfl

end

/-! The four chunks are worked alike. -/

section
variable (u v z : FVec Ideal S128x1024 .f32) (g e : FVec Ideal S1x1024 .f32) (w : Fin 8 → FVec Ideal S128x128 .f32) (b : Fin 8 → FVec Ideal S128x1 .f32)

theorem prod1 : (k0_pay31 (w 7) (b 7) u z (k0_pay23 g e (k0_pay20 v) (k0_pay21 v)) (k0_pay24 (w 0) (b 0) g e (k0_pay20 v) (k0_pay21 v)) (k0_pay25 (w 1) (b 1) g e (k0_pay20 v) (k0_pay21 v)) (k0_pay26 (w 2) (b 2) g e (k0_pay20 v) (k0_pay21 v)) (k0_pay27 (w 3) (b 3) g e (k0_pay20 v) (k0_pay21 v)) (k0_pay28 (w 4) (b 4) g e (k0_pay20 v) (k0_pay21 v)) (k0_pay29 (w 5) (b 5) g e (k0_pay20 v) (k0_pay21 v)) (k0_pay30 (w 6) (b 6) g e (k0_pay20 v) (k0_pay21 v)) : FVec Ideal S128x1024 .f32) = k0_pay17 z (k0_pay14 (w 0) (w 1) (w 2) (w 3) (w 4) (w 5) (w 6) (w 7) (b 0) (b 1) (b 2) (b 3) (b 4) (b 5) (b 6) (b 7) (k0_pay9 v g e) (k0_pay10 v g e) (k0_pay11 v g e) (k0_pay12 v g e) (k0_pay13 v g e)) (k0_pay15 u) (k0_pay16 u) := rfl

theorem prod2 : (k0_pay44 (w 5) (w 6) (w 7) (b 4) (b 5) (b 6) (b 7) u z (k0_pay36 g e (k0_pay34 v)) (k0_pay37 g e (k0_pay34 v)) (k0_pay38 g e (k0_pay34 v)) (k0_pay39 (w 0) (b 0) g e (k0_pay34 v)) (k0_pay40 (w 1) (b 1) g e (k0_pay34 v)) (k0_pay41 (w 2) (b 2) g e (k0_pay34 v)) (k0_pay42 (w 3) (b 3) g e (k0_pay34 v)) (k0_pay43 (w 4) g e (k0_pay34 v)) : FVec Ideal S128x1024 .f32) = k0_pay17 z (k0_pay14 (w 0) (w 1) (w 2) (w 3) (w 4) (w 5) (w 6) (w 7) (b 0) (b 1) (b 2) (b 3) (b 4) (b 5) (b 6) (b 7) (k0_pay9 v g e) (k0_pay10 v g e) (k0_pay11 v g e) (k0_pay12 v g e) (k0_pay13 v g e)) (k0_pay15 u) (k0_pay16 u) := rfl

theorem prod3 : (k0_pay57 (w 3) (w 4) (w 5) (w 6) (w 7) (b 2) (b 3) (b 4) (b 5) (b 6) (b 7) u z (k0_pay48 v g e) (k0_pay49 v g e) (k0_pay50 v g e) (k0_pay51 v g e) (k0_pay52 v g e) (k0_pay53 (w 0) (b 0) v g e) (k0_pay54 (w 1) (b 1) v g e) (k0_pay55 (w 2)) (k0_pay56 v g e) : FVec Ideal S128x1024 .f32) = k0_pay17 z (k0_pay14 (w 0) (w 1) (w 2) (w 3) (w 4) (w 5) (w 6) (w 7) (b 0) (b 1) (b 2) (b 3) (b 4) (b 5) (b 6) (b 7) (k0_pay9 v g e) (k0_pay10 v g e) (k0_pay11 v g e) (k0_pay12 v g e) (k0_pay13 v g e)) (k0_pay15 u) (k0_pay16 u) := rfl

end

variable (m : (ℓ : Loc nD τ sig) → Buf (Elt Ideal) ℓ)

abbrev X0 (c : Dev nD) : FVec Ideal S8192x7168 .f32 := m ((c : Thread nD τ).loc main_arg0)
abbrev X1 (c : Dev nD) : FVec Ideal S1x1024 .f32 := m ((c : Thread nD τ).loc main_arg1)
abbrev X2 (c : Dev nD) : FVec Ideal S1x1024 .f32 := m ((c : Thread nD τ).loc main_arg2)
abbrev X3 (c : Dev nD) : FVec Ideal S8x128x128 .f32 := m ((c : Thread nD τ).loc main_arg3)
abbrev X4 (c : Dev nD) : FVec Ideal S128x8 .f32 := m ((c : Thread nD τ).loc main_arg4)
/-- The gated rows. -/
abbrev YY (c : Dev nD) : FVec Ideal S8192x1024 .f32 := val_main_v54 (F := Ideal) (X0 m c) (X1 m c) (X2 m c) (X3 m c) (X4 m c)

theorem blk0 (c : Dev nD) (t : Fin cfg0.N) (r : Fin 512) (j : Fin 1024) (k : Fin 8192) (i : Fin 7168) (hk : k.val = t.val * 512 + r.val)
    (hi : i.val = j.val) : iblk m c 0 t (ix2 r j) = X0 m c (ix2 k i) := by
  blk_ext [iblk, V, idx t]
theorem blk1 (c : Dev nD) (t : Fin cfg0.N) (r : Fin 512) (j : Fin 1024) (k : Fin 8192) (i : Fin 7168) (hk : k.val = t.val * 512 + r.val)
    (hi : i.val = 1024 + j.val) : iblk m c 1 t (ix2 r j) = X0 m c (ix2 k i) := by
  blk_ext [iblk, V, idx t]
theorem blk2 (c : Dev nD) (t : Fin cfg0.N) (r : Fin 512) (j : Fin 1024) (k : Fin 8192) (i : Fin 7168) (hk : k.val = t.val * 512 + r.val)
    (hi : i.val = 2048 + j.val) : iblk m c 2 t (ix2 r j) = X0 m c (ix2 k i) := by
  blk_ext [iblk, V, idx t]
theorem blk3 (c : Dev nD) (t : Fin cfg0.N) (l : Fin 1024) : iblk m c 3 t (ix2 0 l) = X1 m c (ix2 0 l) := by
  blk_ext [iblk, V, idx t]
theorem blk4 (c : Dev nD) (t : Fin cfg0.N) (l : Fin 1024) : iblk m c 4 t (ix2 0 l) = X2 m c (ix2 0 l) := by
  blk_ext [iblk, V, idx t]
theorem blk5 (c : Dev nD) (t : Fin cfg0.N) (i : Fin 8) (r k : Fin 128) : iblk m c 5 t (ix3 i r k) = X3 m c (ix3 i r k) := by
  blk_ext [iblk, V, idx t]
theorem blk6 (c : Dev nD) (t : Fin cfg0.N) (r : Fin 128) (i : Fin 8) : iblk m c 6 t (ix2 r i) = X4 m c (ix2 r i) := by
  blk_ext [iblk, V, idx t]

/-- The eight mixing matrices and bias columns a point reads. -/
def ww (c : Dev nD) (t : Fin cfg0.N) : Fin 8 → FVec Ideal S128x128 .f32 :=
  ![k0_pay1 (View.ld (Val := Elt Ideal) (e' := .f32) (iblk m c 5 t) r0_0),
    k0_pay2 (View.ld (Val := Elt Ideal) (e' := .f32) (iblk m c 5 t) r0_1),
    k0_pay3 (View.ld (Val := Elt Ideal) (e' := .f32) (iblk m c 5 t) r0_2),
    k0_pay4 (View.ld (Val := Elt Ideal) (e' := .f32) (iblk m c 5 t) r0_3),
    k0_pay5 (View.ld (Val := Elt Ideal) (e' := .f32) (iblk m c 5 t) r0_4),
    k0_pay6 (View.ld (Val := Elt Ideal) (e' := .f32) (iblk m c 5 t) r0_5),
    k0_pay7 (View.ld (Val := Elt Ideal) (e' := .f32) (iblk m c 5 t) r0_6),
    k0_pay8 (View.ld (Val := Elt Ideal) (e' := .f32) (iblk m c 5 t) r0_7)]
def bb (c : Dev nD) (t : Fin cfg0.N) : Fin 8 → FVec Ideal S128x1 .f32 :=
  ![View.ld (Val := Elt Ideal) (e' := .f32) (iblk m c 6 t) r0_8,
    View.ld (Val := Elt Ideal) (e' := .f32) (iblk m c 6 t) r0_9,
    View.ld (Val := Elt Ideal) (e' := .f32) (iblk m c 6 t) r0_10,
    View.ld (Val := Elt Ideal) (e' := .f32) (iblk m c 6 t) r0_11,
    View.ld (Val := Elt Ideal) (e' := .f32) (iblk m c 6 t) r0_12,
    View.ld (Val := Elt Ideal) (e' := .f32) (iblk m c 6 t) r0_13,
    View.ld (Val := Elt Ideal) (e' := .f32) (iblk m c 6 t) r0_14,
    View.ld (Val := Elt Ideal) (e' := .f32) (iblk m c 6 t) r0_15]

theorem ww0 (c : Dev nD) (t : Fin cfg0.N) (r k : Fin 128) : ww m c t 0 (ix2 r k) = X3 m c (ix3 0 r k) := by
  refine Eq.trans (b := iblk m c 5 t (ix3 0 r k)) ?_ (blk5 m c t 0 r k)
  show k0_pay1 (F := Ideal) (View.ld (Val := Elt Ideal) (e' := .f32) (iblk m c 5 t) r0_0) (ix2 r k) = _
  pointwise [k0_pay1]
  blk_ext []
theorem bb0 (c : Dev nD) (t : Fin cfg0.N) (r : Fin 128) : bb m c t 0 (ix2 r 0) = X4 m c (ix2 r 0) := by
  refine Eq.trans (b := iblk m c 6 t (ix2 r 0)) ?_ (blk6 m c t r 0)
  show View.ld (Val := Elt Ideal) (e' := .f32) (iblk m c 6 t) r0_8 (ix2 r 0) = _
  pointwise
  blk_ext []
theorem ww1 (c : Dev nD) (t : Fin cfg0.N) (r k : Fin 128) : ww m c t 1 (ix2 r k) = X3 m c (ix3 1 r k) := by
  refine Eq.trans (b := iblk m c 5 t (ix3 1 r k)) ?_ (blk5 m c t 1 r k)
  show k0_pay2 (F := Ideal) (View.ld (Val := Elt Ideal) (e' := .f32) (iblk m c 5 t) r0_1) (ix2 r k) = _
  pointwise [k0_pay2]
  blk_ext []
theorem bb1 (c : Dev nD) (t : Fin cfg0.N) (r : Fin 128) : bb m c t 1 (ix2 r 0) = X4 m c (ix2 r 1) := by
  refine Eq.trans (b := iblk m c 6 t (ix2 r 1)) ?_ (blk6 m c t r 1)
  show View.ld (Val := Elt Ideal) (e' := .f32) (iblk m c 6 t) r0_9 (ix2 r 0) = _
  pointwise
  blk_ext []
theorem ww2 (c : Dev nD) (t : Fin cfg0.N) (r k : Fin 128) : ww m c t 2 (ix2 r k) = X3 m c (ix3 2 r k) := by
  refine Eq.trans (b := iblk m c 5 t (ix3 2 r k)) ?_ (blk5 m c t 2 r k)
  show k0_pay3 (F := Ideal) (View.ld (Val := Elt Ideal) (e' := .f32) (iblk m c 5 t) r0_2) (ix2 r k) = _
  pointwise [k0_pay3]
  blk_ext []
theorem bb2 (c : Dev nD) (t : Fin cfg0.N) (r : Fin 128) : bb m c t 2 (ix2 r 0) = X4 m c (ix2 r 2) := by
  refine Eq.trans (b := iblk m c 6 t (ix2 r 2)) ?_ (blk6 m c t r 2)
  show View.ld (Val := Elt Ideal) (e' := .f32) (iblk m c 6 t) r0_10 (ix2 r 0) = _
  pointwise
  blk_ext []
theorem ww3 (c : Dev nD) (t : Fin cfg0.N) (r k : Fin 128) : ww m c t 3 (ix2 r k) = X3 m c (ix3 3 r k) := by
  refine Eq.trans (b := iblk m c 5 t (ix3 3 r k)) ?_ (blk5 m c t 3 r k)
  show k0_pay4 (F := Ideal) (View.ld (Val := Elt Ideal) (e' := .f32) (iblk m c 5 t) r0_3) (ix2 r k) = _
  pointwise [k0_pay4]
  blk_ext []
theorem bb3 (c : Dev nD) (t : Fin cfg0.N) (r : Fin 128) : bb m c t 3 (ix2 r 0) = X4 m c (ix2 r 3) := by
  refine Eq.trans (b := iblk m c 6 t (ix2 r 3)) ?_ (blk6 m c t r 3)
  show View.ld (Val := Elt Ideal) (e' := .f32) (iblk m c 6 t) r0_11 (ix2 r 0) = _
  pointwise
  blk_ext []
theorem ww4 (c : Dev nD) (t : Fin cfg0.N) (r k : Fin 128) : ww m c t 4 (ix2 r k) = X3 m c (ix3 4 r k) := by
  refine Eq.trans (b := iblk m c 5 t (ix3 4 r k)) ?_ (blk5 m c t 4 r k)
  show k0_pay5 (F := Ideal) (View.ld (Val := Elt Ideal) (e' := .f32) (iblk m c 5 t) r0_4) (ix2 r k) = _
  pointwise [k0_pay5]
  blk_ext []
theorem bb4 (c : Dev nD) (t : Fin cfg0.N) (r : Fin 128) : bb m c t 4 (ix2 r 0) = X4 m c (ix2 r 4) := by
  refine Eq.trans (b := iblk m c 6 t (ix2 r 4)) ?_ (blk6 m c t r 4)
  show View.ld (Val := Elt Ideal) (e' := .f32) (iblk m c 6 t) r0_12 (ix2 r 0) = _
  pointwise
  blk_ext []
theorem ww5 (c : Dev nD) (t : Fin cfg0.N) (r k : Fin 128) : ww m c t 5 (ix2 r k) = X3 m c (ix3 5 r k) := by
  refine Eq.trans (b := iblk m c 5 t (ix3 5 r k)) ?_ (blk5 m c t 5 r k)
  show k0_pay6 (F := Ideal) (View.ld (Val := Elt Ideal) (e' := .f32) (iblk m c 5 t) r0_5) (ix2 r k) = _
  pointwise [k0_pay6]
  blk_ext []
theorem bb5 (c : Dev nD) (t : Fin cfg0.N) (r : Fin 128) : bb m c t 5 (ix2 r 0) = X4 m c (ix2 r 5) := by
  refine Eq.trans (b := iblk m c 6 t (ix2 r 5)) ?_ (blk6 m c t r 5)
  show View.ld (Val := Elt Ideal) (e' := .f32) (iblk m c 6 t) r0_13 (ix2 r 0) = _
  pointwise
  blk_ext []
theorem ww6 (c : Dev nD) (t : Fin cfg0.N) (r k : Fin 128) : ww m c t 6 (ix2 r k) = X3 m c (ix3 6 r k) := by
  refine Eq.trans (b := iblk m c 5 t (ix3 6 r k)) ?_ (blk5 m c t 6 r k)
  show k0_pay7 (F := Ideal) (View.ld (Val := Elt Ideal) (e' := .f32) (iblk m c 5 t) r0_6) (ix2 r k) = _
  pointwise [k0_pay7]
  blk_ext []
theorem bb6 (c : Dev nD) (t : Fin cfg0.N) (r : Fin 128) : bb m c t 6 (ix2 r 0) = X4 m c (ix2 r 6) := by
  refine Eq.trans (b := iblk m c 6 t (ix2 r 6)) ?_ (blk6 m c t r 6)
  show View.ld (Val := Elt Ideal) (e' := .f32) (iblk m c 6 t) r0_14 (ix2 r 0) = _
  pointwise
  blk_ext []
theorem ww7 (c : Dev nD) (t : Fin cfg0.N) (r k : Fin 128) : ww m c t 7 (ix2 r k) = X3 m c (ix3 7 r k) := by
  refine Eq.trans (b := iblk m c 5 t (ix3 7 r k)) ?_ (blk5 m c t 7 r k)
  show k0_pay8 (F := Ideal) (View.ld (Val := Elt Ideal) (e' := .f32) (iblk m c 5 t) r0_7) (ix2 r k) = _
  pointwise [k0_pay8]
  blk_ext []
theorem bb7 (c : Dev nD) (t : Fin cfg0.N) (r : Fin 128) : bb m c t 7 (ix2 r 0) = X4 m c (ix2 r 7) := by
  refine Eq.trans (b := iblk m c 6 t (ix2 r 7)) ?_ (blk6 m c t r 7)
  show View.ld (Val := Elt Ideal) (e' := .f32) (iblk m c 6 t) r0_15 (ix2 r 0) = _
  pointwise
  blk_ext []

theorem ww_at (c : Dev nD) (t : Fin cfg0.N) (i : Fin 8) (r k : Fin 128) : ww m c t i (ix2 r k) = X3 m c (ix3 i r k) := by
  match i with
  | 0 => exact ww0 m c t r k
  | 1 => exact ww1 m c t r k
  | 2 => exact ww2 m c t r k
  | 3 => exact ww3 m c t r k
  | 4 => exact ww4 m c t r k
  | 5 => exact ww5 m c t r k
  | 6 => exact ww6 m c t r k
  | 7 => exact ww7 m c t r k

theorem bb_at (c : Dev nD) (t : Fin cfg0.N) (i : Fin 8) (r : Fin 128) : bb m c t i (ix2 r 0) = X4 m c (ix2 r i) := by
  match i with
  | 0 => exact bb0 m c t r
  | 1 => exact bb1 m c t r
  | 2 => exact bb2 m c t r
  | 3 => exact bb3 m c t r
  | 4 => exact bb4 m c t r
  | 5 => exact bb5 m c t r
  | 6 => exact bb6 m c t r
  | 7 => exact bb7 m c t r

/-- Row `r` of chunk `q` of point `t`, counted over all the rows; and the chunk so counted. -/
def RR (t : Fin cfg0.N) (q : Fin 4) (r : Fin 128) : Fin 8192 := ⟨t.val * 512 + 128 * q.val + r.val, by have := lt_of_lt_of_eq t.isLt N_0; omega⟩
def CC (t : Fin cfg0.N) (q : Fin 4) : Fin 64 := ⟨4 * t.val + q.val, by have := lt_of_lt_of_eq t.isLt N_0; omega⟩

theorem holds0 (c : Dev nD) (t : Fin cfg0.N) : Holds (X0 m c) (X1 m c) (X2 m c) (X3 m c) (X4 m c) (CC t 0) (RR t 0)
    (View.ld (Val := Elt Ideal) (e' := .f32) (iblk m c 0 t) r0_16) (View.ld (Val := Elt Ideal) (e' := .f32) (iblk m c 1 t) r0_16)
    (View.ld (Val := Elt Ideal) (e' := .f32) (iblk m c 2 t) r0_16) (View.ld (Val := Elt Ideal) (e' := .f32) (iblk m c 3 t) r0_17)
    (View.ld (Val := Elt Ideal) (e' := .f32) (iblk m c 4 t) r0_17) (ww m c t) (bb m c t) where
  hR r := by show t.val * 512 + 128 * 0 + r.val = 128 * (4 * t.val + 0) + r.val; omega
  hu r l := Eq.trans (b := iblk m c 0 t (ix2 ⟨0 + r.val, by omega⟩ l)) (by pointwise; blk_ext [])
    (blk0 m c t _ l _ _ (by show t.val * 512 + 128 * 0 + r.val = t.val * 512 + (0 + r.val); omega) rfl)
  hv r l := Eq.trans (b := iblk m c 1 t (ix2 ⟨0 + r.val, by omega⟩ l)) (by pointwise; blk_ext [])
    (blk1 m c t _ l _ _ (by show t.val * 512 + 128 * 0 + r.val = t.val * 512 + (0 + r.val); omega) rfl)
  hz r l := Eq.trans (b := iblk m c 2 t (ix2 ⟨0 + r.val, by omega⟩ l)) (by pointwise; blk_ext [])
    (blk2 m c t _ l _ _ (by show t.val * 512 + 128 * 0 + r.val = t.val * 512 + (0 + r.val); omega) rfl)
  hg l := Eq.trans (by pointwise; blk_ext []) (blk3 m c t l)
  he l := Eq.trans (by pointwise; blk_ext []) (blk4 m c t l)
  hw := ww_at m c t
  hb := bb_at m c t

theorem chunk0 (c : Dev nD) (t : Fin cfg0.N) (r : Fin 128) (l : Fin 1024) (k : Fin 8192) (hk : k.val = t.val * 512 + (0 + r.val)) :
    (k0_pay17 (View.ld (Val := Elt Ideal) (e' := .f32) (iblk m c 2 t) r0_16) (k0_pay14 (ww m c t 0) (ww m c t 1) (ww m c t 2) (ww m c t 3) (ww m c t 4) (ww m c t 5) (ww m c t 6) (ww m c t 7) (bb m c t 0) (bb m c t 1) (bb m c t 2) (bb m c t 3) (bb m c t 4) (bb m c t 5) (bb m c t 6) (bb m c t 7) (k0_pay9 (View.ld (Val := Elt Ideal) (e' := .f32) (iblk m c 1 t) r0_16) (View.ld (Val := Elt Ideal) (e' := .f32) (iblk m c 3 t) r0_17) (View.ld (Val := Elt Ideal) (e' := .f32) (iblk m c 4 t) r0_17)) (k0_pay10 (View.ld (Val := Elt Ideal) (e' := .f32) (iblk m c 1 t) r0_16) (View.ld (Val := Elt Ideal) (e' := .f32) (iblk m c 3 t) r0_17) (View.ld (Val := Elt Ideal) (e' := .f32) (iblk m c 4 t) r0_17)) (k0_pay11 (View.ld (Val := Elt Ideal) (e' := .f32) (iblk m c 1 t) r0_16) (View.ld (Val := Elt Ideal) (e' := .f32) (iblk m c 3 t) r0_17) (View.ld (Val := Elt Ideal) (e' := .f32) (iblk m c 4 t) r0_17)) (k0_pay12 (View.ld (Val := Elt Ideal) (e' := .f32) (iblk m c 1 t) r0_16) (View.ld (Val := Elt Ideal) (e' := .f32) (iblk m c 3 t) r0_17) (View.ld (Val := Elt Ideal) (e' := .f32) (iblk m c 4 t) r0_17)) (k0_pay13 (View.ld (Val := Elt Ideal) (e' := .f32) (iblk m c 1 t) r0_16) (View.ld (Val := Elt Ideal) (e' := .f32) (iblk m c 3 t) r0_17) (View.ld (Val := Elt Ideal) (e' := .f32) (iblk m c 4 t) r0_17))) (k0_pay15 (View.ld (Val := Elt Ideal) (e' := .f32) (iblk m c 0 t) r0_16)) (k0_pay16 (View.ld (Val := Elt Ideal) (e' := .f32) (iblk m c 0 t) r0_16)) : FVec Ideal S128x1024 .f32) (ix2 r l) = YY m c (ix2 k l) := by
  obtain rfl : k = RR t 0 r := Fin.ext (by show k.val = t.val * 512 + 128 * 0 + r.val; omega)
  exact (y_at (holds0 m c t) r l)

theorem holds1 (c : Dev nD) (t : Fin cfg0.N) : Holds (X0 m c) (X1 m c) (X2 m c) (X3 m c) (X4 m c) (CC t 1) (RR t 1)
    (View.ld (Val := Elt Ideal) (e' := .f32) (iblk m c 0 t) r0_19) (View.ld (Val := Elt Ideal) (e' := .f32) (iblk m c 1 t) r0_19)
    (View.ld (Val := Elt Ideal) (e' := .f32) (iblk m c 2 t) r0_19) (View.ld (Val := Elt Ideal) (e' := .f32) (iblk m c 3 t) r0_17)
    (View.ld (Val := Elt Ideal) (e' := .f32) (iblk m c 4 t) r0_17) (ww m c t) (bb m c t) where
  hR r := by show t.val * 512 + 128 * 1 + r.val = 128 * (4 * t.val + 1) + r.val; omega
  hu r l := Eq.trans (b := iblk m c 0 t (ix2 ⟨128 + r.val, by omega⟩ l)) (by pointwise; blk_ext [])
    (blk0 m c t _ l _ _ (by show t.val * 512 + 128 * 1 + r.val = t.val * 512 + (128 + r.val); omega) rfl)
  hv r l := Eq.trans (b := iblk m c 1 t (ix2 ⟨128 + r.val, by omega⟩ l)) (by pointwise; blk_ext [])
    (blk1 m c t _ l _ _ (by show t.val * 512 + 128 * 1 + r.val = t.val * 512 + (128 + r.val); omega) rfl)
  hz r l := Eq.trans (b := iblk m c 2 t (ix2 ⟨128 + r.val, by omega⟩ l)) (by pointwise; blk_ext [])
    (blk2 m c t _ l _ _ (by show t.val * 512 + 128 * 1 + r.val = t.val * 512 + (128 + r.val); omega) rfl)
  hg l := Eq.trans (by pointwise; blk_ext []) (blk3 m c t l)
  he l := Eq.trans (by pointwise; blk_ext []) (blk4 m c t l)
  hw := ww_at m c t
  hb := bb_at m c t

theorem chunk1 (c : Dev nD) (t : Fin cfg0.N) (r : Fin 128) (l : Fin 1024) (k : Fin 8192) (hk : k.val = t.val * 512 + (128 + r.val)) :
    (k0_pay31 (ww m c t 7) (bb m c t 7) (View.ld (Val := Elt Ideal) (e' := .f32) (iblk m c 0 t) r0_19) (View.ld (Val := Elt Ideal) (e' := .f32) (iblk m c 2 t) r0_19) (k0_pay23 (View.ld (Val := Elt Ideal) (e' := .f32) (iblk m c 3 t) r0_17) (View.ld (Val := Elt Ideal) (e' := .f32) (iblk m c 4 t) r0_17) (k0_pay20 (View.ld (Val := Elt Ideal) (e' := .f32) (iblk m c 1 t) r0_19)) (k0_pay21 (View.ld (Val := Elt Ideal) (e' := .f32) (iblk m c 1 t) r0_19))) (k0_pay24 (ww m c t 0) (bb m c t 0) (View.ld (Val := Elt Ideal) (e' := .f32) (iblk m c 3 t) r0_17) (View.ld (Val := Elt Ideal) (e' := .f32) (iblk m c 4 t) r0_17) (k0_pay20 (View.ld (Val := Elt Ideal) (e' := .f32) (iblk m c 1 t) r0_19)) (k0_pay21 (View.ld (Val := Elt Ideal) (e' := .f32) (iblk m c 1 t) r0_19))) (k0_pay25 (ww m c t 1) (bb m c t 1) (View.ld (Val := Elt Ideal) (e' := .f32) (iblk m c 3 t) r0_17) (View.ld (Val := Elt Ideal) (e' := .f32) (iblk m c 4 t) r0_17) (k0_pay20 (View.ld (Val := Elt Ideal) (e' := .f32) (iblk m c 1 t) r0_19)) (k0_pay21 (View.ld (Val := Elt Ideal) (e' := .f32) (iblk m c 1 t) r0_19))) (k0_pay26 (ww m c t 2) (bb m c t 2) (View.ld (Val := Elt Ideal) (e' := .f32) (iblk m c 3 t) r0_17) (View.ld (Val := Elt Ideal) (e' := .f32) (iblk m c 4 t) r0_17) (k0_pay20 (View.ld (Val := Elt Ideal) (e' := .f32) (iblk m c 1 t) r0_19)) (k0_pay21 (View.ld (Val := Elt Ideal) (e' := .f32) (iblk m c 1 t) r0_19))) (k0_pay27 (ww m c t 3) (bb m c t 3) (View.ld (Val := Elt Ideal) (e' := .f32) (iblk m c 3 t) r0_17) (View.ld (Val := Elt Ideal) (e' := .f32) (iblk m c 4 t) r0_17) (k0_pay20 (View.ld (Val := Elt Ideal) (e' := .f32) (iblk m c 1 t) r0_19)) (k0_pay21 (View.ld (Val := Elt Ideal) (e' := .f32) (iblk m c 1 t) r0_19))) (k0_pay28 (ww m c t 4) (bb m c t 4) (View.ld (Val := Elt Ideal) (e' := .f32) (iblk m c 3 t) r0_17) (View.ld (Val := Elt Ideal) (e' := .f32) (iblk m c 4 t) r0_17) (k0_pay20 (View.ld (Val := Elt Ideal) (e' := .f32) (iblk m c 1 t) r0_19)) (k0_pay21 (View.ld (Val := Elt Ideal) (e' := .f32) (iblk m c 1 t) r0_19))) (k0_pay29 (ww m c t 5) (bb m c t 5) (View.ld (Val := Elt Ideal) (e' := .f32) (iblk m c 3 t) r0_17) (View.ld (Val := Elt Ideal) (e' := .f32) (iblk m c 4 t) r0_17) (k0_pay20 (View.ld (Val := Elt Ideal) (e' := .f32) (iblk m c 1 t) r0_19)) (k0_pay21 (View.ld (Val := Elt Ideal) (e' := .f32) (iblk m c 1 t) r0_19))) (k0_pay30 (ww m c t 6) (bb m c t 6) (View.ld (Val := Elt Ideal) (e' := .f32) (iblk m c 3 t) r0_17) (View.ld (Val := Elt Ideal) (e' := .f32) (iblk m c 4 t) r0_17) (k0_pay20 (View.ld (Val := Elt Ideal) (e' := .f32) (iblk m c 1 t) r0_19)) (k0_pay21 (View.ld (Val := Elt Ideal) (e' := .f32) (iblk m c 1 t) r0_19))) : FVec Ideal S128x1024 .f32) (ix2 r l) = YY m c (ix2 k l) := by
  obtain rfl : k = RR t 1 r := Fin.ext (by show k.val = t.val * 512 + 128 * 1 + r.val; omega)
  exact (congrFun (prod1 _ _ _ _ _ (ww m c t) (bb m c t)) (ix2 r l)).trans (y_at (holds1 m c t) r l)

theorem holds2 (c : Dev nD) (t : Fin cfg0.N) : Holds (X0 m c) (X1 m c) (X2 m c) (X3 m c) (X4 m c) (CC t 2) (RR t 2)
    (View.ld (Val := Elt Ideal) (e' := .f32) (iblk m c 0 t) r0_21) (View.ld (Val := Elt Ideal) (e' := .f32) (iblk m c 1 t) r0_21)
    (View.ld (Val := Elt Ideal) (e' := .f32) (iblk m c 2 t) r0_21) (View.ld (Val := Elt Ideal) (e' := .f32) (iblk m c 3 t) r0_17)
    (View.ld (Val := Elt Ideal) (e' := .f32) (iblk m c 4 t) r0_17) (ww m c t) (bb m c t) where
  hR r := by show t.val * 512 + 128 * 2 + r.val = 128 * (4 * t.val + 2) + r.val; omega
  hu r l := Eq.trans (b := iblk m c 0 t (ix2 ⟨256 + r.val, by omega⟩ l)) (by pointwise; blk_ext [])
    (blk0 m c t _ l _ _ (by show t.val * 512 + 128 * 2 + r.val = t.val * 512 + (256 + r.val); omega) rfl)
  hv r l := Eq.trans (b := iblk m c 1 t (ix2 ⟨256 + r.val, by omega⟩ l)) (by pointwise; blk_ext [])
    (blk1 m c t _ l _ _ (by show t.val * 512 + 128 * 2 + r.val = t.val * 512 + (256 + r.val); omega) rfl)
  hz r l := Eq.trans (b := iblk m c 2 t (ix2 ⟨256 + r.val, by omega⟩ l)) (by pointwise; blk_ext [])
    (blk2 m c t _ l _ _ (by show t.val * 512 + 128 * 2 + r.val = t.val * 512 + (256 + r.val); omega) rfl)
  hg l := Eq.trans (by pointwise; blk_ext []) (blk3 m c t l)
  he l := Eq.trans (by pointwise; blk_ext []) (blk4 m c t l)
  hw := ww_at m c t
  hb := bb_at m c t

theorem chunk2 (c : Dev nD) (t : Fin cfg0.N) (r : Fin 128) (l : Fin 1024) (k : Fin 8192) (hk : k.val = t.val * 512 + (256 + r.val)) :
    (k0_pay44 (ww m c t 5) (ww m c t 6) (ww m c t 7) (bb m c t 4) (bb m c t 5) (bb m c t 6) (bb m c t 7) (View.ld (Val := Elt Ideal) (e' := .f32) (iblk m c 0 t) r0_21) (View.ld (Val := Elt Ideal) (e' := .f32) (iblk m c 2 t) r0_21) (k0_pay36 (View.ld (Val := Elt Ideal) (e' := .f32) (iblk m c 3 t) r0_17) (View.ld (Val := Elt Ideal) (e' := .f32) (iblk m c 4 t) r0_17) (k0_pay34 (View.ld (Val := Elt Ideal) (e' := .f32) (iblk m c 1 t) r0_21))) (k0_pay37 (View.ld (Val := Elt Ideal) (e' := .f32) (iblk m c 3 t) r0_17) (View.ld (Val := Elt Ideal) (e' := .f32) (iblk m c 4 t) r0_17) (k0_pay34 (View.ld (Val := Elt Ideal) (e' := .f32) (iblk m c 1 t) r0_21))) (k0_pay38 (View.ld (Val := Elt Ideal) (e' := .f32) (iblk m c 3 t) r0_17) (View.ld (Val := Elt Ideal) (e' := .f32) (iblk m c 4 t) r0_17) (k0_pay34 (View.ld (Val := Elt Ideal) (e' := .f32) (iblk m c 1 t) r0_21))) (k0_pay39 (ww m c t 0) (bb m c t 0) (View.ld (Val := Elt Ideal) (e' := .f32) (iblk m c 3 t) r0_17) (View.ld (Val := Elt Ideal) (e' := .f32) (iblk m c 4 t) r0_17) (k0_pay34 (View.ld (Val := Elt Ideal) (e' := .f32) (iblk m c 1 t) r0_21))) (k0_pay40 (ww m c t 1) (bb m c t 1) (View.ld (Val := Elt Ideal) (e' := .f32) (iblk m c 3 t) r0_17) (View.ld (Val := Elt Ideal) (e' := .f32) (iblk m c 4 t) r0_17) (k0_pay34 (View.ld (Val := Elt Ideal) (e' := .f32) (iblk m c 1 t) r0_21))) (k0_pay41 (ww m c t 2) (bb m c t 2) (View.ld (Val := Elt Ideal) (e' := .f32) (iblk m c 3 t) r0_17) (View.ld (Val := Elt Ideal) (e' := .f32) (iblk m c 4 t) r0_17) (k0_pay34 (View.ld (Val := Elt Ideal) (e' := .f32) (iblk m c 1 t) r0_21))) (k0_pay42 (ww m c t 3) (bb m c t 3) (View.ld (Val := Elt Ideal) (e' := .f32) (iblk m c 3 t) r0_17) (View.ld (Val := Elt Ideal) (e' := .f32) (iblk m c 4 t) r0_17) (k0_pay34 (View.ld (Val := Elt Ideal) (e' := .f32) (iblk m c 1 t) r0_21))) (k0_pay43 (ww m c t 4) (View.ld (Val := Elt Ideal) (e' := .f32) (iblk m c 3 t) r0_17) (View.ld (Val := Elt Ideal) (e' := .f32) (iblk m c 4 t) r0_17) (k0_pay34 (View.ld (Val := Elt Ideal) (e' := .f32) (iblk m c 1 t) r0_21))) : FVec Ideal S128x1024 .f32) (ix2 r l) = YY m c (ix2 k l) := by
  obtain rfl : k = RR t 2 r := Fin.ext (by show k.val = t.val * 512 + 128 * 2 + r.val; omega)
  exact (congrFun (prod2 _ _ _ _ _ (ww m c t) (bb m c t)) (ix2 r l)).trans (y_at (holds2 m c t) r l)

theorem holds3 (c : Dev nD) (t : Fin cfg0.N) : Holds (X0 m c) (X1 m c) (X2 m c) (X3 m c) (X4 m c) (CC t 3) (RR t 3)
    (View.ld (Val := Elt Ideal) (e' := .f32) (iblk m c 0 t) r0_23) (View.ld (Val := Elt Ideal) (e' := .f32) (iblk m c 1 t) r0_23)
    (View.ld (Val := Elt Ideal) (e' := .f32) (iblk m c 2 t) r0_23) (View.ld (Val := Elt Ideal) (e' := .f32) (iblk m c 3 t) r0_17)
    (View.ld (Val := Elt Ideal) (e' := .f32) (iblk m c 4 t) r0_17) (ww m c t) (bb m c t) where
  hR r := by show t.val * 512 + 128 * 3 + r.val = 128 * (4 * t.val + 3) + r.val; omega
  hu r l := Eq.trans (b := iblk m c 0 t (ix2 ⟨384 + r.val, by omega⟩ l)) (by pointwise; blk_ext [])
    (blk0 m c t _ l _ _ (by show t.val * 512 + 128 * 3 + r.val = t.val * 512 + (384 + r.val); omega) rfl)
  hv r l := Eq.trans (b := iblk m c 1 t (ix2 ⟨384 + r.val, by omega⟩ l)) (by pointwise; blk_ext [])
    (blk1 m c t _ l _ _ (by show t.val * 512 + 128 * 3 + r.val = t.val * 512 + (384 + r.val); omega) rfl)
  hz r l := Eq.trans (b := iblk m c 2 t (ix2 ⟨384 + r.val, by omega⟩ l)) (by pointwise; blk_ext [])
    (blk2 m c t _ l _ _ (by show t.val * 512 + 128 * 3 + r.val = t.val * 512 + (384 + r.val); omega) rfl)
  hg l := Eq.trans (by pointwise; blk_ext []) (blk3 m c t l)
  he l := Eq.trans (by pointwise; blk_ext []) (blk4 m c t l)
  hw := ww_at m c t
  hb := bb_at m c t

theorem chunk3 (c : Dev nD) (t : Fin cfg0.N) (r : Fin 128) (l : Fin 1024) (k : Fin 8192) (hk : k.val = t.val * 512 + (384 + r.val)) :
    (k0_pay57 (ww m c t 3) (ww m c t 4) (ww m c t 5) (ww m c t 6) (ww m c t 7) (bb m c t 2) (bb m c t 3) (bb m c t 4) (bb m c t 5) (bb m c t 6) (bb m c t 7) (View.ld (Val := Elt Ideal) (e' := .f32) (iblk m c 0 t) r0_23) (View.ld (Val := Elt Ideal) (e' := .f32) (iblk m c 2 t) r0_23) (k0_pay48 (View.ld (Val := Elt Ideal) (e' := .f32) (iblk m c 1 t) r0_23) (View.ld (Val := Elt Ideal) (e' := .f32) (iblk m c 3 t) r0_17) (View.ld (Val := Elt Ideal) (e' := .f32) (iblk m c 4 t) r0_17)) (k0_pay49 (View.ld (Val := Elt Ideal) (e' := .f32) (iblk m c 1 t) r0_23) (View.ld (Val := Elt Ideal) (e' := .f32) (iblk m c 3 t) r0_17) (View.ld (Val := Elt Ideal) (e' := .f32) (iblk m c 4 t) r0_17)) (k0_pay50 (View.ld (Val := Elt Ideal) (e' := .f32) (iblk m c 1 t) r0_23) (View.ld (Val := Elt Ideal) (e' := .f32) (iblk m c 3 t) r0_17) (View.ld (Val := Elt Ideal) (e' := .f32) (iblk m c 4 t) r0_17)) (k0_pay51 (View.ld (Val := Elt Ideal) (e' := .f32) (iblk m c 1 t) r0_23) (View.ld (Val := Elt Ideal) (e' := .f32) (iblk m c 3 t) r0_17) (View.ld (Val := Elt Ideal) (e' := .f32) (iblk m c 4 t) r0_17)) (k0_pay52 (View.ld (Val := Elt Ideal) (e' := .f32) (iblk m c 1 t) r0_23) (View.ld (Val := Elt Ideal) (e' := .f32) (iblk m c 3 t) r0_17) (View.ld (Val := Elt Ideal) (e' := .f32) (iblk m c 4 t) r0_17)) (k0_pay53 (ww m c t 0) (bb m c t 0) (View.ld (Val := Elt Ideal) (e' := .f32) (iblk m c 1 t) r0_23) (View.ld (Val := Elt Ideal) (e' := .f32) (iblk m c 3 t) r0_17) (View.ld (Val := Elt Ideal) (e' := .f32) (iblk m c 4 t) r0_17)) (k0_pay54 (ww m c t 1) (bb m c t 1) (View.ld (Val := Elt Ideal) (e' := .f32) (iblk m c 1 t) r0_23) (View.ld (Val := Elt Ideal) (e' := .f32) (iblk m c 3 t) r0_17) (View.ld (Val := Elt Ideal) (e' := .f32) (iblk m c 4 t) r0_17)) (k0_pay55 (ww m c t 2)) (k0_pay56 (View.ld (Val := Elt Ideal) (e' := .f32) (iblk m c 1 t) r0_23) (View.ld (Val := Elt Ideal) (e' := .f32) (iblk m c 3 t) r0_17) (View.ld (Val := Elt Ideal) (e' := .f32) (iblk m c 4 t) r0_17)) : FVec Ideal S128x1024 .f32) (ix2 r l) = YY m c (ix2 k l) := by
  obtain rfl : k = RR t 3 r := Fin.ext (by show k.val = t.val * 512 + 128 * 3 + r.val; omega)
  exact (congrFun (prod3 _ _ _ _ _ (ww m c t) (bb m c t)) (ix2 r l)).trans (y_at (holds3 m c t) r l)

theorem row_at (c : Dev nD) (t : Fin cfg0.N) (y : S512x1024.Idx) (k : Fin 8192) (j : Fin 1024)
    (hk : k.val = t.val * 512 + (y 0).val) (hj : j.val = (y 1).val) :
    out0_7 (F := Ideal) (iblk m c 0 t) (iblk m c 1 t) (iblk m c 2 t) (iblk m c 3 t) (iblk m c 4 t) (iblk m c 5 t) (iblk m c 6 t) y = YY m c (ix2 k j) := by
  unfold out0_7
  canon_tiles y h
  case piece0 =>
    have hk' : k.val = t.val * 512 + (384 + (y 0).val) := by omega
    obtain rfl : j = y 1 := Fin.ext (by omega)
    have p := chunk3 m c t (y 0) (y 1) k hk'
    clear hk hj h0 h1 hk'
    idx_vars y
    exact p
  case piece1 =>
    have hk' : k.val = t.val * 512 + (256 + (y 0).val) := by omega
    obtain rfl : j = y 1 := Fin.ext (by omega)
    have p := chunk2 m c t (y 0) (y 1) k hk'
    clear hk hj h0 h1 hk'
    idx_vars y
    exact p
  case piece2 =>
    have hk' : k.val = t.val * 512 + (128 + (y 0).val) := by omega
    obtain rfl : j = y 1 := Fin.ext (by omega)
    have p := chunk1 m c t (y 0) (y 1) k hk'
    clear hk hj h0 h1 hk'
    idx_vars y
    exact p
  case piece3 =>
    have hk' : k.val = t.val * 512 + (0 + (y 0).val) := by omega
    obtain rfl : j = y 1 := Fin.ext (by omega)
    have p := chunk0 m c t (y 0) (y 1) k hk'
    clear hk hj h0 h1 hk'
    idx_vars y
    exact Eq.trans (by pointwise [k0_pay18]; rfl) p

theorem col_at (c : Dev nD) (t : Fin cfg0.N) (y : S1024x512.Idx) (k : Fin 8192) (j : Fin 1024)
    (hk : k.val = t.val * 512 + (y 1).val) (hj : j.val = (y 0).val) :
    out0_8 (F := Ideal) (iblk m c 0 t) (iblk m c 1 t) (iblk m c 2 t) (iblk m c 3 t) (iblk m c 4 t) (iblk m c 5 t) (iblk m c 6 t) y = YY m c (ix2 k j) := by
  unfold out0_8
  canon_tiles y h
  case piece0 =>
    have hk' : k.val = t.val * 512 + (384 + (y 1).val) := by omega
    obtain rfl : j = y 0 := Fin.ext (by omega)
    have p := chunk3 m c t (y 1) (y 0) k hk'
    clear hk hj h0 h1 hk'
    idx_vars y
    exact Eq.trans (by pointwise [k0_pay59]; rfl) p
  case piece1 =>
    have hk' : k.val = t.val * 512 + (256 + (y 1).val) := by omega
    obtain rfl : j = y 0 := Fin.ext (by omega)
    have p := chunk2 m c t (y 1) (y 0) k hk'
    clear hk hj h0 h1 hk'
    idx_vars y
    exact Eq.trans (by pointwise [k0_pay46]; rfl) p
  case piece2 =>
    have hk' : k.val = t.val * 512 + (128 + (y 1).val) := by omega
    obtain rfl : j = y 0 := Fin.ext (by omega)
    have p := chunk1 m c t (y 1) (y 0) k hk'
    clear hk hj h0 h1 hk'
    idx_vars y
    exact Eq.trans (by pointwise [k0_pay33]; rfl) p
  case piece3 =>
    have hk' : k.val = t.val * 512 + (0 + (y 1).val) := by omega
    obtain rfl : j = y 0 := Fin.ext (by omega)
    have p := chunk0 m c t (y 1) (y 0) k hk'
    clear hk hj h0 h1 hk'
    idx_vars y
    exact Eq.trans (by pointwise [k0_pay19]; rfl) p

theorem written_7 (c : Dev nD) (i : S8192x2048.Idx) (h : (i 1).val < 1024) : (dats m 0 c).arrAt 7 (cfgs 0).N i
    = YY m c (ix2 ⟨(i 0).val, (i 0).isLt⟩ ⟨(i 1).val, h⟩) := by
  refine (dats m 0 c).arrAt_forall_of_coversWhere 7
    (fun (i : S8192x2048.Idx) (v : EReal) => ∀ h : (i 1).val < 1024, v = YY m c (ix2 ⟨(i 0).val, (i 0).isLt⟩ ⟨(i 1).val, h⟩))
    (fun β => β (1 : Fin 2) = 0) (by decide +kernel) (fun t hf y h => ?_) (fun j hj h => ?_) i (Memref.isWhole_whole _) h
  · blk_simp [after0_7]
    exact row_at m c t ((cfg0.win 7).xinj (cfg0.grid.coords t) y) _ _ (by blk_simp [idx t]) (by blk_simp [idx t])
  · exfalso
    have := (j 1).isLt
    blk_simp [Pipeline.Window.cell_apply] at hj h this
    omega

theorem written_8 (c : Dev nD) (i : S2048x8192.Idx) (h : (i 0).val < 1024) : (dats m 0 c).arrAt 8 (cfgs 0).N i
    = YY m c (ix2 ⟨(i 1).val, (i 1).isLt⟩ ⟨(i 0).val, h⟩) := by
  refine (dats m 0 c).arrAt_forall_of_coversWhere 8
    (fun (i : S2048x8192.Idx) (v : EReal) => ∀ h : (i 0).val < 1024, v = YY m c (ix2 ⟨(i 1).val, (i 1).isLt⟩ ⟨(i 0).val, h⟩))
    (fun β => β (0 : Fin 2) = 0) (by decide +kernel) (fun t hf y h => ?_) (fun j hj h => ?_) i (Memref.isWhole_whole _) h
  · blk_simp [after0_8]
    exact col_at m c t ((cfg0.win 8).xinj (cfg0.grid.coords t) y) _ _ (by blk_simp [idx t]) (by blk_simp [idx t])
  · exfalso
    have := (j 0).isLt
    blk_simp [Pipeline.Window.cell_apply] at hj h this
    omega

abbrev RY (c : Dev nD) : FVec Ideal S8192x1024 .bf16 := val_main_v55 (F := Ideal) (X0 m c) (X1 m c) (X2 m c) (X3 m c) (X4 m c)
abbrev RT (c : Dev nD) : FVec Ideal S1024x8192 .bf16 := val_main_v57 (F := Ideal) (X0 m c) (X1 m c) (X2 m c) (X3 m c) (X4 m c)

theorem shared (c : Dev nD) : ∀ w w', w ≠ w' → Pipeline.arrRef spec0 w = Pipeline.arrRef spec0 w' →
    (dats m 0 c).arrAt w (cfgs 0).N = V m c (Pipeline.arrRef spec0 w) := fun w w' hne e =>
  ((dats m 0 c).arrAt_in w (sharedIn0 w w' hne e) _).trans (A_eq m c w)

theorem final_1 (c : Dev nD) : Pipeline.afterTail₀ cfgs (dats m) 0 (V0 m) [hostOps1] c main_v1 = RY m c := by
  unfold Pipeline.afterTail₀
  simp only [hostOps1, List.flatten_cons, List.flatten_nil, List.append_nil]
  after_results
  rw [Pipeline.withArrays_arr_shared (cfgs 0).spec c _ _ (shared m c) 7]
  funext i
  idx_vars i
  pointwise [val_main_v55]
  exact written_7 m c _ i1.isLt

theorem final_2 (c : Dev nD) : Pipeline.afterTail₀ cfgs (dats m) 0 (V0 m) [hostOps1] c main_v2 = RT m c := by
  unfold Pipeline.afterTail₀
  simp only [hostOps1, List.flatten_cons, List.flatten_nil, List.append_nil]
  after_results
  rw [Pipeline.withArrays_arr_shared (cfgs 0).spec c _ _ (shared m c) 8]
  funext i
  idx_vars i
  pointwise [val_main_v57, val_main_v56]
  exact written_8 m c _ i0.isLt

end Cert.Kernel14Ideal.Prod
end
-- ==== Proof.PostFwd.lean ====
module

public import proofs.«01_k».proof.Proof.Gen.Kernel15Ideal.Value
public import proofs.«01_k».proof.Proof.Gen.Reference15Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The normed and gated heads, written beside the rows that are there, and the same transposed. -/

namespace Cert.Kernel15Ideal.Prod

open Cert.Kernel15Ideal Cert.Kernel15Ideal.Gen Idealize.ShloMosaic Idealize.ShloMosaic.TcCoe Idealize.SL.Sem
open Cert.Reference15Ideal.Read

theorem idx : ∀ t : Fin cfg0.N, win0_0.index t 0 = 0 ∧ win0_0.index t 1 = t.val ∧ win0_0.index t 2 = 0
    ∧ win0_1.index t 0 = 0 ∧ win0_1.index t 1 = t.val ∧ win0_1.index t 2 = 0 ∧ win0_2.index t 0 = t.val ∧ win0_2.index t 1 = 6
    ∧ win0_3.index t 0 = 0 ∧ win0_3.index t 1 = 0
    ∧ win0_4.index t 0 = t.val ∧ win0_4.index t 1 = 1 ∧ win0_5.index t 0 = 1 ∧ win0_5.index t 1 = t.val :=
  (by decide +kernel : ∀ t : Fin grid0.N, _)

/-- One head's row is the row of the whole, if its blocks hold that row of the arrays. -/
theorem head_at (A B : FVec Ideal S8x8192x128 .f32) (Z : FVec Ideal S8192x7168 .f32) (W : FVec Ideal S1x128 .f32)
    (a b : FVec Ideal S1x512x128 .f32) (z : FVec Ideal S512x128 .f32) (w : FVec Ideal S1x128 .f32) (h : Fin 8) (r : Fin 512) (k : Fin 8192)
    (ha : ∀ l, a (ix3 0 r l) = A (ix3 h k l)) (hb : ∀ l, b (ix3 0 r l) = B (ix3 h k l))
    (hz : ∀ l : Fin 128, z (ix2 r l) = Z (ix2 k ⟨6144 + (128 * h.val + l.val), by omega⟩)) (hw : ∀ l, w (ix2 0 l) = W (ix2 0 l)) (l : Fin 128) (j : Fin 1024)
    (hj : j.val = 128 * h.val + l.val) :
    k0_pay2 (F := Ideal) a b z w (ix2 r l) = val_main_v19 (F := Ideal) A B Z W (ix2 k j) := by
  obtain rfl : j = ⟨128 * h.val + l.val, by clear hj; omega⟩ := Fin.ext hj
  pointwise [k0_pay2, val_main_v19, val_main_v18, val_main_v17, val_main_v16, val_main_v15, val_main_v14, val_main_v13, val_main_v12, val_main_v11,
    val_main_v10, val_main_v9, val_main_v8, val_main_v7, val_main_v6, val_main_v5, val_main_v4, val_main_v3, val_main_v2, val_main_v1, val_main_v0,
    val_main_cst, val_main_cst_0, val_main_cst_1, val_main_call0_v0, val_main_call0_v1, val_main_call0_v2, val_main_call0_v3, val_main_call0_v4,
    val_main_call0_v5, val_main_call0_cst, val_main_call0_cst_0]
  simp only [ha, hb, hz, hw]
  all_goals rfl

variable (m : (ℓ : Loc nD τ sig) → Buf (Elt Ideal) ℓ)

abbrev X0 (c : Dev nD) : FVec Ideal S8x8192x128 .f32 := m ((c : Thread nD τ).loc main_arg0)
abbrev X1 (c : Dev nD) : FVec Ideal S8x8192x128 .f32 := m ((c : Thread nD τ).loc main_arg1)
abbrev X2 (c : Dev nD) : FVec Ideal S8192x7168 .f32 := m ((c : Thread nD τ).loc main_arg2)
abbrev X3 (c : Dev nD) : FVec Ideal S1x128 .f32 := m ((c : Thread nD τ).loc main_arg3)
abbrev GG (c : Dev nD) : FVec Ideal Cert.Reference15Ideal.S8192x1024 .f32 := val_main_v19 (F := Ideal) (X0 m c) (X1 m c) (X2 m c) (X3 m c)

/-- The two blocks of a head, and the gate's and the weight's. -/
theorem blk0 (c : Dev nD) (t : Fin cfg0.N) (h : Fin 8) (r : Fin 512) (l : Fin 128) (k : Fin 8192) (hk : k.val = t.val * 512 + r.val) :
    iblk m c 0 t (ix3 h r l) = X0 m c (ix3 h k l) := by
  blk_ext [iblk, V, idx t]

theorem blk1 (c : Dev nD) (t : Fin cfg0.N) (h : Fin 8) (r : Fin 512) (l : Fin 128) (k : Fin 8192) (hk : k.val = t.val * 512 + r.val) :
    iblk m c 1 t (ix3 h r l) = X1 m c (ix3 h k l) := by
  blk_ext [iblk, V, idx t]

theorem blk2 (c : Dev nD) (t : Fin cfg0.N) (r : Fin 512) (j : Fin 1024) (k : Fin 8192) (i : Fin 7168) (hk : k.val = t.val * 512 + r.val)
    (hi : i.val = 6144 + j.val) : iblk m c 2 t (ix2 r j) = X2 m c (ix2 k i) := by
  blk_ext [iblk, V, idx t]

theorem blk3 (c : Dev nD) (t : Fin cfg0.N) (l : Fin 128) : iblk m c 3 t (ix2 0 l) = X3 m c (ix2 0 l) := by
  blk_ext [iblk, V, idx t]

theorem headG (c : Dev nD) (t : Fin cfg0.N) (h : Fin 8) (a b : FVec Ideal S1x512x128 .f32) (z : FVec Ideal S512x128 .f32)
    (ha : ∀ r l, a (ix3 0 r l) = iblk m c 0 t (ix3 h r l)) (hb : ∀ r l, b (ix3 0 r l) = iblk m c 1 t (ix3 h r l))
    (hz : ∀ r l, z (ix2 r l) = iblk m c 2 t (ix2 r ⟨128 * h.val + l.val, by omega⟩)) (r : Fin 512) (l : Fin 128) (k : Fin 8192) (j : Fin 1024)
    (hk : k.val = t.val * 512 + r.val) (hj : j.val = 128 * h.val + l.val) :
    k0_pay2 (F := Ideal) a b z (iblk m c 3 t) (ix2 r l) = GG m c (ix2 k j) :=
  head_at (X0 m c) (X1 m c) (X2 m c) (X3 m c) a b z _ h r k (fun l => (ha r l).trans (blk0 m c t h r l k hk))
    (fun l => (hb r l).trans (blk1 m c t h r l k hk)) (fun l => (hz r l).trans (blk2 m c t r _ k _ hk rfl)) (blk3 m c t) l j hj

theorem head0 (c : Dev nD) (t : Fin cfg0.N) (r : Fin 512) (l : Fin 128) (k : Fin 8192) (j : Fin 1024)
    (hk : k.val = t.val * 512 + r.val) (hj : j.val = 0 + l.val) :
    k0_pay2 (F := Ideal) (View.ld (Val := Elt Ideal) (e' := .f32) (iblk m c 0 t) (Rect.unit ![0, 0, 0] ![1, 512, 128] inb_S8x512x128_S1x512x128_0_0_0))
      (View.ld (Val := Elt Ideal) (e' := .f32) (iblk m c 1 t) (Rect.unit ![0, 0, 0] ![1, 512, 128] inb_S8x512x128_S1x512x128_0_0_0))
      (View.ld (Val := Elt Ideal) (e' := .f32) (iblk m c 2 t) (Rect.unit ![0, 0] ![512, 128] inb_S512x1024_S512x128_0_0)) (iblk m c 3 t) (ix2 r l) = GG m c (ix2 k j) := by
  refine headG m c t 0 _ _ _ (fun r l => ?_) (fun r l => ?_) (fun r l => ?_) r l k j hk hj
  · pointwise
    blk_ext []
  · pointwise
    blk_ext []
  · pointwise
    blk_ext []

theorem head1 (c : Dev nD) (t : Fin cfg0.N) (r : Fin 512) (l : Fin 128) (k : Fin 8192) (j : Fin 1024)
    (hk : k.val = t.val * 512 + r.val) (hj : j.val = 128 + l.val) :
    k0_pay2 (F := Ideal) (View.ld (Val := Elt Ideal) (e' := .f32) (iblk m c 0 t) (Rect.unit ![1, 0, 0] ![1, 512, 128] inb_S8x512x128_S1x512x128_1_0_0))
      (View.ld (Val := Elt Ideal) (e' := .f32) (iblk m c 1 t) (Rect.unit ![1, 0, 0] ![1, 512, 128] inb_S8x512x128_S1x512x128_1_0_0))
      (View.ld (Val := Elt Ideal) (e' := .f32) (iblk m c 2 t) (Rect.unit ![0, 128] ![512, 128] inb_S512x1024_S512x128_0_128)) (iblk m c 3 t) (ix2 r l) = GG m c (ix2 k j) := by
  refine headG m c t 1 _ _ _ (fun r l => ?_) (fun r l => ?_) (fun r l => ?_) r l k j hk hj
  · pointwise
    blk_ext []
  · pointwise
    blk_ext []
  · pointwise
    blk_ext []

theorem head2 (c : Dev nD) (t : Fin cfg0.N) (r : Fin 512) (l : Fin 128) (k : Fin 8192) (j : Fin 1024)
    (hk : k.val = t.val * 512 + r.val) (hj : j.val = 256 + l.val) :
    k0_pay2 (F := Ideal) (View.ld (Val := Elt Ideal) (e' := .f32) (iblk m c 0 t) (Rect.unit ![2, 0, 0] ![1, 512, 128] inb_S8x512x128_S1x512x128_2_0_0))
      (View.ld (Val := Elt Ideal) (e' := .f32) (iblk m c 1 t) (Rect.unit ![2, 0, 0] ![1, 512, 128] inb_S8x512x128_S1x512x128_2_0_0))
      (View.ld (Val := Elt Ideal) (e' := .f32) (iblk m c 2 t) (Rect.unit ![0, 256] ![512, 128] inb_S512x1024_S512x128_0_256)) (iblk m c 3 t) (ix2 r l) = GG m c (ix2 k j) := by
  refine headG m c t 2 _ _ _ (fun r l => ?_) (fun r l => ?_) (fun r l => ?_) r l k j hk hj
  · pointwise
    blk_ext []
  · pointwise
    blk_ext []
  · pointwise
    blk_ext []

theorem head3 (c : Dev nD) (t : Fin cfg0.N) (r : Fin 512) (l : Fin 128) (k : Fin 8192) (j : Fin 1024)
    (hk : k.val = t.val * 512 + r.val) (hj : j.val = 384 + l.val) :
    k0_pay2 (F := Ideal) (View.ld (Val := Elt Ideal) (e' := .f32) (iblk m c 0 t) (Rect.unit ![3, 0, 0] ![1, 512, 128] inb_S8x512x128_S1x512x128_3_0_0))
      (View.ld (Val := Elt Ideal) (e' := .f32) (iblk m c 1 t) (Rect.unit ![3, 0, 0] ![1, 512, 128] inb_S8x512x128_S1x512x128_3_0_0))
      (View.ld (Val := Elt Ideal) (e' := .f32) (iblk m c 2 t) (Rect.unit ![0, 384] ![512, 128] inb_S512x1024_S512x128_0_384)) (iblk m c 3 t) (ix2 r l) = GG m c (ix2 k j) := by
  refine headG m c t 3 _ _ _ (fun r l => ?_) (fun r l => ?_) (fun r l => ?_) r l k j hk hj
  · pointwise
    blk_ext []
  · pointwise
    blk_ext []
  · pointwise
    blk_ext []

theorem head4 (c : Dev nD) (t : Fin cfg0.N) (r : Fin 512) (l : Fin 128) (k : Fin 8192) (j : Fin 1024)
    (hk : k.val = t.val * 512 + r.val) (hj : j.val = 512 + l.val) :
    k0_pay2 (F := Ideal) (View.ld (Val := Elt Ideal) (e' := .f32) (iblk m c 0 t) (Rect.unit ![4, 0, 0] ![1, 512, 128] inb_S8x512x128_S1x512x128_4_0_0))
      (View.ld (Val := Elt Ideal) (e' := .f32) (iblk m c 1 t) (Rect.unit ![4, 0, 0] ![1, 512, 128] inb_S8x512x128_S1x512x128_4_0_0))
      (View.ld (Val := Elt Ideal) (e' := .f32) (iblk m c 2 t) (Rect.unit ![0, 512] ![512, 128] inb_S512x1024_S512x128_0_512)) (iblk m c 3 t) (ix2 r l) = GG m c (ix2 k j) := by
  refine headG m c t 4 _ _ _ (fun r l => ?_) (fun r l => ?_) (fun r l => ?_) r l k j hk hj
  · pointwise
    blk_ext []
  · pointwise
    blk_ext []
  · pointwise
    blk_ext []

theorem head5 (c : Dev nD) (t : Fin cfg0.N) (r : Fin 512) (l : Fin 128) (k : Fin 8192) (j : Fin 1024)
    (hk : k.val = t.val * 512 + r.val) (hj : j.val = 640 + l.val) :
    k0_pay2 (F := Ideal) (View.ld (Val := Elt Ideal) (e' := .f32) (iblk m c 0 t) (Rect.unit ![5, 0, 0] ![1, 512, 128] inb_S8x512x128_S1x512x128_5_0_0))
      (View.ld (Val := Elt Ideal) (e' := .f32) (iblk m c 1 t) (Rect.unit ![5, 0, 0] ![1, 512, 128] inb_S8x512x128_S1x512x128_5_0_0))
      (View.ld (Val := Elt Ideal) (e' := .f32) (iblk m c 2 t) (Rect.unit ![0, 640] ![512, 128] inb_S512x1024_S512x128_0_640)) (iblk m c 3 t) (ix2 r l) = GG m c (ix2 k j) := by
  refine headG m c t 5 _ _ _ (fun r l => ?_) (fun r l => ?_) (fun r l => ?_) r l k j hk hj
  · pointwise
    blk_ext []
  · pointwise
    blk_ext []
  · pointwise
    blk_ext []

theorem head6 (c : Dev nD) (t : Fin cfg0.N) (r : Fin 512) (l : Fin 128) (k : Fin 8192) (j : Fin 1024)
    (hk : k.val = t.val * 512 + r.val) (hj : j.val = 768 + l.val) :
    k0_pay2 (F := Ideal) (View.ld (Val := Elt Ideal) (e' := .f32) (iblk m c 0 t) (Rect.unit ![6, 0, 0] ![1, 512, 128] inb_S8x512x128_S1x512x128_6_0_0))
      (View.ld (Val := Elt Ideal) (e' := .f32) (iblk m c 1 t) (Rect.unit ![6, 0, 0] ![1, 512, 128] inb_S8x512x128_S1x512x128_6_0_0))
      (View.ld (Val := Elt Ideal) (e' := .f32) (iblk m c 2 t) (Rect.unit ![0, 768] ![512, 128] inb_S512x1024_S512x128_0_768)) (iblk m c 3 t) (ix2 r l) = GG m c (ix2 k j) := by
  refine headG m c t 6 _ _ _ (fun r l => ?_) (fun r l => ?_) (fun r l => ?_) r l k j hk hj
  · pointwise
    blk_ext []
  · pointwise
    blk_ext []
  · pointwise
    blk_ext []

theorem head7 (c : Dev nD) (t : Fin cfg0.N) (r : Fin 512) (l : Fin 128) (k : Fin 8192) (j : Fin 1024)
    (hk : k.val = t.val * 512 + r.val) (hj : j.val = 896 + l.val) :
    k0_pay2 (F := Ideal) (View.ld (Val := Elt Ideal) (e' := .f32) (iblk m c 0 t) (Rect.unit ![7, 0, 0] ![1, 512, 128] inb_S8x512x128_S1x512x128_7_0_0))
      (View.ld (Val := Elt Ideal) (e' := .f32) (iblk m c 1 t) (Rect.unit ![7, 0, 0] ![1, 512, 128] inb_S8x512x128_S1x512x128_7_0_0))
      (View.ld (Val := Elt Ideal) (e' := .f32) (iblk m c 2 t) (Rect.unit ![0, 896] ![512, 128] inb_S512x1024_S512x128_0_896)) (iblk m c 3 t) (ix2 r l) = GG m c (ix2 k j) := by
  refine headG m c t 7 _ _ _ (fun r l => ?_) (fun r l => ?_) (fun r l => ?_) r l k j hk hj
  · pointwise
    blk_ext []
  · pointwise
    blk_ext []
  · pointwise
    blk_ext []

section
variable (a b : FVec Ideal S1x512x128 .f32) (z : FVec Ideal S512x128 .f32) (w : FVec Ideal S1x128 .f32) (r : Fin 512) (l : Fin 128)

theorem row0 : (k0_pay3 a b z w : FVec Ideal S512x128 .bf16) (ix2 r l) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem col0 : (k0_pay4 a b z w : FVec Ideal S128x512 .bf16) (ix2 l r) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem row1 : (k0_pay8 (k0_pay5 a) (k0_pay6 b) z w : FVec Ideal S512x128 .bf16) (ix2 r l) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem col1 : (k0_pay9 (k0_pay5 a) (k0_pay6 b) z w : FVec Ideal S128x512 .bf16) (ix2 l r) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem row2 : (k0_pay13 z w (k0_pay10 a b) (k0_pay11 a b) : FVec Ideal S512x128 .bf16) (ix2 r l) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem col2 : (k0_pay14 z w (k0_pay10 a b) (k0_pay11 a b) : FVec Ideal S128x512 .bf16) (ix2 l r) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem row3 : (k0_pay16 a b z w : FVec Ideal S512x128 .bf16) (ix2 r l) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem col3 : (k0_pay18 (k0_pay17 a b z w) : FVec Ideal S128x512 .bf16) (ix2 l r) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem row4 : (k0_pay20 a b z w : FVec Ideal S512x128 .bf16) (ix2 r l) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem col4 : (k0_pay21 a b z w : FVec Ideal S128x512 .bf16) (ix2 l r) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem row5 : (k0_pay24 (k0_pay22 a) b z w : FVec Ideal S512x128 .bf16) (ix2 r l) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem col5 : (k0_pay25 (k0_pay22 a) b z w : FVec Ideal S128x512 .bf16) (ix2 l r) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem row6 : (k0_pay30 z w (k0_pay26 a b) (k0_pay27 a b) k0_pay28 : FVec Ideal S512x128 .bf16) (ix2 r l) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem col6 : (k0_pay31 z w (k0_pay26 a b) (k0_pay27 a b) k0_pay28 : FVec Ideal S128x512 .bf16) (ix2 l r) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem row7 : (k0_pay33 a b z w : FVec Ideal S512x128 .bf16) (ix2 r l) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
theorem col7 : (k0_pay1 (k0_pay32 a b z w) : FVec Ideal S128x512 .bf16) (ix2 l r) = k0_pay2 (F := Ideal) a b z w (ix2 r l) := by
  pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33]
end

theorem rows_at (c : Dev nD) (t : Fin cfg0.N) (y : S512x1024.Idx) (k : Fin 8192) (j : Fin 1024)
    (hk : k.val = t.val * 512 + (y 0).val) (hj : j.val = (y 1).val) :
    (outsAt0 m c t).1 y = GG m c (ix2 k j) := by
  unfold outsAt0
  frame_out
  canon_tiles y h
  case piece0 =>
    have hk' : k.val = t.val * 512 + (y 0).val := by omega
    have hj' : j.val = 896 + (y 1).val := by omega
    have e := head7 m c t (y 0) (y 1) k j hk' hj'
    clear hk hj h0 h1 hk' hj'
    idx_vars y
    exact (row7 _ _ _ _ _ _).trans e
  case piece1 =>
    have hk' : k.val = t.val * 512 + (y 0).val := by omega
    have hj' : j.val = 768 + (y 1).val := by omega
    have e := head6 m c t (y 0) (y 1) k j hk' hj'
    clear hk hj h0 h1 hk' hj'
    idx_vars y
    exact (row6 _ _ _ _ _ _).trans e
  case piece2 =>
    have hk' : k.val = t.val * 512 + (y 0).val := by omega
    have hj' : j.val = 640 + (y 1).val := by omega
    have e := head5 m c t (y 0) (y 1) k j hk' hj'
    clear hk hj h0 h1 hk' hj'
    idx_vars y
    exact (row5 _ _ _ _ _ _).trans e
  case piece3 =>
    have hk' : k.val = t.val * 512 + (y 0).val := by omega
    have hj' : j.val = 512 + (y 1).val := by omega
    have e := head4 m c t (y 0) (y 1) k j hk' hj'
    clear hk hj h0 h1 hk' hj'
    idx_vars y
    exact (row4 _ _ _ _ _ _).trans e
  case piece4 =>
    have hk' : k.val = t.val * 512 + (y 0).val := by omega
    have hj' : j.val = 384 + (y 1).val := by omega
    have e := head3 m c t (y 0) (y 1) k j hk' hj'
    clear hk hj h0 h1 hk' hj'
    idx_vars y
    exact (row3 _ _ _ _ _ _).trans e
  case piece5 =>
    have hk' : k.val = t.val * 512 + (y 0).val := by omega
    have hj' : j.val = 256 + (y 1).val := by omega
    have e := head2 m c t (y 0) (y 1) k j hk' hj'
    clear hk hj h0 h1 hk' hj'
    idx_vars y
    exact (row2 _ _ _ _ _ _).trans e
  case piece6 =>
    have hk' : k.val = t.val * 512 + (y 0).val := by omega
    have hj' : j.val = 128 + (y 1).val := by omega
    have e := head1 m c t (y 0) (y 1) k j hk' hj'
    clear hk hj h0 h1 hk' hj'
    idx_vars y
    exact (row1 _ _ _ _ _ _).trans e
  case piece7 =>
    have hk' : k.val = t.val * 512 + (y 0).val := by omega
    have hj' : j.val = 0 + (y 1).val := by omega
    have e := head0 m c t (y 0) (y 1) k j hk' hj'
    clear hk hj h0 h1 hk' hj'
    idx_vars y
    exact (row0 _ _ _ _ _ _).trans e

theorem cols_at (c : Dev nD) (t : Fin cfg0.N) (y : S1024x512.Idx) (k : Fin 8192) (j : Fin 1024)
    (hk : k.val = t.val * 512 + (y 1).val) (hj : j.val = (y 0).val) :
    (outsAt0 m c t).2 y = GG m c (ix2 k j) := by
  unfold outsAt0
  frame_out
  canon_tiles y h
  case piece0 =>
    have hk' : k.val = t.val * 512 + (y 1).val := by omega
    have hj' : j.val = 896 + (y 0).val := by omega
    have e := head7 m c t (y 1) (y 0) k j hk' hj'
    clear hk hj h0 h1 hk' hj'
    idx_vars y
    exact (col7 _ _ _ _ _ _).trans e
  case piece1 =>
    have hk' : k.val = t.val * 512 + (y 1).val := by omega
    have hj' : j.val = 768 + (y 0).val := by omega
    have e := head6 m c t (y 1) (y 0) k j hk' hj'
    clear hk hj h0 h1 hk' hj'
    idx_vars y
    exact (col6 _ _ _ _ _ _).trans e
  case piece2 =>
    have hk' : k.val = t.val * 512 + (y 1).val := by omega
    have hj' : j.val = 640 + (y 0).val := by omega
    have e := head5 m c t (y 1) (y 0) k j hk' hj'
    clear hk hj h0 h1 hk' hj'
    idx_vars y
    exact (col5 _ _ _ _ _ _).trans e
  case piece3 =>
    have hk' : k.val = t.val * 512 + (y 1).val := by omega
    have hj' : j.val = 512 + (y 0).val := by omega
    have e := head4 m c t (y 1) (y 0) k j hk' hj'
    clear hk hj h0 h1 hk' hj'
    idx_vars y
    exact (col4 _ _ _ _ _ _).trans e
  case piece4 =>
    have hk' : k.val = t.val * 512 + (y 1).val := by omega
    have hj' : j.val = 384 + (y 0).val := by omega
    have e := head3 m c t (y 1) (y 0) k j hk' hj'
    clear hk hj h0 h1 hk' hj'
    idx_vars y
    exact (col3 _ _ _ _ _ _).trans e
  case piece5 =>
    have hk' : k.val = t.val * 512 + (y 1).val := by omega
    have hj' : j.val = 256 + (y 0).val := by omega
    have e := head2 m c t (y 1) (y 0) k j hk' hj'
    clear hk hj h0 h1 hk' hj'
    idx_vars y
    exact (col2 _ _ _ _ _ _).trans e
  case piece6 =>
    have hk' : k.val = t.val * 512 + (y 1).val := by omega
    have hj' : j.val = 128 + (y 0).val := by omega
    have e := head1 m c t (y 1) (y 0) k j hk' hj'
    clear hk hj h0 h1 hk' hj'
    idx_vars y
    exact (col1 _ _ _ _ _ _).trans e
  case piece7 =>
    have hk' : k.val = t.val * 512 + (y 1).val := by omega
    have hj' : j.val = 0 + (y 0).val := by omega
    have e := head0 m c t (y 1) (y 0) k j hk' hj'
    clear hk hj h0 h1 hk' hj'
    idx_vars y
    exact (col0 _ _ _ _ _ _).trans e

abbrev X4 (c : Dev nD) : FVec Ideal S8192x2048 .bf16 := m ((c : Thread nD τ).loc main_arg4)
abbrev X5 (c : Dev nD) : FVec Ideal S2048x8192 .bf16 := m ((c : Thread nD τ).loc main_arg5)
abbrev RY (c : Dev nD) : FVec Ideal S8192x2048 .bf16 := val_main_v22 (F := Ideal) (X0 m c) (X1 m c) (X2 m c) (X3 m c) (X4 m c)
abbrev RT (c : Dev nD) : FVec Ideal S2048x8192 .bf16 := val_main_v26 (F := Ideal) (X0 m c) (X1 m c) (X2 m c) (X3 m c) (X5 m c)

theorem ry_lo (c : Dev nD) (k : Fin 8192) (j : Fin 2048) (hj : j.val < 1024) : RY m c (ix2 k j) = X4 m c (ix2 k j) := by
  obtain ⟨l, rfl⟩ : ∃ l : Fin 1024, j = ⟨l.val, by clear hj; omega⟩ := ⟨⟨j.val, hj⟩, rfl⟩
  pointwise [val_main_v22, val_main_v20]
theorem ry_hi (c : Dev nD) (k : Fin 8192) (j : Fin 2048) (l : Fin 1024) (hj : j.val = 1024 + l.val) : RY m c (ix2 k j) = GG m c (ix2 k l) := by
  obtain rfl : j = ⟨1024 + l.val, by clear hj; omega⟩ := Fin.ext hj
  pointwise [val_main_v22, val_main_v21]
theorem rt_lo (c : Dev nD) (k : Fin 8192) (j : Fin 2048) (hj : j.val < 1024) : RT m c (ix2 j k) = X5 m c (ix2 j k) := by
  obtain ⟨l, rfl⟩ : ∃ l : Fin 1024, j = ⟨l.val, by clear hj; omega⟩ := ⟨⟨j.val, hj⟩, rfl⟩
  pointwise [val_main_v26, val_main_v23]
theorem rt_hi (c : Dev nD) (k : Fin 8192) (j : Fin 2048) (l : Fin 1024) (hj : j.val = 1024 + l.val) : RT m c (ix2 j k) = GG m c (ix2 k l) := by
  obtain rfl : j = ⟨1024 + l.val, by clear hj; omega⟩ := Fin.ext hj
  pointwise [val_main_v26, val_main_v25, val_main_v24]

theorem V_4 (c : Dev nD) : V m c main_v0_0 = X4 m c := by
  unfold V; after_results; try rfl

theorem V_5 (c : Dev nD) : V m c main_v0_1 = X5 m c := by
  unfold V; after_results; try rfl

theorem at_4 (c : Dev nD) (t : Fin cfg0.N) (y : S512x1024.Idx) (z : S8192x2048.Idx) (hk : (z 0).val = t.val * 512 + (y 0).val)
    (hj : (z 1).val = 1024 + (y 1).val) : (outsAt0 m c t).1 y = RY m c z := by
  refine (rows_at m c t y (z 0) (y 1) hk rfl).trans ?_
  idx_vars z
  exact (ry_hi m c _ _ _ hj).symm

theorem at_5 (c : Dev nD) (t : Fin cfg0.N) (y : S1024x512.Idx) (z : S2048x8192.Idx) (hk : (z 1).val = t.val * 512 + (y 1).val)
    (hj : (z 0).val = 1024 + (y 0).val) : (outsAt0 m c t).2 y = RT m c z := by
  refine (cols_at m c t y (z 1) (y 0) hk rfl).trans ?_
  idx_vars z
  exact (rt_hi m c _ _ _ hj).symm

theorem final_4 (c : Dev nD) : (dats m 0 c).arrAt 4 (cfgs 0).N = RY m c := by
  have e : (dats m 0 c).arrAt 4 (cfgs 0).N = fun i => if 1024 ≤ (i 1 : ℕ) then RY m c i else V m c main_v0_0 i := by
    refine (dats m 0 c).arrAt_eq_of_coversWhere 4 _ (fun β => β 1 = 1) (by decide +kernel) (fun t hf y => ?_)
      (fun j => by have h : (j 1).val < 2048 := (j 1).isLt; blk_simp [Pipeline.Window.cell_apply]; omega)
    blk_simp
    rw [after0_4]
    refine at_4 m c t _ _ ?_ ?_
    · blk_simp [idx t]
    · blk_simp [idx t]
  rw [e, V_4]
  funext i
  idx_vars i
  by_cases hn : 1024 ≤ i1.val
  · exact if_pos hn
  · exact (if_neg hn).trans (ry_lo m c _ _ (by omega)).symm

theorem final_5 (c : Dev nD) : (dats m 0 c).arrAt 5 (cfgs 0).N = RT m c := by
  have e : (dats m 0 c).arrAt 5 (cfgs 0).N = fun i => if 1024 ≤ (i 0 : ℕ) then RT m c i else V m c main_v0_1 i := by
    refine (dats m 0 c).arrAt_eq_of_coversWhere 5 _ (fun β => β 0 = 1) (by decide +kernel) (fun t hf y => ?_)
      (fun j => by have h : (j 0).val < 2048 := (j 0).isLt; blk_simp [Pipeline.Window.cell_apply]; omega)
    blk_simp
    rw [after0_5]
    refine at_5 m c t _ _ ?_ ?_
    · blk_simp [idx t]
    · blk_simp [idx t]
  rw [e, V_5]
  funext i
  idx_vars i
  by_cases hn : 1024 ≤ i0.val
  · exact if_pos hn
  · exact (if_neg hn).trans (rt_lo m c _ _ (by omega)).symm

end Cert.Kernel15Ideal.Prod
end
-- ==== Proof.NormClaims.lean ====
/- The claims about the gating unit, the norms and the loss: each call runs and keeps its arguments, and over the extended
   reals it computes what its reference does. -/
module

public import proofs.«01_k».proof.Defs
public import proofs.«01_k».proof.Proof.RmsBwd
public import proofs.«01_k».proof.Proof.Gen.Kernel10.Frame
public import proofs.«01_k».proof.Proof.Gen.Reference10Ideal.Run
public import proofs.«01_k».proof.Proof.PostBwd
public import proofs.«01_k».proof.Proof.Gen.Kernel11.Frame
public import proofs.«01_k».proof.Proof.Gen.Reference11Ideal.Run
public import proofs.«01_k».proof.Proof.FinalLoss
public import proofs.«01_k».proof.Proof.Gen.Kernel12.Frame
public import proofs.«01_k».proof.Proof.Gen.Reference12Ideal.Run
public import proofs.«01_k».proof.Proof.RmsFwd
public import proofs.«01_k».proof.Proof.Gen.Kernel13.Frame
public import proofs.«01_k».proof.Proof.Gen.Reference13Ideal.Run
public import proofs.«01_k».proof.Proof.SguFwd
public import proofs.«01_k».proof.Proof.Gen.Kernel14.Frame
public import proofs.«01_k».proof.Proof.Gen.Reference14Ideal.Run
public import proofs.«01_k».proof.Proof.PostFwd
public import proofs.«01_k».proof.Proof.Gen.Kernel15.Frame
public import proofs.«01_k».proof.Proof.Gen.Reference15Ideal.Run

@[expose] public section

set_option maxRecDepth 16384

noncomputable section

open Idealize.ShloMosaic Idealize.SL.Sem

/-! ## The gradient of the RMS norm, added to the residual's -/

namespace Cert.Proof.RmsBwd

theorem frame_p : Cert.quiescent_Kernel10 := fun m ρ _ => Cert.Kernel10.Gen.frame m ρ

theorem frame_pi : Cert.quiescent_Kernel10Ideal := fun m ρ _ => Cert.Kernel10Ideal.Gen.frame m ρ

theorem frame_ri : Cert.quiescent_Reference10Ideal := fun m ρ _ =>
  (θ_run Cert.Reference10Ideal.defs _ _).mono (fun r h => ⟨fun c => (h c).2.2.2, sem_eq_zero_of_no_sems (by decide) r.2⟩)
    (Cert.Reference10Ideal.Value.run (F := Ideal) m ρ)

theorem preserves : Cert.preserves_Kernel10_Kernel10Ideal := trivial

/-- Kernel and reference both end with the gradient of the RMS norm, added to the residual's. -/
theorem algebraic : Cert.algebraic_Kernel10Ideal_Reference10Ideal := by
  intro m ρ m' ρ' _ hagree
  refine ⟨fun c => Cert.Reference10Ideal.Read.val_main_v37 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)),
    fun c => Cert.Reference10Ideal.Read.val_main_v39 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)),
    fun c => Cert.Reference10Ideal.Read.val_main_v40 (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg2)), ?_, ?_⟩
  · refine (θ_run Cert.Kernel10Ideal.defs _ _).mono (fun _ h c => ?_) (Cert.Kernel10Ideal.Value.run_blocks (F := Ideal) m ρ)
    obtain ⟨h0, h1, h2, hrest⟩ := h c
    exact ⟨h0.trans (Cert.Kernel10Ideal.Prod.final_4 m c), h1.trans (Cert.Kernel10Ideal.Prod.final_5 m c), h2.trans (Cert.Kernel10Ideal.Prod.final_6 m c), hrest⟩
  · refine (θ_run Cert.Reference10Ideal.defs _ _).mono (fun _ h c => ?_) (Cert.Reference10Ideal.Value.run (F := Ideal) m' ρ')
    obtain ⟨a0, a1, a2, a3⟩ := hagree c
    obtain ⟨h0, h1, h2, hrest⟩ := h c
    refine ⟨h0.trans ((Cert.Reference10Ideal.Read.val_main_v37_eq _ _).trans ?_),
      h1.trans ((Cert.Reference10Ideal.Read.val_main_v39_eq _ _).trans ?_),
      h2.trans ((Cert.Reference10Ideal.Read.val_main_v40_eq _ _).trans ?_), hrest⟩
    · exact congr (congr (congr (congrArg _ a0) a1) a2) a3
    · exact congr (congr (congr (congrArg _ a0) a1) a2) a3
    · exact congr (congrArg _ a0) a2

end Cert.Proof.RmsBwd

/-! ## The gradient of the normed and gated heads -/

namespace Cert.Proof.PostBwd

theorem frame_p : Cert.quiescent_Kernel11 := fun m ρ _ => Cert.Kernel11.Gen.frame m ρ

theorem frame_pi : Cert.quiescent_Kernel11Ideal := fun m ρ _ => Cert.Kernel11Ideal.Gen.frame m ρ

theorem frame_ri : Cert.quiescent_Reference11Ideal := fun m ρ _ =>
  (θ_run Cert.Reference11Ideal.defs _ _).mono (fun r h => ⟨fun c => (h c).2.2.2, sem_eq_zero_of_no_sems (by decide) r.2⟩)
    (Cert.Reference11Ideal.Value.run (F := Ideal) m ρ)

theorem preserves : Cert.preserves_Kernel11_Kernel11Ideal := trivial

/-- Kernel and reference both end with the gradient of the normed and gated heads. -/
theorem algebraic : Cert.algebraic_Kernel11Ideal_Reference11Ideal := by
  intro m ρ m' ρ' _ hagree
  refine ⟨fun c => Cert.Reference11Ideal.Read.val_main_v48 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
    fun c => Cert.Reference11Ideal.Read.val_main_v49 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)),
    fun c => Cert.Reference11Ideal.Read.val_main_v50 (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg4)), ?_, ?_⟩
  · refine (θ_run Cert.Kernel11Ideal.defs _ _).mono (fun _ h c => ⟨?_, ?_, ?_, h.1 c⟩)
      (θ_run_and (Cert.Kernel11Ideal.Gen.unchanged (F := Ideal) m ρ) (Cert.Kernel11Ideal.Gen.run_main (F := Ideal) m ρ))
    · exact ((h.2 c).1 5).trans (Cert.Kernel11Ideal.Prod.final_5 m c)
    · exact ((h.2 c).2 Cert.Kernel11Ideal.main_v1 (Pipeline.mem_restRefs_of Cert.Kernel11Ideal.main_v1 (by decide) (by decide))).trans (Cert.Kernel11Ideal.Prod.final_1 m c)
    · exact ((h.2 c).1 7).trans (Cert.Kernel11Ideal.Prod.final_7 m c)
  · refine (θ_run Cert.Reference11Ideal.defs _ _).mono (fun _ h c => ?_) (Cert.Reference11Ideal.Value.run (F := Ideal) m' ρ')
    obtain ⟨a0, a1, a2, a3, a4⟩ := hagree c
    obtain ⟨h0, h1, h2, hrest⟩ := h c
    refine ⟨h0.trans ((Cert.Reference11Ideal.Read.val_main_v48_eq _ _).trans ?_),
      h1.trans ((Cert.Reference11Ideal.Read.val_main_v49_eq _ _ _ _ _).trans ?_),
      h2.trans ((Cert.Reference11Ideal.Read.val_main_v50_eq _ _ _ _).trans ?_), hrest⟩
    · exact congr (congr (congr (congr (congrArg _ a0) a1) a2) a3) a4
    · exact congr (congr (congr (congr (congrArg _ a0) a1) a2) a3) a4
    · exact congr (congr (congr (congrArg _ a0) a1) a2) a4

end Cert.Proof.PostBwd

/-! ## The loss and its gradient -/

namespace Cert.Proof.FinalLoss

theorem frame_p : Cert.quiescent_Kernel12 := fun m ρ _ => Cert.Kernel12.Gen.frame m ρ

theorem frame_pi : Cert.quiescent_Kernel12Ideal := fun m ρ _ => Cert.Kernel12Ideal.Gen.frame m ρ

theorem frame_ri : Cert.quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem preserves : Cert.preserves_Kernel12_Kernel12Ideal := trivial

/-- Kernel and reference both end with the loss and its gradient. -/
theorem algebraic : Cert.algebraic_Kernel12Ideal_Reference12Ideal := by
  intro m ρ m' ρ' _ hagree
  refine ⟨fun c => Cert.Reference12Ideal.Read.val_main_v52 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)),
    fun c => Cert.Reference12Ideal.Read.val_main_v51 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)),
    fun c => Cert.Reference12Ideal.Read.val_main_v53 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)),
    fun c => Cert.Reference12Ideal.Read.val_main_v54 (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)), ?_, ?_⟩
  · refine (θ_run Cert.Kernel12Ideal.defs _ _).mono (fun _ h c => ?_) (Cert.Kernel12Ideal.Value.run_blocks (F := Ideal) m ρ)
    obtain ⟨h0, h1, h2, h3, hrest⟩ := h c
    exact ⟨h0.trans (Cert.Kernel12Ideal.Prod.final_3 m c), h1.trans (Cert.Kernel12Ideal.Prod.final_4 m c), h2.trans (Cert.Kernel12Ideal.Prod.final_5 m c), h3.trans (Cert.Kernel12Ideal.Prod.final_6 m c), hrest⟩
  · refine (θ_run Cert.Reference12Ideal.defs _ _).mono (fun _ h c => ?_) (Cert.Reference12Ideal.Value.run (F := Ideal) m' ρ')
    obtain ⟨a0, a1, a2⟩ := hagree c
    obtain ⟨h0, h1, h2, h3, hrest⟩ := h c
    refine ⟨h0.trans ((Cert.Reference12Ideal.Read.val_main_v52_eq _ _ _).trans ?_),
      h1.trans ((Cert.Reference12Ideal.Read.val_main_v51_eq _ _).trans ?_),
      h2.trans ((Cert.Reference12Ideal.Read.val_main_v53_eq _ _).trans ?_),
      h3.trans ((Cert.Reference12Ideal.Read.val_main_v54_eq _ _ _).trans ?_), hrest⟩
    · exact congr (congr (congrArg _ a0) a1) a2
    · exact congr (congr (congrArg _ a0) a1) a2
    · exact congr (congr (congrArg _ a0) a1) a2
    · exact congr (congr (congrArg _ a0) a1) a2

end Cert.Proof.FinalLoss

/-! ## The RMS norm and its transpose -/

namespace Cert.Proof.RmsFwd

theorem frame_p : Cert.quiescent_Kernel13 := fun m ρ _ => Cert.Kernel13.Gen.frame m ρ

theorem frame_pi : Cert.quiescent_Kernel13Ideal := fun m ρ _ => Cert.Kernel13Ideal.Gen.frame m ρ

theorem frame_ri : Cert.quiescent_Reference13Ideal := fun m ρ _ =>
  (θ_run Cert.Reference13Ideal.defs _ _).mono (fun r h => ⟨fun c => (h c).2.2, sem_eq_zero_of_no_sems (by decide) r.2⟩)
    (Cert.Reference13Ideal.Value.run (F := Ideal) m ρ)

theorem preserves : Cert.preserves_Kernel13_Kernel13Ideal := trivial

/-- Kernel and reference both end with the RMS norm and its transpose. -/
theorem algebraic : Cert.algebraic_Kernel13Ideal_Reference13Ideal := by
  intro m ρ m' ρ' _ hagree
  refine ⟨fun c => Cert.Reference13Ideal.Read.val_main_v14 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    fun c => Cert.Reference13Ideal.Read.val_main_v16 (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)), ?_, ?_⟩
  · refine (θ_run Cert.Kernel13Ideal.defs _ _).mono (fun _ h c => ?_) (Cert.Kernel13Ideal.Value.run_blocks (F := Ideal) m ρ)
    obtain ⟨h0, h1, hrest⟩ := h c
    exact ⟨h0.trans (Cert.Kernel13Ideal.Prod.final_2 m c), h1.trans (Cert.Kernel13Ideal.Prod.final_3 m c), hrest⟩
  · refine (θ_run Cert.Reference13Ideal.defs _ _).mono (fun _ h c => ?_) (Cert.Reference13Ideal.Value.run (F := Ideal) m' ρ')
    obtain ⟨a0, a1⟩ := hagree c
    obtain ⟨h0, h1, hrest⟩ := h c
    refine ⟨h0.trans ((Cert.Reference13Ideal.Read.val_main_v14_eq _ _).trans ?_),
      h1.trans ((Cert.Reference13Ideal.Read.val_main_v16_eq _ _).trans ?_), hrest⟩
    · exact congr (congrArg _ a0) a1
    · exact congr (congrArg _ a0) a1

end Cert.Proof.RmsFwd

/-! ## The spatial gating unit and its transpose -/

namespace Cert.Proof.SguFwd

theorem frame_p : Cert.quiescent_Kernel14 := fun m ρ _ => Cert.Kernel14.Gen.frame m ρ

theorem frame_pi : Cert.quiescent_Kernel14Ideal := fun m ρ _ => Cert.Kernel14Ideal.Gen.frame m ρ

theorem frame_ri : Cert.quiescent_Reference14Ideal := fun m ρ _ =>
  (θ_run Cert.Reference14Ideal.defs _ _).mono (fun r h => ⟨fun c => (h c).2.2, sem_eq_zero_of_no_sems (by decide) r.2⟩)
    (Cert.Reference14Ideal.Value.run (F := Ideal) m ρ)

theorem preserves : Cert.preserves_Kernel14_Kernel14Ideal := trivial

/-- Kernel and reference both end with the spatial gating unit and its transpose. -/
theorem algebraic : Cert.algebraic_Kernel14Ideal_Reference14Ideal := by
  intro m ρ m' ρ' _ hagree
  refine ⟨fun c => Cert.Reference14Ideal.Read.val_main_v55 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)),
    fun c => Cert.Reference14Ideal.Read.val_main_v57 (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)), ?_, ?_⟩
  · refine (θ_run Cert.Kernel14Ideal.defs _ _).mono (fun _ h c => ⟨?_, ?_, h.1 c⟩)
      (θ_run_and (Cert.Kernel14Ideal.Gen.unchanged (F := Ideal) m ρ) (Cert.Kernel14Ideal.Gen.run_main (F := Ideal) m ρ))
    · exact ((h.2 c).2 Cert.Kernel14Ideal.main_v1 (Pipeline.mem_restRefs_of Cert.Kernel14Ideal.main_v1 (by decide) (by decide))).trans (Cert.Kernel14Ideal.Prod.final_1 m c)
    · exact ((h.2 c).2 Cert.Kernel14Ideal.main_v2 (Pipeline.mem_restRefs_of Cert.Kernel14Ideal.main_v2 (by decide) (by decide))).trans (Cert.Kernel14Ideal.Prod.final_2 m c)
  · refine (θ_run Cert.Reference14Ideal.defs _ _).mono (fun _ h c => ?_) (Cert.Reference14Ideal.Value.run (F := Ideal) m' ρ')
    obtain ⟨a0, a1, a2, a3, a4⟩ := hagree c
    obtain ⟨h0, h1, hrest⟩ := h c
    refine ⟨h0.trans ((Cert.Reference14Ideal.Read.val_main_v55_eq _ _).trans ?_),
      h1.trans ((Cert.Reference14Ideal.Read.val_main_v57_eq _ _).trans ?_), hrest⟩
    · exact congr (congr (congr (congr (congrArg _ a0) a1) a2) a3) a4
    · exact congr (congr (congr (congr (congrArg _ a0) a1) a2) a3) a4

end Cert.Proof.SguFwd

/-! ## The normed and gated heads and their transpose, beside the rows given -/

namespace Cert.Proof.PostFwd

theorem frame_p : Cert.quiescent_Kernel15 := fun m ρ _ => Cert.Kernel15.Gen.frame m ρ

theorem frame_pi : Cert.quiescent_Kernel15Ideal := fun m ρ _ => Cert.Kernel15Ideal.Gen.frame m ρ

theorem frame_ri : Cert.quiescent_Reference15Ideal := fun m ρ _ =>
  (θ_run Cert.Reference15Ideal.defs _ _).mono (fun r h => ⟨fun c => (h c).2.2, sem_eq_zero_of_no_sems (by decide) r.2⟩)
    (Cert.Reference15Ideal.Value.run (F := Ideal) m ρ)

theorem preserves : Cert.preserves_Kernel15_Kernel15Ideal := trivial

/-- Kernel and reference both end with the normed and gated heads and their transpose, beside the rows given. -/
theorem algebraic : Cert.algebraic_Kernel15Ideal_Reference15Ideal := by
  intro m ρ m' ρ' _ hagree
  refine ⟨fun c => Cert.Reference15Ideal.Read.val_main_v22 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)),
    fun c => Cert.Reference15Ideal.Read.val_main_v26 (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg5)), ?_, ?_⟩
  · refine (θ_run Cert.Kernel15Ideal.defs _ _).mono (fun _ h c => ?_) (Cert.Kernel15Ideal.Value.run_blocks (F := Ideal) m ρ)
    obtain ⟨h0, h1, hrest⟩ := h c
    exact ⟨h0.trans (Cert.Kernel15Ideal.Prod.final_4 m c), h1.trans (Cert.Kernel15Ideal.Prod.final_5 m c), hrest⟩
  · refine (θ_run Cert.Reference15Ideal.defs _ _).mono (fun _ h c => ?_) (Cert.Reference15Ideal.Value.run (F := Ideal) m' ρ')
    obtain ⟨a0, a1, a2, a3, a4, a5⟩ := hagree c
    obtain ⟨h0, h1, hrest⟩ := h c
    refine ⟨h0.trans ((Cert.Reference15Ideal.Read.val_main_v22_eq _ _ _ _ _).trans ?_),
      h1.trans ((Cert.Reference15Ideal.Read.val_main_v26_eq _ _ _ _ _).trans ?_), hrest⟩
    · exact congr (congr (congr (congr (congrArg _ a0) a1) a2) a3) a4
    · exact congr (congr (congr (congr (congrArg _ a0) a1) a2) a3) a5

end Cert.Proof.PostFwd

end
-- ==== Proof.AdamOut.lean ====
module

public import proofs.«01_k».proof.Proof.Gen.Kernel16Ideal.Value
public import proofs.«01_k».proof.Proof.Gen.Reference16Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The step of the optimiser on the rows of the output projection that a device holds: the sum of eight parts, and the moments and the change from it. -/

namespace Cert.Kernel16Ideal.Prod

open Cert.Kernel16Ideal Cert.Kernel16Ideal.Gen Idealize.ShloMosaic Idealize.ShloMosaic.TcCoe Idealize.SL.Sem
open Cert.Reference16Ideal.Read

theorem idx : ∀ t : Fin cfg0.N, win0_0.index t 0 = 0 ∧ win0_0.index t 1 = t.val / 2 ∧ win0_0.index t 2 = t.val % 2 ∧ win0_0.index t 3 = 0
    ∧ win0_1.index t 0 = t.val / 2 ∧ win0_1.index t 1 = t.val % 2 ∧ win0_1.index t 2 = 0 ∧ win0_2.index t 0 = t.val / 2 ∧ win0_2.index t 1 = t.val % 2 ∧ win0_2.index t 2 = 0 ∧ win0_3.index t 0 = t.val / 2 ∧ win0_3.index t 1 = t.val % 2 ∧ win0_3.index t 2 = 0 ∧ win0_4.index t 0 = t.val / 2 ∧ win0_4.index t 1 = t.val % 2 ∧ win0_4.index t 2 = 0 ∧ win0_5.index t 0 = t.val / 2 ∧ win0_5.index t 1 = t.val % 2 ∧ win0_5.index t 2 = 0 ∧ win0_6.index t 0 = t.val / 2 ∧ win0_6.index t 1 = t.val % 2 ∧ win0_6.index t 2 = 0 ∧ win0_7.index t 0 = t.val / 2 ∧ win0_7.index t 1 = t.val % 2 ∧ win0_7.index t 2 = 0 :=
  (by decide +kernel : ∀ t : Fin grid0.N, _)

theorem g_at (a0 a1 a2 a3 a4 a5 a6 a7 : FVec Ideal S1x1x128x2048 .bf16) (A : FVec Ideal S8x4x256x2048 .bf16) (r : Fin 128) (l : Fin 2048) (p : Fin 4) (q : Fin 256)
    (h0 : a0 (ix4 0 0 r l) = A (ix4 0 p q l)) (h1 : a1 (ix4 0 0 r l) = A (ix4 1 p q l)) (h2 : a2 (ix4 0 0 r l) = A (ix4 2 p q l)) (h3 : a3 (ix4 0 0 r l) = A (ix4 3 p q l)) (h4 : a4 (ix4 0 0 r l) = A (ix4 4 p q l)) (h5 : a5 (ix4 0 0 r l) = A (ix4 5 p q l)) (h6 : a6 (ix4 0 0 r l) = A (ix4 6 p q l)) (h7 : a7 (ix4 0 0 r l) = A (ix4 7 p q l)) :
    k0_pay2 (F := Ideal) (k0_pay1 (F := Ideal) a0 a1 a2 a3 a4 a5 a6) a7 (ix3 0 r l) = val_main_v1 (F := Ideal) A (ix3 p q l) := by
  pointwise [k0_pay2, k0_pay1, val_main_v1, val_main_v0, val_main_cst]
  rw [h0, h1, h2, h3, h4, h5, h6, h7]
  refine Eq.trans ?_ (Fin.sum_univ_eight (M := EReal) fun i => A (ix4 i p q l)).symm
  rfl

theorem m_at (g : FVec Ideal S1x128x2048 .f32) (a7 : FVec Ideal S1x1x128x2048 .bf16) (x2 : FVec Ideal S1x128x2048 .f32) (A : FVec Ideal S8x4x256x2048 .bf16) (X2 : FVec Ideal S4x256x2048 .f32) (r : Fin 128) (l : Fin 2048) (p : Fin 4) (q : Fin 256)
    (hg : k0_pay2 (F := Ideal) g a7 (ix3 0 r l) = val_main_v1 (F := Ideal) A (ix3 p q l)) (h2 : x2 (ix3 0 r l) = X2 (ix3 p q l)) :
    k0_pay3 (F := Ideal) g a7 x2 (ix3 0 r l) = val_main_v6 (F := Ideal) A X2 (ix3 p q l) := by
  pointwise [k0_pay3, val_main_v6, val_main_v5, val_main_v4, val_main_v3, val_main_v2, val_main_cst_0, val_main_cst_1]
  rw [hg, h2]
  try rfl

theorem v_at (g : FVec Ideal S1x128x2048 .f32) (a7 : FVec Ideal S1x1x128x2048 .bf16) (x3 : FVec Ideal S1x128x2048 .f32) (A : FVec Ideal S8x4x256x2048 .bf16) (X3 : FVec Ideal S4x256x2048 .f32) (r : Fin 128) (l : Fin 2048) (p : Fin 4) (q : Fin 256)
    (hg : k0_pay2 (F := Ideal) g a7 (ix3 0 r l) = val_main_v1 (F := Ideal) A (ix3 p q l)) (h3 : x3 (ix3 0 r l) = X3 (ix3 p q l)) :
    k0_pay4 (F := Ideal) g a7 x3 (ix3 0 r l) = val_main_v12 (F := Ideal) A X3 (ix3 p q l) := by
  pointwise [k0_pay4, val_main_v12, val_main_v11, val_main_v10, val_main_v9, val_main_v8, val_main_v7, val_main_cst_2, val_main_cst_3]
  rw [hg, h3]
  try rfl

theorem d_at (g : FVec Ideal S1x128x2048 .f32) (a7 : FVec Ideal S1x1x128x2048 .bf16) (x1 x2 x3 : FVec Ideal S1x128x2048 .f32) (A : FVec Ideal S8x4x256x2048 .bf16) (X1 X2 X3 : FVec Ideal S4x256x2048 .f32) (r : Fin 128) (l : Fin 2048) (p : Fin 4) (q : Fin 256)
    (hg : k0_pay2 (F := Ideal) g a7 (ix3 0 r l) = val_main_v1 (F := Ideal) A (ix3 p q l)) (h1 : x1 (ix3 0 r l) = X1 (ix3 p q l)) (h2 : x2 (ix3 0 r l) = X2 (ix3 p q l)) (h3 : x3 (ix3 0 r l) = X3 (ix3 p q l)) :
    k0_pay5 (F := Ideal) g a7 x2 x3 x1 (ix3 0 r l) = val_main_v25 (F := Ideal) A X1 X2 X3 (ix3 p q l) := by
  have hm := m_at g a7 x2 A X2 r l p q hg h2
  have hv := v_at g a7 x3 A X3 r l p q hg h3
  pointwise [k0_pay5, val_main_v25, val_main_v24, val_main_v23, val_main_v22, val_main_v21, val_main_v20, val_main_v19, val_main_v18, val_main_v17, val_main_v16, val_main_v15, val_main_v14, val_main_v13, val_main_cst_4, val_main_cst_5, val_main_cst_6, val_main_cst_7, val_main_cst_8]
  rw [hm, hv, h1]
  try rfl

variable (m : (ℓ : Loc nD τ sig) → Buf (Elt Ideal) ℓ)

abbrev X0 (c : Dev nD) : FVec Ideal S8x4x256x2048 .bf16 := m ((c : Thread nD τ).loc main_arg0)
abbrev X1 (c : Dev nD) : FVec Ideal S4x256x2048 .f32 := m ((c : Thread nD τ).loc main_arg1)
abbrev X2 (c : Dev nD) : FVec Ideal S4x256x2048 .f32 := m ((c : Thread nD τ).loc main_arg2)
abbrev X3 (c : Dev nD) : FVec Ideal S4x256x2048 .f32 := m ((c : Thread nD τ).loc main_arg3)

theorem in_p0 (c : Dev nD) (t : Fin cfg0.N) (r : Fin 128) (l : Fin 2048) (p : Fin 4) (q : Fin 256) (hp : p.val = t.val / 2) (hq : q.val = t.val % 2 * 128 + r.val) :
    View.ld (Val := Elt Ideal) (e' := .bf16) (iblk m c 0 t) r0_0 (ix4 0 0 r l) = X0 m c (ix4 0 p q l) := by
  pointwise; blk_ext [iblk, V, idx t, r0_0]

theorem in_p1 (c : Dev nD) (t : Fin cfg0.N) (r : Fin 128) (l : Fin 2048) (p : Fin 4) (q : Fin 256) (hp : p.val = t.val / 2) (hq : q.val = t.val % 2 * 128 + r.val) :
    View.ld (Val := Elt Ideal) (e' := .bf16) (iblk m c 0 t) r0_1 (ix4 0 0 r l) = X0 m c (ix4 1 p q l) := by
  pointwise; blk_ext [iblk, V, idx t, r0_1]

theorem in_p2 (c : Dev nD) (t : Fin cfg0.N) (r : Fin 128) (l : Fin 2048) (p : Fin 4) (q : Fin 256) (hp : p.val = t.val / 2) (hq : q.val = t.val % 2 * 128 + r.val) :
    View.ld (Val := Elt Ideal) (e' := .bf16) (iblk m c 0 t) r0_2 (ix4 0 0 r l) = X0 m c (ix4 2 p q l) := by
  pointwise; blk_ext [iblk, V, idx t, r0_2]

theorem in_p3 (c : Dev nD) (t : Fin cfg0.N) (r : Fin 128) (l : Fin 2048) (p : Fin 4) (q : Fin 256) (hp : p.val = t.val / 2) (hq : q.val = t.val % 2 * 128 + r.val) :
    View.ld (Val := Elt Ideal) (e' := .bf16) (iblk m c 0 t) r0_3 (ix4 0 0 r l) = X0 m c (ix4 3 p q l) := by
  pointwise; blk_ext [iblk, V, idx t, r0_3]

theorem in_p4 (c : Dev nD) (t : Fin cfg0.N) (r : Fin 128) (l : Fin 2048) (p : Fin 4) (q : Fin 256) (hp : p.val = t.val / 2) (hq : q.val = t.val % 2 * 128 + r.val) :
    View.ld (Val := Elt Ideal) (e' := .bf16) (iblk m c 0 t) r0_4 (ix4 0 0 r l) = X0 m c (ix4 4 p q l) := by
  pointwise; blk_ext [iblk, V, idx t, r0_4]

theorem in_p5 (c : Dev nD) (t : Fin cfg0.N) (r : Fin 128) (l : Fin 2048) (p : Fin 4) (q : Fin 256) (hp : p.val = t.val / 2) (hq : q.val = t.val % 2 * 128 + r.val) :
    View.ld (Val := Elt Ideal) (e' := .bf16) (iblk m c 0 t) r0_5 (ix4 0 0 r l) = X0 m c (ix4 5 p q l) := by
  pointwise; blk_ext [iblk, V, idx t, r0_5]

theorem in_p6 (c : Dev nD) (t : Fin cfg0.N) (r : Fin 128) (l : Fin 2048) (p : Fin 4) (q : Fin 256) (hp : p.val = t.val / 2) (hq : q.val = t.val % 2 * 128 + r.val) :
    View.ld (Val := Elt Ideal) (e' := .bf16) (iblk m c 0 t) r0_6 (ix4 0 0 r l) = X0 m c (ix4 6 p q l) := by
  pointwise; blk_ext [iblk, V, idx t, r0_6]

theorem in_p7 (c : Dev nD) (t : Fin cfg0.N) (r : Fin 128) (l : Fin 2048) (p : Fin 4) (q : Fin 256) (hp : p.val = t.val / 2) (hq : q.val = t.val % 2 * 128 + r.val) :
    View.ld (Val := Elt Ideal) (e' := .bf16) (iblk m c 0 t) r0_7 (ix4 0 0 r l) = X0 m c (ix4 7 p q l) := by
  pointwise; blk_ext [iblk, V, idx t, r0_7]

theorem in_1 (c : Dev nD) (t : Fin cfg0.N) (r : Fin 128) (l : Fin 2048) (p : Fin 4) (q : Fin 256) (hp : p.val = t.val / 2) (hq : q.val = t.val % 2 * 128 + r.val) :
    View.ld (Val := Elt Ideal) (e' := .f32) (iblk m c 1 t) r0_8 (ix3 0 r l) = X1 m c (ix3 p q l) := by
  pointwise; blk_ext [iblk, V, idx t, r0_8]

theorem in_2 (c : Dev nD) (t : Fin cfg0.N) (r : Fin 128) (l : Fin 2048) (p : Fin 4) (q : Fin 256) (hp : p.val = t.val / 2) (hq : q.val = t.val % 2 * 128 + r.val) :
    View.ld (Val := Elt Ideal) (e' := .f32) (iblk m c 2 t) r0_8 (ix3 0 r l) = X2 m c (ix3 p q l) := by
  pointwise; blk_ext [iblk, V, idx t, r0_8]

theorem in_3 (c : Dev nD) (t : Fin cfg0.N) (r : Fin 128) (l : Fin 2048) (p : Fin 4) (q : Fin 256) (hp : p.val = t.val / 2) (hq : q.val = t.val % 2 * 128 + r.val) :
    View.ld (Val := Elt Ideal) (e' := .f32) (iblk m c 3 t) r0_8 (ix3 0 r l) = X3 m c (ix3 p q l) := by
  pointwise; blk_ext [iblk, V, idx t, r0_8]

theorem g_blk (c : Dev nD) (t : Fin cfg0.N) (r : Fin 128) (l : Fin 2048) (p : Fin 4) (q : Fin 256) (hp : p.val = t.val / 2) (hq : q.val = t.val % 2 * 128 + r.val) :
    k0_pay2 (F := Ideal) (k0_pay6 (iblk m c 0 t) (iblk m c 1 t) (iblk m c 2 t) (iblk m c 3 t)) (View.ld (Val := Elt Ideal) (e' := .bf16) (iblk m c 0 t) r0_7) (ix3 0 r l) = val_main_v1 (F := Ideal) (X0 m c) (ix3 p q l) :=
  g_at _ _ _ _ _ _ _ _ _ r l p q (in_p0 m c t r l p q hp hq) (in_p1 m c t r l p q hp hq) (in_p2 m c t r l p q hp hq) (in_p3 m c t r l p q hp hq) (in_p4 m c t r l p q hp hq) (in_p5 m c t r l p q hp hq) (in_p6 m c t r l p q hp hq) (in_p7 m c t r l p q hp hq)

theorem out4_at (c : Dev nD) (t : Fin cfg0.N) (y : S1x128x2048.Idx) (z : S4x256x2048.Idx)
    (h0 : (z 0).val = t.val / 2 + (y 0).val) (h1 : (z 1).val = t.val % 2 * 128 + (y 1).val) (h2 : (z 2).val = (y 2).val) :
    out0_4 (iblk m c 0 t) (iblk m c 1 t) (iblk m c 2 t) (iblk m c 3 t) y = val_main_v1 (F := Ideal) (X0 m c) z := by
  unfold out0_4
  canon_tiles y h
  case piece0 =>
    idx_vars y
    idx_vars z
    have hp : z0.val = t.val / 2 := by have := y0.isLt; omega
    have hq : z1.val = t.val % 2 * 128 + y1.val := by omega
    obtain rfl : z2 = y2 := Fin.ext (by omega)
    obtain rfl : y0 = 0 := Subsingleton.elim _ _
    exact g_blk m c t y1 z2 z0 z1 hp hq

theorem final_4 (c : Dev nD) : (dats m 0 c).arrAt 4 (cfgs 0).N = val_main_v1 (F := Ideal) (X0 m c) := by
  refine (dats m 0 c).arrAt_eq_of_covers 4 _ (by decide +kernel) fun t hf y => ?_
  blk_simp [after0_4]
  exact out4_at m c t y _ (by blk_simp [idx t]) (by blk_simp [idx t]) (by blk_simp [idx t])

theorem out5_at (c : Dev nD) (t : Fin cfg0.N) (y : S1x128x2048.Idx) (z : S4x256x2048.Idx)
    (h0 : (z 0).val = t.val / 2 + (y 0).val) (h1 : (z 1).val = t.val % 2 * 128 + (y 1).val) (h2 : (z 2).val = (y 2).val) :
    out0_5 (iblk m c 0 t) (iblk m c 1 t) (iblk m c 2 t) (iblk m c 3 t) y = val_main_v25 (F := Ideal) (X0 m c) (X1 m c) (X2 m c) (X3 m c) z := by
  unfold out0_5
  canon_tiles y h
  case piece0 =>
    idx_vars y
    idx_vars z
    have hp : z0.val = t.val / 2 := by have := y0.isLt; omega
    have hq : z1.val = t.val % 2 * 128 + y1.val := by omega
    obtain rfl : z2 = y2 := Fin.ext (by omega)
    obtain rfl : y0 = 0 := Subsingleton.elim _ _
    exact d_at _ _ _ _ _ _ _ _ _ y1 z2 z0 z1 (g_blk m c t y1 z2 z0 z1 hp hq) (in_1 m c t y1 z2 z0 z1 hp hq) (in_2 m c t y1 z2 z0 z1 hp hq) (in_3 m c t y1 z2 z0 z1 hp hq)

theorem final_5 (c : Dev nD) : (dats m 0 c).arrAt 5 (cfgs 0).N = val_main_v25 (F := Ideal) (X0 m c) (X1 m c) (X2 m c) (X3 m c) := by
  refine (dats m 0 c).arrAt_eq_of_covers 5 _ (by decide +kernel) fun t hf y => ?_
  blk_simp [after0_5]
  exact out5_at m c t y _ (by blk_simp [idx t]) (by blk_simp [idx t]) (by blk_simp [idx t])

theorem out6_at (c : Dev nD) (t : Fin cfg0.N) (y : S1x128x2048.Idx) (z : S4x256x2048.Idx)
    (h0 : (z 0).val = t.val / 2 + (y 0).val) (h1 : (z 1).val = t.val % 2 * 128 + (y 1).val) (h2 : (z 2).val = (y 2).val) :
    out0_6 (iblk m c 0 t) (iblk m c 1 t) (iblk m c 2 t) (iblk m c 3 t) y = val_main_v6 (F := Ideal) (X0 m c) (X2 m c) z := by
  unfold out0_6
  canon_tiles y h
  case piece0 =>
    idx_vars y
    idx_vars z
    have hp : z0.val = t.val / 2 := by have := y0.isLt; omega
    have hq : z1.val = t.val % 2 * 128 + y1.val := by omega
    obtain rfl : z2 = y2 := Fin.ext (by omega)
    obtain rfl : y0 = 0 := Subsingleton.elim _ _
    exact m_at _ _ _ _ _ y1 z2 z0 z1 (g_blk m c t y1 z2 z0 z1 hp hq) (in_2 m c t y1 z2 z0 z1 hp hq)

theorem final_6 (c : Dev nD) : (dats m 0 c).arrAt 6 (cfgs 0).N = val_main_v6 (F := Ideal) (X0 m c) (X2 m c) := by
  refine (dats m 0 c).arrAt_eq_of_covers 6 _ (by decide +kernel) fun t hf y => ?_
  blk_simp [after0_6]
  exact out6_at m c t y _ (by blk_simp [idx t]) (by blk_simp [idx t]) (by blk_simp [idx t])

theorem out7_at (c : Dev nD) (t : Fin cfg0.N) (y : S1x128x2048.Idx) (z : S4x256x2048.Idx)
    (h0 : (z 0).val = t.val / 2 + (y 0).val) (h1 : (z 1).val = t.val % 2 * 128 + (y 1).val) (h2 : (z 2).val = (y 2).val) :
    out0_7 (iblk m c 0 t) (iblk m c 1 t) (iblk m c 2 t) (iblk m c 3 t) y = val_main_v12 (F := Ideal) (X0 m c) (X3 m c) z := by
  unfold out0_7
  canon_tiles y h
  case piece0 =>
    idx_vars y
    idx_vars z
    have hp : z0.val = t.val / 2 := by have := y0.isLt; omega
    have hq : z1.val = t.val % 2 * 128 + y1.val := by omega
    obtain rfl : z2 = y2 := Fin.ext (by omega)
    obtain rfl : y0 = 0 := Subsingleton.elim _ _
    exact v_at _ _ _ _ _ y1 z2 z0 z1 (g_blk m c t y1 z2 z0 z1 hp hq) (in_3 m c t y1 z2 z0 z1 hp hq)

theorem final_7 (c : Dev nD) : (dats m 0 c).arrAt 7 (cfgs 0).N = val_main_v12 (F := Ideal) (X0 m c) (X3 m c) := by
  refine (dats m 0 c).arrAt_eq_of_covers 7 _ (by decide +kernel) fun t hf y => ?_
  blk_simp [after0_7]
  exact out7_at m c t y _ (by blk_simp [idx t]) (by blk_simp [idx t]) (by blk_simp [idx t])

end Cert.Kernel16Ideal.Prod
end
-- ==== Proof.AdamIn.lean ====
module

public import proofs.«01_k».proof.Proof.Gen.Kernel17Ideal.Value
public import proofs.«01_k».proof.Proof.Gen.Reference17Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The step of the optimiser on the columns of the input projection that a device holds: the moments and the change from the gradient. -/

namespace Cert.Kernel17Ideal.Prod

open Cert.Kernel17Ideal Cert.Kernel17Ideal.Gen Idealize.ShloMosaic Idealize.ShloMosaic.TcCoe Idealize.SL.Sem
open Cert.Reference17Ideal.Read

theorem idx : ∀ t : Fin cfg0.N, win0_0.index t 0 = 0 ∧ win0_0.index t 1 = t.val / 8 ∧ win0_0.index t 2 = t.val % 8 ∧ win0_0.index t 3 = 0
    ∧ win0_1.index t 0 = t.val / 8 ∧ win0_1.index t 1 = t.val % 8 ∧ win0_1.index t 2 = 0 ∧ win0_2.index t 0 = t.val / 8 ∧ win0_2.index t 1 = t.val % 8 ∧ win0_2.index t 2 = 0 ∧ win0_3.index t 0 = t.val / 8 ∧ win0_3.index t 1 = t.val % 8 ∧ win0_3.index t 2 = 0 ∧ win0_4.index t 0 = t.val / 8 ∧ win0_4.index t 1 = t.val % 8 ∧ win0_4.index t 2 = 0 ∧ win0_5.index t 0 = t.val / 8 ∧ win0_5.index t 1 = t.val % 8 ∧ win0_5.index t 2 = 0 ∧ win0_6.index t 0 = t.val / 8 ∧ win0_6.index t 1 = t.val % 8 ∧ win0_6.index t 2 = 0 ∧ win0_7.index t 0 = t.val / 8 ∧ win0_7.index t 1 = t.val % 8 ∧ win0_7.index t 2 = 0 :=
  (by decide +kernel : ∀ t : Fin grid0.N, _)

theorem g_at (a0 : FVec Ideal S1x1x256x900 .f32) (A : FVec Ideal S4x2048x900 .f32) (r : Fin 256) (l : Fin 900) (p : Fin 4) (q : Fin 2048)
    (h0 : a0 (ix4 0 0 r l) = A (ix3 p q l)) :
    k0_pay1 (F := Ideal) a0 (ix3 0 r l) = A (ix3 p q l) := by
  pointwise [k0_pay1]
  rw [h0]

theorem m_at (g : FVec Ideal S1x1x256x900 .f32) (x2 : FVec Ideal S1x256x900 .f32) (A : FVec Ideal S4x2048x900 .f32) (X2 : FVec Ideal S4x2048x900 .f32) (r : Fin 256) (l : Fin 900) (p : Fin 4) (q : Fin 2048)
    (hg : k0_pay1 (F := Ideal) g (ix3 0 r l) = A (ix3 p q l)) (h2 : x2 (ix3 0 r l) = X2 (ix3 p q l)) :
    k0_pay2 (F := Ideal) g x2 (ix3 0 r l) = val_main_v4 (F := Ideal) A X2 (ix3 p q l) := by
  pointwise [k0_pay2, val_main_v4, val_main_v3, val_main_v2, val_main_v1, val_main_v0, val_main_cst, val_main_cst_0]
  rw [hg, h2]
  try rfl

theorem v_at (g : FVec Ideal S1x1x256x900 .f32) (x3 : FVec Ideal S1x256x900 .f32) (A : FVec Ideal S4x2048x900 .f32) (X3 : FVec Ideal S4x2048x900 .f32) (r : Fin 256) (l : Fin 900) (p : Fin 4) (q : Fin 2048)
    (hg : k0_pay1 (F := Ideal) g (ix3 0 r l) = A (ix3 p q l)) (h3 : x3 (ix3 0 r l) = X3 (ix3 p q l)) :
    k0_pay3 (F := Ideal) g x3 (ix3 0 r l) = val_main_v10 (F := Ideal) A X3 (ix3 p q l) := by
  pointwise [k0_pay3, val_main_v10, val_main_v9, val_main_v8, val_main_v7, val_main_v6, val_main_v5, val_main_cst_1, val_main_cst_2]
  rw [hg, h3]
  try rfl

theorem d_at (g : FVec Ideal S1x1x256x900 .f32) (x1 x2 x3 : FVec Ideal S1x256x900 .f32) (A : FVec Ideal S4x2048x900 .f32) (X1 X2 X3 : FVec Ideal S4x2048x900 .f32) (r : Fin 256) (l : Fin 900) (p : Fin 4) (q : Fin 2048)
    (hg : k0_pay1 (F := Ideal) g (ix3 0 r l) = A (ix3 p q l)) (h1 : x1 (ix3 0 r l) = X1 (ix3 p q l)) (h2 : x2 (ix3 0 r l) = X2 (ix3 p q l)) (h3 : x3 (ix3 0 r l) = X3 (ix3 p q l)) :
    k0_pay4 (F := Ideal) g x2 x3 x1 (ix3 0 r l) = val_main_v23 (F := Ideal) A X1 X2 X3 (ix3 p q l) := by
  have hm := m_at g x2 A X2 r l p q hg h2
  have hv := v_at g x3 A X3 r l p q hg h3
  pointwise [k0_pay4, val_main_v23, val_main_v22, val_main_v21, val_main_v20, val_main_v19, val_main_v18, val_main_v17, val_main_v16, val_main_v15, val_main_v14, val_main_v13, val_main_v12, val_main_v11, val_main_cst_3, val_main_cst_4, val_main_cst_5, val_main_cst_6, val_main_cst_7]
  rw [hm, hv, h1]
  try rfl

variable (m : (ℓ : Loc nD τ sig) → Buf (Elt Ideal) ℓ)

abbrev X0 (c : Dev nD) : FVec Ideal S4x2048x900 .f32 := m ((c : Thread nD τ).loc main_arg0)
abbrev X1 (c : Dev nD) : FVec Ideal S4x2048x900 .f32 := m ((c : Thread nD τ).loc main_arg1)
abbrev X2 (c : Dev nD) : FVec Ideal S4x2048x900 .f32 := m ((c : Thread nD τ).loc main_arg2)
abbrev X3 (c : Dev nD) : FVec Ideal S4x2048x900 .f32 := m ((c : Thread nD τ).loc main_arg3)

theorem V_parts (c : Dev nD) : V m c main_v0 = broadcastInDim S1x4x2048x900 ![1, 2, 3] bcast_S4x2048x900_S1x4x2048x900_1_2_3
    (m ((c : Thread nD τ).loc main_arg0)) := by
  simp only [V, hostOps0, List.flatten_cons, List.flatten_nil, List.append_nil, List.cons_append, List.nil_append]
  after_results
  try rfl

theorem part_in (c : Dev nD) (p : Fin 4) (q : Fin 2048) (l : Fin 900) :
    V m c main_v0 (ix4 0 p q l) = X0 m c (ix3 p q l) := by
  rw [V_parts]
  pointwise
  try rfl

theorem in_p0 (c : Dev nD) (t : Fin cfg0.N) (r : Fin 256) (l : Fin 900) (p : Fin 4) (q : Fin 2048) (hp : p.val = t.val / 8) (hq : q.val = t.val % 8 * 256 + r.val) :
    View.ld (Val := Elt Ideal) (e' := .f32) (iblk m c 0 t) r0_0 (ix4 0 0 r l) = X0 m c (ix3 p q l) := by
  refine Eq.trans ?_ (part_in m c p q l)
  pointwise; blk_ext [iblk, idx t, r0_0]

theorem in_1 (c : Dev nD) (t : Fin cfg0.N) (r : Fin 256) (l : Fin 900) (p : Fin 4) (q : Fin 2048) (hp : p.val = t.val / 8) (hq : q.val = t.val % 8 * 256 + r.val) :
    View.ld (Val := Elt Ideal) (e' := .f32) (iblk m c 1 t) r0_1 (ix3 0 r l) = X1 m c (ix3 p q l) := by
  pointwise; blk_ext [iblk, V_main_arg1, idx t, r0_1]

theorem in_2 (c : Dev nD) (t : Fin cfg0.N) (r : Fin 256) (l : Fin 900) (p : Fin 4) (q : Fin 2048) (hp : p.val = t.val / 8) (hq : q.val = t.val % 8 * 256 + r.val) :
    View.ld (Val := Elt Ideal) (e' := .f32) (iblk m c 2 t) r0_1 (ix3 0 r l) = X2 m c (ix3 p q l) := by
  pointwise; blk_ext [iblk, V_main_arg2, idx t, r0_1]

theorem in_3 (c : Dev nD) (t : Fin cfg0.N) (r : Fin 256) (l : Fin 900) (p : Fin 4) (q : Fin 2048) (hp : p.val = t.val / 8) (hq : q.val = t.val % 8 * 256 + r.val) :
    View.ld (Val := Elt Ideal) (e' := .f32) (iblk m c 3 t) r0_1 (ix3 0 r l) = X3 m c (ix3 p q l) := by
  pointwise; blk_ext [iblk, V_main_arg3, idx t, r0_1]

theorem g_blk (c : Dev nD) (t : Fin cfg0.N) (r : Fin 256) (l : Fin 900) (p : Fin 4) (q : Fin 2048) (hp : p.val = t.val / 8) (hq : q.val = t.val % 8 * 256 + r.val) :
    k0_pay1 (F := Ideal) (View.ld (Val := Elt Ideal) (e' := .f32) (iblk m c 0 t) r0_0) (ix3 0 r l) = X0 m c (ix3 p q l) :=
  g_at _ _ r l p q (in_p0 m c t r l p q hp hq)

theorem out4_at (c : Dev nD) (t : Fin cfg0.N) (y : S1x256x900.Idx) (z : S4x2048x900.Idx)
    (h0 : (z 0).val = t.val / 8 + (y 0).val) (h1 : (z 1).val = t.val % 8 * 256 + (y 1).val) (h2 : (z 2).val = (y 2).val) :
    out0_4 (iblk m c 0 t) (iblk m c 1 t) (iblk m c 2 t) (iblk m c 3 t) y = X0 m c z := by
  unfold out0_4
  canon_tiles y h
  case piece0 =>
    idx_vars y
    idx_vars z
    have hp : z0.val = t.val / 8 := by have := y0.isLt; omega
    have hq : z1.val = t.val % 8 * 256 + y1.val := by omega
    obtain rfl : z2 = y2 := Fin.ext (by omega)
    obtain rfl : y0 = 0 := Subsingleton.elim _ _
    exact g_blk m c t y1 z2 z0 z1 hp hq

theorem final_4 (c : Dev nD) : (dats m 0 c).arrAt 4 (cfgs 0).N = X0 m c := by
  refine (dats m 0 c).arrAt_eq_of_covers 4 _ (by decide +kernel) fun t hf y => ?_
  blk_simp [after0_4]
  exact out4_at m c t y _ (by blk_simp [idx t]) (by blk_simp [idx t]) (by blk_simp [idx t])

theorem out5_at (c : Dev nD) (t : Fin cfg0.N) (y : S1x256x900.Idx) (z : S4x2048x900.Idx)
    (h0 : (z 0).val = t.val / 8 + (y 0).val) (h1 : (z 1).val = t.val % 8 * 256 + (y 1).val) (h2 : (z 2).val = (y 2).val) :
    out0_5 (iblk m c 0 t) (iblk m c 1 t) (iblk m c 2 t) (iblk m c 3 t) y = val_main_v23 (F := Ideal) (X0 m c) (X1 m c) (X2 m c) (X3 m c) z := by
  unfold out0_5
  canon_tiles y h
  case piece0 =>
    idx_vars y
    idx_vars z
    have hp : z0.val = t.val / 8 := by have := y0.isLt; omega
    have hq : z1.val = t.val % 8 * 256 + y1.val := by omega
    obtain rfl : z2 = y2 := Fin.ext (by omega)
    obtain rfl : y0 = 0 := Subsingleton.elim _ _
    exact d_at _ _ _ _ _ _ _ _ y1 z2 z0 z1 (g_blk m c t y1 z2 z0 z1 hp hq) (in_1 m c t y1 z2 z0 z1 hp hq) (in_2 m c t y1 z2 z0 z1 hp hq) (in_3 m c t y1 z2 z0 z1 hp hq)

theorem final_5 (c : Dev nD) : (dats m 0 c).arrAt 5 (cfgs 0).N = val_main_v23 (F := Ideal) (X0 m c) (X1 m c) (X2 m c) (X3 m c) := by
  refine (dats m 0 c).arrAt_eq_of_covers 5 _ (by decide +kernel) fun t hf y => ?_
  blk_simp [after0_5]
  exact out5_at m c t y _ (by blk_simp [idx t]) (by blk_simp [idx t]) (by blk_simp [idx t])

theorem out6_at (c : Dev nD) (t : Fin cfg0.N) (y : S1x256x900.Idx) (z : S4x2048x900.Idx)
    (h0 : (z 0).val = t.val / 8 + (y 0).val) (h1 : (z 1).val = t.val % 8 * 256 + (y 1).val) (h2 : (z 2).val = (y 2).val) :
    out0_6 (iblk m c 0 t) (iblk m c 1 t) (iblk m c 2 t) (iblk m c 3 t) y = val_main_v4 (F := Ideal) (X0 m c) (X2 m c) z := by
  unfold out0_6
  canon_tiles y h
  case piece0 =>
    idx_vars y
    idx_vars z
    have hp : z0.val = t.val / 8 := by have := y0.isLt; omega
    have hq : z1.val = t.val % 8 * 256 + y1.val := by omega
    obtain rfl : z2 = y2 := Fin.ext (by omega)
    obtain rfl : y0 = 0 := Subsingleton.elim _ _
    exact m_at _ _ _ _ y1 z2 z0 z1 (g_blk m c t y1 z2 z0 z1 hp hq) (in_2 m c t y1 z2 z0 z1 hp hq)

theorem final_6 (c : Dev nD) : (dats m 0 c).arrAt 6 (cfgs 0).N = val_main_v4 (F := Ideal) (X0 m c) (X2 m c) := by
  refine (dats m 0 c).arrAt_eq_of_covers 6 _ (by decide +kernel) fun t hf y => ?_
  blk_simp [after0_6]
  exact out6_at m c t y _ (by blk_simp [idx t]) (by blk_simp [idx t]) (by blk_simp [idx t])

theorem out7_at (c : Dev nD) (t : Fin cfg0.N) (y : S1x256x900.Idx) (z : S4x2048x900.Idx)
    (h0 : (z 0).val = t.val / 8 + (y 0).val) (h1 : (z 1).val = t.val % 8 * 256 + (y 1).val) (h2 : (z 2).val = (y 2).val) :
    out0_7 (iblk m c 0 t) (iblk m c 1 t) (iblk m c 2 t) (iblk m c 3 t) y = val_main_v10 (F := Ideal) (X0 m c) (X3 m c) z := by
  unfold out0_7
  canon_tiles y h
  case piece0 =>
    idx_vars y
    idx_vars z
    have hp : z0.val = t.val / 8 := by have := y0.isLt; omega
    have hq : z1.val = t.val % 8 * 256 + y1.val := by omega
    obtain rfl : z2 = y2 := Fin.ext (by omega)
    obtain rfl : y0 = 0 := Subsingleton.elim _ _
    exact v_at _ _ _ _ y1 z2 z0 z1 (g_blk m c t y1 z2 z0 z1 hp hq) (in_3 m c t y1 z2 z0 z1 hp hq)

theorem final_7 (c : Dev nD) : (dats m 0 c).arrAt 7 (cfgs 0).N = val_main_v10 (F := Ideal) (X0 m c) (X3 m c) := by
  refine (dats m 0 c).arrAt_eq_of_covers 7 _ (by decide +kernel) fun t hf y => ?_
  blk_simp [after0_7]
  exact out7_at m c t y _ (by blk_simp [idx t]) (by blk_simp [idx t]) (by blk_simp [idx t])

end Cert.Kernel17Ideal.Prod
end
-- ==== Proof.AdamSmall.lean ====
module

public import proofs.«01_k».proof.Proof.Gen.Kernel18Ideal.Value
public import proofs.«01_k».proof.Proof.Gen.Reference18Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The step of the optimiser on the small weights, packed in rows: the sum of eight parts, and the moments and the change from it. -/

namespace Cert.Kernel18Ideal.Prod

open Cert.Kernel18Ideal Cert.Kernel18Ideal.Gen Idealize.ShloMosaic Idealize.ShloMosaic.TcCoe Idealize.SL.Sem
open Cert.Reference18Ideal.Read

theorem idx : ∀ t : Fin cfg0.N, win0_0.index t 0 = 0 ∧ win0_0.index t 1 = t.val ∧ win0_0.index t 2 = 0
    ∧ win0_1.index t 0 = t.val ∧ win0_1.index t 1 = 0 ∧ win0_2.index t 0 = t.val ∧ win0_2.index t 1 = 0 ∧ win0_3.index t 0 = t.val ∧ win0_3.index t 1 = 0 ∧ win0_4.index t 0 = t.val ∧ win0_4.index t 1 = 0 ∧ win0_5.index t 0 = t.val ∧ win0_5.index t 1 = 0 ∧ win0_6.index t 0 = t.val ∧ win0_6.index t 1 = 0 ∧ win0_7.index t 0 = t.val ∧ win0_7.index t 1 = 0 :=
  (by decide +kernel : ∀ t : Fin grid0.N, _)

theorem g_at (a0 a1 a2 a3 a4 a5 a6 a7 : FVec Ideal S1x144x1024 .f32) (A : FVec Ideal S8x576x1024 .f32) (r : Fin 144) (l : Fin 1024) (q : Fin 576)
    (h0 : a0 (ix3 0 r l) = A (ix3 0 q l)) (h1 : a1 (ix3 0 r l) = A (ix3 1 q l)) (h2 : a2 (ix3 0 r l) = A (ix3 2 q l)) (h3 : a3 (ix3 0 r l) = A (ix3 3 q l)) (h4 : a4 (ix3 0 r l) = A (ix3 4 q l)) (h5 : a5 (ix3 0 r l) = A (ix3 5 q l)) (h6 : a6 (ix3 0 r l) = A (ix3 6 q l)) (h7 : a7 (ix3 0 r l) = A (ix3 7 q l)) :
    k0_pay3 (F := Ideal) a0 a1 a2 a3 a4 a5 a6 a7 (ix2 r l) = val_main_v0 (F := Ideal) A (ix2 q l) := by
  pointwise [k0_pay3, val_main_v0, val_main_cst]
  rw [h0, h1, h2, h3, h4, h5, h6, h7]
  refine Eq.trans ?_ (Fin.sum_univ_eight (M := EReal) fun i => A (ix3 i q l)).symm
  rfl

theorem m_at (a0 a1 a2 a3 a4 a5 a6 a7 : FVec Ideal S1x144x1024 .f32) (x2 : FVec Ideal S144x1024 .f32) (A : FVec Ideal S8x576x1024 .f32) (X2 : FVec Ideal S576x1024 .f32) (r : Fin 144) (l : Fin 1024) (q : Fin 576)
    (hg : k0_pay3 (F := Ideal) a0 a1 a2 a3 a4 a5 a6 a7 (ix2 r l) = val_main_v0 (F := Ideal) A (ix2 q l)) (h2 : x2 (ix2 r l) = X2 (ix2 q l)) :
    k0_pay4 (F := Ideal) a0 a1 a2 a3 a4 a5 a6 a7 x2 (ix2 r l) = val_main_v5 (F := Ideal) A X2 (ix2 q l) := by
  pointwise [k0_pay4, val_main_v5, val_main_v4, val_main_v3, val_main_v2, val_main_v1, val_main_cst_0, val_main_cst_1]
  rw [hg, h2]
  try rfl

theorem v_at (g : FVec Ideal S144x1024 .f32) (x3 : FVec Ideal S144x1024 .f32) (A : FVec Ideal S8x576x1024 .f32) (X3 : FVec Ideal S576x1024 .f32) (r : Fin 144) (l : Fin 1024) (q : Fin 576)
    (hg : g (ix2 r l) = val_main_v0 (F := Ideal) A (ix2 q l)) (h3 : x3 (ix2 r l) = X3 (ix2 q l)) :
    k0_pay1 (F := Ideal) g x3 (ix2 r l) = val_main_v11 (F := Ideal) A X3 (ix2 q l) := by
  pointwise [k0_pay1, val_main_v11, val_main_v10, val_main_v9, val_main_v8, val_main_v7, val_main_v6, val_main_cst_2, val_main_cst_3]
  rw [hg, h3]
  try rfl

theorem d_at (g u x1 x3 : FVec Ideal S144x1024 .f32) (A : FVec Ideal S8x576x1024 .f32) (X1 X2 X3 : FVec Ideal S576x1024 .f32) (r : Fin 144) (l : Fin 1024) (q : Fin 576)
    (hg : g (ix2 r l) = val_main_v0 (F := Ideal) A (ix2 q l)) (hm : u (ix2 r l) = val_main_v5 (F := Ideal) A X2 (ix2 q l)) (h1 : x1 (ix2 r l) = X1 (ix2 q l)) (h3 : x3 (ix2 r l) = X3 (ix2 q l)) :
    k0_pay2 (F := Ideal) g u x3 x1 (ix2 r l) = val_main_v24 (F := Ideal) A X1 X2 X3 (ix2 q l) := by
  have hv := v_at g x3 A X3 r l q hg h3
  pointwise [k0_pay2, val_main_v24, val_main_v23, val_main_v22, val_main_v21, val_main_v20, val_main_v19, val_main_v18, val_main_v17, val_main_v16, val_main_v15, val_main_v14, val_main_v13, val_main_v12, val_main_cst_4, val_main_cst_5, val_main_cst_6, val_main_cst_7, val_main_cst_8]
  rw [hm, hv, h1]
  try rfl

variable (m : (ℓ : Loc nD τ sig) → Buf (Elt Ideal) ℓ)

abbrev X0 (c : Dev nD) : FVec Ideal S8x576x1024 .f32 := m ((c : Thread nD τ).loc main_arg0)
abbrev X1 (c : Dev nD) : FVec Ideal S576x1024 .f32 := m ((c : Thread nD τ).loc main_arg1)
abbrev X2 (c : Dev nD) : FVec Ideal S576x1024 .f32 := m ((c : Thread nD τ).loc main_arg2)
abbrev X3 (c : Dev nD) : FVec Ideal S576x1024 .f32 := m ((c : Thread nD τ).loc main_arg3)

theorem in_p0 (c : Dev nD) (t : Fin cfg0.N) (r : Fin 144) (l : Fin 1024) (q : Fin 576) (hq : q.val = t.val * 144 + r.val) :
    View.ld (Val := Elt Ideal) (e' := .f32) (iblk m c 0 t) r0_0 (ix3 0 r l) = X0 m c (ix3 0 q l) := by
  pointwise; blk_ext [iblk, V, idx t, r0_0]

theorem in_p1 (c : Dev nD) (t : Fin cfg0.N) (r : Fin 144) (l : Fin 1024) (q : Fin 576) (hq : q.val = t.val * 144 + r.val) :
    View.ld (Val := Elt Ideal) (e' := .f32) (iblk m c 0 t) r0_1 (ix3 0 r l) = X0 m c (ix3 1 q l) := by
  pointwise; blk_ext [iblk, V, idx t, r0_1]

theorem in_p2 (c : Dev nD) (t : Fin cfg0.N) (r : Fin 144) (l : Fin 1024) (q : Fin 576) (hq : q.val = t.val * 144 + r.val) :
    View.ld (Val := Elt Ideal) (e' := .f32) (iblk m c 0 t) r0_2 (ix3 0 r l) = X0 m c (ix3 2 q l) := by
  pointwise; blk_ext [iblk, V, idx t, r0_2]

theorem in_p3 (c : Dev nD) (t : Fin cfg0.N) (r : Fin 144) (l : Fin 1024) (q : Fin 576) (hq : q.val = t.val * 144 + r.val) :
    View.ld (Val := Elt Ideal) (e' := .f32) (iblk m c 0 t) r0_3 (ix3 0 r l) = X0 m c (ix3 3 q l) := by
  pointwise; blk_ext [iblk, V, idx t, r0_3]

theorem in_p4 (c : Dev nD) (t : Fin cfg0.N) (r : Fin 144) (l : Fin 1024) (q : Fin 576) (hq : q.val = t.val * 144 + r.val) :
    View.ld (Val := Elt Ideal) (e' := .f32) (iblk m c 0 t) r0_4 (ix3 0 r l) = X0 m c (ix3 4 q l) := by
  pointwise; blk_ext [iblk, V, idx t, r0_4]

theorem in_p5 (c : Dev nD) (t : Fin cfg0.N) (r : Fin 144) (l : Fin 1024) (q : Fin 576) (hq : q.val = t.val * 144 + r.val) :
    View.ld (Val := Elt Ideal) (e' := .f32) (iblk m c 0 t) r0_5 (ix3 0 r l) = X0 m c (ix3 5 q l) := by
  pointwise; blk_ext [iblk, V, idx t, r0_5]

theorem in_p6 (c : Dev nD) (t : Fin cfg0.N) (r : Fin 144) (l : Fin 1024) (q : Fin 576) (hq : q.val = t.val * 144 + r.val) :
    View.ld (Val := Elt Ideal) (e' := .f32) (iblk m c 0 t) r0_6 (ix3 0 r l) = X0 m c (ix3 6 q l) := by
  pointwise; blk_ext [iblk, V, idx t, r0_6]

theorem in_p7 (c : Dev nD) (t : Fin cfg0.N) (r : Fin 144) (l : Fin 1024) (q : Fin 576) (hq : q.val = t.val * 144 + r.val) :
    View.ld (Val := Elt Ideal) (e' := .f32) (iblk m c 0 t) r0_7 (ix3 0 r l) = X0 m c (ix3 7 q l) := by
  pointwise; blk_ext [iblk, V, idx t, r0_7]

theorem in_1 (c : Dev nD) (t : Fin cfg0.N) (r : Fin 144) (l : Fin 1024) (q : Fin 576) (hq : q.val = t.val * 144 + r.val) :
    View.ld (Val := Elt Ideal) (e' := .f32) (iblk m c 1 t) r0_8 (ix2 r l) = X1 m c (ix2 q l) := by
  pointwise; blk_ext [iblk, V, idx t, r0_8]

theorem in_2 (c : Dev nD) (t : Fin cfg0.N) (r : Fin 144) (l : Fin 1024) (q : Fin 576) (hq : q.val = t.val * 144 + r.val) :
    View.ld (Val := Elt Ideal) (e' := .f32) (iblk m c 2 t) r0_8 (ix2 r l) = X2 m c (ix2 q l) := by
  pointwise; blk_ext [iblk, V, idx t, r0_8]

theorem in_3 (c : Dev nD) (t : Fin cfg0.N) (r : Fin 144) (l : Fin 1024) (q : Fin 576) (hq : q.val = t.val * 144 + r.val) :
    View.ld (Val := Elt Ideal) (e' := .f32) (iblk m c 3 t) r0_8 (ix2 r l) = X3 m c (ix2 q l) := by
  pointwise; blk_ext [iblk, V, idx t, r0_8]

theorem g_blk (c : Dev nD) (t : Fin cfg0.N) (r : Fin 144) (l : Fin 1024) (q : Fin 576) (hq : q.val = t.val * 144 + r.val) :
    k0_pay5 (F := Ideal) (iblk m c 0 t) (iblk m c 1 t) (iblk m c 2 t) (iblk m c 3 t) (ix2 r l) = val_main_v0 (F := Ideal) (X0 m c) (ix2 q l) :=
  g_at _ _ _ _ _ _ _ _ _ r l q (in_p0 m c t r l q hq) (in_p1 m c t r l q hq) (in_p2 m c t r l q hq) (in_p3 m c t r l q hq) (in_p4 m c t r l q hq) (in_p5 m c t r l q hq) (in_p6 m c t r l q hq) (in_p7 m c t r l q hq)

theorem m_blk (c : Dev nD) (t : Fin cfg0.N) (r : Fin 144) (l : Fin 1024) (q : Fin 576) (hq : q.val = t.val * 144 + r.val) :
    k0_pay6 (F := Ideal) (iblk m c 0 t) (iblk m c 1 t) (iblk m c 2 t) (iblk m c 3 t) (ix2 r l) = val_main_v5 (F := Ideal) (X0 m c) (X2 m c) (ix2 q l) :=
  m_at _ _ _ _ _ _ _ _ _ _ _ r l q (g_blk m c t r l q hq) (in_2 m c t r l q hq)

theorem out4_at (c : Dev nD) (t : Fin cfg0.N) (y : S144x1024.Idx) (z : S576x1024.Idx)
    (h0 : (z 0).val = t.val * 144 + (y 0).val) (h1 : (z 1).val = (y 1).val) :
    out0_4 (iblk m c 0 t) (iblk m c 1 t) (iblk m c 2 t) (iblk m c 3 t) y = val_main_v0 (F := Ideal) (X0 m c) z := by
  unfold out0_4
  canon_tiles y h
  case piece0 =>
    idx_vars y
    idx_vars z
    have hq : z0.val = t.val * 144 + y0.val := by omega
    obtain rfl : z1 = y1 := Fin.ext (by omega)
    exact g_blk m c t y0 z1 z0 hq

theorem final_4 (c : Dev nD) : (dats m 0 c).arrAt 4 (cfgs 0).N = val_main_v0 (F := Ideal) (X0 m c) := by
  refine (dats m 0 c).arrAt_eq_of_covers 4 _ (by decide +kernel) fun t hf y => ?_
  blk_simp [after0_4]
  exact out4_at m c t y _ (by blk_simp [idx t]) (by blk_simp [idx t])

theorem out5_at (c : Dev nD) (t : Fin cfg0.N) (y : S144x1024.Idx) (z : S576x1024.Idx)
    (h0 : (z 0).val = t.val * 144 + (y 0).val) (h1 : (z 1).val = (y 1).val) :
    out0_5 (iblk m c 0 t) (iblk m c 1 t) (iblk m c 2 t) (iblk m c 3 t) y = val_main_v24 (F := Ideal) (X0 m c) (X1 m c) (X2 m c) (X3 m c) z := by
  unfold out0_5
  canon_tiles y h
  case piece0 =>
    idx_vars y
    idx_vars z
    have hq : z0.val = t.val * 144 + y0.val := by omega
    obtain rfl : z1 = y1 := Fin.ext (by omega)
    exact d_at _ _ _ _ _ _ _ _ y0 z1 z0 (g_blk m c t y0 z1 z0 hq) (m_blk m c t y0 z1 z0 hq) (in_1 m c t y0 z1 z0 hq) (in_3 m c t y0 z1 z0 hq)

theorem final_5 (c : Dev nD) : (dats m 0 c).arrAt 5 (cfgs 0).N = val_main_v24 (F := Ideal) (X0 m c) (X1 m c) (X2 m c) (X3 m c) := by
  refine (dats m 0 c).arrAt_eq_of_covers 5 _ (by decide +kernel) fun t hf y => ?_
  blk_simp [after0_5]
  exact out5_at m c t y _ (by blk_simp [idx t]) (by blk_simp [idx t])

theorem out6_at (c : Dev nD) (t : Fin cfg0.N) (y : S144x1024.Idx) (z : S576x1024.Idx)
    (h0 : (z 0).val = t.val * 144 + (y 0).val) (h1 : (z 1).val = (y 1).val) :
    out0_6 (iblk m c 0 t) (iblk m c 1 t) (iblk m c 2 t) (iblk m c 3 t) y = val_main_v5 (F := Ideal) (X0 m c) (X2 m c) z := by
  unfold out0_6
  canon_tiles y h
  case piece0 =>
    idx_vars y
    idx_vars z
    have hq : z0.val = t.val * 144 + y0.val := by omega
    obtain rfl : z1 = y1 := Fin.ext (by omega)
    exact m_blk m c t y0 z1 z0 hq

theorem final_6 (c : Dev nD) : (dats m 0 c).arrAt 6 (cfgs 0).N = val_main_v5 (F := Ideal) (X0 m c) (X2 m c) := by
  refine (dats m 0 c).arrAt_eq_of_covers 6 _ (by decide +kernel) fun t hf y => ?_
  blk_simp [after0_6]
  exact out6_at m c t y _ (by blk_simp [idx t]) (by blk_simp [idx t])

theorem out7_at (c : Dev nD) (t : Fin cfg0.N) (y : S144x1024.Idx) (z : S576x1024.Idx)
    (h0 : (z 0).val = t.val * 144 + (y 0).val) (h1 : (z 1).val = (y 1).val) :
    out0_7 (iblk m c 0 t) (iblk m c 1 t) (iblk m c 2 t) (iblk m c 3 t) y = val_main_v11 (F := Ideal) (X0 m c) (X3 m c) z := by
  unfold out0_7
  canon_tiles y h
  case piece0 =>
    idx_vars y
    idx_vars z
    have hq : z0.val = t.val * 144 + y0.val := by omega
    obtain rfl : z1 = y1 := Fin.ext (by omega)
    exact v_at _ _ _ _ y0 z1 z0 (g_blk m c t y0 z1 z0 hq) (in_3 m c t y0 z1 z0 hq)

theorem final_7 (c : Dev nD) : (dats m 0 c).arrAt 7 (cfgs 0).N = val_main_v11 (F := Ideal) (X0 m c) (X3 m c) := by
  refine (dats m 0 c).arrAt_eq_of_covers 7 _ (by decide +kernel) fun t hf y => ?_
  blk_simp [after0_7]
  exact out7_at m c t y _ (by blk_simp [idx t]) (by blk_simp [idx t])

end Cert.Kernel18Ideal.Prod
end
-- ==== Proof.AdamClaims.lean ====
/- The claims about the optimiser's step: each call runs and keeps its arguments, and over the extended
   reals it computes what its reference does. -/
module

public import proofs.«01_k».proof.Defs
public import proofs.«01_k».proof.Proof.AdamOut
public import proofs.«01_k».proof.Proof.Gen.Kernel16.Frame
public import proofs.«01_k».proof.Proof.Gen.Reference16Ideal.Run
public import proofs.«01_k».proof.Proof.AdamIn
public import proofs.«01_k».proof.Proof.Gen.Kernel17.Frame
public import proofs.«01_k».proof.Proof.Gen.Reference17Ideal.Run
public import proofs.«01_k».proof.Proof.AdamSmall
public import proofs.«01_k».proof.Proof.Gen.Kernel18.Frame
public import proofs.«01_k».proof.Proof.Gen.Reference18Ideal.Run

@[expose] public section

set_option maxRecDepth 16384

noncomputable section

open Idealize.ShloMosaic Idealize.SL.Sem

/-! ## The summed gradient, the change and the moments of the output projection -/

namespace Cert.Proof.AdamOut

theorem frame_p : Cert.quiescent_Kernel16 := fun m ρ _ => Cert.Kernel16.Gen.frame m ρ

theorem frame_pi : Cert.quiescent_Kernel16Ideal := fun m ρ _ => Cert.Kernel16Ideal.Gen.frame m ρ

theorem frame_ri : Cert.quiescent_Reference16Ideal := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

theorem preserves : Cert.preserves_Kernel16_Kernel16Ideal := trivial

/-- Kernel and reference both end with the summed gradient, the change and the moments of the output projection. -/
theorem algebraic : Cert.algebraic_Kernel16Ideal_Reference16Ideal := by
  intro m ρ m' ρ' _ hagree
  refine ⟨fun c => Cert.Reference16Ideal.Read.val_main_v1 (F := Ideal) (m ((c.tc : Thread Cert.Kernel16Ideal.nD Cert.Kernel16Ideal.τ).loc Cert.Kernel16Ideal.main_arg0)),
    fun c => Cert.Reference16Ideal.Read.val_main_v25 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3)),
    fun c => Cert.Reference16Ideal.Read.val_main_v6 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg2)),
    fun c => Cert.Reference16Ideal.Read.val_main_v12 (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg3)), ?_, ?_⟩
  · refine (θ_run Cert.Kernel16Ideal.defs _ _).mono (fun _ h c => ?_) (Cert.Kernel16Ideal.Value.run_blocks (F := Ideal) m ρ)
    obtain ⟨h0, h1, h2, h3, hrest⟩ := h c
    exact ⟨h0.trans (Cert.Kernel16Ideal.Prod.final_4 m c), h1.trans (Cert.Kernel16Ideal.Prod.final_5 m c), h2.trans (Cert.Kernel16Ideal.Prod.final_6 m c), h3.trans (Cert.Kernel16Ideal.Prod.final_7 m c), hrest⟩
  · refine (θ_run Cert.Reference16Ideal.defs _ _).mono (fun _ h c => ?_) (Cert.Reference16Ideal.Value.run (F := Ideal) m' ρ')
    obtain ⟨a0, a1, a2, a3⟩ := hagree c
    obtain ⟨h0, h1, h2, h3, hrest⟩ := h c
    refine ⟨h0.trans ((Cert.Reference16Ideal.Read.val_main_v1_eq _).trans ?_),
      h1.trans ((Cert.Reference16Ideal.Read.val_main_v25_eq _ _ _ _).trans ?_),
      h2.trans ((Cert.Reference16Ideal.Read.val_main_v6_eq _ _).trans ?_),
      h3.trans ((Cert.Reference16Ideal.Read.val_main_v12_eq _ _).trans ?_), hrest⟩
    · exact congrArg _ a0
    · exact congr (congr (congr (congrArg _ a0) a1) a2) a3
    · exact congr (congrArg _ a0) a2
    · exact congr (congrArg _ a0) a3

end Cert.Proof.AdamOut

/-! ## The gradient, the change and the moments of the input projection -/

namespace Cert.Proof.AdamIn

theorem frame_p : Cert.quiescent_Kernel17 := fun m ρ _ => Cert.Kernel17.Gen.frame m ρ

theorem frame_pi : Cert.quiescent_Kernel17Ideal := fun m ρ _ => Cert.Kernel17Ideal.Gen.frame m ρ

theorem frame_ri : Cert.quiescent_Reference17Ideal := fun m ρ _ =>
  (θ_run Cert.Reference17Ideal.defs _ _).mono (fun r h => ⟨fun c => (h c).2.2.2.2, sem_eq_zero_of_no_sems (by decide) r.2⟩)
    (Cert.Reference17Ideal.Value.run (F := Ideal) m ρ)

theorem preserves : Cert.preserves_Kernel17_Kernel17Ideal := trivial

/-- Kernel and reference both end with the gradient, the change and the moments of the input projection. -/
theorem algebraic : Cert.algebraic_Kernel17Ideal_Reference17Ideal := by
  intro m ρ m' ρ' _ hagree
  refine ⟨fun c => m ((c.tc : Thread Cert.Kernel17Ideal.nD Cert.Kernel17Ideal.τ).loc Cert.Kernel17Ideal.main_arg0),
    fun c => Cert.Reference17Ideal.Read.val_main_v23 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)),
    fun c => Cert.Reference17Ideal.Read.val_main_v4 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg2)),
    fun c => Cert.Reference17Ideal.Read.val_main_v10 (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg3)), ?_, ?_⟩
  · refine (θ_run Cert.Kernel17Ideal.defs _ _).mono (fun _ h c => ?_) (Cert.Kernel17Ideal.Value.run_blocks (F := Ideal) m ρ)
    obtain ⟨h0, h1, h2, h3, hrest⟩ := h c
    exact ⟨h0.trans (Cert.Kernel17Ideal.Prod.final_4 m c), h1.trans (Cert.Kernel17Ideal.Prod.final_5 m c), h2.trans (Cert.Kernel17Ideal.Prod.final_6 m c), h3.trans (Cert.Kernel17Ideal.Prod.final_7 m c), hrest⟩
  · refine (θ_run Cert.Reference17Ideal.defs _ _).mono (fun _ h c => ?_) (Cert.Reference17Ideal.Value.run (F := Ideal) m' ρ')
    obtain ⟨a0, a1, a2, a3⟩ := hagree c
    obtain ⟨h0, h1, h2, h3, hrest⟩ := h c
    refine ⟨h0.trans ?_,
      h1.trans ((Cert.Reference17Ideal.Read.val_main_v23_eq _ _ _ _).trans ?_),
      h2.trans ((Cert.Reference17Ideal.Read.val_main_v4_eq _ _).trans ?_),
      h3.trans ((Cert.Reference17Ideal.Read.val_main_v10_eq _ _).trans ?_), hrest⟩
    · exact a0
    · exact congr (congr (congr (congrArg _ a0) a1) a2) a3
    · exact congr (congrArg _ a0) a2
    · exact congr (congrArg _ a0) a3

end Cert.Proof.AdamIn

/-! ## The summed gradient, the change and the moments of the packed small weights -/

namespace Cert.Proof.AdamSmall

theorem frame_p : Cert.quiescent_Kernel18 := fun m ρ _ => Cert.Kernel18.Gen.frame m ρ

theorem frame_pi : Cert.quiescent_Kernel18Ideal := fun m ρ _ => Cert.Kernel18Ideal.Gen.frame m ρ

theorem frame_ri : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

theorem preserves : Cert.preserves_Kernel18_Kernel18Ideal := trivial

/-- Kernel and reference both end with the summed gradient, the change and the moments of the packed small weights. -/
theorem algebraic : Cert.algebraic_Kernel18Ideal_Reference18Ideal := by
  intro m ρ m' ρ' _ hagree
  refine ⟨fun c => Cert.Reference18Ideal.Read.val_main_v0 (F := Ideal) (m ((c.tc : Thread Cert.Kernel18Ideal.nD Cert.Kernel18Ideal.τ).loc Cert.Kernel18Ideal.main_arg0)),
    fun c => Cert.Reference18Ideal.Read.val_main_v24 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)),
    fun c => Cert.Reference18Ideal.Read.val_main_v5 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg2)),
    fun c => Cert.Reference18Ideal.Read.val_main_v11 (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg3)), ?_, ?_⟩
  · refine (θ_run Cert.Kernel18Ideal.defs _ _).mono (fun _ h c => ?_) (Cert.Kernel18Ideal.Value.run_blocks (F := Ideal) m ρ)
    obtain ⟨h0, h1, h2, h3, hrest⟩ := h c
    exact ⟨h0.trans (Cert.Kernel18Ideal.Prod.final_4 m c), h1.trans (Cert.Kernel18Ideal.Prod.final_5 m c), h2.trans (Cert.Kernel18Ideal.Prod.final_6 m c), h3.trans (Cert.Kernel18Ideal.Prod.final_7 m c), hrest⟩
  · refine (θ_run Cert.Reference18Ideal.defs _ _).mono (fun _ h c => ?_) (Cert.Reference18Ideal.Value.run (F := Ideal) m' ρ')
    obtain ⟨a0, a1, a2, a3⟩ := hagree c
    obtain ⟨h0, h1, h2, h3, hrest⟩ := h c
    refine ⟨h0.trans ((Cert.Reference18Ideal.Read.val_main_v0_eq _).trans ?_),
      h1.trans ((Cert.Reference18Ideal.Read.val_main_v24_eq _ _ _ _).trans ?_),
      h2.trans ((Cert.Reference18Ideal.Read.val_main_v5_eq _ _).trans ?_),
      h3.trans ((Cert.Reference18Ideal.Read.val_main_v11_eq _ _).trans ?_), hrest⟩
    · exact congrArg _ a0
    · exact congr (congr (congr (congrArg _ a0) a1) a2) a3
    · exact congr (congrArg _ a0) a2
    · exact congr (congrArg _ a0) a3

end Cert.Proof.AdamSmall

end
-- ==== Proof.PrepFwd.lean ====
module

public import proofs.«01_k».proof.Proof.Gen.Kernel19Ideal.Value
public import proofs.«01_k».proof.Proof.Gen.Reference19Ideal.Read
public import Idealize.ShloMosaic.Lib.Pointwise
public import Idealize.ShloMosaic.Lib.Pipeline.ValueKit
public import Idealize.ShloMosaic.Lib.Pipeline.ReadBack

@[expose] public section

set_option maxRecDepth 16384

noncomputable section

/-! The short convolution, the heads' norms and the gates. -/

namespace Cert.Kernel19Ideal.Prod

open Cert.Kernel19Ideal Cert.Kernel19Ideal.Gen Idealize.ShloMosaic Idealize.ShloMosaic.TcCoe Idealize.SL.Sem
open Cert.Reference19Ideal.Read

theorem idx : ∀ t : Fin cfg0.N, win0_0.index t 0 = t.val ∧ win0_0.index t 1 = 1 ∧ win0_1.index t 0 = t.val * 32 - 1 ∧ win0_1.index t 1 = 1
    ∧ win0_2.index t 0 = min (t.val * 32 + 32) 1023 ∧ win0_2.index t 1 = 1 ∧ win0_3.index t 0 = 0 ∧ win0_3.index t 1 = 0
    ∧ win0_4.index t 0 = t.val ∧ win0_4.index t 1 = 0 ∧ win0_5.index t 0 = 0 ∧ win0_5.index t 1 = 0 ∧ win0_6.index t 0 = 0
    ∧ win0_6.index t 1 = 0 ∧ win0_10.index t 0 = t.val ∧ win0_10.index t 1 = 0 :=
  (by decide +kernel : ∀ t : Fin grid0.N, _)

theorem idx' : ∀ t : Fin cfg0.N, win0_7.index t 0 = 0 ∧ win0_7.index t 1 = t.val ∧ win0_7.index t 2 = 0
    ∧ win0_8.index t 0 = 0 ∧ win0_8.index t 1 = t.val ∧ win0_8.index t 2 = 0
    ∧ win0_9.index t 0 = 0 ∧ win0_9.index t 1 = t.val ∧ win0_9.index t 2 = 0 :=
  (by decide +kernel : ∀ t : Fin grid0.N, _)

theorem below : ∀ t : Fin cfg0.N, Scalar.cmpi .sgt (BitVec.ofNat 32 (grid0.coords t 0).val) 0#32 = if t.val = 0 then 0#1 else 1#1 :=
  (by decide +kernel : ∀ t : Fin grid0.N, _)

theorem above : ∀ t : Fin cfg0.N, Scalar.cmpi .slt (BitVec.ofNat 32 (grid0.coords t 0).val) 31#32 = if t.val = 31 then 0#1 else 1#1 :=
  (by decide +kernel : ∀ t : Fin grid0.N, _)

variable (m : (ℓ : Loc nD τ sig) → Buf (Elt Ideal) ℓ)

abbrev X0 (c : Dev nD) : FVec Ideal S8192x7168 .f32 := m ((c : Thread nD τ).loc main_arg0)
abbrev X1 (c : Dev nD) : FVec Ideal S8x3072 .f32 := m ((c : Thread nD τ).loc main_arg1)
abbrev X2 (c : Dev nD) : FVec Ideal S8192x128 .f32 := m ((c : Thread nD τ).loc main_arg2)
abbrev X3 (c : Dev nD) : FVec Ideal S1x128 .f32 := m ((c : Thread nD τ).loc main_arg3)
abbrev X4 (c : Dev nD) : FVec Ideal S1x128 .f32 := m ((c : Thread nD τ).loc main_arg4)

/-- The rows of a point, and the eight before them and after them. -/
theorem mid_at (c : Dev nD) (t : Fin cfg0.N) (r : Fin 256) (l : Fin 3072) (k : Fin 8192) (j : Fin 7168) (hk : k.val = t.val * 256 + r.val)
    (hj : j.val = 3072 + l.val) : X0_0 m c t (ix2 r l) = X0 m c (ix2 k j) := by
  unfold X0_0 Pipeline.Window.fill
  rw [dif_pos (moved0_0 t _)]
  blk_ext [iblk, V, idx t]

theorem prev_at (c : Dev nD) (t : Fin cfg0.N) (r : Fin 8) (l : Fin 3072) (k : Fin 8192) (j : Fin 7168) (h : t.val ≠ 0)
    (hk : k.val + 8 = t.val * 256 + r.val) (hj : j.val = 3072 + l.val) : X0_1 m c t (ix2 r l) = X0 m c (ix2 k j) := by
  unfold X0_1 Pipeline.Window.fill
  rw [dif_pos (moved0_1 t _)]
  blk_ext [iblk, V, idx t]

theorem next_at (c : Dev nD) (t : Fin cfg0.N) (r : Fin 8) (l : Fin 3072) (k : Fin 8192) (j : Fin 7168) (h : t.val ≠ 31)
    (hk : k.val = t.val * 256 + 256 + r.val) (hj : j.val = 3072 + l.val) : X0_2 m c t (ix2 r l) = X0 m c (ix2 k j) := by
  unfold X0_2 Pipeline.Window.fill
  rw [dif_pos (moved0_2 t _)]
  have ht := lt_of_lt_of_eq t.isLt N_0
  blk_ext [iblk, V, idx t]

/-- The rows with the eight on either side. -/
abbrev EX (c : Dev nD) (t : Fin cfg0.N) : FVec Ideal S272x3072 .f32 :=
  (View.whole cc0_scratch0).readCov (Val := Elt Ideal)
    [⟨Rect.unit ![264, 0] ![8, 3072] inb_S272x3072_S8x3072_264_0, k0_pay4 (grid0.coords t) (X0_2 m c t)⟩,
      ⟨Rect.unit ![8, 0] ![256, 3072] inb_S272x3072_S256x3072_8_0, k0_pay3 (X0_0 m c t)⟩,
      ⟨Rect.unit ![0, 0] ![8, 3072] inb_S272x3072_S8x3072_0_0, k0_pay2 (grid0.coords t) (X0_1 m c t)⟩]
    (Rect.unit (s := S272x3072) ![0, 0] ![272, 3072] inb_S272x3072_S272x3072_0_0).toLoadRect

/-- The padded rows: zero outside the array. -/
theorem pad_in (A : FVec Ideal S8192x7168 .f32) (q : Fin 8196) (l : Fin 3072) (k : Fin 8192) (j : Fin 7168) (hq : q.val = k.val + 2)
    (hj : j.val = 3072 + l.val) : val_main_v1 (F := Ideal) A (ix2 q l) = A (ix2 k j) := by
  have hk := k.isLt
  have hl := l.isLt
  have hh : 2 ≤ q.val ∧ q.val - 2 < 8192 := by omega
  pointwise [val_main_v1, val_main_v0, val_main_call0_v0, val_main_c]
  rw [dif_pos hh]
  exact congrArg₂ (fun k j => A (ix2 k j)) (Fin.ext (by show q.val - 2 = k.val; omega)) (Fin.ext hj.symm)

theorem pad_out (A : FVec Ideal S8192x7168 .f32) (q : Fin 8196) (l : Fin 3072) (hq : q.val < 2 ∨ 8194 ≤ q.val) :
    val_main_v1 (F := Ideal) A (ix2 q l) = 0 := by
  pointwise [val_main_v1, val_main_v0, val_main_call0_v0, val_main_c]
  rw [dif_neg (by omega)]
  show (((0#32 : BitVec 32).toInt : ℝ) : EReal) = 0
  simp

theorem ext_at (c : Dev nD) (t : Fin cfg0.N) (p : Fin 272) (l : Fin 3072) (q : Fin 8196) (h : q.val + 6 = t.val * 256 + p.val) :
    EX m c t (ix2 p l) = val_main_v1 (F := Ideal) (X0 m c) (ix2 q l) := by
  unfold EX
  rw [View.readCov_eq_canon']
  have e : ∀ z : S272x3072.Idx, (z 0).val = p.val → (z 1).val = l.val → View.canon (Val := Elt Ideal)
    [⟨Rect.unit ![264, 0] ![8, 3072] inb_S272x3072_S8x3072_264_0, k0_pay4 (grid0.coords t) (X0_2 m c t)⟩,
      ⟨Rect.unit ![8, 0] ![256, 3072] inb_S272x3072_S256x3072_8_0, k0_pay3 (X0_0 m c t)⟩,
      ⟨Rect.unit ![0, 0] ![8, 3072] inb_S272x3072_S8x3072_0_0, k0_pay2 (grid0.coords t) (X0_1 m c t)⟩] z
        = val_main_v1 (F := Ideal) (X0 m c) (ix2 q l) := by
    intro z h0 h1
    have hp := p.isLt
    have hl := l.isLt
    have hb := below t
    have ha := above t
    have ht := lt_of_lt_of_eq t.isLt N_0
    have hcov : ∃ pc ∈ ([⟨Rect.unit ![264, 0] ![8, 3072] inb_S272x3072_S8x3072_264_0, k0_pay4 (grid0.coords t) (X0_2 m c t)⟩,
        ⟨Rect.unit ![8, 0] ![256, 3072] inb_S272x3072_S256x3072_8_0, k0_pay3 (X0_0 m c t)⟩,
        ⟨Rect.unit ![0, 0] ![8, 3072] inb_S272x3072_S8x3072_0_0, k0_pay2 (grid0.coords t) (X0_1 m c t)⟩] : List (View.Piece (Elt Ideal) S272x3072 .f32)), z ∈ pc.1.set := by
      by_cases c0 : p.val < 8
      · refine ⟨_, List.mem_cons_of_mem _ (List.mem_cons_of_mem _ List.mem_cons_self), ?_⟩
        rw [Rect.mem_set_unit, Fin.forall_fin_two]
        exact ⟨⟨Nat.zero_le _, by rw [h0]; simpa using c0⟩, ⟨Nat.zero_le _, by rw [h1]; simpa using hl⟩⟩
      by_cases c1 : p.val < 264
      · refine ⟨_, List.mem_cons_of_mem _ List.mem_cons_self, ?_⟩
        rw [Rect.mem_set_unit, Fin.forall_fin_two]
        exact ⟨⟨by rw [h0]; simpa using c0, by rw [h0]; simpa using c1⟩, ⟨Nat.zero_le _, by rw [h1]; simpa using hl⟩⟩
      · refine ⟨_, List.mem_cons_self, ?_⟩
        rw [Rect.mem_set_unit, Fin.forall_fin_two]
        exact ⟨⟨by rw [h0]; simpa using c1, by rw [h0]; simpa using hp⟩, ⟨Nat.zero_le _, by rw [h1]; simpa using hl⟩⟩
    canon_tiles z hz using hcov
    case piece0 =>
      idx_vars z
      obtain rfl : z1 = l := Fin.ext (by omega)
      pointwise [k0_pay4]
      rw [ha]
      by_cases c31 : t.val = 31
      · rw [if_pos c31, pad_out _ q z1 (by omega)]
        rfl
      · rw [if_neg c31, pad_in _ q z1 ⟨q.val - 2, by omega⟩ ⟨3072 + z1.val, by omega⟩ (by show q.val = q.val - 2 + 2; omega) rfl]
        exact next_at m c t z0 z1 _ _ c31 (by show q.val - 2 = _; omega) rfl
    case piece1 =>
      idx_vars z
      obtain rfl : z1 = l := Fin.ext (by omega)
      pointwise [k0_pay3]
      rw [pad_in _ q z1 ⟨q.val - 2, by omega⟩ ⟨3072 + z1.val, by omega⟩ (by show q.val = q.val - 2 + 2; omega) rfl]
      exact mid_at m c t z0 z1 _ _ (by show q.val - 2 = _; omega) rfl
    case piece2 =>
      idx_vars z
      obtain rfl : z1 = l := Fin.ext (by omega)
      pointwise [k0_pay2]
      rw [hb]
      by_cases c0 : t.val = 0
      · rw [if_pos c0, pad_out _ q z1 (by omega)]
        rfl
      · rw [if_neg c0, pad_in _ q z1 ⟨q.val - 2, by omega⟩ ⟨3072 + z1.val, by omega⟩ (by show q.val = q.val - 2 + 2; omega) rfl]
        exact prev_at m c t z0 z1 _ _ c0 (by show q.val - 2 + 8 = _; omega) rfl
  refine e _ ?_ ?_
  · first | exact Nat.zero_add _ | (show 0 + 1 * p.val = p.val; omega) | (show 0 + p.val * 1 = p.val; omega)
  · first | exact Nat.zero_add _ | (show 0 + 1 * l.val = l.val; omega) | (show 0 + l.val * 1 = l.val; omega)

abbrev CC (c : Dev nD) (t : Fin cfg0.N) : FVec Ideal S256x3072 .f32 :=
  k0_pay7 (EX m c t)
    (k0_pay5 (EX m c t) (View.ld (Val := Elt Ideal) (e' := .f32) (iblk m c 3 t) (Rect.unit ![0, 0] ![1, 3072] inb_S8x3072_S1x3072_0_0))
      (View.ld (Val := Elt Ideal) (e' := .f32) (iblk m c 3 t) (Rect.unit ![1, 0] ![1, 3072] inb_S8x3072_S1x3072_1_0)))
    (k0_pay6 (EX m c t))
    (View.ld (Val := Elt Ideal) (e' := .f32) (iblk m c 3 t) (Rect.unit ![2, 0] ![1, 3072] inb_S8x3072_S1x3072_2_0))
    (View.ld (Val := Elt Ideal) (e' := .f32) (iblk m c 3 t) (Rect.unit ![3, 0] ![1, 3072] inb_S8x3072_S1x3072_3_0))
    (View.ld (Val := Elt Ideal) (e' := .f32) (iblk m c 3 t) (Rect.unit ![4, 0] ![1, 3072] inb_S8x3072_S1x3072_4_0))

theorem conv_at (c : Dev nD) (t : Fin cfg0.N) (r : Fin 256) (l : Fin 3072) (k : Fin 8192) (hk : k.val = t.val * 256 + r.val) :
    CC m c t (ix2 r l) = val_main_v35 (F := Ideal) (X0 m c) (X1 m c) (ix2 k l) := by
  have w_at : ∀ (j : Fin 8) (l : Fin 3072), iblk m c 3 t (ix2 j l) = X1 m c (ix2 j l) := fun j l => by blk_ext [iblk, V, idx t]
  pointwise [k0_pay5, k0_pay6, k0_pay7, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2]
  simp only [w_at]
  have hr := r.isLt
  have hk' := k.isLt
  rw [ext_at m c t ⟨(8 + r.val + 272 - 2) % 272, by omega⟩ l ⟨k.val, by omega⟩ (by show k.val + 6 = t.val * 256 + (8 + r.val + 272 - 2) % 272; omega),
    ext_at m c t ⟨(8 + r.val + 272 - 1) % 272, by omega⟩ l ⟨1 + k.val, by omega⟩ (by show 1 + k.val + 6 = t.val * 256 + (8 + r.val + 272 - 1) % 272; omega),
    ext_at m c t ⟨8 + r.val, by omega⟩ l ⟨2 + k.val, by omega⟩ (by show 2 + k.val + 6 = t.val * 256 + (8 + r.val); omega),
    ext_at m c t ⟨(8 + r.val + 272 - 271) % 272, by omega⟩ l ⟨3 + k.val, by omega⟩ (by show 3 + k.val + 6 = t.val * 256 + (8 + r.val + 272 - 271) % 272; omega),
    ext_at m c t ⟨(8 + r.val + 272 - 270) % 272, by omega⟩ l ⟨4 + k.val, by omega⟩ (by show 4 + k.val + 6 = t.val * 256 + (8 + r.val + 272 - 270) % 272; omega)]

/-- A head's silu, its norm and its scale. -/
def si (f : Fin 128 → EReal) (l : Fin 128) : EReal := f l * Ideal.logistic (f l)
def nk (f : Fin 128 → EReal) (l : Fin 128) : EReal := si f l * Ideal.rsqrt ((∑ j, si f j * si f j) + Ideal.ofBits .f32 0x358637BD#32)
def nq (f : Fin 128 → EReal) (l : Fin 128) : EReal := nk f l * Ideal.ofBits .f32 0x3DB504F3#32

section
variable (A : FVec Ideal S8192x7168 .f32) (W : FVec Ideal S8x3072 .f32) (h : Fin 8) (k : Fin 8192) (l : Fin 128)

theorem ref_v : val_main_v63 (F := Ideal) A W (ix3 h k l) = si (fun j => val_main_v35 (F := Ideal) A W (ix2 k ⟨2048 + h.val * 128 + j.val, by omega⟩)) l := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_call1_v0, val_main_call1_v1, val_main_call1_v2, val_main_call1_v3, val_main_call1_v4, val_main_call1_v5, val_main_call1_cst, val_main_call1_cst_0, val_main_cst, val_main_cst_0, val_main_cst_1, val_main_cst_2, val_main_cst_3]
  simp only [nq, nk, si, ← Nat.add_assoc]
  rfl

theorem ref_k : val_main_v61 (F := Ideal) A W (ix3 h k l) = nk (fun j => val_main_v35 (F := Ideal) A W (ix2 k ⟨1024 + h.val * 128 + j.val, by omega⟩)) l := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_call1_v0, val_main_call1_v1, val_main_call1_v2, val_main_call1_v3, val_main_call1_v4, val_main_call1_v5, val_main_call1_cst, val_main_call1_cst_0, val_main_cst, val_main_cst_0, val_main_cst_1, val_main_cst_2, val_main_cst_3]
  simp only [nq, nk, si, ← Nat.add_assoc]
  rfl

theorem ref_q : val_main_v51 (F := Ideal) A W (ix3 h k l) = nq (fun j => val_main_v35 (F := Ideal) A W (ix2 k ⟨h.val * 128 + j.val, by omega⟩)) l := by
  pointwise [val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_call1_v0, val_main_call1_v1, val_main_call1_v2, val_main_call1_v3, val_main_call1_v4, val_main_call1_v5, val_main_call1_cst, val_main_call1_cst_0, val_main_cst, val_main_cst_0, val_main_cst_1, val_main_cst_2, val_main_cst_3]
  simp only [nq, nk, si, ← Nat.add_assoc]
  rfl
end

theorem q_at (c : Dev nD) (t : Fin cfg0.N) (y : S8x256x128.Idx) (z : S8x8192x128.Idx) (e0 : (z 0).val = (y 0).val)
    (e1 : (z 1).val = t.val * 256 + (y 1).val) (e2 : (z 2).val = (y 2).val) :
    (outsAt0 m c t).1 y = val_main_v51 (F := Ideal) (X0 m c) (X1 m c) z := by
  unfold outsAt0
  frame_out
  canon_tiles x h
  case piece0 =>
    idx_vars x
    idx_vars z
    obtain rfl : z0 = 7 := Fin.ext (by show z0.val = 7; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nq (fun j => CC m c t (ix2 x1 ⟨896 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_q _ _ 7 z1 z2).symm
  case piece1 =>
    idx_vars x
    idx_vars z
    obtain rfl : z0 = 6 := Fin.ext (by show z0.val = 6; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nq (fun j => CC m c t (ix2 x1 ⟨768 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_q _ _ 6 z1 z2).symm
  case piece2 =>
    idx_vars x
    idx_vars z
    obtain rfl : z0 = 5 := Fin.ext (by show z0.val = 5; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nq (fun j => CC m c t (ix2 x1 ⟨640 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_q _ _ 5 z1 z2).symm
  case piece3 =>
    idx_vars x
    idx_vars z
    obtain rfl : z0 = 4 := Fin.ext (by show z0.val = 4; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nq (fun j => CC m c t (ix2 x1 ⟨512 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_q _ _ 4 z1 z2).symm
  case piece4 =>
    idx_vars x
    idx_vars z
    obtain rfl : z0 = 3 := Fin.ext (by show z0.val = 3; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nq (fun j => CC m c t (ix2 x1 ⟨384 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_q _ _ 3 z1 z2).symm
  case piece5 =>
    idx_vars x
    idx_vars z
    obtain rfl : z0 = 2 := Fin.ext (by show z0.val = 2; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nq (fun j => CC m c t (ix2 x1 ⟨256 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_q _ _ 2 z1 z2).symm
  case piece6 =>
    idx_vars x
    idx_vars z
    obtain rfl : z0 = 1 := Fin.ext (by show z0.val = 1; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nq (fun j => CC m c t (ix2 x1 ⟨128 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_q _ _ 1 z1 z2).symm
  case piece7 =>
    idx_vars x
    idx_vars z
    obtain rfl : z0 = 0 := Fin.ext (by show z0.val = 0; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nq (fun j => CC m c t (ix2 x1 ⟨0 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_q _ _ 0 z1 z2).symm

theorem k_at (c : Dev nD) (t : Fin cfg0.N) (y : S8x256x128.Idx) (z : S8x8192x128.Idx) (e0 : (z 0).val = (y 0).val)
    (e1 : (z 1).val = t.val * 256 + (y 1).val) (e2 : (z 2).val = (y 2).val) :
    (outsAt0 m c t).2.1 y = val_main_v61 (F := Ideal) (X0 m c) (X1 m c) z := by
  unfold outsAt0
  frame_out
  canon_tiles x h
  case piece0 =>
    idx_vars x
    idx_vars z
    obtain rfl : z0 = 7 := Fin.ext (by show z0.val = 7; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nk (fun j => CC m c t (ix2 x1 ⟨1920 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_k _ _ 7 z1 z2).symm
  case piece1 =>
    idx_vars x
    idx_vars z
    obtain rfl : z0 = 6 := Fin.ext (by show z0.val = 6; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nk (fun j => CC m c t (ix2 x1 ⟨1792 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_k _ _ 6 z1 z2).symm
  case piece2 =>
    idx_vars x
    idx_vars z
    obtain rfl : z0 = 5 := Fin.ext (by show z0.val = 5; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nk (fun j => CC m c t (ix2 x1 ⟨1664 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_k _ _ 5 z1 z2).symm
  case piece3 =>
    idx_vars x
    idx_vars z
    obtain rfl : z0 = 4 := Fin.ext (by show z0.val = 4; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nk (fun j => CC m c t (ix2 x1 ⟨1536 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_k _ _ 4 z1 z2).symm
  case piece4 =>
    idx_vars x
    idx_vars z
    obtain rfl : z0 = 3 := Fin.ext (by show z0.val = 3; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nk (fun j => CC m c t (ix2 x1 ⟨1408 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_k _ _ 3 z1 z2).symm
  case piece5 =>
    idx_vars x
    idx_vars z
    obtain rfl : z0 = 2 := Fin.ext (by show z0.val = 2; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nk (fun j => CC m c t (ix2 x1 ⟨1280 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_k _ _ 2 z1 z2).symm
  case piece6 =>
    idx_vars x
    idx_vars z
    obtain rfl : z0 = 1 := Fin.ext (by show z0.val = 1; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nk (fun j => CC m c t (ix2 x1 ⟨1152 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_k _ _ 1 z1 z2).symm
  case piece7 =>
    idx_vars x
    idx_vars z
    obtain rfl : z0 = 0 := Fin.ext (by show z0.val = 0; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := nk (fun j => CC m c t (ix2 x1 ⟨1024 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_k _ _ 0 z1 z2).symm

theorem v_at (c : Dev nD) (t : Fin cfg0.N) (y : S8x256x128.Idx) (z : S8x8192x128.Idx) (e0 : (z 0).val = (y 0).val)
    (e1 : (z 1).val = t.val * 256 + (y 1).val) (e2 : (z 2).val = (y 2).val) :
    (outsAt0 m c t).2.2.1 y = val_main_v63 (F := Ideal) (X0 m c) (X1 m c) z := by
  unfold outsAt0
  frame_out
  canon_tiles x h
  case piece0 =>
    idx_vars x
    idx_vars z
    obtain rfl : z0 = 7 := Fin.ext (by show z0.val = 7; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := si (fun j => CC m c t (ix2 x1 ⟨2944 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_v _ _ 7 z1 z2).symm
  case piece1 =>
    idx_vars x
    idx_vars z
    obtain rfl : z0 = 6 := Fin.ext (by show z0.val = 6; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := si (fun j => CC m c t (ix2 x1 ⟨2816 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_v _ _ 6 z1 z2).symm
  case piece2 =>
    idx_vars x
    idx_vars z
    obtain rfl : z0 = 5 := Fin.ext (by show z0.val = 5; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := si (fun j => CC m c t (ix2 x1 ⟨2688 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_v _ _ 5 z1 z2).symm
  case piece3 =>
    idx_vars x
    idx_vars z
    obtain rfl : z0 = 4 := Fin.ext (by show z0.val = 4; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := si (fun j => CC m c t (ix2 x1 ⟨2560 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_v _ _ 4 z1 z2).symm
  case piece4 =>
    idx_vars x
    idx_vars z
    obtain rfl : z0 = 3 := Fin.ext (by show z0.val = 3; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := si (fun j => CC m c t (ix2 x1 ⟨2432 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_v _ _ 3 z1 z2).symm
  case piece5 =>
    idx_vars x
    idx_vars z
    obtain rfl : z0 = 2 := Fin.ext (by show z0.val = 2; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := si (fun j => CC m c t (ix2 x1 ⟨2304 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_v _ _ 2 z1 z2).symm
  case piece6 =>
    idx_vars x
    idx_vars z
    obtain rfl : z0 = 1 := Fin.ext (by show z0.val = 1; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := si (fun j => CC m c t (ix2 x1 ⟨2176 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_v _ _ 1 z1 z2).symm
  case piece7 =>
    idx_vars x
    idx_vars z
    obtain rfl : z0 = 0 := Fin.ext (by show z0.val = 0; omega)
    obtain rfl : z2 = x2 := Fin.ext (by omega)
    have hc : ∀ l, CC m c t (ix2 x1 l) = val_main_v35 (F := Ideal) (X0 m c) (X1 m c) (ix2 z1 l) := fun l => conv_at m c t x1 l z1 (by omega)
    refine Eq.trans (b := si (fun j => CC m c t (ix2 x1 ⟨2048 + j.val, by omega⟩)) z2) ?_ ?_
    · pointwise [k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51]
      rfl
    · simp only [hc]
      exact (ref_v _ _ 0 z1 z2).symm

theorem lane16 : ∀ l : Fin 128, IntOp.cmpi .slt (BitVec.ofNat 32 l.val) 16#32 = if l.val < 16 then 1#1 else 0#1 := by decide +kernel
theorem lane32 : ∀ l : Fin 128, IntOp.cmpi .slt (BitVec.ofNat 32 l.val) 32#32 = if l.val < 32 then 1#1 else 0#1 := by decide +kernel

theorem gates_at (c : Dev nD) (t : Fin cfg0.N) (r : Fin 256) (l : Fin 128) (k : Fin 8192) (hk : k.val = t.val * 256 + r.val) :
    (outsAt0 m c t).2.2.2 (ix2 r l) = val_main_v86 (F := Ideal) (X2 m c) (X3 m c) (X4 m c) (ix2 k l) := by
  unfold outsAt0
  frame_out
  have w4 : ∀ l, iblk m c 4 t (ix2 r l) = X2 m c (ix2 k l) := fun l => by blk_ext [iblk, V, idx t]
  have w5 : ∀ l, iblk m c 5 t (ix2 0 l) = X3 m c (ix2 0 l) := fun l => by blk_ext [iblk, V, idx t]
  have w6 : ∀ l, iblk m c 6 t (ix2 0 l) = X4 m c (ix2 0 l) := fun l => by blk_ext [iblk, V, idx t]
  pointwise [k0_pay1, k0_pay52, k0_pay53, val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_call2_v0, val_main_call2_v1, val_main_call2_v2, val_main_call2_v3, val_main_call2_v4, val_main_call2_v5, val_main_call2_v6, val_main_call2_v7, val_main_call2_v8, val_main_call2_v9, val_main_call2_v10, val_main_call2_v11, val_main_call2_cst, val_main_cst_4, val_main_cst_5, val_main_cst_6]
  simp only [w4, w5, w6, lane16, lane32, zero_sub]
  by_cases c0 : l.val < 16
  · rw [dif_pos c0, if_pos c0]
    rfl
  · rw [dif_neg c0, if_neg c0]
    by_cases c1 : l.val < 32
    · rw [dif_pos (by omega), if_pos c1]
      refine Eq.trans (b := Ideal.div 1 (1 + Ideal.exp (-X2 m c (ix2 k l)))) rfl ?_
      obtain e : (⟨16 + (l.val - 16), by omega⟩ : Fin 128) = l := Fin.ext (by show 16 + (l.val - 16) = l.val; omega)
      rw [e]
    · rw [dif_neg (by omega), if_neg c1]
      rfl

theorem final_7 (c : Dev nD) : (dats m 0 c).arrAt 7 (cfgs 0).N = val_main_v51 (F := Ideal) (X0 m c) (X1 m c) := by
  refine (dats m 0 c).arrAt_eq_of_covers 7 _ (by decide +kernel) fun t hf y => ?_
  blk_simp [after0_7]
  exact q_at m c t y _ (by blk_simp [idx' t]) (by blk_simp [idx' t]) (by blk_simp [idx' t])

theorem final_8 (c : Dev nD) : (dats m 0 c).arrAt 8 (cfgs 0).N = val_main_v61 (F := Ideal) (X0 m c) (X1 m c) := by
  refine (dats m 0 c).arrAt_eq_of_covers 8 _ (by decide +kernel) fun t hf y => ?_
  blk_simp [after0_8]
  exact k_at m c t y _ (by blk_simp [idx' t]) (by blk_simp [idx' t]) (by blk_simp [idx' t])

theorem final_9 (c : Dev nD) : (dats m 0 c).arrAt 9 (cfgs 0).N = val_main_v63 (F := Ideal) (X0 m c) (X1 m c) := by
  refine (dats m 0 c).arrAt_eq_of_covers 9 _ (by decide +kernel) fun t hf y => ?_
  blk_simp [after0_9]
  exact v_at m c t y _ (by blk_simp [idx' t]) (by blk_simp [idx' t]) (by blk_simp [idx' t])

theorem out10_at (c : Dev nD) (t : Fin cfg0.N) (y : S256x128.Idx) (z : S8192x128.Idx) (e0 : (z 0).val = t.val * 256 + (y 0).val)
    (e1 : (z 1).val = (y 1).val) : (outsAt0 m c t).2.2.2 y = val_main_v86 (F := Ideal) (X2 m c) (X3 m c) (X4 m c) z := by
  idx_vars y
  idx_vars z
  obtain rfl : z1 = y1 := Fin.ext (by omega)
  exact gates_at m c t y0 z1 z0 (by omega)

theorem final_10 (c : Dev nD) : (dats m 0 c).arrAt 10 (cfgs 0).N = val_main_v86 (F := Ideal) (X2 m c) (X3 m c) (X4 m c) := by
  refine (dats m 0 c).arrAt_eq_of_covers 10 _ (by decide +kernel) fun t hf y => ?_
  blk_simp [after0_10]
  exact out10_at m c t y _ (by blk_simp [idx t]) (by blk_simp [idx t])

end Cert.Kernel19Ideal.Prod
end
-- ==== Proof.PrepClaims.lean ====
/- The claims about the forward convolution, the heads' norms and the gates: the call runs and keeps its arguments, and over the
   extended reals it computes what its reference does. -/
module

public import proofs.«01_k».proof.Defs
public import proofs.«01_k».proof.Proof.PrepFwd
public import proofs.«01_k».proof.Proof.Gen.Kernel19.Frame
public import proofs.«01_k».proof.Proof.Gen.Reference19Ideal.Run

@[expose] public section

set_option maxRecDepth 16384

noncomputable section

open Idealize.ShloMosaic Idealize.SL.Sem

namespace Cert.Proof.PrepFwd

theorem frame_p : Cert.quiescent_Kernel19 := fun m ρ _ => Cert.Kernel19.Gen.frame m ρ

theorem frame_pi : Cert.quiescent_Kernel19Ideal := fun m ρ _ => Cert.Kernel19Ideal.Gen.frame m ρ

theorem frame_ri : Cert.quiescent_Reference19Ideal := fun m ρ _ =>
  (θ_run Cert.Reference19Ideal.defs _ _).mono (fun r h => ⟨fun c => (h c).2.2.2.2, sem_eq_zero_of_no_sems (by decide) r.2⟩)
    (Cert.Reference19Ideal.Value.run (F := Ideal) m ρ)

theorem preserves : Cert.preserves_Kernel19_Kernel19Ideal := trivial

/-- Kernel and reference both end with the queries, the keys, the values and the gates. -/
theorem algebraic : Cert.algebraic_Kernel19Ideal_Reference19Ideal := by
  intro m ρ m' ρ' _ hagree
  refine ⟨fun c => Cert.Reference19Ideal.Read.val_main_v51 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    fun c => Cert.Reference19Ideal.Read.val_main_v61 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    fun c => Cert.Reference19Ideal.Read.val_main_v63 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    fun c => Cert.Reference19Ideal.Read.val_main_v86 (F := Ideal) (m ((c.tc : Thread Cert.Kernel19Ideal.nD Cert.Kernel19Ideal.τ).loc Cert.Kernel19Ideal.main_arg2)) (m ((c.tc : Thread Cert.Kernel19Ideal.nD Cert.Kernel19Ideal.τ).loc Cert.Kernel19Ideal.main_arg3)) (m ((c.tc : Thread Cert.Kernel19Ideal.nD Cert.Kernel19Ideal.τ).loc Cert.Kernel19Ideal.main_arg4)), ?_, ?_⟩
  · refine (θ_run Cert.Kernel19Ideal.defs _ _).mono (fun _ h c => ?_) (Cert.Kernel19Ideal.Value.run_blocks (F := Ideal) m ρ)
    obtain ⟨h0, h1, h2, h3, hrest⟩ := h c
    exact ⟨h0.trans (Cert.Kernel19Ideal.Prod.final_7 m c), h1.trans (Cert.Kernel19Ideal.Prod.final_8 m c), h2.trans (Cert.Kernel19Ideal.Prod.final_9 m c), h3.trans (Cert.Kernel19Ideal.Prod.final_10 m c), hrest⟩
  · refine (θ_run Cert.Reference19Ideal.defs _ _).mono (fun _ h c => ?_) (Cert.Reference19Ideal.Value.run (F := Ideal) m' ρ')
    obtain ⟨a0, a1, a2, a3, a4⟩ := hagree c
    obtain ⟨h0, h1, h2, h3, hrest⟩ := h c
    refine ⟨h0.trans ((Cert.Reference19Ideal.Read.val_main_v51_eq _ _).trans ?_),
      h1.trans ((Cert.Reference19Ideal.Read.val_main_v61_eq _ _).trans ?_),
      h2.trans ((Cert.Reference19Ideal.Read.val_main_v63_eq _ _).trans ?_),
      h3.trans ((Cert.Reference19Ideal.Read.val_main_v86_eq _ _ _).trans ?_), hrest⟩
    · exact congr (congrArg _ a0) a1
    · exact congr (congrArg _ a0) a1
    · exact congr (congrArg _ a0) a1
    · exact congr (congr (congrArg _ a2) a3) a4

end Cert.Proof.PrepFwd
end
-- ==== Proof.lean ====
/- The certificate: the nineteen programs' facts, and the claims proved of each in the modules `SguClaims` (the spatial gating
   unit's gradient), `ProdClaims` (the products of the two projections and their gradients), `NormClaims` (the gating unit,
   the norms and the loss), `AdamClaims` (the optimiser's step) and `PrepClaims` (the convolution and the gates, forward). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Kernel4Ideal.Value
public import proofs.«01_k».proof.Proof.Gen.Kernel5Ideal.Value
public import proofs.«01_k».proof.Proof.Gen.Kernel6Ideal.Value
public import proofs.«01_k».proof.Proof.Gen.Kernel7Ideal.Value
public import proofs.«01_k».proof.Proof.Gen.Kernel8Ideal.Value
public import proofs.«01_k».proof.Proof.Gen.Kernel9Ideal.Value
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.Gen.Reference4Ideal.Run
public import proofs.«01_k».proof.Proof.Gen.Reference4Ideal.Read
public import proofs.«01_k».proof.Proof.Gen.Reference5Ideal.Run
public import proofs.«01_k».proof.Proof.Gen.Reference5Ideal.Read
public import proofs.«01_k».proof.Proof.Gen.Reference6Ideal.Run
public import proofs.«01_k».proof.Proof.Gen.Reference6Ideal.Read
public import proofs.«01_k».proof.Proof.Gen.Reference7Ideal.Run
public import proofs.«01_k».proof.Proof.Gen.Reference7Ideal.Read
public import proofs.«01_k».proof.Proof.Gen.Reference8Ideal.Run
public import proofs.«01_k».proof.Proof.Gen.Reference8Ideal.Read
public import proofs.«01_k».proof.Proof.Gen.Reference9Ideal.Run
public import proofs.«01_k».proof.Proof.Gen.Reference9Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.SguClaims
public import proofs.«01_k».proof.Proof.ProdClaims
public import proofs.«01_k».proof.Proof.NormClaims
public import proofs.«01_k».proof.Proof.AdamClaims
public import proofs.«01_k».proof.Proof.PrepClaims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Sgu.frame_p, Sgu.frame_pi, Sgu.frame_ri,
  InDh.frame_p, InDh.frame_pi, InDh.frame_ri,
  InDw.frame_p, InDw.frame_pi, InDw.frame_ri,
  OutDy.frame_p, OutDy.frame_pi, OutDy.frame_ri,
  OutDw.frame_p, OutDw.frame_pi, OutDw.frame_ri,
  InFwd.frame_p, InFwd.frame_pi, InFwd.frame_ri,
  InGate.frame_p, InGate.frame_pi, InGate.frame_ri,
  OutFwd.frame_p, OutFwd.frame_pi, OutFwd.frame_ri,
  InDwGate.frame_p, InDwGate.frame_pi, InDwGate.frame_ri,
  RmsBwd.frame_p, RmsBwd.frame_pi, RmsBwd.frame_ri,
  PostBwd.frame_p, PostBwd.frame_pi, PostBwd.frame_ri,
  FinalLoss.frame_p, FinalLoss.frame_pi, FinalLoss.frame_ri,
  RmsFwd.frame_p, RmsFwd.frame_pi, RmsFwd.frame_ri,
  SguFwd.frame_p, SguFwd.frame_pi, SguFwd.frame_ri,
  PostFwd.frame_p, PostFwd.frame_pi, PostFwd.frame_ri,
  AdamOut.frame_p, AdamOut.frame_pi, AdamOut.frame_ri,
  AdamIn.frame_p, AdamIn.frame_pi, AdamIn.frame_ri,
  AdamSmall.frame_p, AdamSmall.frame_pi, AdamSmall.frame_ri,
  PrepFwd.frame_p, PrepFwd.frame_pi, PrepFwd.frame_ri,
  Sgu.preserves, Sgu.algebraic,
  InDh.preserves, InDh.algebraic,
  InDw.preserves, InDw.algebraic,
  OutDy.preserves, OutDy.algebraic,
  OutDw.preserves, OutDw.algebraic,
  InFwd.preserves, InFwd.algebraic,
  InGate.preserves, InGate.algebraic,
  OutFwd.preserves, OutFwd.algebraic,
  InDwGate.preserves, InDwGate.algebraic,
  RmsBwd.preserves, RmsBwd.algebraic,
  PostBwd.preserves, PostBwd.algebraic,
  FinalLoss.preserves, FinalLoss.algebraic,
  RmsFwd.preserves, RmsFwd.algebraic,
  SguFwd.preserves, SguFwd.algebraic,
  PostFwd.preserves, PostFwd.algebraic,
  AdamOut.preserves, AdamOut.algebraic,
  AdamIn.preserves, AdamIn.algebraic,
  AdamSmall.preserves, AdamSmall.algebraic,
  PrepFwd.preserves, PrepFwd.algebraic⟩

end Cert.Proof

end
